-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v18)) (v1 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_v23) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v18) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S8x4096x1024 : Shape := ⟨3, ![8, 4096, 1024]⟩
abbrev S8x4096x3592 : Shape := ⟨3, ![8, 4096, 3592]⟩
abbrev S3x512 : Shape := ⟨2, ![3, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S8x4096x3592 : S_.BroadcastsInDim S8x4096x3592 (![] : Fin 0 → Fin S8x4096x3592.rank)

variable [Facts]

def fn {F : FTy → Type} [FloatOps F] (main_arg0 : FVec F S8x4096x1024 .f32) (main_arg1 : FVec F S8x4096x3592 .f32) (main_arg2 : FVec F S3x512 .f32) (main_arg3 : FVec F S1024x1024 .f32) (main_arg4 : FVec F S1024 .f32) (main_arg5 : FVec F S1024x4 .f32) (main_arg6 : FVec F S4 .f32) (main_arg7 : FVec F S1024x32 .f32) (main_arg8 : FVec F S32 .f32) : IVec S8x4096x3592 1 :=
  let main_v0 : FVec F S8x4096x3592 .f32 := Host.absf main_arg1
  let main_cst : FVec F S_ .f32 := constant S_ .f32 0x7F800000#32
  let main_v1 : FVec F S8x4096x3592 .f32 := broadcastInDim S8x4096x3592 ![] bcast_S_S8x4096x3592 main_cst
  let main_v2 : IVec S8x4096x3592 1 := cmpf .olt main_v0 main_v1
  main_v2
-- ==== Kernel.lean ====
abbrev S8x4096x1024 : Shape := ⟨3, ![8, 4096, 1024]⟩
abbrev S8x4096x3592 : Shape := ⟨3, ![8, 4096, 3592]⟩
abbrev S3x512 : Shape := ⟨2, ![3, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x4096x512 : Shape := ⟨3, ![8, 4096, 512]⟩
abbrev S8x4096x1536 : Shape := ⟨3, ![8, 4096, 1536]⟩
abbrev S8x4096x2560 : Shape := ⟨3, ![8, 4096, 2560]⟩
abbrev S_ : Shape := ⟨0, ![]⟩
abbrev S8x1024x4096 : Shape := ⟨3, ![8, 1024, 4096]⟩
abbrev S8x4096x8 : Shape := ⟨3, ![8, 4096, 8]⟩
abbrev S8x8x4096 : Shape := ⟨3, ![8, 8, 4096]⟩
abbrev S1024x88 : Shape := ⟨2, ![1024, 88]⟩
abbrev S1024x128 : Shape := ⟨2, ![1024, 128]⟩
abbrev S88 : Shape := ⟨1, ![88]⟩
abbrev S128 : Shape := ⟨1, ![128]⟩
abbrev S1x128 : Shape := ⟨2, ![1, 128]⟩
abbrev S1x1024 : Shape := ⟨2, ![1, 1024]⟩
abbrev S32x128 : Shape := ⟨2, ![32, 128]⟩
abbrev S1x1024x512 : Shape := ⟨3, ![1, 1024, 512]⟩
abbrev S1x512x1024 : Shape := ⟨3, ![1, 512, 1024]⟩
abbrev S1x8x1024 : Shape := ⟨3, ![1, 8, 1024]⟩
abbrev S1x1024x1024 : Shape := ⟨3, ![1, 1024, 1024]⟩
abbrev S2x144x256 : Shape := ⟨3, ![2, 144, 256]⟩
abbrev S8x128 : Shape := ⟨2, ![8, 128]⟩
abbrev S8x512 : Shape := ⟨2, ![8, 512]⟩
abbrev S8x1024 : Shape := ⟨2, ![8, 1024]⟩
abbrev S4x1024 : Shape := ⟨2, ![4, 1024]⟩
abbrev S128x128 : Shape := ⟨2, ![128, 128]⟩
abbrev S16x128 : Shape := ⟨2, ![16, 128]⟩
abbrev S4x128 : Shape := ⟨2, ![4, 128]⟩
abbrev S4x1 : Shape := ⟨2, ![4, 1]⟩
abbrev S128x8 : Shape := ⟨2, ![128, 8]⟩
abbrev S1x128x256 : Shape := ⟨3, ![1, 128, 256]⟩
abbrev S128x256 : Shape := ⟨2, ![128, 256]⟩
abbrev S1x256x128 : Shape := ⟨3, ![1, 256, 128]⟩
abbrev S256x128 : Shape := ⟨2, ![256, 128]⟩
abbrev S256x256 : Shape := ⟨2, ![256, 256]⟩
abbrev S128x1 : Shape := ⟨2, ![128, 1]⟩
abbrev S1x1 : Shape := ⟨2, ![1, 1]⟩
abbrev S1x256 : Shape := ⟨2, ![1, 256]⟩
abbrev S256 : Shape := ⟨1, ![256]⟩
abbrev S1x144x256 : Shape := ⟨3, ![1, 144, 256]⟩
abbrev S144x256 : Shape := ⟨2, ![144, 256]⟩
abbrev S144x128 : Shape := ⟨2, ![144, 128]⟩
abbrev S144x512 : Shape := ⟨2, ![144, 512]⟩
abbrev S512x256 : Shape := ⟨2, ![512, 256]⟩
abbrev S1x128x128 : Shape := ⟨3, ![1, 128, 128]⟩
abbrev S1024x512 : Shape := ⟨2, ![1024, 512]⟩
abbrev S1x512 : Shape := ⟨2, ![1, 512]⟩
abbrev S1024x1 : Shape := ⟨2, ![1024, 1]⟩
abbrev S1x1024x256 : Shape := ⟨3, ![1, 1024, 256]⟩
abbrev S1024x256 : Shape := ⟨2, ![1024, 256]⟩
abbrev S128x1024 : Shape := ⟨2, ![128, 1024]⟩
abbrev S32x1 : Shape := ⟨2, ![32, 1]⟩
abbrev S1x8x128 : Shape := ⟨3, ![1, 8, 128]⟩

abbrev nBuf : Space → Nat
  | .hbm => 43
  | .vmem => 37
  | .smem => 0
  | _ => 0

abbrev bufTy : (tb : Table) → Fin (tcTables nBuf tb) → BufTy
  | .hbm, ⟨0, _⟩ => ⟨S8x4096x1024, .f32⟩
  | .hbm, ⟨1, _⟩ => ⟨S8x4096x3592, .f32⟩
  | .hbm, ⟨2, _⟩ => ⟨S3x512, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x32, .f32⟩
  | .hbm, ⟨8, _⟩ => ⟨S32, .f32⟩
  | .hbm, ⟨9, _⟩ => ⟨S8x4096x512, .f32⟩
  | .hbm, ⟨10, _⟩ => ⟨S8x4096x512, .f32⟩
  | .hbm, ⟨11, _⟩ => ⟨S8x4096x1536, .f32⟩
  | .hbm, ⟨12, _⟩ => ⟨S8x4096x2560, .f32⟩
  | .hbm, ⟨13, _⟩ => ⟨S8x4096x2560, .bf16⟩
  | .hbm, ⟨14, _⟩ => ⟨S8x4096x512, .f32⟩
  | .hbm, ⟨15, _⟩ => ⟨S_, .f32⟩
  | .hbm, ⟨16, _⟩ => ⟨S8x4096x512, .f32⟩
  | .hbm, ⟨17, _⟩ => ⟨S8x4096x512, .f32⟩
  | .hbm, ⟨18, _⟩ => ⟨S8x4096x512, .f32⟩
  | .hbm, ⟨19, _⟩ => ⟨S8x4096x1024, .f32⟩
  | .hbm, ⟨20, _⟩ => ⟨S8x1024x4096, .f32⟩
  | .hbm, ⟨21, _⟩ => ⟨S8x1024x4096, .bf16⟩
  | .hbm, ⟨22, _⟩ => ⟨S8x4096x8, .f32⟩
  | .hbm, ⟨23, _⟩ => ⟨S8x8x4096, .f32⟩
  | .hbm, ⟨24, _⟩ => ⟨S_, .f32⟩
  | .hbm, ⟨25, _⟩ => ⟨S1024x4, .f32⟩
  | .hbm, ⟨26, _⟩ => ⟨S_, .f32⟩
  | .hbm, ⟨27, _⟩ => ⟨S1024x88, .f32⟩
  | .hbm, ⟨28, _⟩ => ⟨S1024x128, .f32⟩
  | .hbm, ⟨29, _⟩ => ⟨S_, .f32⟩
  | .hbm, ⟨30, _⟩ => ⟨S4, .f32⟩
  | .hbm, ⟨31, _⟩ => ⟨S_, .f32⟩
  | .hbm, ⟨32, _⟩ => ⟨S88, .f32⟩
  | .hbm, ⟨33, _⟩ => ⟨S128, .f32⟩
  | .hbm, ⟨34, _⟩ => ⟨S1x128, .f32⟩
  | .hbm, ⟨35, _⟩ => ⟨S1024x1024, .bf16⟩
  | .hbm, ⟨36, _⟩ => ⟨S1x1024, .f32⟩
  | .hbm, ⟨37, _⟩ => ⟨S1024x128, .bf16⟩
  | .hbm, ⟨38, _⟩ => ⟨S8x4096x1024, .f32⟩
  | .hbm, ⟨39, _⟩ => ⟨S8x4096x1024, .bf16⟩
  | .hbm, ⟨40, _⟩ => ⟨S8x8x4096, .i32⟩
  | .hbm, ⟨41, _⟩ => ⟨S8x8x4096, .f32⟩
  | .hbm, ⟨42, _⟩ => ⟨S32x128, .i32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x8x1024, .f32⟩
  | .local _ .vmem, ⟨15, _⟩ => ⟨S1x8x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S3x512, .f32⟩
  | .local _ .vmem, ⟨19, _⟩ => ⟨S1024x1024, .bf16⟩
  | .local _ .vmem, ⟨20, _⟩ => ⟨S1x1024, .f32⟩
  | .local _ .vmem, ⟨21, _⟩ => ⟨S1024x128, .bf16⟩
  | .local _ .vmem, ⟨22, _⟩ => ⟨S1x128, .f32⟩
  | .local _ .vmem, ⟨23, _⟩ => ⟨S1x1024x1024, .f32⟩
  | .local _ .vmem, ⟨24, _⟩ => ⟨S1x1024x1024, .f32⟩
  | .local _ .vmem, ⟨25, _⟩ => ⟨S1x1024x1024, .bf16⟩
  | .local _ .vmem, ⟨26, _⟩ => ⟨S1x1024x1024, .bf16⟩
  | .local _ .vmem, ⟨27, _⟩ => ⟨S1x8x1024, .i32⟩
  | .local _ .vmem, ⟨28, _⟩ => ⟨S1x8x1024, .i32⟩
  | .local _ .vmem, ⟨29, _⟩ => ⟨S1x8x1024, .f32⟩
  | .local _ .vmem, ⟨30, _⟩ => ⟨S1x8x1024, .f32⟩
  | .local _ .vmem, ⟨31, _⟩ => ⟨S32x128, .i32⟩
  | .local _ .vmem, ⟨32, _⟩ => ⟨S2x144x256, .f32⟩
  | .local _ .vmem, ⟨33, _⟩ => ⟨S8x128, .f32⟩
  | .local _ .vmem, ⟨34, _⟩ => ⟨S8x512, .f32⟩
  | .local _ .vmem, ⟨35, _⟩ => ⟨S32x128, .i32⟩
  | .local _ .vmem, ⟨36, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev main_v24_3 : Ref sig .tc := ⟨.hbm, 41, rfl⟩
abbrev main_v24_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x1024 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S32x128 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== ReferenceIdeal.lean ====
abbrev S8x4096x1024 : Shape := ⟨3, ![8, 4096, 1024]⟩
abbrev S8x4096x3592 : Shape := ⟨3, ![8, 4096, 3592]⟩
abbrev S3x512 : Shape := ⟨2, ![3, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S8x4096x512 : Shape := ⟨3, ![8, 4096, 512]⟩
abbrev S8x4096x4 : Shape := ⟨3, ![8, 4096, 4]⟩
abbrev S8x4096x4x128 : Shape := ⟨4, ![8, 4096, 4, 128]⟩
abbrev S_ : Shape := ⟨0, ![]⟩
abbrev S8x4x4096x128 : Shape := ⟨4, ![8, 4, 4096, 128]⟩
abbrev S8x4x4096 : Shape := ⟨3, ![8, 4, 4096]⟩
abbrev S4096x4096 : Shape := ⟨2, ![4096, 4096]⟩
abbrev S8x4x4096x1 : Shape := ⟨4, ![8, 4, 4096, 1]⟩
abbrev S8x4x1x4096 : Shape := ⟨4, ![8, 4, 1, 4096]⟩
abbrev S8x4x4096x4096 : Shape := ⟨4, ![8, 4, 4096, 4096]⟩
abbrev S8x4098x512 : Shape := ⟨3, ![8, 4098, 512]⟩
abbrev S1x512 : Shape := ⟨2, ![1, 512]⟩
abbrev S512 : Shape := ⟨1, ![512]⟩
abbrev S1x1x512 : Shape := ⟨3, ![1, 1, 512]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 147
  | .vmem => 0
  | .smem => 0
  | _ => 0

abbrev hbmTy0_0 (i : Nat) : BufTy := match i % 128 with
  | 0 => ⟨S8x4096x1024, .f32⟩
  | 1 => ⟨S8x4096x3592, .f32⟩
  | 2 => ⟨S3x512, .f32⟩
  | 3 => ⟨S1024x1024, .f32⟩
  | 4 => ⟨S1024, .f32⟩
  | 5 => ⟨S1024x4, .f32⟩
  | 6 => ⟨S4, .f32⟩
  | 7 => ⟨S1024x32, .f32⟩
  | 8 => ⟨S32, .f32⟩
  | 9 => ⟨S8x4096x512, .f32⟩
  | 10 => ⟨S8x4096x512, .f32⟩
  | 11 => ⟨S8x4096x512, .f32⟩
  | 12 => ⟨S8x4096x512, .f32⟩
  | 13 => ⟨S8x4096x4, .f32⟩
  | 14 => ⟨S8x4096x4, .f32⟩
  | 15 => ⟨S8x4096x512, .f32⟩
  | 16 => ⟨S8x4096x512, .f32⟩
  | 17 => ⟨S8x4096x512, .f32⟩
  | 18 => ⟨S8x4096x4x128, .f32⟩
  | 19 => ⟨S_, .f32⟩
  | 20 => ⟨S8x4096x4x128, .f32⟩
  | 21 => ⟨S8x4096x4x128, .f32⟩
  | 22 => ⟨S8x4096x4x128, .f32⟩
  | 23 => ⟨S8x4096x4x128, .f32⟩
  | 24 => ⟨S8x4096x4, .f32⟩
  | 25 => ⟨S_, .f32⟩
  | 26 => ⟨S8x4096x4, .f32⟩
  | 27 => ⟨S8x4096x4, .f32⟩
  | 28 => ⟨S8x4096x4, .f32⟩
  | 29 => ⟨S8x4096x4, .f32⟩
  | 30 => ⟨S8x4096x4, .i1⟩
  | 31 => ⟨S8x4096x4, .f32⟩
  | 32 => ⟨S8x4096x4, .f32⟩
  | 33 => ⟨S8x4096x4, .f32⟩
  | 34 => ⟨S8x4096x4, .f32⟩
  | 35 => ⟨S8x4096x4, .f32⟩
  | 36 => ⟨S8x4096x4, .f32⟩
  | 37 => ⟨S8x4096x4, .f32⟩
  | 38 => ⟨S8x4096x4, .f32⟩
  | 39 => ⟨S8x4096x4, .f32⟩
  | 40 => ⟨S8x4x4096x128, .f32⟩
  | 41 => ⟨S8x4x4096x128, .f32⟩
  | 42 => ⟨S8x4x4096x128, .f32⟩
  | 43 => ⟨S8x4x4096, .f32⟩
  | 44 => ⟨S8x4x4096, .f32⟩
  | 45 => ⟨S_, .f32⟩
  | 46 => ⟨S_, .f32⟩
  | 47 => ⟨S8x4x4096, .f32⟩
  | 48 => ⟨S_, .i1⟩
  | 49 => ⟨S4096x4096, .i1⟩
  | 50 => ⟨S4096x4096, .i32⟩
  | 51 => ⟨S_, .i32⟩
  | 52 => ⟨S4096x4096, .i32⟩
  | 53 => ⟨S4096x4096, .i32⟩
  | 54 => ⟨S4096x4096, .i32⟩
  | 55 => ⟨S4096x4096, .i1⟩
  | 56 => ⟨S_, .i1⟩
  | 57 => ⟨S4096x4096, .i1⟩
  | 58 => ⟨S4096x4096, .i1⟩
  | 59 => ⟨S8x4x4096x1, .f32⟩
  | 60 => ⟨S8x4x1x4096, .f32⟩
  | 61 => ⟨S8x4x4096x4096, .f32⟩
  | 62 => ⟨S8x4x4096x4096, .f32⟩
  | 63 => ⟨S8x4x4096x4096, .f32⟩
  | 64 => ⟨S8x4x1x4096, .f32⟩
  | 65 => ⟨S8x4x4096x4096, .f32⟩
  | 66 => ⟨S8x4x4096x4096, .f32⟩
  | 67 => ⟨S_, .f32⟩
  | 68 => ⟨S_, .f32⟩
  | 69 => ⟨S8x4x4096x4096, .i1⟩
  | 70 => ⟨S8x4x4096x4096, .f32⟩
  | 71 => ⟨S8x4x4096x4096, .f32⟩
  | 72 => ⟨S_, .f32⟩
  | 73 => ⟨S8x4x4096, .f32⟩
  | 74 => ⟨S8x4x4096, .f32⟩
  | 75 => ⟨S8x4x4096x4096, .f32⟩
  | 76 => ⟨S8x4x4096x1, .f32⟩
  | 77 => ⟨S8x4x4096x4096, .f32⟩
  | 78 => ⟨S8x4x4096x4096, .f32⟩
  | 79 => ⟨S8x4x4096x4096, .f32⟩
  | 80 => ⟨S8x4x4096x4096, .f32⟩
  | 81 => ⟨S8x4x4096x128, .f32⟩
  | 82 => ⟨S_, .f32⟩
  | 83 => ⟨S8x4x4096, .f32⟩
  | 84 => ⟨S8x4x4096, .f32⟩
  | 85 => ⟨S8x4x4096, .f32⟩
  | 86 => ⟨S8x4x4096, .f32⟩
  | 87 => ⟨S8x4x4096, .f32⟩
  | 88 => ⟨S8x4x4096x1, .f32⟩
  | 89 => ⟨S8x4x4096x128, .f32⟩
  | 90 => ⟨S8x4x4096x128, .f32⟩
  | 91 => ⟨S8x4096x4x128, .f32⟩
  | 92 => ⟨S8x4096x512, .f32⟩
  | 93 => ⟨S8x4096x512, .f32⟩
  | 94 => ⟨S8x4096x512, .f32⟩
  | 95 => ⟨S_, .f32⟩
  | 96 => ⟨S8x4096x512, .f32⟩
  | 97 => ⟨S8x4096x512, .f32⟩
  | 98 => ⟨S_, .f32⟩
  | 99 => ⟨S8x4096x512, .f32⟩
  | 100 => ⟨S8x4096x512, .f32⟩
  | 101 => ⟨S8x4096x512, .f32⟩
  | 102 => ⟨S8x4096x512, .f32⟩
  | 103 => ⟨S_, .i32⟩
  | 104 => ⟨S_, .f32⟩
  | 105 => ⟨S8x4098x512, .f32⟩
  | 106 => ⟨S1x512, .f32⟩
  | 107 => ⟨S512, .f32⟩
  | 108 => ⟨S8x4096x512, .f32⟩
  | 109 => ⟨S1x1x512, .f32⟩
  | 110 => ⟨S8x4096x512, .f32⟩
  | 111 => ⟨S8x4096x512, .f32⟩
  | 112 => ⟨S1x512, .f32⟩
  | 113 => ⟨S512, .f32⟩
  | 114 => ⟨S8x4096x512, .f32⟩
  | 115 => ⟨S1x1x512, .f32⟩
  | 116 => ⟨S8x4096x512, .f32⟩
  | 117 => ⟨S8x4096x512, .f32⟩
  | 118 => ⟨S8x4096x512, .f32⟩
  | 119 => ⟨S1x512, .f32⟩
  | 120 => ⟨S512, .f32⟩
  | 121 => ⟨S8x4096x512, .f32⟩
  | 122 => ⟨S1x1x512, .f32⟩
  | 123 => ⟨S8x4096x512, .f32⟩
  | 124 => ⟨S8x4096x512, .f32⟩
  | 125 => ⟨S8x4096x512, .f32⟩
  | 126 => ⟨S8x4096x512, .f32⟩
  | 127 => ⟨S8x4096x1024, .f32⟩
  | _ => ⟨S8x4096x1024, .f32⟩

abbrev hbmTy0_1 (i : Nat) : BufTy := match i % 128 with
  | 0 => ⟨S8x4096x1024, .f32⟩
  | 1 => ⟨S8x4096x1024, .f32⟩
  | 2 => ⟨S8x4096x1024, .f32⟩
  | 3 => ⟨S_, .f32⟩
  | 4 => ⟨S8x4096, .f32⟩
  | 5 => ⟨S8x4096x1, .f32⟩
  | 6 => ⟨S_, .f32⟩
  | 7 => ⟨S8x4096x1, .f32⟩
  | 8 => ⟨S8x4096x1, .f32⟩
  | 9 => ⟨S_, .f32⟩
  | 10 => ⟨S8x4096x1, .f32⟩
  | 11 => ⟨S8x4096x1, .f32⟩
  | 12 => ⟨S8x4096x1, .f32⟩
  | 13 => ⟨S8x4096x1024, .f32⟩
  | 14 => ⟨S8x4096x1024, .f32⟩
  | 15 => ⟨S1x1x1024, .f32⟩
  | 16 => ⟨S8x4096x1024, .f32⟩
  | 17 => ⟨S8x4096x1024, .f32⟩
  | 18 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_call0_cst : Ref sig .tc := ⟨.hbm, 25, rfl⟩
abbrev main_call0_call0_v0 : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_v3 : Ref sig .tc := ⟨.hbm, 29, rfl⟩
abbrev main_call0_call0_v4 : Ref sig .tc := ⟨.hbm, 30, rfl⟩
abbrev main_call0_call0_v5 : Ref sig .tc := ⟨.hbm, 31, rfl⟩
abbrev main_call0_call0_v6 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_v9 : Ref sig .tc := ⟨.hbm, 35, rfl⟩
abbrev main_call0_call0_v10 : Ref sig .tc := ⟨.hbm, 36, rfl⟩
abbrev main_call0_call0_v11 : Ref sig .tc := ⟨.hbm, 37, rfl⟩
abbrev main_call0_v1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call1_call0_cst : Ref sig .tc := ⟨.hbm, 45, rfl⟩
abbrev main_call1_call0_v0 : Ref sig .tc := ⟨.hbm, 46, rfl⟩
abbrev main_v20 : Ref sig .tc := ⟨.hbm, 47, rfl⟩
abbrev main_c : Ref sig .tc := ⟨.hbm, 48, rfl⟩
abbrev main_v21 : Ref sig .tc := ⟨.hbm, 49, rfl⟩
abbrev main_call2_v0 : Ref sig .tc := ⟨.hbm, 50, rfl⟩
abbrev main_call2_c : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_c_0 : Ref sig .tc := ⟨.hbm, 56, rfl⟩
abbrev main_call2_v5 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_0 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v31 : Ref sig .tc := ⟨.hbm, 71, rfl⟩
abbrev main_cst_1 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_2 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_3 : Ref sig .tc := ⟨.hbm, 95, rfl⟩
abbrev main_v53 : Ref sig .tc := ⟨.hbm, 96, rfl⟩
abbrev main_v54 : Ref sig .tc := ⟨.hbm, 97, rfl⟩
abbrev main_cst_4 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_c_5 : Ref sig .tc := ⟨.hbm, 103, rfl⟩
abbrev main_call4_v0 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_cst_6 : Ref sig .tc := ⟨.hbm, 131, rfl⟩
abbrev main_v85 : Ref sig .tc := ⟨.hbm, 132, rfl⟩
abbrev main_v86 : Ref sig .tc := ⟨.hbm, 133, rfl⟩
abbrev main_cst_7 : Ref sig .tc := ⟨.hbm, 134, rfl⟩
abbrev main_v87 : Ref sig .tc := ⟨.hbm, 135, rfl⟩
abbrev main_v88 : Ref sig .tc := ⟨.hbm, 136, rfl⟩
abbrev main_cst_8 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x3592 : Shape := ⟨2, ![1024, 3592]⟩
abbrev S3592 : Shape := ⟨1, ![3592]⟩
abbrev S512 : Shape := ⟨1, ![512]⟩
abbrev S1536 : Shape := ⟨1, ![1536]⟩
abbrev S2560 : Shape := ⟨1, ![2560]⟩
abbrev S1x2560 : Shape := ⟨2, ![1, 2560]⟩
abbrev S8 : Shape := ⟨1, ![8]⟩
abbrev S_ : Shape := ⟨0, ![]⟩
abbrev S1040 : Shape := ⟨1, ![1040]⟩
abbrev S1040x1 : Shape := ⟨2, ![1040, 1]⟩
abbrev S1x1024 : Shape := ⟨2, ![1, 1024]⟩
abbrev S8x4096x2560 : Shape := ⟨3, ![8, 4096, 2560]⟩
abbrev S8x1024x4096 : Shape := ⟨3, ![8, 1024, 4096]⟩
abbrev S8x8x4096 : Shape := ⟨3, ![8, 8, 4096]⟩
abbrev S1x1024x1024 : Shape := ⟨3, ![1, 1024, 1024]⟩
abbrev S1x1024x2560 : Shape := ⟨3, ![1, 1024, 2560]⟩
abbrev S1x8x1024 : Shape := ⟨3, ![1, 8, 1024]⟩
abbrev S1040x1024 : Shape := ⟨2, ![1040, 1024]⟩
abbrev S1024x1536 : Shape := ⟨2, ![1024, 1536]⟩
abbrev S1024x256 : Shape := ⟨2, ![1024, 256]⟩
abbrev S256x1024 : Shape := ⟨2, ![256, 1024]⟩
abbrev S1024x128 : Shape := ⟨2, ![1024, 128]⟩
abbrev S128x1024 : Shape := ⟨2, ![128, 1024]⟩
abbrev S16x1024 : Shape := ⟨2, ![16, 1024]⟩
abbrev S256x1544 : Shape := ⟨2, ![256, 1544]⟩
abbrev S256x1536 : Shape := ⟨2, ![256, 1536]⟩
abbrev S1024x1024 : Shape := ⟨2, ![1024, 1024]⟩
abbrev S1024x1 : Shape := ⟨2, ![1024, 1]⟩
abbrev S1024x512 : Shape := ⟨2, ![1024, 512]⟩
abbrev S1x512 : Shape := ⟨2, ![1, 512]⟩
abbrev S1x1024x512 : Shape := ⟨3, ![1, 1024, 512]⟩
abbrev S512x1024 : Shape := ⟨2, ![512, 1024]⟩
abbrev S1x512x1024 : Shape := ⟨3, ![1, 512, 1024]⟩
abbrev S8x1024 : Shape := ⟨2, ![8, 1024]⟩
abbrev S8x4096x8 : Shape := ⟨3, ![8, 4096, 8]⟩
abbrev S8x4096x512 : Shape := ⟨3, ![8, 4096, 512]⟩
abbrev S8x4096x1536 : Shape := ⟨3, ![8, 4096, 1536]⟩
abbrev S8x4096x3080 : Shape := ⟨3, ![8, 4096, 3080]⟩

abbrev nBuf : Space → Nat
  | .hbm => 31
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3592, .f32⟩
  | .hbm, ⟨3, _⟩ => ⟨S3592, .f32⟩
  | .hbm, ⟨4, _⟩ => ⟨S512, .f32⟩
  | .hbm, ⟨5, _⟩ => ⟨S512, .f32⟩
  | .hbm, ⟨6, _⟩ => ⟨S1536, .f32⟩
  | .hbm, ⟨7, _⟩ => ⟨S2560, .f32⟩
  | .hbm, ⟨8, _⟩ => ⟨S1x2560, .f32⟩
  | .hbm, ⟨9, _⟩ => ⟨S512, .f32⟩
  | .hbm, ⟨10, _⟩ => ⟨S512, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S1040, .f32⟩
  | .hbm, ⟨15, _⟩ => ⟨S1040x1, .f32⟩
  | .hbm, ⟨16, _⟩ => ⟨S1x1024, .f32⟩
  | .hbm, ⟨17, _⟩ => ⟨S1024x3592, .bf16⟩
  | .hbm, ⟨18, _⟩ => ⟨S8x4096x2560, .bf16⟩
  | .hbm, ⟨19, _⟩ => ⟨S8x1024x4096, .bf16⟩
  | .hbm, ⟨20, _⟩ => ⟨S8x8x4096, .f32⟩
  | .hbm, ⟨21, _⟩ => ⟨S8x4096x2560, .f32⟩
  | .hbm, ⟨22, _⟩ => ⟨S8x4096x1024, .bf16⟩
  | .hbm, ⟨23, _⟩ => ⟨S8x4096x1024, .f32⟩
  | .hbm, ⟨24, _⟩ => ⟨S8x4096x8, .f32⟩
  | .hbm, ⟨25, _⟩ => ⟨S8x4096x512, .f32⟩
  | .hbm, ⟨26, _⟩ => ⟨S8x4096x512, .f32⟩
  | .hbm, ⟨27, _⟩ => ⟨S8x4096x512, .f32⟩
  | .hbm, ⟨28, _⟩ => ⟨S8x4096x512, .f32⟩
  | .hbm, ⟨29, _⟩ => ⟨S8x4096x1536, .f32⟩
  | .hbm, ⟨30, _⟩ => ⟨S8x4096x3080, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3592, .bf16⟩
  | .local _ .vmem, ⟨4, _⟩ => ⟨S1x2560, .f32⟩
  | .local _ .vmem, ⟨5, _⟩ => ⟨S1040x1, .f32⟩
  | .local _ .vmem, ⟨6, _⟩ => ⟨S1x1024x2560, .bf16⟩
  | .local _ .vmem, ⟨7, _⟩ => ⟨S1x1024x2560, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x8x1024, .f32⟩
  | .local _ .vmem, ⟨11, _⟩ => ⟨S1x8x1024, .f32⟩
  | .local _ .vmem, ⟨12, _⟩ => ⟨S1040x1024, .bf16⟩
  | .local _ .vmem, ⟨13, _⟩ => ⟨S1024x1536, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3592 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1040x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S8x4096x1024 : Shape := ⟨3, ![8, 4096, 1024]⟩
abbrev S1024 : Shape := ⟨1, ![1024]⟩
abbrev S1024x3592 : Shape := ⟨2, ![1024, 3592]⟩
abbrev S3592 : Shape := ⟨1, ![3592]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3592 : Shape := ⟨3, ![8, 4096, 3592]⟩
abbrev S1x1x3592 : Shape := ⟨3, ![1, 1, 3592]⟩
abbrev S8x4096x512 : Shape := ⟨3, ![8, 4096, 512]⟩
abbrev S8x4096x3080 : Shape := ⟨3, ![8, 4096, 3080]⟩

abbrev nBuf : Space → Nat
  | .hbm => 29
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x3592, .f32⟩
  | .hbm, ⟨3, _⟩ => ⟨S3592, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x3592, .f32⟩
  | .hbm, ⟨21, _⟩ => ⟨S1x1x3592, .f32⟩
  | .hbm, ⟨22, _⟩ => ⟨S8x4096x3592, .f32⟩
  | .hbm, ⟨23, _⟩ => ⟨S8x4096x3592, .f32⟩
  | .hbm, ⟨24, _⟩ => ⟨S8x4096x512, .f32⟩
  | .hbm, ⟨25, _⟩ => ⟨S8x4096x3080, .f32⟩
  | .hbm, ⟨26, _⟩ => ⟨S_, .f32⟩
  | .hbm, ⟨27, _⟩ => ⟨S8x4096x512, .f32⟩
  | .hbm, ⟨28, _⟩ => ⟨S8x4096x512, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Words.lean ====
/- The mixer's arithmetic for one chunk of 128 tokens and one pair of heads, named once. The printed
   body spells it eight times over for the chunks and twice for the pairs; each spelling is one of
   these terms at other operands. -/
module

public import proofs.«01_k».proof.Proof.Gen.KernelIdeal.Skeleton

@[expose] public section

noncomputable section

namespace Cert.Mix

open Idealize.ShloMosaic Idealize.SL.Sem Cert.KernelIdeal Cert.KernelIdeal.Gen

variable {F : FTy → Type} [FloatOps F]

/-! ### The whole tile: gates and their running sums -/

/-- The running sums of the log forget gates inside every chunk, in three parts by precision. -/
def cum (g : Vec F S1x8x1024 .f32) : FVec F S128x128 .f32 :=
  k0_pay25 k0_pay14 (k0_pay15 g) (k0_pay17 g) (k0_pay18 g) k0_pay19 (k0_pay20 g) (k0_pay21 g) (k0_pay22 g)
    (k0_pay23 g) (k0_pay24 g)

/-- One chunk's running sums: the three parts added up. -/
def bCum (g : Vec F S1x8x1024 .f32) (r0 r1 r2 : ℕ) (h0 : S128x128.Slices ![r0, 0] S4x128)
    (h1 : S128x128.Slices ![r1, 0] S4x128) (h2 : S128x128.Slices ![r2, 0] S4x128) : FVec F S4x128 .f32 :=
  addf (addf (extractStridedSlice S4x128 ![r0, 0] (cum g) h0) (extractStridedSlice S4x128 ![r1, 0] (cum g) h1))
    (extractStridedSlice S4x128 ![r2, 0] (cum g) h2)

/-- One chunk's log input gates. -/
def liC (g : Vec F S1x8x1024 .f32) (o : ℕ) (h : S4x1024.Slices ![0, o] S4x128) : FVec F S4x128 .f32 :=
  extractStridedSlice S4x128 ![0, o] (k0_pay10 g) h

/-! ### One chunk, all four heads -/

section Chunk
variable (bc li : FVec F S4x128 .f32) (m : FVec F S4x1 .f32)

def gTot : FVec F S4x1 .f32 := extractStridedSlice S4x1 ![0, 127] bc slices_S4x128_o0_127_S4x1

def aEnd : FVec F S4x128 .f32 := addf (subf (broadcastTo S4x128 (gTot bc) broadcasts_S4x1_S4x128) bc) li

def mLoc : FVec F S4x1 .f32 :=
  shapeCast S4x1 (multiReduction .maximumf [1] S4 (aEnd bc li) 0xFF800000#32 reduces_S4x128_S4 (.inl rfl) rfl)
    shapeCasts_S4_S4x1

def mNew : FVec F S4x1 .f32 := maximumf (addf (gTot bc) m) (mLoc bc li)

def decay : FVec F S4x1 .f32 := exp (subf (addf (gTot bc) m) (mNew bc li m))

def sFac : FVec F S4x1 .f32 := exp (subf (mLoc bc li) (mNew bc li m))

def wKey : FVec F S4x128 .f32 := exp (subf (aEnd bc li) (broadcastTo S4x128 (mLoc bc li) broadcasts_S4x1_S4x128))

def uCols : FVec F S128x8 .f32 :=
  transpose S128x8 [1, 0] (concatenate S8x128 0 [⟨S4x128, subf li bc⟩,
    ⟨S4x128, broadcast S4x128 (Scalar.ofBits .f32 0x00000000#32)⟩] concatenates_S4x128_S4x128_S8x128_d0)
    transposes_S8x128_p1_0_S128x8

end Chunk

/-! ### One chunk, one pair of heads -/

/-- Two rows side by side. -/
def rowPair (x : FVec F S4x128 .f32) (a b : ℕ) (ha : S4x128.Slices ![a, 0] S1x128) (hb : S4x128.Slices ![b, 0] S1x128) :
    FVec F S1x256 .f32 :=
  concatenate S1x256 1 [⟨S1x128, extractStridedSlice S1x128 ![a, 0] x ha⟩,
    ⟨S1x128, extractStridedSlice S1x128 ![b, 0] x hb⟩] concatenates_S1x128_S1x128_S1x256_d1

/-- Two single numbers, each repeated along its half of a row. -/
def onePair (x : FVec F S4x1 .f32) (a b : ℕ) (ha : S4x1.Slices ![a, 0] S1x1) (hb : S4x1.Slices ![b, 0] S1x1) :
    FVec F S1x256 .f32 :=
  concatenate S1x256 1 [
    ⟨S1x128, broadcastTo S1x128 (shapeCast S1x1 (extractStridedSlice S1x1 ![a, 0] x ha) shapeCasts_S1x1_S1x1)
      broadcasts_S1x1_S1x128⟩,
    ⟨S1x128, broadcastTo S1x128 (shapeCast S1x1 (extractStridedSlice S1x1 ![b, 0] x hb) shapeCasts_S1x1_S1x1)
      broadcasts_S1x1_S1x128⟩] concatenates_S1x128_S1x128_S1x256_d1

/-- The log weights of the chunk's keys for its queries, the later keys masked. -/
def uT (u : FVec F S128x8 .f32) (a b : ℕ) (ha : S128x8.Slices ![0, a] S128x1) (hb : S128x8.Slices ![0, b] S128x1) :
    FVec F S128x256 .f32 :=
  concatenate S128x256 1 [
    ⟨S128x128, select k0_pay12 (broadcastTo S128x128 (shapeCast S128x1 (extractStridedSlice S128x1 ![0, a] u ha)
      shapeCasts_S128x1_S128x1) broadcasts_S128x1_S128x128)
      (broadcast S128x128 (Scalar.ofBits .f32 0xFF800000#32))⟩,
    ⟨S128x128, select k0_pay12 (broadcastTo S128x128 (shapeCast S128x1 (extractStridedSlice S128x1 ![0, b] u hb)
      shapeCasts_S128x1_S128x1) broadcasts_S128x1_S128x128)
      (broadcast S128x128 (Scalar.ofBits .f32 0xFF800000#32))⟩] concatenates_S128x128_S128x128_S128x256_d1

section Pair
variable (ut : FVec F S128x256 .f32) (mp bp wp dp sp : FVec F S1x256 .f32)
  (k : Vec F S1x128x256 .bf16) (q v : Vec F S1x256x128 .bf16) (ct : Vec F S1x144x256 .f32)

def mTot : FVec F S1x256 .f32 :=
  maximumf (shapeCast S1x256 (multiReduction .maximumf [0] S256 ut 0xFF800000#32 reduces_S128x256_S256 (.inl rfl) rfl)
    shapeCasts_S256_S1x256) mp

def fInter : FVec F S1x256 .f32 := exp (subf mp (mTot ut mp))

def floorR : FVec F S1x256 .f32 :=
  exp (subf (subf (broadcast S1x256 (Scalar.ofBits .f32 0x00000000#32)) bp) (mTot ut mp))

/-- Keys against queries, two heads in one product by a block diagonal. -/
def s2 : FVec F S128x256 .f32 :=
  matmul dot_S128x256_S256x256_S128x256_1_0_0_1_n_n none (shapeCast S128x256 k shapeCasts_S1x128x256_S128x256)
    (concatenate S256x256 0 [
      ⟨S128x256, concatenate S128x256 1 [
        ⟨S128x128, extractStridedSlice S128x128 ![0, 0] (shapeCast S256x128 q shapeCasts_S1x256x128_S256x128)
          slices_S256x128_o0_0_S128x128⟩,
        ⟨S128x128, broadcast S128x128 (Scalar.ofBits .bf16 0x0000#16)⟩] concatenates_S128x128_S128x128_S128x256_d1⟩,
      ⟨S128x256, concatenate S128x256 1 [
        ⟨S128x128, broadcast S128x128 (Scalar.ofBits .bf16 0x0000#16)⟩,
        ⟨S128x128, extractStridedSlice S128x128 ![128, 0] (shapeCast S256x128 q shapeCasts_S1x256x128_S256x128)
          slices_S256x128_o128_0_S128x128⟩] concatenates_S128x128_S128x128_S128x256_d1⟩]
      concatenates_S128x256_S128x256_S256x256_d0)
    (constant S128x256 .f32 0x00000000#32)

/-- The chunk's scores. -/
def p2 : FVec F S128x256 .bf16 :=
  truncf .bf16 (mulf (s2 k q) (exp (subf ut (broadcastTo S128x256 (mTot ut mp) broadcasts_S1x256_S128x256))))
    bitsLt_bf16_f32

/-- One head's values over a row of ones. -/
def vAug (o : ℕ) (h : S256x128.Slices ![o, 0] S128x128) : FVec F S144x128 .bf16 :=
  concatenate S144x128 0 [
    ⟨S128x128, extractStridedSlice S128x128 ![o, 0] (shapeCast S256x128 v shapeCasts_S1x256x128_S256x128) h⟩,
    ⟨S16x128, k0_pay13⟩] concatenates_S128x128_S16x128_S144x128_d0

/-- One head's queries, weighted for the memory. -/
def qf (o l : ℕ) (h : S256x128.Slices ![o, 0] S128x128) (hl : S1x256.Slices ![0, l] S1x128) : FVec F S128x128 .bf16 :=
  truncf .bf16 (mulf (extf .f32 (extractStridedSlice S128x128 ![o, 0] (shapeCast S256x128 q shapeCasts_S1x256x128_S256x128) h)
      bitsLt_bf16_f32)
    (broadcastTo S128x128 (extractStridedSlice S1x128 ![0, l] (fInter ut mp) hl) broadcasts_S1x128_S128x128))
    bitsLt_bf16_f32

/-- The memory as the product takes it. -/
def cb : FVec F S144x256 .bf16 := truncf .bf16 (shapeCast S144x256 ct shapeCasts_S1x144x256_S144x256) bitsLt_bf16_f32

/-- Values and memory against scores and weighted queries, two heads in one product. -/
def r2 : FVec F S144x256 .f32 :=
  matmul dot_S144x512_S512x256_S144x256_1_0_0_1_n_n none
    (concatenate S144x512 1 [⟨S144x128, vAug v 0 slices_S256x128_o0_0_S128x128⟩,
      ⟨S144x128, extractStridedSlice S144x128 ![0, 0] (cb ct) slices_S144x256_o0_0_S144x128⟩,
      ⟨S144x128, vAug v 128 slices_S256x128_o128_0_S128x128⟩,
      ⟨S144x128, extractStridedSlice S144x128 ![0, 128] (cb ct) slices_S144x256_o0_128_S144x128⟩]
      concatenates_S144x128_S144x128_S144x128_S144x128_S144x512_d1)
    (concatenate S512x256 0 [
      ⟨S256x256, concatenate S256x256 1 [
        ⟨S256x128, concatenate S256x128 0 [
          ⟨S128x128, extractStridedSlice S128x128 ![0, 0] (p2 ut mp k q) slices_S128x256_o0_0_S128x128⟩,
          ⟨S128x128, qf ut mp q 0 0 slices_S256x128_o0_0_S128x128 slices_S1x256_o0_0_S1x128⟩]
          concatenates_S128x128_S128x128_S256x128_d0⟩,
        ⟨S256x128, broadcast S256x128 (Scalar.ofBits .bf16 0x0000#16)⟩] concatenates_S256x128_S256x128_S256x256_d1⟩,
      ⟨S256x256, concatenate S256x256 1 [
        ⟨S256x128, broadcast S256x128 (Scalar.ofBits .bf16 0x0000#16)⟩,
        ⟨S256x128, concatenate S256x128 0 [
          ⟨S128x128, extractStridedSlice S128x128 ![0, 128] (p2 ut mp k q) slices_S128x256_o0_128_S128x128⟩,
          ⟨S128x128, qf ut mp q 128 128 slices_S256x128_o128_0_S128x128 slices_S1x256_o0_128_S1x128⟩]
          concatenates_S128x128_S128x128_S256x128_d0⟩] concatenates_S256x128_S256x128_S256x256_d1⟩]
      concatenates_S256x256_S256x256_S512x256_d0)
    (constant S144x256 .f32 0x00000000#32)

/-- The chunk's values, each key weighted to the chunk's end. -/
def vtw : FVec F S144x256 .bf16 :=
  concatenate S144x256 1 [
    ⟨S144x128, truncf .bf16 (mulf (extf .f32 (vAug v 0 slices_S256x128_o0_0_S128x128) bitsLt_bf16_f32)
      (broadcastTo S144x128 (extractStridedSlice S1x128 ![0, 0] wp slices_S1x256_o0_0_S1x128) broadcasts_S1x128_S144x128))
      bitsLt_bf16_f32⟩,
    ⟨S144x128, truncf .bf16 (mulf (extf .f32 (vAug v 128 slices_S256x128_o128_0_S128x128) bitsLt_bf16_f32)
      (broadcastTo S144x128 (extractStridedSlice S1x128 ![0, 128] wp slices_S1x256_o0_128_S1x128) broadcasts_S1x128_S144x128))
      bitsLt_bf16_f32⟩] concatenates_S144x128_S144x128_S144x256_d1

/-- What the chunk adds to the memory. -/
def kv : FVec F S144x256 .f32 :=
  matmul dot_S144x256_S256x256_S144x256_1_0_0_1_n_n none (vtw wp v)
    (concatenate S256x256 0 [
      ⟨S128x256, concatenate S128x256 1 [
        ⟨S128x128, extractStridedSlice S128x128 ![0, 0] (shapeCast S128x256 k shapeCasts_S1x128x256_S128x256)
          slices_S128x256_o0_0_S128x128⟩,
        ⟨S128x128, broadcast S128x128 (Scalar.ofBits .bf16 0x0000#16)⟩] concatenates_S128x128_S128x128_S128x256_d1⟩,
      ⟨S128x256, concatenate S128x256 1 [
        ⟨S128x128, broadcast S128x128 (Scalar.ofBits .bf16 0x0000#16)⟩,
        ⟨S128x128, extractStridedSlice S128x128 ![0, 128] (shapeCast S128x256 k shapeCasts_S1x128x256_S128x256)
          slices_S128x256_o0_128_S128x128⟩] concatenates_S128x128_S128x128_S128x256_d1⟩]
      concatenates_S128x256_S128x256_S256x256_d0)
    (constant S144x256 .f32 0x00000000#32)

/-- The memory after the chunk. -/
def ctNew : FVec F S1x144x256 .f32 :=
  shapeCast S1x144x256 (addf
    (mulf (broadcastTo S144x256 dp broadcasts_S1x256_S144x256) (shapeCast S144x256 ct shapeCasts_S1x144x256_S144x256))
    (mulf (broadcastTo S144x256 sp broadcasts_S1x256_S144x256) (kv wp k v))) shapeCasts_S144x256_S1x144x256

/-- Numerator over normaliser. -/
def hT (r : FVec F S144x256 .f32) (fl : FVec F S1x256 .f32) : FVec F S128x256 .f32 :=
  mulf (extractStridedSlice S128x256 ![0, 0] r slices_S144x256_o0_0_S128x256)
    (broadcastTo S128x256 (divf (broadcast S1x256 (Scalar.ofBits .f32 0x3F800000#32))
      (maximumf (absf (extractStridedSlice S1x256 ![128, 0] r slices_S144x256_o128_0_S1x256)) fl))
      broadcasts_S1x256_S128x256)

/-- One head's output under its output gate. -/
def gated (h : FVec F S128x256 .f32) (l : ℕ) (hl : S128x256.Slices ![0, l] S128x128) (o : Vec F S1x128x128 .bf16) :
    FVec F S128x128 .bf16 :=
  shapeCast S128x128 (truncf .bf16 (mulf (logistic (extf .f32 (shapeCast S128x128 o shapeCasts_S1x128x128_S128x128) bitsLt_bf16_f32))
    (transpose S128x128 [1, 0] (extractStridedSlice S128x128 ![0, l] h hl) transposes_S128x128_p1_0_S128x128))
    bitsLt_bf16_f32) shapeCasts_S128x128_S128x128

end Pair

end Cert.Mix
-- ==== Proof.Math.lean ====
/- The mLSTM recurrence over the reals, with no tensor in it.

   `Head` is one head of one sequence: log forget gates, log input gates, queries, keys and values
   by position. `St` is the stabiliser-free matrix memory after `T` tokens (row 128 is the
   normaliser), `Num` the read of the memory by a query, `out` the layer's output. `St_step` and
   `Num_step` say what one chunk of 128 tokens does to a memory kept as `exp (-m) * St`. -/
module

public import Idealize.ShloMosaic.Lib.Pointwise

@[expose] public section

noncomputable section

namespace Cert.Mix

open Finset

/-- One head of one sequence; `q` already scaled. -/
structure Head where
  lf : ℕ → ℝ
  li : ℕ → ℝ
  q : ℕ → Fin 128 → ℝ
  k : ℕ → Fin 128 → ℝ
  v : ℕ → Fin 128 → ℝ

namespace Head

variable (H : Head)

/-- The values with a row of ones below them, which makes row 128 of the memory the normaliser. -/
def va (s e : ℕ) : ℝ := if h : e < 128 then H.v s ⟨e, h⟩ else if e = 128 then 1 else 0

/-- The sum of the log forget gates of the first `T` tokens. -/
def G (T : ℕ) : ℝ := ∑ s ∈ range T, H.lf s

/-- The memory after `T` tokens. -/
def St (T e : ℕ) (d : Fin 128) : ℝ :=
  ∑ s ∈ range T, Real.exp (H.G T - H.G (s + 1) + H.li s) * H.va s e * H.k s d

/-- The memory after token `t`, read by the query of token `t`. -/
def Num (t e : ℕ) : ℝ :=
  ∑ s ∈ range (t + 1), Real.exp (H.G (t + 1) - H.G (s + 1) + H.li s) * (∑ d, H.q t d * H.k s d) * H.va s e

/-- The layer's output at token `t`. -/
def out (t e : ℕ) : ℝ := H.Num t e / max |H.Num t 128| 1

theorem St_zero (e : ℕ) (d : Fin 128) : H.St 0 e d = 0 := by simp [St]

theorem exp3 (a b x y : ℝ) : Real.exp a * (Real.exp b * x * y) = Real.exp (a + b) * x * y := by
  rw [Real.exp_add]; ring

/-- One chunk of tokens: the memory kept under the stabiliser `m` becomes the memory kept under `m'`. -/
theorem St_step (T : ℕ) (m ml m' : ℝ) (e : ℕ) (d : Fin 128) :
    Real.exp (H.G (T + 128) - H.G T + m - m') * (Real.exp (-m) * H.St T e d)
      + Real.exp (ml - m') * ∑ j : Fin 128, (H.va (T + j) e
          * Real.exp (H.G (T + 128) - H.G T - (H.G (T + j + 1) - H.G T) + H.li (T + j) - ml)) * H.k (T + j) d
      = Real.exp (-m') * H.St (T + 128) e d := by
  simp only [St]
  rw [sum_range_add, sum_range (n := 128), mul_add, mul_sum, mul_sum, mul_sum, mul_sum, mul_sum]
  congr 1
  · refine sum_congr rfl fun s _ => ?_
    rw [exp3, exp3, exp3]; congr 3; ring
  · refine sum_congr rfl fun j _ => ?_
    rw [show ∀ a b c x : ℝ, a * (x * b * c) = a * (b * x * c) from fun a b c x => by ring, exp3, exp3]
    congr 3; ring

theorem sum_range_le (i : Fin 128) (f : ℕ → ℝ) :
    ∑ j ∈ range (i + 1), f j = ∑ j : Fin 128, if j ≤ i then f j else 0 := by
  have h : ∑ j : Fin 128, (if j ≤ i then f j else 0) = ∑ j ∈ range 128, if j ≤ i.val then f j else 0 := by
    rw [sum_range]; exact sum_congr rfl fun j _ => by simp only [Fin.le_def]
  rw [h, ← sum_filter]
  refine sum_congr ?_ fun _ _ => rfl
  ext j
  simp only [mem_range, mem_filter]
  have := i.isLt
  omega

/-- One chunk of tokens: the chunk's own keys and the memory of the tokens before, read by a query. -/
theorem Num_step (T : ℕ) (i : Fin 128) (m mt : ℝ) (e : ℕ) :
    (∑ j : Fin 128, H.va (T + j) e * ((∑ d, H.k (T + j) d * H.q (T + i) d)
        * (if j ≤ i then Real.exp (H.li (T + j) - (H.G (T + j + 1) - H.G T) - mt) else 0)))
      + ∑ d, Real.exp (-m) * H.St T e d * (H.q (T + i) d * Real.exp (m - mt))
      = Real.exp (-(H.G (T + i + 1) - H.G T) - mt) * H.Num (T + i) e := by
  simp only [Num, add_assoc T i.val 1]
  rw [sum_range_add, mul_add, add_comm, sum_range_le i fun j => _, mul_sum, mul_sum]
  congr 1
  · simp only [St, mul_sum, sum_mul]
    rw [sum_comm]
    refine sum_congr rfl fun s _ => sum_congr rfl fun d _ => ?_
    have h : Real.exp (-(H.G (T + (i + 1)) - H.G T) - mt) * Real.exp (H.G (T + (i + 1)) - H.G (s + 1) + H.li s)
        = Real.exp (-m) * Real.exp (H.G T - H.G (s + 1) + H.li s) * Real.exp (m - mt) := by
      rw [← Real.exp_add, ← Real.exp_add, ← Real.exp_add]; congr 1; ring
    linear_combination (-(H.q (T + i) d * H.k s d * H.va s e)) * h
  · refine sum_congr rfl fun j _ => ?_
    split_ifs with hj
    · have h : Real.exp (-(H.G (T + (i + 1)) - H.G T) - mt)
          * Real.exp (H.G (T + (i + 1)) - H.G (T + j + 1) + H.li (T + j))
          = Real.exp (H.li (T + j) - (H.G (T + j + 1) - H.G T) - mt) := by
        rw [← Real.exp_add]; congr 1; ring
      rw [← h, show (∑ d, H.k (T + j) d * H.q (T + i) d) = ∑ d, H.q (T + i) d * H.k (T + j) d from
        sum_congr rfl fun d _ => mul_comm _ _]
      ring
    · ring

/-- The numerator and the normaliser under one common factor, with the floor under the same factor. -/
theorem out_eq (t e : ℕ) (c : ℝ) :
    Real.exp c * H.Num t e * (1 / max |Real.exp c * H.Num t 128| (Real.exp c)) = H.out t e := by
  have hc := Real.exp_pos c
  have : max |Real.exp c * H.Num t 128| (Real.exp c) = Real.exp c * max |H.Num t 128| 1 := by
    rw [abs_mul, abs_of_pos hc, mul_max_of_nonneg _ _ hc.le, mul_one]
  rw [this, out]
  have h1 : (0 : ℝ) < max |H.Num t 128| 1 := lt_max_of_lt_right one_pos
  field_simp

/-- The parallel form: the whole sequence's keys at once, under any stabiliser. -/
theorem Num_par (n : ℕ) (t : Fin n) (mt : ℝ) (e : ℕ) :
    (∑ s : Fin n, ((∑ d, H.q t d * H.k s d)
        * (if s ≤ t then Real.exp (H.G (t + 1) - H.G (s + 1) + H.li s - mt) else 0)) * H.va s e)
      = Real.exp (-mt) * H.Num t e := by
  have h : ∀ f : ℕ → ℝ, ∑ j ∈ range (t + 1), f j = ∑ s : Fin n, if s ≤ t then f s else 0 := by
    intro f
    have h : ∑ j : Fin n, (if j ≤ t then f j else 0) = ∑ j ∈ range n, if j ≤ t.val then f j else 0 := by
      rw [sum_range]; exact sum_congr rfl fun j _ => by simp only [Fin.le_def]
    rw [h, ← sum_filter]
    refine sum_congr ?_ fun _ _ => rfl
    ext j
    simp only [mem_range, mem_filter]
    have := t.isLt
    omega
  rw [Num, h, mul_sum]
  refine sum_congr rfl fun s _ => ?_
  split_ifs with hs
  · rw [show Real.exp (H.G (t + 1) - H.G (s + 1) + H.li s - mt)
        = Real.exp (-mt) * Real.exp (H.G (t + 1) - H.G (s + 1) + H.li s) by
      rw [← Real.exp_add]; congr 1; ring]
    ring
  · ring

end Head

/-! ### Extended reals that are real -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A maximum of finitely many values, none of them `⊤` and one of them real, is real. -/
theorem fold_max_real {ι : Type*} [Fintype ι] (f : ι → EReal) (ht : ∀ i, f i ≠ ⊤) (i₀ : ι) (hb : f i₀ ≠ ⊥) :
    ∃ r : ℝ, Finset.univ.fold max ⊥ f = (r : EReal) := by
  have h1 : ∀ s : Finset ι, s.fold max ⊥ f ≠ ⊤ := by
    classical
    intro s
    induction s using Finset.induction_on with
    | empty => simp
    | insert a s ha ih =>
      rw [fold_insert ha]
      rcases max_choice (f a) (s.fold max ⊥ f) with h | h <;> rw [h]
      · exact ht a
      · exact ih
  have h2 : Finset.univ.fold max ⊥ f ≠ ⊥ := by
    intro h
    have : f i₀ ≤ Finset.univ.fold max ⊥ f := by
      rw [Finset.le_fold_max]; exact Or.inr ⟨i₀, Finset.mem_univ _, le_rfl⟩
    rw [h] at this
    exact hb (le_bot_iff.mp this)
  exact ⟨(Finset.univ.fold max ⊥ f).toReal, (EReal.coe_toReal (h1 _) h2).symm⟩

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

theorem coe_abs (a : ℝ) : max (a : EReal) (-(a : EReal)) = ((|a| : ℝ) : EReal) := by
  rw [← EReal.coe_neg, coe_max]; rfl

/-- The log-sigmoid of a real. -/
def lsig (f : ℝ) : ℝ := min f 0 - Real.log (1 + Real.exp (-|f|))

theorem log1p_exp (a : ℝ) : Idealize.ShloMosaic.Ideal.log1p (Idealize.ShloMosaic.Ideal.exp (a : EReal))
    = ((Real.log (1 + Real.exp a) : ℝ) : EReal) := by
  have h : (0 : ℝ) < 1 + Real.exp a := by positivity
  have h1 : (1 : EReal) + ((Real.exp a : ℝ) : EReal) = ((1 + Real.exp a : ℝ) : EReal) := by
    rw [EReal.coe_add, EReal.coe_one]
  rw [Idealize.ShloMosaic.Ideal.exp_coe, Idealize.ShloMosaic.Ideal.log1p, h1]
  show (if _ then _ else _) = _
  rw [if_neg (not_le.mpr h)]

/-! ### Sums over joined axes -/

theorem sum_256 {M : Type*} [AddCommMonoid M] (f : Fin 256 → M) :
    ∑ i, f i = (∑ j : Fin 128, f ⟨j.val, by omega⟩) + ∑ j : Fin 128, f ⟨128 + j.val, by omega⟩ :=
  Fin.sum_univ_add (a := 128) (b := 128) f

theorem sum_512 {M : Type*} [AddCommMonoid M] (f : Fin 512 → M) :
    ∑ i, f i = ((∑ j : Fin 128, f ⟨j.val, by omega⟩) + ∑ j : Fin 128, f ⟨128 + j.val, by omega⟩)
      + ((∑ j : Fin 128, f ⟨256 + j.val, by omega⟩) + ∑ j : Fin 128, f ⟨384 + j.val, by omega⟩) := by
  rw [show ∑ i, f i = (∑ j : Fin 256, f ⟨j.val, by omega⟩) + ∑ j : Fin 256, f ⟨256 + j.val, by omega⟩ from
    Fin.sum_univ_add (a := 256) (b := 256) f, sum_256, sum_256]
  simp only [← add_assoc, show 256 + 128 = 384 from rfl]

theorem sum_1024 {M : Type*} [AddCommMonoid M] (f : Fin 1024 → M) :
    ∑ i, f i = (((∑ j : Fin 256, f ⟨j.val, by omega⟩) + ∑ j : Fin 256, f ⟨256 + j.val, by omega⟩)
      + ∑ j : Fin 256, f ⟨512 + j.val, by omega⟩) + ∑ j : Fin 256, f ⟨768 + j.val, by omega⟩ := by
  rw [show ∑ i, f i = (∑ j : Fin 768, f ⟨j.val, by omega⟩) + ∑ j : Fin 256, f ⟨768 + j.val, by omega⟩ from
      Fin.sum_univ_add (a := 768) (b := 256) f,
    show (∑ j : Fin 768, f ⟨j.val, by omega⟩) = (∑ j : Fin 512, f ⟨j.val, by omega⟩) + ∑ j : Fin 256, f ⟨512 + j.val, by omega⟩ from
      Fin.sum_univ_add (a := 512) (b := 256) fun j => f ⟨j.val, by omega⟩,
    show (∑ j : Fin 512, f ⟨j.val, by omega⟩) = (∑ j : Fin 256, f ⟨j.val, by omega⟩) + ∑ j : Fin 256, f ⟨256 + j.val, by omega⟩ from
      Fin.sum_univ_add (a := 256) (b := 256) fun j => f ⟨j.val, by omega⟩]

end Cert.Mix
-- ==== Proof.Chunk.lean ====
/- One chunk of 128 tokens over the extended reals: every word of `Proof.Words` read at an index, on
   operands that are real, is the real number the recurrence of `Proof.Math` says. A running maximum
   is only ever "some real". -/
module

public import proofs.«01_k».proof.Proof.Words
public import proofs.«01_k».proof.Proof.Math
import Idealize.ShloMosaic.Lib.Pointwise

@[expose] public section

set_option maxRecDepth 16384

noncomputable section

namespace Cert.Mix

open Idealize.ShloMosaic Idealize.SL.Sem Cert.KernelIdeal Cert.KernelIdeal.Gen

theorem ofBits_neg_inf : Ideal.ofBits FTy.f32 4286578688#32 = ⊥ := by simp [Ideal.ofBits, Ideal.ieee]

theorem sle_nat (a b : ℕ) (ha : a < 128) (hb : b < 128) :
    IntOp.cmpi .sle (BitVec.ofNat 32 a) (BitVec.ofNat 32 b) = if a ≤ b then 1#1 else 0#1 := by
  have h : ∀ n : ℕ, n < 128 → (BitVec.ofNat 32 n).toInt = n := by
    intro n hn
    rw [BitVec.toInt_eq_toNat_of_lt] <;> simp only [BitVec.toNat_ofNat] <;> omega
  simp only [IntOp.cmpi, BitVec.sle, h a ha, h b hb, Nat.cast_le]
  split_ifs with hab <;> simp [hab]

theorem causal_apply (j i : Fin 128) : k0_pay12 (ix2 j i) = if j ≤ i then 1#1 else 0#1 := by
  pointwise [k0_pay12]
  rw [sle_nat _ _ j.isLt i.isLt]; rfl

theorem prefix_apply (j i : Fin 128) : k0_pay14 (F := Ideal) (ix2 j i) = if j ≤ i then (1 : EReal) else 0 := by
  pointwise [k0_pay14]
  rw [sle_nat _ _ j.isLt i.isLt]
  simp only [Fin.le_def]
  split_ifs
  · show (((BitVec.setWidth 32 1#1).toInt : ℝ) : EReal) = 1
    simp
  · show (((BitVec.setWidth 32 0#1).toInt : ℝ) : EReal) = 0
    simp

theorem ones_apply (j : Fin 16) (i : Fin 128) :
    k0_pay13 (F := Ideal) (ix2 j i) = if j.val = 0 then (1 : EReal) else 0 := by
  pointwise [k0_pay13]
  fin_cases j <;> simp [IntOp.cmpi] <;> first | rfl | (show (((BitVec.setWidth 32 1#1).toInt : ℝ) : EReal) = 1; simp) | (show (((BitVec.setWidth 32 0#1).toInt : ℝ) : EReal) = 0; simp)

/-- Column `i` of half `l` of a pair. -/
def col (l : Fin 2) (i : Fin 128) : Fin 256 := ⟨128 * l.val + i.val, by omega⟩

theorem col_zero (i : Fin 128) : col 0 i = ⟨i.val, by omega⟩ := by simp [col]
theorem col_one (i : Fin 128) : col 1 i = ⟨128 + i.val, by omega⟩ := by simp [col]

/-! ### One chunk, all four heads -/

section Chunk
variable (H : Fin 4 → Head) (T : ℕ) (bc li : FVec Ideal S4x128 .f32) (m : FVec Ideal S4x1 .f32) (mr : Fin 4 → ℝ)

/-- The chunk's running sums are the head's. -/
def IsB : Prop := ∀ (h : Fin 4) (i : Fin 128), bc (ix2 h i) = (((H h).G (T + i + 1) - (H h).G T : ℝ) : EReal)
/-- The chunk's log input gates are the head's. -/
def IsLi : Prop := ∀ (h : Fin 4) (i : Fin 128), li (ix2 h i) = (((H h).li (T + i) : ℝ) : EReal)
/-- A stabiliser per head is the real `mr`. -/
def IsM : Prop := ∀ h : Fin 4, m (ix2 h (0 : Fin 1)) = ((mr h : ℝ) : EReal)

variable {H T bc li m mr}

theorem gTot_apply (hb : IsB H T bc) (h : Fin 4) :
    gTot bc (ix2 h (0 : Fin 1)) = (((H h).G (T + 128) - (H h).G T : ℝ) : EReal) := by
  pointwise [gTot]
  exact hb h 127

theorem aEnd_apply (hb : IsB H T bc) (hl : IsLi H T li) (h : Fin 4) (j : Fin 128) :
    aEnd bc li (ix2 h j) = (((H h).G (T + 128) - (H h).G T - ((H h).G (T + j + 1) - (H h).G T) + (H h).li (T + j) : ℝ) : EReal) := by
  pointwise [aEnd]
  rw [gTot_apply hb, hb, hl]
  rfl

theorem mLoc_real (hb : IsB H T bc) (hl : IsLi H T li) : ∃ ml : Fin 4 → ℝ, IsM (mLoc bc li) ml := by
  have : ∀ h : Fin 4, ∃ r : ℝ, mLoc bc li (ix2 h (0 : Fin 1)) = (r : EReal) := by
    intro h
    pointwise [mLoc]
    rw [ofBits_neg_inf]
    refine fold_max_real _ (fun j => ?_) 0 ?_
    · rw [aEnd_apply hb hl]; exact EReal.coe_ne_top _
    · rw [aEnd_apply hb hl]; exact EReal.coe_ne_bot _
  choose ml h using this
  exact ⟨ml, h⟩

theorem mNew_real (hb : IsB H T bc) (hl : IsLi H T li) (hm : IsM m mr) : ∃ m' : Fin 4 → ℝ, IsM (mNew bc li m) m' := by
  obtain ⟨ml, hml⟩ := mLoc_real hb hl
  refine ⟨fun h => max ((H h).G (T + 128) - (H h).G T + mr h) (ml h), fun h => ?_⟩
  pointwise [mNew]
  rw [gTot_apply hb, hm, hml, ← EReal.coe_add, coe_max]

theorem decay_apply {m' : Fin 4 → ℝ} (hb : IsB H T bc) (hm : IsM m mr) (hm' : IsM (mNew bc li m) m') (h : Fin 4) :
    decay bc li m (ix2 h (0 : Fin 1)) = ((Real.exp ((H h).G (T + 128) - (H h).G T + mr h - m' h) : ℝ) : EReal) := by
  pointwise [decay]
  rw [gTot_apply hb, hm, hm', ← EReal.coe_add, ← EReal.coe_sub, Ideal.exp_coe]

theorem sFac_apply {ml m' : Fin 4 → ℝ} (hml : IsM (mLoc bc li) ml) (hm' : IsM (mNew bc li m) m') (h : Fin 4) :
    sFac bc li m (ix2 h (0 : Fin 1)) = ((Real.exp (ml h - m' h) : ℝ) : EReal) := by
  pointwise [sFac]
  rw [hml, hm', ← EReal.coe_sub, Ideal.exp_coe]

theorem wKey_apply {ml : Fin 4 → ℝ} (hb : IsB H T bc) (hl : IsLi H T li) (hml : IsM (mLoc bc li) ml) (h : Fin 4) (j : Fin 128) :
    wKey bc li (ix2 h j) = ((Real.exp ((H h).G (T + 128) - (H h).G T - ((H h).G (T + j + 1) - (H h).G T)
      + (H h).li (T + j) - ml h) : ℝ) : EReal) := by
  pointwise [wKey]
  rw [aEnd_apply hb hl, hml, ← EReal.coe_sub, Ideal.exp_coe]

theorem uCols_apply (hb : IsB H T bc) (hl : IsLi H T li) (h : Fin 4) (j : Fin 128) :
    uCols bc li (ix2 j (⟨h.val, by omega⟩ : Fin 8))
      = (((H h).li (T + j) - ((H h).G (T + j + 1) - (H h).G T) : ℝ) : EReal) := by
  pointwise [uCols]
  rw [hb, hl, ← EReal.coe_sub]

end Chunk

/-! ### Picking a pair of heads -/

/-- The pair of heads `a`, `b`. -/
def pick {α : Type} (f : Fin 4 → α) (a b : ℕ) (ha : a < 4) (hb : b < 4) (l : Fin 2) : α :=
  f (if l = 0 then ⟨a, ha⟩ else ⟨b, hb⟩)

section Pick
variable (x : FVec Ideal S4x128 .f32) (y : FVec Ideal S4x1 .f32) (u : FVec Ideal S128x8 .f32)

theorem rowPair_apply (a b : ℕ) (ha hb) (ha4 : a < 4) (hb4 : b < 4) (l : Fin 2) (i : Fin 128) :
    rowPair x a b ha hb (ix2 (0 : Fin 1) (col l i)) = pick (fun h => x (ix2 h i)) a b ha4 hb4 l := by
  fin_cases l
  · show rowPair x a b ha hb (ix2 (0 : Fin 1) (col 0 i)) = _
    rw [col_zero]; pointwise [rowPair]; rfl
  · show rowPair x a b ha hb (ix2 (0 : Fin 1) (col 1 i)) = _
    rw [col_one]; pointwise [rowPair]; rfl

theorem onePair_apply (a b : ℕ) (ha hb) (ha4 : a < 4) (hb4 : b < 4) (l : Fin 2) (i : Fin 128) :
    onePair y a b ha hb (ix2 (0 : Fin 1) (col l i)) = pick (fun h => y (ix2 h (0 : Fin 1))) a b ha4 hb4 l := by
  fin_cases l
  · show onePair y a b ha hb (ix2 (0 : Fin 1) (col 0 i)) = _
    rw [col_zero]; pointwise [onePair]; rfl
  · show onePair y a b ha hb (ix2 (0 : Fin 1) (col 1 i)) = _
    rw [col_one]; pointwise [onePair]; rfl

theorem uT_apply (a b : ℕ) (ha hb) (ha4 : a < 4) (hb4 : b < 4) (l : Fin 2) (j i : Fin 128) :
    uT u a b ha hb (ix2 j (col l i))
      = if j ≤ i then pick (fun h => u (ix2 j (⟨h.val, by omega⟩ : Fin 8))) a b ha4 hb4 l else ⊥ := by
  have hs : ∀ p q : EReal, Scalar.select (k0_pay12 (ix2 j i)) p q = if j ≤ i then p else q := by
    intro p q; rw [causal_apply]; split_ifs <;> rfl
  fin_cases l
  · show uT u a b ha hb (ix2 j (col 0 i)) = _
    rw [col_zero]; pointwise [uT]
    rw [ofBits_neg_inf]
    exact hs _ _
  · show uT u a b ha hb (ix2 j (col 1 i)) = _
    rw [col_one]; pointwise [uT]
    rw [ofBits_neg_inf]
    exact hs _ _

end Pick

/-! ### One chunk, one pair of heads -/

section Pair
variable (ut : FVec Ideal S128x256 .f32) (mp bp wp dp sp : FVec Ideal S1x256 .f32)
  (k : Vec Ideal S1x128x256 .bf16) (q v : Vec Ideal S1x256x128 .bf16) (ct : Vec Ideal S1x144x256 .f32)

theorem s2_apply (l : Fin 2) (j i : Fin 128) :
    s2 k q (ix2 j (col l i)) = ∑ d : Fin 128, k (ix3 (0 : Fin 1) j (col l d)) * q (ix3 (0 : Fin 1) (col l d) i) := by
  fin_cases l
  · show s2 k q (ix2 j (col 0 i)) = ∑ d : Fin 128, k (ix3 (0 : Fin 1) j (col 0 d)) * q (ix3 (0 : Fin 1) (col 0 d) i)
    simp only [col_zero]; pointwise [s2]
    simp only [mul_zero, Finset.sum_const_zero, add_zero]
  · show s2 k q (ix2 j (col 1 i)) = ∑ d : Fin 128, k (ix3 (0 : Fin 1) j (col 1 d)) * q (ix3 (0 : Fin 1) (col 1 d) i)
    simp only [col_one]; pointwise [s2]
    simp only [mul_zero, Finset.sum_const_zero, zero_add]

theorem r2_apply (l : Fin 2) (e : Fin 144) (i : Fin 128) :
    r2 ut mp k q v ct (ix2 e (col l i))
      = (∑ j : Fin 128, (if h : e.val < 128 then v (ix3 (0 : Fin 1) (col l ⟨e.val, h⟩) j)
            else k0_pay13 (F := Ideal) (ix2 (⟨e.val - 128, by omega⟩ : Fin 16) j)) * p2 ut mp k q (ix2 j (col l i)))
        + ∑ d : Fin 128, ct (ix3 (0 : Fin 1) e (col l d))
            * (q (ix3 (0 : Fin 1) (col l d) i) * fInter ut mp (ix2 (0 : Fin 1) (col l i))) := by
  fin_cases l
  · show r2 ut mp k q v ct (ix2 e (col 0 i)) = (∑ j : Fin 128, (if h : e.val < 128 then v (ix3 (0 : Fin 1) (col 0 ⟨e.val, h⟩) j)
            else k0_pay13 (F := Ideal) (ix2 (⟨e.val - 128, by omega⟩ : Fin 16) j)) * p2 ut mp k q (ix2 j (col 0 i)))
        + ∑ d : Fin 128, ct (ix3 (0 : Fin 1) e (col 0 d))
            * (q (ix3 (0 : Fin 1) (col 0 d) i) * fInter ut mp (ix2 (0 : Fin 1) (col 0 i)))
    simp only [col_zero]; pointwise [r2]
    rw [sum_512]
    simp only [Fin.is_lt, Nat.add_sub_cancel_left, dif_pos, Nat.lt_irrefl, show ∀ j : Fin 128, j.val < 256 from fun j => by omega, show ∀ j : Fin 128, ¬ (128 + j.val < 128) from fun j => by omega, show ∀ j : Fin 128, (128 + j.val < 256) from fun j => by omega,
       show ∀ j : Fin 128, ¬ (256 + j.val < 256) from fun j => by omega, show ∀ j : Fin 128, ¬ (384 + j.val < 256) from fun j => by omega, dif_neg, not_false_eq_true,
       mul_zero, Finset.sum_const_zero, add_zero]
    pointwise [vAug, qf, cb]
  · show r2 ut mp k q v ct (ix2 e (col 1 i)) = (∑ j : Fin 128, (if h : e.val < 128 then v (ix3 (0 : Fin 1) (col 1 ⟨e.val, h⟩) j)
            else k0_pay13 (F := Ideal) (ix2 (⟨e.val - 128, by omega⟩ : Fin 16) j)) * p2 ut mp k q (ix2 j (col 1 i)))
        + ∑ d : Fin 128, ct (ix3 (0 : Fin 1) e (col 1 d))
            * (q (ix3 (0 : Fin 1) (col 1 d) i) * fInter ut mp (ix2 (0 : Fin 1) (col 1 i)))
    simp only [col_one]; pointwise [r2]
    rw [sum_512]
    simp only [show ∀ j : Fin 128, j.val < 256 from fun j => by omega, show ∀ j : Fin 128, (128 + j.val < 256) from fun j => by omega,
      show ∀ j : Fin 128, ¬ (256 + j.val < 256) from fun j => by omega, show ∀ j : Fin 128, ¬ (384 + j.val < 256) from fun j => by omega,
      show ∀ j : Fin 128, ¬ (256 + j.val < 128) from fun j => by omega, show ∀ j : Fin 128, ¬ (384 + j.val < 128) from fun j => by omega,
      show ∀ j : Fin 128, ¬ (256 + j.val - 128 < 128) from fun j => by omega, show ∀ j : Fin 128, ¬ (384 + j.val - 128 < 128) from fun j => by omega,
      show ∀ j : Fin 128, (256 + j.val - 128 - 128 < 128) from fun j => by omega, show ∀ j : Fin 128, ¬ (384 + j.val - 128 - 128 < 128) from fun j => by omega,
      show ∀ j : Fin 128, (256 + j.val - 256 < 128) from fun j => by omega, show ∀ j : Fin 128, ¬ (384 + j.val - 256 < 128) from fun j => by omega,
      show ∀ j : Fin 128, 256 + j.val - 128 - 128 = j.val from fun j => by omega, show ∀ j : Fin 128, 256 + j.val - 256 = j.val from fun j => by omega,
      show ∀ j : Fin 128, 384 + j.val - 256 - 128 = j.val from fun j => by omega, show ∀ j : Fin 128, 384 + j.val - 128 - 128 - 128 = j.val from fun j => by omega,
      dif_pos, dif_neg, not_false_eq_true, mul_zero, Finset.sum_const_zero, zero_add, Fin.eta]
    pointwise [vAug, qf, cb]

theorem vtw_apply (l : Fin 2) (e : Fin 144) (j : Fin 128) :
    vtw wp v (ix2 e (col l j)) = (if h : e.val < 128 then v (ix3 (0 : Fin 1) (col l ⟨e.val, h⟩) j)
            else k0_pay13 (F := Ideal) (ix2 (⟨e.val - 128, by omega⟩ : Fin 16) j)) * wp (ix2 (0 : Fin 1) (col l j)) := by
  fin_cases l
  · show vtw wp v (ix2 e (col 0 j)) = (if h : e.val < 128 then v (ix3 (0 : Fin 1) (col 0 ⟨e.val, h⟩) j)
            else k0_pay13 (F := Ideal) (ix2 (⟨e.val - 128, by omega⟩ : Fin 16) j)) * wp (ix2 (0 : Fin 1) (col 0 j))
    simp only [col_zero]; pointwise [vtw, vAug]
  · show vtw wp v (ix2 e (col 1 j)) = (if h : e.val < 128 then v (ix3 (0 : Fin 1) (col 1 ⟨e.val, h⟩) j)
            else k0_pay13 (F := Ideal) (ix2 (⟨e.val - 128, by omega⟩ : Fin 16) j)) * wp (ix2 (0 : Fin 1) (col 1 j))
    simp only [col_one]; pointwise [vtw, vAug]

theorem kv_apply (l : Fin 2) (e : Fin 144) (d : Fin 128) :
    kv wp k v (ix2 e (col l d)) = ∑ j : Fin 128, vtw wp v (ix2 e (col l j)) * k (ix3 (0 : Fin 1) j (col l d)) := by
  fin_cases l
  · show kv wp k v (ix2 e (col 0 d)) = ∑ j : Fin 128, vtw wp v (ix2 e (col 0 j)) * k (ix3 (0 : Fin 1) j (col 0 d))
    simp only [col_zero]; pointwise [kv]
    simp only [mul_zero, Finset.sum_const_zero, add_zero]
  · show kv wp k v (ix2 e (col 1 d)) = ∑ j : Fin 128, vtw wp v (ix2 e (col 1 j)) * k (ix3 (0 : Fin 1) j (col 1 d))
    simp only [col_one]; pointwise [kv]
    simp only [mul_zero, Finset.sum_const_zero, zero_add]

/-! What the pair's operands are, for the heads `H`. -/

variable (H : Fin 2 → Head) (T : ℕ) (m m' ml : Fin 2 → ℝ)

/-- The operands of a pair of heads at tokens `T`, …, `T + 127`, and the state before them. -/
structure IsPair : Prop where
  hu : ∀ (l : Fin 2) (j i : Fin 128), ut (ix2 j (col l i))
    = if j ≤ i then (((H l).li (T + j) - ((H l).G (T + j + 1) - (H l).G T) : ℝ) : EReal) else ⊥
  hm : ∀ (l : Fin 2) (i : Fin 128), mp (ix2 (0 : Fin 1) (col l i)) = ((m l : ℝ) : EReal)
  hb : ∀ (l : Fin 2) (i : Fin 128), bp (ix2 (0 : Fin 1) (col l i)) = (((H l).G (T + i + 1) - (H l).G T : ℝ) : EReal)
  hw : ∀ (l : Fin 2) (j : Fin 128), wp (ix2 (0 : Fin 1) (col l j))
    = ((Real.exp ((H l).G (T + 128) - (H l).G T - ((H l).G (T + j + 1) - (H l).G T) + (H l).li (T + j) - ml l) : ℝ) : EReal)
  hd : ∀ (l : Fin 2) (i : Fin 128), dp (ix2 (0 : Fin 1) (col l i))
    = ((Real.exp ((H l).G (T + 128) - (H l).G T + m l - m' l) : ℝ) : EReal)
  hs : ∀ (l : Fin 2) (i : Fin 128), sp (ix2 (0 : Fin 1) (col l i)) = ((Real.exp (ml l - m' l) : ℝ) : EReal)
  hk : ∀ (l : Fin 2) (j d : Fin 128), k (ix3 (0 : Fin 1) j (col l d)) = (((H l).k (T + j) d : ℝ) : EReal)
  hq : ∀ (l : Fin 2) (d i : Fin 128), q (ix3 (0 : Fin 1) (col l d) i) = (((H l).q (T + i) d : ℝ) : EReal)
  hv : ∀ (l : Fin 2) (e j : Fin 128), v (ix3 (0 : Fin 1) (col l e) j) = (((H l).v (T + j) e : ℝ) : EReal)
  hc : ∀ (l : Fin 2) (e : Fin 144) (d : Fin 128), ct (ix3 (0 : Fin 1) e (col l d))
    = ((Real.exp (-m l) * (H l).St T e d : ℝ) : EReal)

variable {ut mp bp wp dp sp k q v ct H T m m' ml}

theorem IsPair.va (h : IsPair ut mp bp wp dp sp k q v ct H T m m' ml) (l : Fin 2) (e : Fin 144) (j : Fin 128) :
    (if h : e.val < 128 then v (ix3 (0 : Fin 1) (col l ⟨e.val, h⟩) j)
      else k0_pay13 (F := Ideal) (ix2 (⟨e.val - 128, by omega⟩ : Fin 16) j)) = (((H l).va (T + j) e : ℝ) : EReal) := by
  unfold Head.va
  split_ifs with h1 h2
  · rw [h.hv]
  · rw [ones_apply, if_pos (by show e.val - 128 = 0; omega)]; rfl
  · rw [ones_apply, if_neg (by show ¬ e.val - 128 = 0; omega)]; rfl

theorem IsPair.ctNew (h : IsPair ut mp bp wp dp sp k q v ct H T m m' ml) (l : Fin 2) (e : Fin 144) (d : Fin 128) :
    ctNew wp dp sp k v ct (ix3 (0 : Fin 1) e (col l d)) = ((Real.exp (-m' l) * (H l).St (T + 128) e d : ℝ) : EReal) := by
  pointwise [Cert.Mix.ctNew]
  rw [kv_apply, h.hd, h.hs, h.hc]
  simp only [vtw_apply, h.va, h.hw, h.hk, ← EReal.coe_mul, ← coe_sum, ← EReal.coe_add]
  rw [← (H l).St_step T (m l) (ml l) (m' l) e d]

theorem IsPair.mTot (h : IsPair ut mp bp wp dp sp k q v ct H T m m' ml) :
    ∃ mt : Fin 2 → Fin 128 → ℝ, ∀ l i, mTot ut mp (ix2 (0 : Fin 1) (col l i)) = ((mt l i : ℝ) : EReal) := by
  have : ∀ l i, ∃ r : ℝ, Cert.Mix.mTot ut mp (ix2 (0 : Fin 1) (col l i)) = (r : EReal) := by
    intro l i
    pointwise [Cert.Mix.mTot]
    rw [ofBits_neg_inf, h.hm]
    obtain ⟨r, hr⟩ := fold_max_real (fun j : Fin 128 => ut (ix2 j (col l i))) (fun j => by
      show ut (ix2 j (col l i)) ≠ ⊤
      rw [h.hu]; split_ifs
      · exact EReal.coe_ne_top _
      · exact bot_ne_top) i (by
      show ut (ix2 i (col l i)) ≠ ⊥
      rw [h.hu, if_pos le_rfl]; exact EReal.coe_ne_bot _)
    rw [hr, coe_max]; exact ⟨_, rfl⟩
  choose mt h using this
  exact ⟨mt, h⟩

theorem IsPair.p2 (h : IsPair ut mp bp wp dp sp k q v ct H T m m' ml) {mt : Fin 2 → Fin 128 → ℝ}
    (hmt : ∀ l i, Cert.Mix.mTot ut mp (ix2 (0 : Fin 1) (col l i)) = ((mt l i : ℝ) : EReal)) (l : Fin 2) (j i : Fin 128) :
    p2 ut mp k q (ix2 j (col l i)) = (((∑ d : Fin 128, (H l).k (T + j) d * (H l).q (T + i) d)
      * (if j ≤ i then Real.exp ((H l).li (T + j) - ((H l).G (T + j + 1) - (H l).G T) - mt l i) else 0) : ℝ) : EReal) := by
  pointwise [Cert.Mix.p2]
  rw [s2_apply, h.hu, hmt]
  simp only [h.hk, h.hq, ← EReal.coe_mul, ← coe_sum]
  split_ifs
  · rw [← EReal.coe_sub, Ideal.exp_coe, ← EReal.coe_mul]
  · rw [show (⊥ : EReal) - ((mt l i : ℝ) : EReal) = ⊥ from rfl, show Ideal.exp ⊥ = 0 from rfl, mul_zero, mul_zero]; rfl

theorem IsPair.fInter (h : IsPair ut mp bp wp dp sp k q v ct H T m m' ml) {mt : Fin 2 → Fin 128 → ℝ}
    (hmt : ∀ l i, Cert.Mix.mTot ut mp (ix2 (0 : Fin 1) (col l i)) = ((mt l i : ℝ) : EReal)) (l : Fin 2) (i : Fin 128) :
    fInter ut mp (ix2 (0 : Fin 1) (col l i)) = ((Real.exp (m l - mt l i) : ℝ) : EReal) := by
  pointwise [Cert.Mix.fInter]
  rw [h.hm, hmt, ← EReal.coe_sub, Ideal.exp_coe]

theorem IsPair.r2 (h : IsPair ut mp bp wp dp sp k q v ct H T m m' ml) {mt : Fin 2 → Fin 128 → ℝ}
    (hmt : ∀ l i, Cert.Mix.mTot ut mp (ix2 (0 : Fin 1) (col l i)) = ((mt l i : ℝ) : EReal)) (l : Fin 2) (e : Fin 144) (i : Fin 128) :
    r2 ut mp k q v ct (ix2 e (col l i))
      = ((Real.exp (-((H l).G (T + i + 1) - (H l).G T) - mt l i) * (H l).Num (T + i) e : ℝ) : EReal) := by
  rw [r2_apply]
  simp only [h.va, h.p2 hmt, h.fInter hmt, h.hc, h.hq, ← EReal.coe_mul, ← coe_sum, ← EReal.coe_add]
  rw [← (H l).Num_step T i (m l) (mt l i) e]

theorem IsPair.hT (h : IsPair ut mp bp wp dp sp k q v ct H T m m' ml) (l : Fin 2) (e i : Fin 128) :
    hT (Cert.Mix.r2 ut mp k q v ct) (floorR ut mp bp) (ix2 e (col l i)) = (((H l).out (T + i) e : ℝ) : EReal) := by
  obtain ⟨mt, hmt⟩ := h.mTot
  have hf : floorR ut mp bp (ix2 (0 : Fin 1) (col l i))
      = ((Real.exp (-((H l).G (T + i + 1) - (H l).G T) - mt l i) : ℝ) : EReal) := by
    pointwise [floorR]
    rw [h.hb, hmt, ← EReal.coe_zero, ← EReal.coe_sub, ← EReal.coe_sub, Ideal.exp_coe, zero_sub]
  have ha : ∀ x : ℝ, FloatOps.absf (F := Ideal) (φ := .f32) (x : EReal) = ((|x| : ℝ) : EReal) := fun x => coe_abs x
  pointwise [Cert.Mix.hT]
  rw [hf, h.r2 hmt, h.r2 hmt, ha, coe_max, ← EReal.coe_one,
    Ideal.div_coe (lt_of_lt_of_le (Real.exp_pos _) (le_max_right _ _)).ne', EReal.coe_one, one_mul]
  exact (EReal.coe_mul _ _).symm.trans (congrArg Real.toEReal ((H l).out_eq _ _ _))
end Pair

theorem gated_apply (h : FVec Ideal S128x256 .f32) (l : Fin 2) (hl : S128x256.Slices ![0, 128 * l.val] S128x128)
    (o : Vec Ideal S1x128x128 .bf16) (i e : Fin 128) :
    gated h (128 * l.val) hl o (ix2 i e) = Ideal.logistic (o (ix3 (0 : Fin 1) i e)) * h (ix2 e (col l i)) := by
  unfold col
  pointwise [gated]

end Cert.Mix
-- ==== Proof.Tile.lean ====
/- One tile of 1024 tokens: the chunk's arithmetic of `Proof.Words` folded over its eight chunks, on the
   tile's blocks. -/
module

public import proofs.«01_k».proof.Proof.Words
public import Idealize.ShloMosaic.Lib.Pipeline.ValueKit

@[expose] public section

set_option maxRecDepth 16384

noncomputable section

namespace Cert.Mix

open Idealize.ShloMosaic Idealize.SL.Sem Cert.KernelIdeal Cert.KernelIdeal.Gen

variable {F : FTy → Type} [FloatOps F]

/-! ### Where the pieces of a tile lie -/

theorem sl_cum0 : ∀ n : Fin 8, S128x128.Slices ![16 * n.val, 0] S4x128 := by decide +kernel
theorem sl_cum1 : ∀ n : Fin 8, S128x128.Slices ![16 * n.val + 4, 0] S4x128 := by decide +kernel
theorem sl_cum2 : ∀ n : Fin 8, S128x128.Slices ![16 * n.val + 8, 0] S4x128 := by decide +kernel
theorem sl_li : ∀ n : Fin 8, S4x1024.Slices ![0, 128 * n.val] S4x128 := by decide +kernel
theorem sl_row : ∀ h : Fin 4, S4x128.Slices ![h.val, 0] S1x128 := by decide +kernel
theorem sl_one : ∀ h : Fin 4, S4x1.Slices ![h.val, 0] S1x1 := by decide +kernel
theorem sl_u : ∀ h : Fin 4, S128x8.Slices ![0, h.val] S128x1 := by decide +kernel
theorem sl_h : ∀ l : Fin 2, S128x256.Slices ![0, 128 * l.val] S128x128 := by decide +kernel
theorem in_k : ∀ (n : Fin 8) (p : Fin 2) (a : Fin 3), (![0, 128 * n.val, 256 * p.val] : Fin 3 → ℕ) a + S1x128x256.size a ≤ S1x1024x512.size a := by
  decide +kernel
theorem in_q : ∀ (n : Fin 8) (p : Fin 2) (a : Fin 3), (![0, 256 * p.val, 128 * n.val] : Fin 3 → ℕ) a + S1x256x128.size a ≤ S1x512x1024.size a := by
  decide +kernel
theorem in_o : ∀ (n : Fin 8) (h : Fin 4) (a : Fin 3), (![0, 128 * n.val, 128 * h.val] : Fin 3 → ℕ) a + S1x128x128.size a ≤ S1x1024x512.size a := by
  decide +kernel
theorem in_c : ∀ (p : Fin 2) (a : Fin 3), (![p.val, 0, 0] : Fin 3 → ℕ) a + S1x144x256.size a ≤ S2x144x256.size a := by
  decide +kernel
theorem in_m : ∀ a : Fin 2, (![0, 0] : Fin 2 → ℕ) a + S4x1.size a ≤ S8x128.size a := by decide +kernel

/-- The head `2 p + l`. -/
def hd (p l : Fin 2) : Fin 4 := ⟨2 * p.val + l.val, by omega⟩

/-! ### The fold -/

/-- The blocks a tile works on: gates, keys, output gates, transposed queries and values. -/
structure Blk (F : FTy → Type) where
  g : Vec F S1x8x1024 .f32
  k : Vec F S1x1024x512 .bf16
  o : Vec F S1x1024x512 .bf16
  q : Vec F S1x512x1024 .bf16
  v : Vec F S1x512x1024 .bf16
  /-- The memory on entry. -/
  c0 : Vec F S2x144x256 .f32
  /-- The stabilisers on entry. -/
  m0 : Vec F S8x128 .f32

variable (X : Blk F)

def bC (n : Fin 8) : FVec F S4x128 .f32 :=
  bCum X.g (16 * n.val) (16 * n.val + 4) (16 * n.val + 8) (sl_cum0 n) (sl_cum1 n) (sl_cum2 n)
def lC (n : Fin 8) : FVec F S4x128 .f32 := liC X.g (128 * n.val) (sl_li n)
def kC (n : Fin 8) (p : Fin 2) : Vec F S1x128x256 .bf16 := View.ld X.k (Rect.unit ![0, 128 * n.val, 256 * p.val] S1x128x256.size (in_k n p))
def qC (n : Fin 8) (p : Fin 2) : Vec F S1x256x128 .bf16 := View.ld X.q (Rect.unit ![0, 256 * p.val, 128 * n.val] S1x256x128.size (in_q n p))
def vC (n : Fin 8) (p : Fin 2) : Vec F S1x256x128 .bf16 := View.ld X.v (Rect.unit ![0, 256 * p.val, 128 * n.val] S1x256x128.size (in_q n p))
def oC (n : Fin 8) (h : Fin 4) : Vec F S1x128x128 .bf16 := View.ld X.o (Rect.unit ![0, 128 * n.val, 128 * h.val] S1x128x128.size (in_o n h))

/-- The stabilisers after `n` chunks. -/
def mS : ℕ → FVec F S4x1 .f32
  | 0 => View.ld X.m0 (Rect.unit ![0, 0] S4x1.size in_m)
  | n + 1 => mNew (bC X (Fin.ofNat 8 n)) (lC X (Fin.ofNat 8 n)) (mS n)

/-! The operands of chunk `n`, pair `p`. -/

def uP (n : Fin 8) (p : Fin 2) : FVec F S128x256 .f32 :=
  uT (uCols (bC X n) (lC X n)) (hd p 0).val (hd p 1).val (sl_u (hd p 0)) (sl_u (hd p 1))
def mP (n : Fin 8) (p : Fin 2) : FVec F S1x256 .f32 :=
  onePair (mS X n.val) (hd p 0).val (hd p 1).val (sl_one (hd p 0)) (sl_one (hd p 1))
def bP (n : Fin 8) (p : Fin 2) : FVec F S1x256 .f32 :=
  rowPair (bC X n) (hd p 0).val (hd p 1).val (sl_row (hd p 0)) (sl_row (hd p 1))
def wP (n : Fin 8) (p : Fin 2) : FVec F S1x256 .f32 :=
  rowPair (wKey (bC X n) (lC X n)) (hd p 0).val (hd p 1).val (sl_row (hd p 0)) (sl_row (hd p 1))
def dP (n : Fin 8) (p : Fin 2) : FVec F S1x256 .f32 :=
  onePair (decay (bC X n) (lC X n) (mS X n.val)) (hd p 0).val (hd p 1).val (sl_one (hd p 0)) (sl_one (hd p 1))
def sP (n : Fin 8) (p : Fin 2) : FVec F S1x256 .f32 :=
  onePair (sFac (bC X n) (lC X n) (mS X n.val)) (hd p 0).val (hd p 1).val (sl_one (hd p 0)) (sl_one (hd p 1))

/-- The memory of pair `p` after `n` chunks. -/
def cS (p : Fin 2) : ℕ → Vec F S1x144x256 .f32
  | 0 => View.ld X.c0 (Rect.unit ![p.val, 0, 0] S1x144x256.size (in_c p))
  | n + 1 => ctNew (wP X (Fin.ofNat 8 n) p) (dP X (Fin.ofNat 8 n) p) (sP X (Fin.ofNat 8 n) p) (kC X (Fin.ofNat 8 n) p)
      (vC X (Fin.ofNat 8 n) p) (cS p n)

/-- The outputs of pair `p` in chunk `n`, transposed. -/
def hP (n : Fin 8) (p : Fin 2) : FVec F S128x256 .f32 :=
  hT (r2 (uP X n p) (mP X n p) (kC X n p) (qC X n p) (vC X n p) (cS X p n.val)) (floorR (uP X n p) (mP X n p) (bP X n p))

/-- The gated output of head `2 p + l` in chunk `n`. -/
def gP (n : Fin 8) (p l : Fin 2) : FVec F S128x128 .bf16 := gated (hP X n p) (128 * l.val) (sl_h l) (oC X n (hd p l))

end Cert.Mix
-- ==== Proof.Cum.lean ====
/- The running sums of the log forget gates, read at an index: each row of the stack of pieces times
   the prefix matrix. -/
module
public import proofs.«01_k».proof.Proof.Chunk
public import proofs.«01_k».proof.Proof.Tile
import Idealize.ShloMosaic.Lib.Pointwise
@[expose] public section
set_option maxRecDepth 16384
noncomputable section
namespace Cert.Mix
open Idealize.ShloMosaic Idealize.SL.Sem Cert.KernelIdeal Cert.KernelIdeal.Gen

/-- The log forget gates' three parts. -/
def part (g : Vec Ideal S1x8x1024 .f32) (j : Fin 3) : FVec Ideal S4x1024 .bf16 :=
  ![k0_pay15 g, k0_pay17 g, k0_pay18 g] j

theorem sum_take_const (xs : List ((s : Shape) × (s.Idx → EReal))) (hall : ∀ x ∈ xs, x.1 = S4x128) : ∀ k ≤ xs.length,
    (((xs.take k).map (·.1)).map fun s => if h : s.rank = S128x128.rank then s.size ((0 : Fin 2).cast h.symm) else 0).sum = 4 * k := by
  induction xs with
  | nil => intro k hk; simp at hk; subst hk; rfl
  | cons x xs ih =>
    intro k hk
    cases k with
    | zero => rfl
    | succ k =>
      have hx : x.1 = S4x128 := hall x (by simp)
      have := ih (fun y hy => hall y (by simp [hy])) k (by simpa using hk)
      simp only [List.take_succ_cons, List.map_cons, List.sum_cons]
      rw [this, hx]
      show 4 + 4 * k = 4 * (k + 1)
      omega

/-- Pieces of four rows stacked: row `4 k + h` is row `h` of piece `k`. -/
theorem piece_apply (xs : List ((s : Shape) × (s.Idx → EReal))) (hc) (hall : ∀ x ∈ xs, x.1 = S4x128)
    (k : ℕ) (hk : k < xs.length) (x₁ : S4x128.Idx → EReal)
    (hxk : xs[k] = ⟨S4x128, x₁⟩)
    (r t : Fin 128) (h : Fin 4) (hr : 4 * k + h.val = r.val) :
    concatenate S128x128 0 xs hc (ix2 r t) = x₁ (ix2 h t) :=
  concatenate_apply_piece _ xs hc _ k hk S4x128 x₁ hxk rfl (4 * k) (sum_take_const xs hall k hk.le) (ix2 h t)
    (fun b hb => by fin_cases b; · exact absurd rfl hb
                    · rfl) hr

/-- Rows of 1024 lanes cut into eight chunks and the chunks stacked, four kinds of row to a chunk. -/
def stackL (x : Fin 3 → FVec Ideal S4x1024 .bf16) (z : FVec Ideal S4x128 .bf16) : List ((s : Shape) × (s.Idx → EReal)) :=
  [⟨S4x128, extractStridedSlice S4x128 ![0, 0] (x 0) slices_S4x1024_o0_0_S4x128⟩,
    ⟨S4x128, extractStridedSlice S4x128 ![0, 0] (x 1) slices_S4x1024_o0_0_S4x128⟩,
    ⟨S4x128, extractStridedSlice S4x128 ![0, 0] (x 2) slices_S4x1024_o0_0_S4x128⟩,
    ⟨S4x128, z⟩,
    ⟨S4x128, extractStridedSlice S4x128 ![0, 128] (x 0) slices_S4x1024_o0_128_S4x128⟩,
    ⟨S4x128, extractStridedSlice S4x128 ![0, 128] (x 1) slices_S4x1024_o0_128_S4x128⟩,
    ⟨S4x128, extractStridedSlice S4x128 ![0, 128] (x 2) slices_S4x1024_o0_128_S4x128⟩,
    ⟨S4x128, z⟩,
    ⟨S4x128, extractStridedSlice S4x128 ![0, 256] (x 0) slices_S4x1024_o0_256_S4x128⟩,
    ⟨S4x128, extractStridedSlice S4x128 ![0, 256] (x 1) slices_S4x1024_o0_256_S4x128⟩,
    ⟨S4x128, extractStridedSlice S4x128 ![0, 256] (x 2) slices_S4x1024_o0_256_S4x128⟩,
    ⟨S4x128, z⟩,
    ⟨S4x128, extractStridedSlice S4x128 ![0, 384] (x 0) slices_S4x1024_o0_384_S4x128⟩,
    ⟨S4x128, extractStridedSlice S4x128 ![0, 384] (x 1) slices_S4x1024_o0_384_S4x128⟩,
    ⟨S4x128, extractStridedSlice S4x128 ![0, 384] (x 2) slices_S4x1024_o0_384_S4x128⟩,
    ⟨S4x128, z⟩,
    ⟨S4x128, extractStridedSlice S4x128 ![0, 512] (x 0) slices_S4x1024_o0_512_S4x128⟩,
    ⟨S4x128, extractStridedSlice S4x128 ![0, 512] (x 1) slices_S4x1024_o0_512_S4x128⟩,
    ⟨S4x128, extractStridedSlice S4x128 ![0, 512] (x 2) slices_S4x1024_o0_512_S4x128⟩,
    ⟨S4x128, z⟩,
    ⟨S4x128, extractStridedSlice S4x128 ![0, 640] (x 0) slices_S4x1024_o0_640_S4x128⟩,
    ⟨S4x128, extractStridedSlice S4x128 ![0, 640] (x 1) slices_S4x1024_o0_640_S4x128⟩,
    ⟨S4x128, extractStridedSlice S4x128 ![0, 640] (x 2) slices_S4x1024_o0_640_S4x128⟩,
    ⟨S4x128, z⟩,
    ⟨S4x128, extractStridedSlice S4x128 ![0, 768] (x 0) slices_S4x1024_o0_768_S4x128⟩,
    ⟨S4x128, extractStridedSlice S4x128 ![0, 768] (x 1) slices_S4x1024_o0_768_S4x128⟩,
    ⟨S4x128, extractStridedSlice S4x128 ![0, 768] (x 2) slices_S4x1024_o0_768_S4x128⟩,
    ⟨S4x128, z⟩,
    ⟨S4x128, extractStridedSlice S4x128 ![0, 896] (x 0) slices_S4x1024_o0_896_S4x128⟩,
    ⟨S4x128, extractStridedSlice S4x128 ![0, 896] (x 1) slices_S4x1024_o0_896_S4x128⟩,
    ⟨S4x128, extractStridedSlice S4x128 ![0, 896] (x 2) slices_S4x1024_o0_896_S4x128⟩,
    ⟨S4x128, z⟩]

theorem stack_apply (x : Fin 3 → FVec Ideal S4x1024 .bf16) (z : FVec Ideal S4x128 .bf16) (hc) (n : Fin 8) (j : Fin 3) (h : Fin 4) (t r : Fin 128)
    (hr : 16 * n.val + 4 * j.val + h.val = r.val) :
    concatenate S128x128 0 (stackL x z) hc (ix2 r t)
      = extractStridedSlice S4x128 ![0, 128 * n.val] (x j) (sl_li n) (ix2 h t) := by
  have hall : ∀ y ∈ stackL x z, y.1 = S4x128 := by
    intro y hy
    simp only [stackL, List.mem_cons, List.not_mem_nil, or_false] at hy
    rcases hy with rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl <;> rfl
  match n, j, hr with
  | 0, 0, hr => exact piece_apply (stackL x z) hc hall 0 (Nat.lt_of_sub_eq_succ rfl) (extractStridedSlice S4x128 ![0, 0] (x 0) slices_S4x1024_o0_0_S4x128) rfl r t h (by simpa using hr)
  | 0, 1, hr => exact piece_apply (stackL x z) hc hall 1 (Nat.lt_of_sub_eq_succ rfl) (extractStridedSlice S4x128 ![0, 0] (x 1) slices_S4x1024_o0_0_S4x128) rfl r t h (by simpa using hr)
  | 0, 2, hr => exact piece_apply (stackL x z) hc hall 2 (Nat.lt_of_sub_eq_succ rfl) (extractStridedSlice S4x128 ![0, 0] (x 2) slices_S4x1024_o0_0_S4x128) rfl r t h (by simpa using hr)
  | 1, 0, hr => exact piece_apply (stackL x z) hc hall 4 (Nat.lt_of_sub_eq_succ rfl) (extractStridedSlice S4x128 ![0, 128] (x 0) slices_S4x1024_o0_128_S4x128) rfl r t h (by simpa using hr)
  | 1, 1, hr => exact piece_apply (stackL x z) hc hall 5 (Nat.lt_of_sub_eq_succ rfl) (extractStridedSlice S4x128 ![0, 128] (x 1) slices_S4x1024_o0_128_S4x128) rfl r t h (by simpa using hr)
  | 1, 2, hr => exact piece_apply (stackL x z) hc hall 6 (Nat.lt_of_sub_eq_succ rfl) (extractStridedSlice S4x128 ![0, 128] (x 2) slices_S4x1024_o0_128_S4x128) rfl r t h (by simpa using hr)
  | 2, 0, hr => exact piece_apply (stackL x z) hc hall 8 (Nat.lt_of_sub_eq_succ rfl) (extractStridedSlice S4x128 ![0, 256] (x 0) slices_S4x1024_o0_256_S4x128) rfl r t h (by simpa using hr)
  | 2, 1, hr => exact piece_apply (stackL x z) hc hall 9 (Nat.lt_of_sub_eq_succ rfl) (extractStridedSlice S4x128 ![0, 256] (x 1) slices_S4x1024_o0_256_S4x128) rfl r t h (by simpa using hr)
  | 2, 2, hr => exact piece_apply (stackL x z) hc hall 10 (Nat.lt_of_sub_eq_succ rfl) (extractStridedSlice S4x128 ![0, 256] (x 2) slices_S4x1024_o0_256_S4x128) rfl r t h (by simpa using hr)
  | 3, 0, hr => exact piece_apply (stackL x z) hc hall 12 (Nat.lt_of_sub_eq_succ rfl) (extractStridedSlice S4x128 ![0, 384] (x 0) slices_S4x1024_o0_384_S4x128) rfl r t h (by simpa using hr)
  | 3, 1, hr => exact piece_apply (stackL x z) hc hall 13 (Nat.lt_of_sub_eq_succ rfl) (extractStridedSlice S4x128 ![0, 384] (x 1) slices_S4x1024_o0_384_S4x128) rfl r t h (by simpa using hr)
  | 3, 2, hr => exact piece_apply (stackL x z) hc hall 14 (Nat.lt_of_sub_eq_succ rfl) (extractStridedSlice S4x128 ![0, 384] (x 2) slices_S4x1024_o0_384_S4x128) rfl r t h (by simpa using hr)
  | 4, 0, hr => exact piece_apply (stackL x z) hc hall 16 (Nat.lt_of_sub_eq_succ rfl) (extractStridedSlice S4x128 ![0, 512] (x 0) slices_S4x1024_o0_512_S4x128) rfl r t h (by simpa using hr)
  | 4, 1, hr => exact piece_apply (stackL x z) hc hall 17 (Nat.lt_of_sub_eq_succ rfl) (extractStridedSlice S4x128 ![0, 512] (x 1) slices_S4x1024_o0_512_S4x128) rfl r t h (by simpa using hr)
  | 4, 2, hr => exact piece_apply (stackL x z) hc hall 18 (Nat.lt_of_sub_eq_succ rfl) (extractStridedSlice S4x128 ![0, 512] (x 2) slices_S4x1024_o0_512_S4x128) rfl r t h (by simpa using hr)
  | 5, 0, hr => exact piece_apply (stackL x z) hc hall 20 (Nat.lt_of_sub_eq_succ rfl) (extractStridedSlice S4x128 ![0, 640] (x 0) slices_S4x1024_o0_640_S4x128) rfl r t h (by simpa using hr)
  | 5, 1, hr => exact piece_apply (stackL x z) hc hall 21 (Nat.lt_of_sub_eq_succ rfl) (extractStridedSlice S4x128 ![0, 640] (x 1) slices_S4x1024_o0_640_S4x128) rfl r t h (by simpa using hr)
  | 5, 2, hr => exact piece_apply (stackL x z) hc hall 22 (Nat.lt_of_sub_eq_succ rfl) (extractStridedSlice S4x128 ![0, 640] (x 2) slices_S4x1024_o0_640_S4x128) rfl r t h (by simpa using hr)
  | 6, 0, hr => exact piece_apply (stackL x z) hc hall 24 (Nat.lt_of_sub_eq_succ rfl) (extractStridedSlice S4x128 ![0, 768] (x 0) slices_S4x1024_o0_768_S4x128) rfl r t h (by simpa using hr)
  | 6, 1, hr => exact piece_apply (stackL x z) hc hall 25 (Nat.lt_of_sub_eq_succ rfl) (extractStridedSlice S4x128 ![0, 768] (x 1) slices_S4x1024_o0_768_S4x128) rfl r t h (by simpa using hr)
  | 6, 2, hr => exact piece_apply (stackL x z) hc hall 26 (Nat.lt_of_sub_eq_succ rfl) (extractStridedSlice S4x128 ![0, 768] (x 2) slices_S4x1024_o0_768_S4x128) rfl r t h (by simpa using hr)
  | 7, 0, hr => exact piece_apply (stackL x z) hc hall 28 (Nat.lt_of_sub_eq_succ rfl) (extractStridedSlice S4x128 ![0, 896] (x 0) slices_S4x1024_o0_896_S4x128) rfl r t h (by simpa using hr)
  | 7, 1, hr => exact piece_apply (stackL x z) hc hall 29 (Nat.lt_of_sub_eq_succ rfl) (extractStridedSlice S4x128 ![0, 896] (x 1) slices_S4x1024_o0_896_S4x128) rfl r t h (by simpa using hr)
  | 7, 2, hr => exact piece_apply (stackL x z) hc hall 30 (Nat.lt_of_sub_eq_succ rfl) (extractStridedSlice S4x128 ![0, 896] (x 2) slices_S4x1024_o0_896_S4x128) rfl r t h (by simpa using hr)

theorem cum_apply (g : Vec Ideal S1x8x1024 .f32) (n : Fin 8) (j : Fin 3) (h : Fin 4) (i r : Fin 128)
    (hr : 16 * n.val + 4 * j.val + h.val = r.val) :
    cum g (ix2 r i)
      = ∑ t : Fin 128, part g j (ix2 h (⟨128 * n.val + t.val, by omega⟩ : Fin 1024)) * k0_pay14 (ix2 t i) := by
  have key : ∀ (st : FVec Ideal S128x128 .bf16) (p : FVec Ideal S128x128 .bf16) (r : Fin 128),
      matmul dot_S128x128_S128x128_S128x128_1_0_0_1_n_n none st p (constant S128x128 .f32 0x00000000#32) (ix2 r i)
        = ∑ t : Fin 128, st (ix2 r t) * p (ix2 t i) := by
    intro st p r
    pointwise []
  obtain ⟨hc, e0⟩ : ∃ hc, cum g = matmul dot_S128x128_S128x128_S128x128_1_0_0_1_n_n none
      (concatenate S128x128 0 (stackL (part g) k0_pay19) hc : FVec Ideal S128x128 .bf16) k0_pay14 (constant S128x128 .f32 0x00000000#32) :=
    ⟨concatenates_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S4x128_S128x128_d0, rfl⟩
  rw [e0, key]
  refine Finset.sum_congr rfl fun t _ => ?_
  rw [stack_apply (part g) k0_pay19 _ n j h t r hr]
  congr 1
  pointwise []
end Cert.Mix
-- ==== Proof.TileI.lean ====
/- One tile over the extended reals: eight chunks in a row, on blocks that hold four heads' real
   numbers, keep the memory and the stabilisers real and output each head's `out`. -/
module

public import proofs.«01_k».proof.Proof.Cum

@[expose] public section

set_option maxRecDepth 16384

noncomputable section

namespace Cert.Mix

open Idealize.ShloMosaic Idealize.SL.Sem Cert.KernelIdeal Cert.KernelIdeal.Gen

theorem lf_apply (g : Vec Ideal S1x8x1024 .f32) (h : Fin 4) (t : Fin 1024) (f : ℝ)
    (hf : g (ix3 (0 : Fin 1) (⟨4 + h.val, by omega⟩ : Fin 8) t) = ((f : ℝ) : EReal)) :
    k0_pay11 g (ix2 h t) = ((lsig f : ℝ) : EReal) := by
  have ha : ∀ x : ℝ, FloatOps.absf (F := Ideal) (φ := .f32) (x : EReal) = ((|x| : ℝ) : EReal) := fun x => coe_abs x
  pointwise [k0_pay11, k0_pay9]
  rw [hf, ha, ← EReal.coe_zero, ← EReal.coe_sub, log1p_exp, coe_min, ← EReal.coe_sub, zero_sub]
  rfl

theorem li_apply (g : Vec Ideal S1x8x1024 .f32) (h : Fin 4) (t : Fin 1024) :
    k0_pay10 g (ix2 h t) = g (ix3 (0 : Fin 1) (⟨h.val, by omega⟩ : Fin 8) t) := by
  pointwise [k0_pay10, k0_pay9]

theorem part_apply (g : Vec Ideal S1x8x1024 .f32) (j : Fin 3) (h : Fin 4) (t : Fin 1024) (f : ℝ)
    (hf : k0_pay11 g (ix2 h t) = ((f : ℝ) : EReal)) :
    part g j (ix2 h t) = (((if j = 0 then f else 0 : ℝ)) : EReal) := by
  have e0 : k0_pay15 g (ix2 h t) = ((f : ℝ) : EReal) := hf
  have e1 : k0_pay17 g (ix2 h t) = ((0 : ℝ) : EReal) := by
    show k0_pay11 g (ix2 h t) - k0_pay15 g (ix2 h t) = _
    rw [hf, e0, ← EReal.coe_sub, sub_self]
  have e2 : k0_pay18 g (ix2 h t) = ((0 : ℝ) : EReal) := by
    show (k0_pay11 g (ix2 h t) - k0_pay15 g (ix2 h t)) - k0_pay17 g (ix2 h t) = _
    rw [hf, e0, e1, ← EReal.coe_sub, ← EReal.coe_sub, sub_self, sub_self]
  fin_cases j
  · exact e0
  · exact e1
  · exact e2

/-- A tile's blocks hold the numbers of four heads at tokens `T`, …, `T + 1023`, and the state before them. -/
structure IsBlk (X : Blk Ideal) (H : Fin 4 → Head) (T : ℕ) (mr : Fin 4 → ℝ) : Prop where
  hl : ∀ (h : Fin 4) (t : Fin 1024), X.g (ix3 (0 : Fin 1) (⟨h.val, by omega⟩ : Fin 8) t) = (((H h).li (T + t) : ℝ) : EReal)
  hf : ∀ (h : Fin 4) (t : Fin 1024), ∃ f : ℝ, X.g (ix3 (0 : Fin 1) (⟨4 + h.val, by omega⟩ : Fin 8) t) = ((f : ℝ) : EReal)
    ∧ (H h).lf (T + t) = lsig f
  hk : ∀ (h : Fin 4) (t : Fin 1024) (d : Fin 128), X.k (ix3 (0 : Fin 1) t (⟨128 * h.val + d.val, by omega⟩ : Fin 512))
    = (((H h).k (T + t) d : ℝ) : EReal)
  hq : ∀ (h : Fin 4) (t : Fin 1024) (d : Fin 128), X.q (ix3 (0 : Fin 1) (⟨128 * h.val + d.val, by omega⟩ : Fin 512) t)
    = (((H h).q (T + t) d : ℝ) : EReal)
  hv : ∀ (h : Fin 4) (t : Fin 1024) (d : Fin 128), X.v (ix3 (0 : Fin 1) (⟨128 * h.val + d.val, by omega⟩ : Fin 512) t)
    = (((H h).v (T + t) d : ℝ) : EReal)
  hm : ∀ h : Fin 4, X.m0 (ix2 (⟨h.val, by omega⟩ : Fin 8) (0 : Fin 128)) = ((mr h : ℝ) : EReal)
  hc : ∀ (p l : Fin 2) (e : Fin 144) (d : Fin 128), X.c0 (ix3 p e (col l d))
    = ((Real.exp (-mr (hd p l)) * (H (hd p l)).St T e d : ℝ) : EReal)

variable {X : Blk Ideal} {H : Fin 4 → Head} {T : ℕ} {mr : Fin 4 → ℝ}

theorem IsBlk.lf (h : IsBlk X H T mr) (a : Fin 4) (t : Fin 1024) :
    k0_pay11 X.g (ix2 a t) = (((H a).lf (T + t) : ℝ) : EReal) := by
  obtain ⟨f, h1, h2⟩ := h.hf a t
  rw [lf_apply X.g a t f h1, h2]

theorem IsBlk.row (h : IsBlk X H T mr) (n : Fin 8) (j : Fin 3) (a : Fin 4) (i r : Fin 128)
    (hr : 16 * n.val + 4 * j.val + a.val = r.val) :
    cum X.g (ix2 r i) = ((if j = 0 then (H a).G (T + 128 * n.val + i + 1) - (H a).G (T + 128 * n.val) else 0 : ℝ) : EReal) := by
  rw [cum_apply X.g n j a i r hr]
  have : ∀ t : Fin 128, part X.g j (ix2 a (⟨128 * n.val + t.val, by omega⟩ : Fin 1024)) * k0_pay14 (F := Ideal) (ix2 t i)
      = ((if t ≤ i then (if j = 0 then (H a).lf (T + 128 * n.val + t) else 0) else 0 : ℝ) : EReal) := by
    intro t
    rw [part_apply X.g j a _ _ (h.lf a _), prefix_apply]
    split_ifs with h1 h2 h2
    · rw [mul_one, add_assoc]
    · rw [mul_zero]; rfl
    · rw [mul_one]
    · rw [mul_zero]; rfl
  simp only [this, ← coe_sum]
  congr 1
  split_ifs with hj
  · rw [Head.G, Head.G, add_assoc (T + 128 * n.val) i.val 1, Finset.sum_range_add, add_sub_cancel_left]
    exact (Head.sum_range_le i fun t => (H a).lf (T + 128 * n.val + t)).symm
  · simp

theorem IsBlk.isB (h : IsBlk X H T mr) (n : Fin 8) : IsB H (T + 128 * n.val) (bC X n) := by
  intro a i
  have e : bC X n (ix2 a i) = cum X.g (ix2 (⟨16 * n.val + a.val, by omega⟩ : Fin 128) i)
      + cum X.g (ix2 (⟨16 * n.val + 4 + a.val, by omega⟩ : Fin 128) i)
      + cum X.g (ix2 (⟨16 * n.val + 8 + a.val, by omega⟩ : Fin 128) i) := by
    pointwise [bC, bCum]
  rw [e, h.row n 0 a i _ (by show 16 * n.val + 4 * 0 + a.val = 16 * n.val + a.val; omega),
    h.row n 1 a i _ (by show 16 * n.val + 4 * 1 + a.val = 16 * n.val + 4 + a.val; omega),
    h.row n 2 a i _ (by show 16 * n.val + 4 * 2 + a.val = 16 * n.val + 8 + a.val; omega), ← EReal.coe_add, ← EReal.coe_add]
  simp

theorem IsBlk.isLi (h : IsBlk X H T mr) (n : Fin 8) : IsLi H (T + 128 * n.val) (lC X n) := by
  intro a i
  have e : lC X n (ix2 a i) = k0_pay10 X.g (ix2 a (⟨128 * n.val + i.val, by omega⟩ : Fin 1024)) := by
    pointwise [lC, liC]
  rw [e, li_apply, h.hl, add_assoc]

theorem kC_apply (X : Blk Ideal) (n : Fin 8) (p l : Fin 2) (j d : Fin 128) :
    kC X n p (ix3 (0 : Fin 1) j (col l d)) = X.k (ix3 (0 : Fin 1) (⟨128 * n.val + j.val, by omega⟩ : Fin 1024)
      (⟨128 * (hd p l).val + d.val, by omega⟩ : Fin 512)) := by
  refine congrArg X.k ?_
  funext a
  fin_cases a
  · rfl
  · apply Fin.ext; show 128 * n.val + 1 * j.val = 128 * n.val + j.val; omega
  · apply Fin.ext; show 256 * p.val + 1 * (128 * l.val + d.val) = 128 * (2 * p.val + l.val) + d.val; omega

theorem qC_apply (X : Blk Ideal) (n : Fin 8) (p l : Fin 2) (j d : Fin 128) :
    qC X n p (ix3 (0 : Fin 1) (col l d) j) = X.q (ix3 (0 : Fin 1) (⟨128 * (hd p l).val + d.val, by omega⟩ : Fin 512)
      (⟨128 * n.val + j.val, by omega⟩ : Fin 1024)) := by
  refine congrArg X.q ?_
  funext a
  fin_cases a
  · rfl
  · apply Fin.ext; show 256 * p.val + 1 * (128 * l.val + d.val) = 128 * (2 * p.val + l.val) + d.val; omega
  · apply Fin.ext; show 128 * n.val + 1 * j.val = 128 * n.val + j.val; omega

theorem vC_apply (X : Blk Ideal) (n : Fin 8) (p l : Fin 2) (j d : Fin 128) :
    vC X n p (ix3 (0 : Fin 1) (col l d) j) = X.v (ix3 (0 : Fin 1) (⟨128 * (hd p l).val + d.val, by omega⟩ : Fin 512)
      (⟨128 * n.val + j.val, by omega⟩ : Fin 1024)) := by
  refine congrArg X.v ?_
  funext a
  fin_cases a
  · rfl
  · apply Fin.ext; show 256 * p.val + 1 * (128 * l.val + d.val) = 128 * (2 * p.val + l.val) + d.val; omega
  · apply Fin.ext; show 128 * n.val + 1 * j.val = 128 * n.val + j.val; omega

theorem oC_apply (X : Blk Ideal) (n : Fin 8) (h : Fin 4) (i e : Fin 128) :
    oC X n h (ix3 (0 : Fin 1) i e) = X.o (ix3 (0 : Fin 1) (⟨128 * n.val + i.val, by omega⟩ : Fin 1024)
      (⟨128 * h.val + e.val, by omega⟩ : Fin 512)) := by
  refine congrArg X.o ?_
  funext a
  fin_cases a
  · rfl
  · apply Fin.ext; show 128 * n.val + 1 * i.val = 128 * n.val + i.val; omega
  · apply Fin.ext; show 128 * h.val + 1 * e.val = 128 * h.val + e.val; omega

theorem pick_hd {α : Type} (f : Fin 4 → α) (p l : Fin 2) (ha hb) : pick f (hd p 0).val (hd p 1).val ha hb l = f (hd p l) := by
  fin_cases l
  · rfl
  · rfl

/-- The memory of pair `p` is kept under the stabilisers `m`. -/
def IsC (H : Fin 4 → Head) (T : ℕ) (m : Fin 4 → ℝ) (p : Fin 2) (ct : Vec Ideal S1x144x256 .f32) : Prop :=
  ∀ (l : Fin 2) (e : Fin 144) (d : Fin 128), ct (ix3 (0 : Fin 1) e (col l d))
    = ((Real.exp (-m (hd p l)) * (H (hd p l)).St T e d : ℝ) : EReal)

theorem IsBlk.pair (h : IsBlk X H T mr) (n : Fin 8) (p : Fin 2) {m m' ml : Fin 4 → ℝ}
    (hm : IsM (mS X n.val) m) (hml : IsM (mLoc (bC X n) (lC X n)) ml) (hm' : IsM (mNew (bC X n) (lC X n) (mS X n.val)) m')
    (hc : IsC H (T + 128 * n.val) m p (cS X p n.val)) :
    IsPair (uP X n p) (mP X n p) (bP X n p) (wP X n p) (dP X n p) (sP X n p) (kC X n p) (qC X n p) (vC X n p) (cS X p n.val)
      (fun l => H (hd p l)) (T + 128 * n.val) (fun l => m (hd p l)) (fun l => m' (hd p l)) (fun l => ml (hd p l)) where
  hu l j i := by
    rw [uP, uT_apply _ _ _ _ _ (hd p 0).isLt (hd p 1).isLt, pick_hd]
    split_ifs
    · exact uCols_apply (h.isB n) (h.isLi n) _ _
    · rfl
  hm l i := by rw [mP, onePair_apply _ _ _ _ _ (hd p 0).isLt (hd p 1).isLt, pick_hd]; exact hm _
  hb l i := by rw [bP, rowPair_apply _ _ _ _ _ (hd p 0).isLt (hd p 1).isLt, pick_hd]; exact h.isB n _ _
  hw l j := by
    rw [wP, rowPair_apply _ _ _ _ _ (hd p 0).isLt (hd p 1).isLt, pick_hd]
    exact wKey_apply (h.isB n) (h.isLi n) hml _ _
  hd l i := by
    rw [dP, onePair_apply _ _ _ _ _ (Cert.Mix.hd p 0).isLt (Cert.Mix.hd p 1).isLt, pick_hd]
    exact decay_apply (h.isB n) hm hm' _
  hs l i := by
    rw [sP, onePair_apply _ _ _ _ _ (Cert.Mix.hd p 0).isLt (Cert.Mix.hd p 1).isLt, pick_hd]
    exact sFac_apply hml hm' _
  hk l j d := by rw [kC_apply, h.hk, add_assoc]
  hq l d i := by rw [qC_apply, h.hq, add_assoc]
  hv l e j := by rw [vC_apply, h.hv, add_assoc]
  hc := hc

theorem IsBlk.state (h : IsBlk X H T mr) : ∀ n : ℕ, n ≤ 8 →
    ∃ m : Fin 4 → ℝ, IsM (mS X n) m ∧ ∀ p, IsC H (T + 128 * n) m p (cS X p n)
  | 0, _ => by
    refine ⟨mr, fun a => ?_, fun p l e d => ?_⟩
    · refine Eq.trans (congrArg X.m0 ?_) (h.hm a)
      funext b
      fin_cases b
      · apply Fin.ext; show 0 + 1 * a.val = a.val; omega
      · rfl
    · refine Eq.trans (congrArg X.c0 ?_) (h.hc p l e d)
      funext b
      fin_cases b
      · apply Fin.ext; show p.val + 1 * 0 = p.val; omega
      · apply Fin.ext; show 0 + 1 * e.val = e.val; omega
      · apply Fin.ext; show 0 + 1 * (128 * l.val + d.val) = 128 * l.val + d.val; omega
  | n + 1, hn => by
    obtain ⟨m, hm, hc⟩ := h.state n (by omega)
    have hv : (Fin.ofNat 8 n).val = n := Nat.mod_eq_of_lt (by omega)
    obtain ⟨ml, hml⟩ := mLoc_real (h.isB (Fin.ofNat 8 n)) (h.isLi (Fin.ofNat 8 n))
    obtain ⟨m', hm'⟩ := mNew_real (h.isB (Fin.ofNat 8 n)) (h.isLi (Fin.ofNat 8 n)) hm
    refine ⟨m', hm', fun p l e d => ?_⟩
    have P := h.pair (Fin.ofNat 8 n) p (m := m) (m' := m') (ml := ml) (by rw [hv]; exact hm) hml (by rw [hv]; exact hm')
      (by rw [hv]; exact hc p)
    have := P.ctNew l e d
    rw [hv, add_assoc] at this
    exact this

theorem IsBlk.gP (h : IsBlk X H T mr) (n : Fin 8) (p l : Fin 2) (i e : Fin 128) :
    gP X n p l (ix2 i e) = Ideal.logistic (X.o (ix3 (0 : Fin 1) (⟨128 * n.val + i.val, by omega⟩ : Fin 1024)
      (⟨128 * (hd p l).val + e.val, by omega⟩ : Fin 512))) * (((H (hd p l)).out (T + (128 * n.val + i.val)) e : ℝ) : EReal) := by
  obtain ⟨m, hm, hc⟩ := h.state n.val n.isLt.le
  obtain ⟨ml, hml⟩ := mLoc_real (h.isB n) (h.isLi n)
  obtain ⟨m', hm'⟩ := mNew_real (h.isB n) (h.isLi n) hm
  have P := h.pair n p hm hml hm' (hc p)
  rw [Cert.Mix.gP, gated_apply, hP, P.hT, oC_apply, add_assoc]

end Cert.Mix
-- ==== Proof.Mix.lean ====
/- What one tile of 1024 tokens stores: the gated heads and the short convolution side by side, the two
   output blocks, and the memory, stabilisers and convolution tail it leaves for the next tile. -/
module

public import proofs.«01_k».proof.Proof.Tile
public import Idealize.ShloMosaic.Lib.Pipeline.ValueKit
public import Idealize.ShloMosaic.Lib.Pointwise

@[expose] public section

set_option maxRecDepth 16384

noncomputable section

namespace Cert.Mix

open Idealize.ShloMosaic Idealize.SL.Sem Cert.KernelIdeal Cert.KernelIdeal.Gen

variable {F : FTy → Type} [FloatOps F]

/-- Everything a tile reads. -/
structure Tile (F : FTy → Type) where
  b : Blk F
  /-- The three operands of the short convolution. -/
  cb : Vec F S1x1024x512 .bf16
  cc : Vec F S1x1024x512 .bf16
  cx : Vec F S1x1024x512 .bf16
  /-- The residual stream. -/
  x : Vec F S1x1024x1024 .f32
  cw : Vec F S3x512 .f32
  w : Vec F S1024x1024 .bf16
  g : Vec F S1x1024 .f32
  /-- The last and the last but one row of the convolution's input in the tile before. -/
  u1 : Vec F S1x512 .f32
  u2 : Vec F S1x512 .f32

variable (T : Tile F)

/-- A whole block, loaded. -/
def lw (X : Vec F S1x1024x512 .bf16) : Vec F S1x1024x512 .bf16 :=
  View.ld X (Rect.unit ![0, 0, 0] S1x1024x512.size inb_S1x1024x512_S1x1024x512_0_0_0)

/-- The convolution's input. -/
def Tile.u : FVec F S1024x512 .f32 := k0_pay474 (lw T.cc) (lw T.cx)

/-- The convolution, gated. -/
def Tile.conv : FVec F S1024x512 .bf16 :=
  k0_pay477 (k0_pay474 (lw T.cc) (lw T.cx)) (k0_pay475 (lw T.cc) (lw T.cx) T.u1)
    (k0_pay476 (lw T.cc) (lw T.cx) T.u1 T.u2 (View.ld T.cw (Rect.unit ![0, 0] S1x512.size inb_S3x512_S1x512_0_0)))
    (View.ld T.cw (Rect.unit ![1, 0] S1x512.size inb_S3x512_S1x512_1_0))
    (View.ld T.cw (Rect.unit ![2, 0] S1x512.size inb_S3x512_S1x512_2_0)) (lw T.cb)

theorem in_mix : ∀ (k : Fin 32) (a : Fin 2),
    (![128 * (7 - k.val / 4), 128 * (3 - k.val % 4)] : Fin 2 → ℕ) a + S128x128.size a ≤ S1024x1024.size a := by
  decide +kernel

/-- Where the `k`-th last head block lies. -/
def mixR (k : Fin 32) : Rect S1024x1024 :=
  Rect.unit ![128 * (7 - k.val / 4), 128 * (3 - k.val % 4)] S128x128.size (in_mix k)

/-- What the `k`-th last head block holds. -/
def mixP (X : Blk F) (k : Fin 32) : FVec F S128x128 .bf16 :=
  gP X ⟨7 - k.val / 4, by omega⟩ ⟨(3 - k.val % 4) / 2, by omega⟩ ⟨(3 - k.val % 4) % 2, by omega⟩

def Tile.mixPieces : List (View.Piece (Elt F) S1024x1024 .bf16) :=
  ⟨Rect.unit ![0, 512] S1024x512.size inb_S1024x1024_S1024x512_0_512, T.conv⟩ ::
    List.ofFn fun k : Fin 32 => ⟨mixR k, mixP T.b k⟩

/-- The gated heads and the convolution side by side. -/
def Tile.mix : Vec F S1024x1024 .bf16 := fun j => View.canon T.mixPieces
  ((Rect.unit ![0, 0] S1024x1024.size inb_S1024x1024_S1024x1024_0_0 : Rect S1024x1024).toLoadRect.idx j)

def Tile.xs0 : Vec F S1x1024x256 .f32 := View.ld T.x (Rect.unit ![0, 0, 0] S1x1024x256.size inb_S1x1024x1024_S1x1024x256_0_0_0)
def Tile.xs1 : Vec F S1x1024x256 .f32 := View.ld T.x (Rect.unit ![0, 0, 256] S1x1024x256.size inb_S1x1024x1024_S1x1024x256_0_0_256)
def Tile.xs2 : Vec F S1x1024x256 .f32 := View.ld T.x (Rect.unit ![0, 0, 512] S1x1024x256.size inb_S1x1024x1024_S1x1024x256_0_0_512)
def Tile.xs3 : Vec F S1x1024x256 .f32 := View.ld T.x (Rect.unit ![0, 0, 768] S1x1024x256.size inb_S1x1024x1024_S1x1024x256_0_0_768)
def Tile.ws0 : Vec F S1024x256 .bf16 := View.ld T.w (Rect.unit ![0, 0] S1024x256.size inb_S1024x1024_S1024x256_0_0)
def Tile.ws1 : Vec F S1024x256 .bf16 := View.ld T.w (Rect.unit ![0, 256] S1024x256.size inb_S1024x1024_S1024x256_0_256)
def Tile.ws2 : Vec F S1024x256 .bf16 := View.ld T.w (Rect.unit ![0, 512] S1024x256.size inb_S1024x1024_S1024x256_0_512)
def Tile.ws3 : Vec F S1024x256 .bf16 := View.ld T.w (Rect.unit ![0, 768] S1024x256.size inb_S1024x1024_S1024x256_0_768)

def Tile.xPieces : List (View.Piece (Elt F) S1x1024x1024 .f32) :=
  [⟨Rect.unit ![0, 0, 768] S1x1024x256.size inb_S1x1024x1024_S1x1024x256_0_0_768, k0_pay489 T.mix T.xs3 T.ws3⟩,
   ⟨Rect.unit ![0, 0, 512] S1x1024x256.size inb_S1x1024x1024_S1x1024x256_0_0_512, k0_pay486 T.mix T.xs2 T.ws2⟩,
   ⟨Rect.unit ![0, 0, 256] S1x1024x256.size inb_S1x1024x1024_S1x1024x256_0_0_256, k0_pay484 T.mix T.xs1 T.ws1⟩,
   ⟨Rect.unit ![0, 0, 0] S1x1024x256.size inb_S1x1024x1024_S1x1024x256_0_0_0, k0_pay482 (k0_pay481 T.mix T.xs0 T.ws0)⟩]

/-- The residual stream after the mixer. -/
def Tile.x2 : Vec F S1x1024x1024 .f32 := View.canon T.xPieces

def Tile.x2l : Vec F S1x1024x1024 .f32 := fun j => View.canon T.xPieces
  ((Rect.unit ![0, 0, 0] S1x1024x1024.size inb_S1x1024x1024_S1x1024x1024_0_0_0 : Rect S1x1024x1024).toLoadRect.idx j)

def Tile.hnP : FVec F S1x1024x1024 .bf16 :=
  k0_pay491 T.mix (k0_pay487 T.mix k0_pay480 (k0_pay481 T.mix T.xs0 T.ws0) T.xs1 T.ws1 T.xs2 T.ws2) T.xs3 T.ws3 T.x2l
    (View.ld T.g (Rect.unit ![0, 0] S1x1024.size inb_S1x1024_S1x1024_0_0))

/-- The normalised stream. -/
def Tile.hn : Vec F S1x1024x1024 .bf16 :=
  View.canon [⟨Rect.unit ![0, 0, 0] S1x1024x1024.size inb_S1x1024x1024_S1x1024x1024_0_0_0, T.hnP⟩]

/-! ### Read at an index -/

theorem Tile.mix_k (k : Fin 32) (i e : Fin 128) :
    T.mix (ix2 (⟨128 * (7 - k.val / 4) + i.val, by omega⟩ : Fin 1024) (⟨128 * (3 - k.val % 4) + e.val, by omega⟩ : Fin 1024))
      = mixP T.b k (ix2 i e) := by
  unfold Tile.mix Tile.mixPieces
  have hi : (Rect.unit ![0, 0] S1024x1024.size inb_S1024x1024_S1024x1024_0_0 : Rect S1024x1024).toLoadRect.idx
      (ix2 (⟨128 * (7 - k.val / 4) + i.val, by omega⟩ : Fin 1024) (⟨128 * (3 - k.val % 4) + e.val, by omega⟩ : Fin 1024))
      = (mixR k).emb (ix2 i e) := by
    funext a
    apply Fin.ext
    fin_cases a
    · show 0 + 1 * (128 * (7 - k.val / 4) + i.val) = 128 * (7 - k.val / 4) + 1 * i.val
      omega
    · show 0 + 1 * (128 * (3 - k.val % 4) + e.val) = 128 * (3 - k.val % 4) + 1 * e.val
      omega
  rw [hi, View.canon_cons_of_not_mem]
  · refine View.canon_ofFn_emb_of_disjoint (Val := Elt F) (e := .bf16) mixR (fun k => mixP T.b k) ?_ k (ix2 i e)
    intro a b hab
    by_cases h : a.val / 4 = b.val / 4
    · refine Rect.unit_disjoint (1 : Fin 2) ?_
      show 128 * (3 - a.val % 4) + 128 ≤ 128 * (3 - b.val % 4) ∨ 128 * (3 - b.val % 4) + 128 ≤ 128 * (3 - a.val % 4)
      omega
    · refine Rect.unit_disjoint (0 : Fin 2) ?_
      show 128 * (7 - a.val / 4) + 128 ≤ 128 * (7 - b.val / 4) ∨ 128 * (7 - b.val / 4) + 128 ≤ 128 * (7 - a.val / 4)
      omega
  · intro hm
    have h1 := ((Rect.mem_set_unit (s := S1024x1024) (off := ![0, 512]) (size := S1024x512.size)
      (inb := inb_S1024x1024_S1024x512_0_512)).1 hm (1 : Fin 2)).1
    have h2 : 512 ≤ 128 * (3 - k.val % 4) + 1 * e.val := h1
    omega

/-- The part of head `2 p + l` in chunk `n`. -/
theorem Tile.mix_head (n : Fin 8) (p l : Fin 2) (i e : Fin 128) :
    T.mix (ix2 (⟨128 * n.val + i.val, by omega⟩ : Fin 1024) (⟨128 * (2 * p.val + l.val) + e.val, by omega⟩ : Fin 1024))
      = gP T.b n p l (ix2 i e) := by
  have h := T.mix_k ⟨31 - (4 * n.val + 2 * p.val + l.val), by omega⟩ i e
  have e1 : 7 - (31 - (4 * n.val + 2 * p.val + l.val)) / 4 = n.val := by omega
  have e2 : 3 - (31 - (4 * n.val + 2 * p.val + l.val)) % 4 = 2 * p.val + l.val := by omega
  have e3 : (2 * p.val + l.val) / 2 = p.val := by omega
  have e4 : (2 * p.val + l.val) % 2 = l.val := by omega
  simpa only [mixP, e1, e2, e3, e4, Fin.eta] using h

/-- The convolution's part. -/
theorem Tile.mix_conv (r : Fin 1024) (j : Fin 512) :
    T.mix (ix2 r (⟨512 + j.val, by omega⟩ : Fin 1024)) = T.conv (ix2 r j) := by
  unfold Tile.mix Tile.mixPieces
  have hi : (Rect.unit ![0, 0] S1024x1024.size inb_S1024x1024_S1024x1024_0_0 : Rect S1024x1024).toLoadRect.idx
      (ix2 r (⟨512 + j.val, by omega⟩ : Fin 1024))
      = (Rect.unit ![0, 512] S1024x512.size inb_S1024x1024_S1024x512_0_512 : Rect S1024x1024).emb (ix2 r j) := by
    funext a
    apply Fin.ext
    fin_cases a
    · show 0 + 1 * r.val = 0 + 1 * r.val
      rfl
    · show 0 + 1 * (512 + j.val) = 512 + 1 * j.val
      omega
  rw [hi, View.canon_cons_emb]

theorem Tile.x2l_eq : T.x2l = T.x2 := by
  funext j
  unfold Tile.x2l Tile.x2
  congr 1
  funext a
  apply Fin.ext
  show ![0, 0, 0] a + 1 * (j a).val = (j a).val
  fin_cases a <;> (simp)

theorem canon_skip3 {Val : EltTy → Type} [∀ e, Nonempty (Val e)] {e : EltTy} {o : ℕ} (inb)
    (w : (Rect.unit (s := S1x1024x1024) ![0, 0, o] S1x1024x256.size inb).shape.Idx → Val e) (L : List (View.Piece Val S1x1024x1024 e))
    (r c : Fin 1024) (h : c.val < o ∨ o + 256 ≤ c.val) :
    View.canon (⟨Rect.unit (s := S1x1024x1024) ![0, 0, o] S1x1024x256.size inb, w⟩ :: L) (ix3 (0 : Fin 1) r c) = View.canon L (ix3 (0 : Fin 1) r c) := by
  refine View.canon_cons_of_not_mem _ _ fun hm => ?_
  have h1 := (Rect.mem_set_unit (s := S1x1024x1024) (off := ![0, 0, o]) (size := S1x1024x256.size) (inb := inb)).1 hm (2 : Fin 3)
  have h2 : o ≤ c.val ∧ c.val < o + 256 := h1
  omega

theorem canon_hit3 {Val : EltTy → Type} [∀ e, Nonempty (Val e)] {e : EltTy} {o : ℕ} (inb)
    (w : (Rect.unit (s := S1x1024x1024) ![0, 0, o] S1x1024x256.size inb).shape.Idx → Val e) (L : List (View.Piece Val S1x1024x1024 e))
    (r c : Fin 1024) (j : Fin 256) (h : c.val = o + j.val) :
    View.canon (⟨Rect.unit (s := S1x1024x1024) ![0, 0, o] S1x1024x256.size inb, w⟩ :: L) (ix3 (0 : Fin 1) r c) = w (ix3 (0 : Fin 1) r j) := by
  have hi : ix3 (0 : Fin 1) r c = (Rect.unit ![0, 0, o] S1x1024x256.size inb : Rect S1x1024x1024).emb (ix3 (0 : Fin 1) r j) := by
    funext a
    apply Fin.ext
    fin_cases a
    · show 0 = 0 + 1 * 0
      omega
    · show r.val = 0 + 1 * r.val
      omega
    · show c.val = o + 1 * j.val
      omega
  rw [hi, View.canon_cons_emb]

theorem Tile.x2_0 (r : Fin 1024) (j : Fin 256) : T.x2 (ix3 (0 : Fin 1) r (⟨j.val, by omega⟩ : Fin 1024))
    = k0_pay482 (k0_pay481 T.mix T.xs0 T.ws0) (ix3 (0 : Fin 1) r j) := by
  unfold Tile.x2 Tile.xPieces
  rw [canon_skip3 _ _ _ _ _ (by show j.val < 768 ∨ _; omega), canon_skip3 _ _ _ _ _ (by show j.val < 512 ∨ _; omega),
    canon_skip3 _ _ _ _ _ (by show j.val < 256 ∨ _; omega), canon_hit3 _ _ _ _ _ j (by show j.val = 0 + j.val; omega)]
theorem Tile.x2_1 (r : Fin 1024) (j : Fin 256) : T.x2 (ix3 (0 : Fin 1) r (⟨256 + j.val, by omega⟩ : Fin 1024))
    = k0_pay484 T.mix T.xs1 T.ws1 (ix3 (0 : Fin 1) r j) := by
  unfold Tile.x2 Tile.xPieces
  rw [canon_skip3 _ _ _ _ _ (by show 256 + j.val < 768 ∨ _; omega), canon_skip3 _ _ _ _ _ (by show 256 + j.val < 512 ∨ _; omega),
    canon_hit3 _ _ _ _ _ j rfl]
theorem Tile.x2_2 (r : Fin 1024) (j : Fin 256) : T.x2 (ix3 (0 : Fin 1) r (⟨512 + j.val, by omega⟩ : Fin 1024))
    = k0_pay486 T.mix T.xs2 T.ws2 (ix3 (0 : Fin 1) r j) := by
  unfold Tile.x2 Tile.xPieces
  rw [canon_skip3 _ _ _ _ _ (by show 512 + j.val < 768 ∨ _; omega), canon_hit3 _ _ _ _ _ j rfl]
theorem Tile.x2_3 (r : Fin 1024) (j : Fin 256) : T.x2 (ix3 (0 : Fin 1) r (⟨768 + j.val, by omega⟩ : Fin 1024))
    = k0_pay489 T.mix T.xs3 T.ws3 (ix3 (0 : Fin 1) r j) := by
  unfold Tile.x2 Tile.xPieces
  rw [canon_hit3 _ _ _ _ _ j rfl]

theorem Tile.hn_apply (r c : Fin 1024) : T.hn (ix3 (0 : Fin 1) r c) = T.hnP (ix3 (0 : Fin 1) r c) := by
  have hi : ix3 (0 : Fin 1) r c
      = (Rect.unit ![0, 0, 0] S1x1024x1024.size inb_S1x1024x1024_S1x1024x1024_0_0_0 : Rect S1x1024x1024).emb (ix3 (0 : Fin 1) r c) := by
    funext a
    apply Fin.ext
    fin_cases a
    · show 0 = 0 + 1 * 0
      omega
    · show r.val = 0 + 1 * r.val
      omega
    · show c.val = 0 + 1 * c.val
      omega
  unfold Tile.hn
  rw [hi, View.canon_cons_emb, ← hi]

/-! ### What a tile leaves -/

/-- The memory is the two newest slabs of it. -/
theorem ct_read (w1 w0 : Vec F S1x144x256 .f32) (L : List (View.Piece (Elt F) S2x144x256 .f32)) (p : Fin 2) (e : Fin 144) (d : Fin 256) :
    View.canon (⟨Rect.unit (s := S2x144x256) ![1, 0, 0] S1x144x256.size inb_S2x144x256_S1x144x256_1_0_0, w1⟩ ::
      ⟨Rect.unit (s := S2x144x256) ![0, 0, 0] S1x144x256.size inb_S2x144x256_S1x144x256_0_0_0, w0⟩ :: L) (ix3 p e d)
      = (if p = 0 then w0 else w1) (ix3 (0 : Fin 1) e d) := by
  by_cases hp : p = 0
  · subst hp
    rw [View.canon_cons_of_not_mem]
    · have hi : ix3 (0 : Fin 2) e d
          = (Rect.unit ![0, 0, 0] S1x144x256.size inb_S2x144x256_S1x144x256_0_0_0 : Rect S2x144x256).emb (ix3 (0 : Fin 1) e d) := by
        funext a
        apply Fin.ext
        fin_cases a
        · show 0 = 0 + 1 * 0
          omega
        · show e.val = 0 + 1 * e.val
          omega
        · show d.val = 0 + 1 * d.val
          omega
      rw [hi, View.canon_cons_emb, if_pos rfl]
    · intro hm
      have h1 : 1 ≤ 0 := ((Rect.mem_set_unit (s := S2x144x256) (off := ![1, 0, 0]) (size := S1x144x256.size)
        (inb := inb_S2x144x256_S1x144x256_1_0_0)).1 hm (0 : Fin 3)).1
      omega
  · obtain rfl : p = 1 := by omega
    have hi : ix3 (1 : Fin 2) e d
        = (Rect.unit ![1, 0, 0] S1x144x256.size inb_S2x144x256_S1x144x256_1_0_0 : Rect S2x144x256).emb (ix3 (0 : Fin 1) e d) := by
      funext a
      apply Fin.ext
      fin_cases a
      · show 1 = 1 + 1 * 0
        omega
      · show e.val = 0 + 1 * e.val
        omega
      · show d.val = 0 + 1 * d.val
        omega
    rw [hi, View.canon_cons_emb, if_neg hp]

/-- The stabilisers are the newest four rows. -/
theorem m_read {sig : RefSig} {κ : Kind} {sp : Space} (v : View sig κ sp S8x128 .f32) (f : v.ty.Contents (Elt F))
    (w : Vec F S4x128 .f32) (L : List (View.Piece (Elt F) S8x128 .f32)) (h : Fin 4) :
    v.read (Elt F) (v.writes (Elt F) f (⟨Rect.unit (s := S8x128) ![0, 0] S4x128.size inb_S8x128_S4x128_0_0, w⟩ :: L))
      (ix2 (⟨h.val, by omega⟩ : Fin 8) (0 : Fin 128)) = w (ix2 h (0 : Fin 128)) := by
  refine View.read_writes_cons_hit_of_coords v f (Rect.unit (s := S8x128) ![0, 0] S4x128.size inb_S8x128_S4x128_0_0) w L
    (ix2 h (0 : Fin 128)) _ fun a => ?_
  fin_cases a
  · show h.val = 0 + 1 * h.val
    omega
  · show 0 = 0 + 1 * 0
    rfl

/-- Row 1 of the carry is the newest write, row 0 the one before. -/
theorem u_read1 {sig : RefSig} {κ : Kind} {sp : Space} (v : View sig κ sp S8x512 .f32) (f : v.ty.Contents (Elt F))
    (w : Vec F S1x512 .f32) (L : List (View.Piece (Elt F) S8x512 .f32)) (j : Fin 512) :
    v.read (Elt F) (v.writes (Elt F) f (⟨Rect.unit (s := S8x512) ![1, 0] S1x512.size inb_S8x512_S1x512_1_0, w⟩ :: L))
      (ix2 (1 : Fin 8) j) = w (ix2 (0 : Fin 1) j) := by
  refine View.read_writes_cons_hit_of_coords v f (Rect.unit (s := S8x512) ![1, 0] S1x512.size inb_S8x512_S1x512_1_0) w L
    (ix2 (0 : Fin 1) j) _ fun a => ?_
  fin_cases a
  · show 1 = 1 + 1 * 0
    rfl
  · show j.val = 0 + 1 * j.val
    omega

theorem u_read0 {sig : RefSig} {κ : Kind} {sp : Space} (v : View sig κ sp S8x512 .f32) (f : v.ty.Contents (Elt F))
    (w w' : Vec F S1x512 .f32) (L : List (View.Piece (Elt F) S8x512 .f32)) (j : Fin 512) :
    v.read (Elt F) (v.writes (Elt F) f (⟨Rect.unit (s := S8x512) ![1, 0] S1x512.size inb_S8x512_S1x512_1_0, w'⟩ ::
      ⟨Rect.unit (s := S8x512) ![0, 0] S1x512.size inb_S8x512_S1x512_0_0, w⟩ :: L))
      (ix2 (0 : Fin 8) j) = w (ix2 (0 : Fin 1) j) := by
  rw [View.read_writes_cons_miss_of_axis v f _ _ _ (0 : Fin 2) 1 1 rfl rfl rfl (Or.inl (by show 0 < 1; omega))]
  refine View.read_writes_cons_hit_of_coords v f (Rect.unit (s := S8x512) ![0, 0] S1x512.size inb_S8x512_S1x512_0_0) w L
    (ix2 (0 : Fin 1) j) _ fun a => ?_
  fin_cases a
  · show 0 = 0 + 1 * 0
    rfl
  · show j.val = 0 + 1 * j.val
    omega

end Cert.Mix
-- ==== Proof.MixI.lean ====
/- What a tile stores, read at an index over the extended reals. -/
module

public import proofs.«01_k».proof.Proof.Mix
public import proofs.«01_k».proof.Proof.Math

@[expose] public section

set_option maxRecDepth 16384

noncomputable section

namespace Cert.Mix

open Idealize.ShloMosaic Idealize.SL.Sem Cert.KernelIdeal Cert.KernelIdeal.Gen

theorem lw_apply (X : Vec Ideal S1x1024x512 .bf16) (r : Fin 1024) (j : Fin 512) :
    lw X (ix3 (0 : Fin 1) r j) = X (ix3 (0 : Fin 1) r j) := by
  refine congrArg X ?_
  funext a
  fin_cases a
  · rfl
  · apply Fin.ext; show 0 + 1 * r.val = r.val; omega
  · apply Fin.ext; show 0 + 1 * j.val = j.val; omega

variable (T : Tile Ideal)

/-- The convolution's input at a row and a lane. -/
def Tile.uv (r : Fin 1024) (j : Fin 512) : EReal := T.cc (ix3 (0 : Fin 1) r j) * T.cx (ix3 (0 : Fin 1) r j)

theorem Tile.u_apply (r : Fin 1024) (j : Fin 512) : T.u (ix2 r j) = T.uv r j := by
  pointwise [Tile.u, k0_pay474]
  rw [lw_apply, lw_apply]
  rfl

theorem Tile.x2_apply (r c : Fin 1024) : T.x2 (ix3 (0 : Fin 1) r c)
    = T.x (ix3 (0 : Fin 1) r c) + ∑ k : Fin 1024, T.mix (ix2 r k) * T.w (ix2 k c) := by
  have hx : ∀ (o : ℕ) (inb) (j : Fin 256) (h : o + j.val < 1024), View.ld T.x (Rect.unit (s := S1x1024x1024) ![0, 0, o] S1x1024x256.size inb)
      (ix3 (0 : Fin 1) r j) = T.x (ix3 (0 : Fin 1) r (⟨o + j.val, h⟩ : Fin 1024)) := by
    intro o inb j h
    refine congrArg T.x ?_
    funext a
    fin_cases a
    · rfl
    · apply Fin.ext; show 0 + 1 * r.val = r.val; omega
    · apply Fin.ext; show o + 1 * j.val = o + j.val; omega
  have hw : ∀ (o : ℕ) (inb) (k : Fin 1024) (j : Fin 256) (h : o + j.val < 1024), View.ld T.w (Rect.unit (s := S1024x1024) ![0, o] S1024x256.size inb)
      (ix2 k j) = T.w (ix2 k (⟨o + j.val, h⟩ : Fin 1024)) := by
    intro o inb k j h
    refine congrArg T.w ?_
    funext a
    fin_cases a
    · apply Fin.ext; show 0 + 1 * k.val = k.val; omega
    · apply Fin.ext; show o + 1 * j.val = o + j.val; omega
  have key : ∀ (mix : FVec Ideal S1024x1024 .bf16) (xs : Vec Ideal S1x1024x256 .f32) (ws : Vec Ideal S1024x256 .bf16) (j : Fin 256),
      k0_pay482 (k0_pay481 mix xs ws) (ix3 (0 : Fin 1) r j) = xs (ix3 (0 : Fin 1) r j) + ∑ k : Fin 1024, mix (ix2 r k) * ws (ix2 k j) := by
    intro mix xs ws j
    pointwise [k0_pay482, k0_pay481]
  have h : (∃ j : Fin 256, c = (⟨j.val, by omega⟩ : Fin 1024)) ∨ (∃ j : Fin 256, c = (⟨256 + j.val, by omega⟩ : Fin 1024))
      ∨ (∃ j : Fin 256, c = (⟨512 + j.val, by omega⟩ : Fin 1024)) ∨ (∃ j : Fin 256, c = (⟨768 + j.val, by omega⟩ : Fin 1024)) := by
    have := c.isLt
    rcases lt_or_ge c.val 256 with h | h
    · exact Or.inl ⟨⟨c.val, h⟩, rfl⟩
    rcases lt_or_ge c.val 512 with h1 | h1
    · exact Or.inr (Or.inl ⟨⟨c.val - 256, by omega⟩, Fin.ext (by show c.val = 256 + (c.val - 256); omega)⟩)
    rcases lt_or_ge c.val 768 with h2 | h2
    · exact Or.inr (Or.inr (Or.inl ⟨⟨c.val - 512, by omega⟩, Fin.ext (by show c.val = 512 + (c.val - 512); omega)⟩))
    · exact Or.inr (Or.inr (Or.inr ⟨⟨c.val - 768, by omega⟩, Fin.ext (by show c.val = 768 + (c.val - 768); omega)⟩))
  rcases h with ⟨j, rfl⟩ | ⟨j, rfl⟩ | ⟨j, rfl⟩ | ⟨j, rfl⟩
  · rw [T.x2_0, key, Tile.xs0, Tile.ws0, hx 0 _ j (by omega)]
    simp only [hw 0 _ _ j (show 0 + j.val < 1024 by omega), zero_add]
  · rw [T.x2_1]
    refine (key T.mix T.xs1 T.ws1 j).trans ?_
    rw [Tile.xs1, Tile.ws1, hx 256 _ j (by omega)]
    simp only [hw 256 _ _ j (show 256 + j.val < 1024 by omega)]
  · rw [T.x2_2]
    refine (key T.mix T.xs2 T.ws2 j).trans ?_
    rw [Tile.xs2, Tile.ws2, hx 512 _ j (by omega)]
    simp only [hw 512 _ _ j (show 512 + j.val < 1024 by omega)]
  · rw [T.x2_3]
    refine (key T.mix T.xs3 T.ws3 j).trans ?_
    rw [Tile.xs3, Tile.ws3, hx 768 _ j (by omega)]
    simp only [hw 768 _ _ j (show 768 + j.val < 1024 by omega)]

theorem Tile.hn_eq (r c : Fin 1024) : T.hn (ix3 (0 : Fin 1) r c)
    = T.x2 (ix3 (0 : Fin 1) r c) * Ideal.rsqrt ((∑ k : Fin 1024, T.x2 (ix3 (0 : Fin 1) r k) * T.x2 (ix3 (0 : Fin 1) r k))
        * Ideal.ofBits .f32 0x3A800000#32 + Ideal.ofBits .f32 0x358637BD#32) * T.g (ix2 (0 : Fin 1) c) := by
  rw [T.hn_apply, Tile.hnP, T.x2l_eq, sum_1024]
  simp only [T.x2_0, T.x2_1, T.x2_2, T.x2_3]
  have hg : View.ld T.g (Rect.unit (s := S1x1024) ![0, 0] S1x1024.size inb_S1x1024_S1x1024_0_0) (ix2 (0 : Fin 1) c) = T.g (ix2 (0 : Fin 1) c) := by
    refine congrArg T.g ?_
    funext a
    fin_cases a
    · rfl
    · apply Fin.ext; show 0 + 1 * c.val = c.val; omega
  pointwise [k0_pay491, k0_pay490, k0_pay487, k0_pay480, k0_pay489, k0_pay486, k0_pay484, k0_pay482]

/-- The convolution's input one row back, the row before the tile's first being the carry's. -/
def Tile.back1 (r : Fin 1024) (j : Fin 512) : EReal :=
  if r.val = 0 then T.u1 (ix2 (0 : Fin 1) j) else T.uv ⟨r.val - 1, by omega⟩ j

/-- Two rows back. -/
def Tile.back2 (r : Fin 1024) (j : Fin 512) : EReal :=
  if r.val = 0 then T.u2 (ix2 (0 : Fin 1) j) else if r.val = 1 then T.u1 (ix2 (0 : Fin 1) j) else T.uv ⟨r.val - 2, by omega⟩ j

theorem sel_eq (r : Fin 1024) (n : ℕ) (hn : n < 1024) (a b : EReal) :
    Scalar.select (IntOp.cmpi .eq (BitVec.ofNat 32 r.val) (BitVec.ofNat 32 n)) a b = if r.val = n then a else b := by
  have h : (BitVec.ofNat 32 r.val = BitVec.ofNat 32 n) ↔ r.val = n := by
    rw [← BitVec.toNat_inj, BitVec.toNat_ofNat, BitVec.toNat_ofNat, Nat.mod_eq_of_lt (by omega), Nat.mod_eq_of_lt (by omega)]
  by_cases hr : r.val = n
  · rw [if_pos hr, hr]; simp [IntOp.cmpi, Scalar.select]
  · rw [if_neg hr]
    have : ¬ BitVec.ofNat 32 r.val = BitVec.ofNat 32 n := fun e => hr (h.1 e)
    have h2 : (BitVec.ofNat 32 r.val == BitVec.ofNat 32 n) = false := beq_eq_false_iff_ne.2 this
    simp only [IntOp.cmpi, Scalar.select, h2]
    rfl

theorem Tile.conv_apply (r : Fin 1024) (j : Fin 512) : T.conv (ix2 r j)
    = T.cb (ix3 (0 : Fin 1) r j) * (T.cw (ix2 (0 : Fin 3) j) * T.back2 r j + T.cw (ix2 (1 : Fin 3) j) * T.back1 r j
        + T.cw (ix2 (2 : Fin 3) j) * T.uv r j) := by
  pointwise [Tile.conv, k0_pay477, k0_pay476, k0_pay475]
  have h0 : ∀ a b : EReal, Scalar.select (IntOp.cmpi .eq (BitVec.ofNat 32 r.val) 0#32) a b = if r.val = 0 then a else b :=
    fun a b => sel_eq r 0 (by omega) a b
  have h1 : ∀ a b : EReal, Scalar.select (IntOp.cmpi .eq (BitVec.ofNat 32 r.val) 1#32) a b = if r.val = 1 then a else b :=
    fun a b => sel_eq r 1 (by omega) a b
  have hu : ∀ (r : Fin 1024), k0_pay474 (lw T.cc) (lw T.cx) (ix2 r j) = T.uv r j := fun r => T.u_apply r j
  rw [h0, h1, h0, hu, hu, hu, lw_apply]
  unfold Tile.back2 Tile.back1
  have e1 : r.val ≠ 0 → (⟨(r.val + 1024 - 1) % 1024, Nat.mod_lt _ (by omega)⟩ : Fin 1024) = ⟨r.val - 1, by omega⟩ := fun h =>
    Fin.ext (by show (r.val + 1024 - 1) % 1024 = r.val - 1; omega)
  have e2 : r.val ≠ 0 → r.val ≠ 1 → (⟨(r.val + 1024 - 2) % 1024, Nat.mod_lt _ (by omega)⟩ : Fin 1024) = ⟨r.val - 2, by omega⟩ := fun h h' =>
    Fin.ext (by show (r.val + 1024 - 2) % 1024 = r.val - 2; omega)
  by_cases hr : r.val = 0
  · simp only [hr, if_true]
  · by_cases hr1 : r.val = 1
    · simp only [if_neg hr, if_pos hr1, e1 hr]
    · simp only [if_neg hr, if_neg hr1, e1 hr, e2 hr hr1]

end Cert.Mix
-- ==== Proof.Spec.lean ====
/- The layer over the extended reals, as sums over its arguments: what both the launch and the
   reference are shown to compute. -/
module

public import proofs.«01_k».proof.Proof.Math

@[expose] public section

noncomputable section

namespace Cert.Mix

open Idealize.ShloMosaic

/-- The scale of the queries. -/
def scale : ℝ := (Ideal.ofBits .f32 0x3DB504F3#32).toReal

theorem scale_eq : Ideal.ofBits .f32 0x3DB504F3#32 = ((scale : ℝ) : EReal) := by
  rw [scale, EReal.coe_toReal]
  · simp [Ideal.ofBits, Ideal.ieee]
    exact EReal.coe_ne_top _
  · simp [Ideal.ofBits, Ideal.ieee]
    exact EReal.coe_ne_bot _

/-- The arguments, read at coordinates: residual stream, projection, convolution taps, output
    projection, norm weights. -/
structure Args where
  x : Fin 8 → Fin 4096 → Fin 1024 → EReal
  J : Fin 8 → Fin 4096 → Fin 3592 → EReal
  cw : Fin 3 → Fin 512 → EReal
  w : Fin 1024 → Fin 1024 → EReal
  g : Fin 1024 → EReal

namespace Args

variable (A : Args)

/-- The projection is finite. -/
def Finite : Prop := ∀ b s k, A.J b s k = (((A.J b s k).toReal : ℝ) : EReal)

/-- A lane of the projection by position, zero past the end. -/
def lane (b : Fin 8) (s : ℕ) (k : Fin 3592) : ℝ := if hs : s < 4096 then (A.J b ⟨s, hs⟩ k).toReal else 0

/-- The heads of a sequence. -/
def head (b : Fin 8) (h : Fin 4) : Head where
  lf s := if s < 4096 then lsig (A.lane b s ⟨2052 + h.val, by omega⟩) else 0
  li s := A.lane b s ⟨2048 + h.val, by omega⟩
  q s d := A.lane b s ⟨128 * h.val + d.val, by omega⟩ * scale
  k s d := A.lane b s ⟨512 + (128 * h.val + d.val), by omega⟩
  v s d := A.lane b s ⟨1024 + (128 * h.val + d.val), by omega⟩

/-- The convolution's input. -/
def u (b : Fin 8) (s : Fin 4096) (j : Fin 512) : EReal :=
  A.J b s ⟨2568 + j.val, by omega⟩ * A.J b s ⟨3080 + j.val, by omega⟩

/-- The convolution's input some tokens back, zero before the sequence starts. -/
def back (n : ℕ) (b : Fin 8) (s : ℕ) (j : Fin 512) : EReal :=
  if h : n ≤ s ∧ s < 4096 then A.u b ⟨s - n, by omega⟩ j else 0

/-- The gated short convolution. -/
def conv (b : Fin 8) (s : Fin 4096) (j : Fin 512) : EReal :=
  A.J b s ⟨2056 + j.val, by omega⟩ * (A.cw 0 j * A.back 2 b s.val j + A.cw 1 j * A.back 1 b s.val j + A.cw 2 j * A.u b s j)

/-- The gated read of the matrix memory. -/
def mem (b : Fin 8) (s : Fin 4096) (h : Fin 4) (e : Fin 128) : EReal :=
  Ideal.logistic (A.J b s ⟨1536 + (128 * h.val + e.val), by omega⟩) * (((A.head b h).out s.val e.val : ℝ) : EReal)

/-- The two halves of the mixed row. -/
def mixed (b : Fin 8) (s : Fin 4096) (k : Fin 1024) : EReal :=
  if h : k.val < 512 then A.mem b s ⟨k.val / 128, by omega⟩ ⟨k.val % 128, by omega⟩ else A.conv b s ⟨k.val - 512, by omega⟩

/-- The residual stream after the layer. -/
def x2 (b : Fin 8) (s : Fin 4096) (c : Fin 1024) : EReal := A.x b s c + ∑ k : Fin 1024, A.mixed b s k * A.w k c

/-- The normalised residual stream. -/
def hn (b : Fin 8) (s : Fin 4096) (c : Fin 1024) : EReal :=
  A.x2 b s c * Ideal.rsqrt ((∑ k : Fin 1024, A.x2 b s k * A.x2 b s k) * Ideal.ofBits .f32 0x3A800000#32 + Ideal.ofBits .f32 0x358637BD#32) * A.g c

end Args

end Cert.Mix
-- ==== Proof.Good.lean ====
/- A tile whose inputs are the layer's at its position stores the layer's rows. -/
module

public import proofs.«01_k».proof.Proof.TileI
public import proofs.«01_k».proof.Proof.MixI
public import proofs.«01_k».proof.Proof.Spec

@[expose] public section

set_option maxRecDepth 16384

noncomputable section

namespace Cert.Mix

open Idealize.ShloMosaic Idealize.SL.Sem Cert.KernelIdeal Cert.KernelIdeal.Gen

/-- Row `r` of tile `s` of a sequence. -/
def at' (s : Fin 4) (r : Fin 1024) : Fin 4096 := ⟨1024 * s.val + r.val, by omega⟩

/-- What the points before tile `s` of sequence `b` leave: stabilisers, memory, convolution rows. -/
structure IsSt (A : Args) (b : Fin 8) (T : ℕ) (mr : Fin 4 → ℝ) (M : Vec Ideal S8x128 .f32) (C : Vec Ideal S2x144x256 .f32)
    (u1 u2 : Vec Ideal S1x512 .f32) : Prop where
  hm : ∀ h : Fin 4, M (ix2 (⟨h.val, by omega⟩ : Fin 8) (0 : Fin 128)) = ((mr h : ℝ) : EReal)
  hc : ∀ (p l : Fin 2) (e : Fin 144) (d : Fin 128), C (ix3 p e (col l d))
    = ((Real.exp (-mr (Cert.Mix.hd p l)) * (A.head b (Cert.Mix.hd p l)).St T e d : ℝ) : EReal)
  h1 : ∀ j : Fin 512, u1 (ix2 (0 : Fin 1) j) = A.back 1 b T j
  h2 : ∀ j : Fin 512, u2 (ix2 (0 : Fin 1) j) = A.back 2 b T j

/-- A tile's inputs are the layer's. -/
structure Good (A : Args) (b : Fin 8) (s : Fin 4) (mr : Fin 4 → ℝ) (X : Tile Ideal) : Prop where
  st : IsSt A b (1024 * s.val) mr X.b.m0 X.b.c0 X.u1 X.u2
  fin : A.Finite
  g : ∀ (r : Fin 1024) (j : Fin 8), X.b.g (ix3 (0 : Fin 1) j r) = A.J b (at' s r) ⟨2048 + j.val, by omega⟩
  k : ∀ (r : Fin 1024) (j : Fin 512), X.b.k (ix3 (0 : Fin 1) r j) = A.J b (at' s r) ⟨512 + j.val, by omega⟩
  o : ∀ (r : Fin 1024) (j : Fin 512), X.b.o (ix3 (0 : Fin 1) r j) = A.J b (at' s r) ⟨1536 + j.val, by omega⟩
  q : ∀ (r : Fin 1024) (j : Fin 512), X.b.q (ix3 (0 : Fin 1) j r) = A.J b (at' s r) ⟨j.val, by omega⟩ * Ideal.ofBits .f32 0x3DB504F3#32
  v : ∀ (r : Fin 1024) (j : Fin 512), X.b.v (ix3 (0 : Fin 1) j r) = A.J b (at' s r) ⟨1024 + j.val, by omega⟩
  cb : ∀ (r : Fin 1024) (j : Fin 512), X.cb (ix3 (0 : Fin 1) r j) = A.J b (at' s r) ⟨2056 + j.val, by omega⟩
  cc : ∀ (r : Fin 1024) (j : Fin 512), X.cc (ix3 (0 : Fin 1) r j) = A.J b (at' s r) ⟨2568 + j.val, by omega⟩
  cx : ∀ (r : Fin 1024) (j : Fin 512), X.cx (ix3 (0 : Fin 1) r j) = A.J b (at' s r) ⟨3080 + j.val, by omega⟩
  x : ∀ r j : Fin 1024, X.x (ix3 (0 : Fin 1) r j) = A.x b (at' s r) j
  cw : ∀ (r : Fin 3) (j : Fin 512), X.cw (ix2 r j) = A.cw r j
  w : ∀ r j : Fin 1024, X.w (ix2 r j) = A.w r j
  n : ∀ j : Fin 1024, X.g (ix2 (0 : Fin 1) j) = A.g j

theorem lane_at (A : Args) (b : Fin 8) (s : Fin 4) (r : Fin 1024) (k : Fin 3592) :
    A.lane b (1024 * s.val + r.val) k = (A.J b (at' s r) k).toReal := by
  rw [Args.lane, dif_pos (show 1024 * s.val + r.val < 4096 by omega)]
  rfl

variable {A : Args} {b : Fin 8} {s : Fin 4} {mr : Fin 4 → ℝ} {X : Tile Ideal}

theorem Good.isBlk (h : Good A b s mr X) : IsBlk X.b (A.head b) (1024 * s.val) mr where
  hm := h.st.hm
  hc := h.st.hc
  hl a t := by
    refine (h.g t ⟨a.val, by omega⟩).trans ((h.fin _ _ _).trans ?_)
    simp only [Args.head, lane_at]
  hf a t := by
    refine ⟨_, (h.g t ⟨4 + a.val, by omega⟩).trans (h.fin _ _ _), ?_⟩
    simp only [Args.head, lane_at]
    rw [if_pos (by omega)]
    congr! 4
    omega
  hk a t d := by
    refine (h.k t _).trans ((h.fin _ _ _).trans ?_)
    simp only [Args.head, lane_at]
  hq a t d := by
    refine (h.q t _).trans ?_
    rw [h.fin, scale_eq, ← EReal.coe_mul]
    simp only [Args.head, lane_at]
  hv a t d := by
    refine (h.v t _).trans ((h.fin _ _ _).trans ?_)
    simp only [Args.head, lane_at]

theorem Good.uv (h : Good A b s mr X) (r : Fin 1024) (j : Fin 512) : X.uv r j = A.u b (at' s r) j := by
  rw [Tile.uv, h.cc, h.cx]
  rfl

theorem Good.back1 (h : Good A b s mr X) (r : Fin 1024) (j : Fin 512) : X.back1 r j = A.back 1 b (at' s r).val j := by
  rw [Tile.back1]
  split
  · next hr => rw [h.st.h1]; congr 1; show _ = 1024 * s.val + r.val; omega
  · next hr =>
    rw [h.uv, Args.back, dif_pos (by show 1 ≤ 1024 * s.val + r.val ∧ 1024 * s.val + r.val < 4096; omega)]
    congr 1; apply Fin.ext; show 1024 * s.val + (r.val - 1) = 1024 * s.val + r.val - 1; omega

theorem Good.back2 (h : Good A b s mr X) (r : Fin 1024) (j : Fin 512) : X.back2 r j = A.back 2 b (at' s r).val j := by
  rw [Tile.back2]
  split
  · next hr => rw [h.st.h2]; congr 1; show _ = 1024 * s.val + r.val; omega
  · split
    · next hr hr' =>
      rw [h.st.h1]
      simp only [Args.back, at', hr']
      by_cases hs : s.val = 0
      · rw [dif_neg (by omega), dif_neg (by omega)]
      · rw [dif_pos (by omega), dif_pos (by omega)]
        congr 1
    · next hr hr' =>
      rw [h.uv, Args.back, dif_pos (by show 2 ≤ 1024 * s.val + r.val ∧ 1024 * s.val + r.val < 4096; omega)]
      congr 1; apply Fin.ext; show 1024 * s.val + (r.val - 2) = 1024 * s.val + r.val - 2; omega

theorem Good.conv (h : Good A b s mr X) (r : Fin 1024) (j : Fin 512) : X.conv (ix2 r j) = A.conv b (at' s r) j := by
  rw [Tile.conv_apply, h.cb, h.cw, h.cw, h.cw, h.back1, h.back2, h.uv]
  rfl

theorem Good.mem (h : Good A b s mr X) (n : Fin 8) (p l : Fin 2) (i e : Fin 128) :
    Cert.Mix.gP X.b n p l (ix2 i e) = A.mem b (at' s ⟨128 * n.val + i.val, by omega⟩) (Cert.Mix.hd p l) e := by
  rw [h.isBlk.gP, h.o]
  rfl

theorem at_eq {V : FVec Ideal S1024x1024 .bf16} {r r' k k' : Fin 1024} {x : EReal} (h : V (ix2 r' k') = x)
    (hr : r'.val = r.val) (hk : k'.val = k.val) : V (ix2 r k) = x := by
  obtain rfl := Fin.ext hr
  obtain rfl := Fin.ext hk
  exact h

theorem Good.mix (h : Good A b s mr X) (r k : Fin 1024) : X.mix (ix2 r k) = A.mixed b (at' s r) k := by
  rw [Args.mixed]
  split
  · next hk =>
    have e := (Tile.mix_head X ⟨r.val / 128, by omega⟩ ⟨k.val / 256, by omega⟩ ⟨k.val / 128 % 2, by omega⟩
      ⟨r.val % 128, by omega⟩ ⟨k.val % 128, by omega⟩).trans (h.mem _ _ _ _ _)
    refine (at_eq (r := r) (k := k) e ?_ ?_).trans ?_
    · show 128 * (r.val / 128) + r.val % 128 = r.val; omega
    · show 128 * (2 * (k.val / 256) + k.val / 128 % 2) + k.val % 128 = k.val; omega
    · have e1 : (⟨128 * (r.val / 128) + r.val % 128, by omega⟩ : Fin 1024) = r := Fin.ext (by dsimp only; omega)
      have e2 : Cert.Mix.hd ⟨k.val / 256, by omega⟩ ⟨k.val / 128 % 2, by omega⟩ = ⟨k.val / 128, by omega⟩ :=
        Fin.ext (by show 2 * (k.val / 256) + k.val / 128 % 2 = k.val / 128; omega)
      rw [e2]
      exact congrArg (fun r => A.mem b (at' s r) _ _) e1
  · next hk =>
    have e := (Tile.mix_conv X r ⟨k.val - 512, by omega⟩).trans (h.conv _ _)
    refine at_eq (r := r) (k := k) e rfl ?_
    show 512 + (k.val - 512) = k.val
    omega

theorem Good.x2 (h : Good A b s mr X) (r c : Fin 1024) : X.x2 (ix3 (0 : Fin 1) r c) = A.x2 b (at' s r) c := by
  rw [Tile.x2_apply, h.x]
  simp only [h.mix, h.w]
  rfl

theorem Good.hn (h : Good A b s mr X) (r c : Fin 1024) : X.hn (ix3 (0 : Fin 1) r c) = A.hn b (at' s r) c := by
  rw [Tile.hn_eq, h.n]
  simp only [h.x2]
  rfl

/-- The stabilisers and the memory the tile leaves. -/
theorem Good.next (h : Good A b s mr X) : ∃ mr' : Fin 4 → ℝ,
    (∀ a : Fin 4, k0_pay473 (mS X.b 8) (ix2 a (0 : Fin 128)) = ((mr' a : ℝ) : EReal)) ∧
    ∀ (p l : Fin 2) (e : Fin 144) (d : Fin 128), cS X.b p 8 (ix3 (0 : Fin 1) e (col l d))
      = ((Real.exp (-mr' (Cert.Mix.hd p l)) * (A.head b (Cert.Mix.hd p l)).St (1024 * s.val + 1024) e d : ℝ) : EReal) := by
  obtain ⟨m', hm, hc⟩ := h.isBlk.state 8 (le_refl _)
  refine ⟨m', fun a => ?_, fun p l e d => ?_⟩
  · refine Eq.trans ?_ (hm a)
    pointwise [k0_pay473]
  · exact hc p l e d

theorem Good.u1 (h : Good A b s mr X) (j : Fin 512) :
    k0_pay478 X.u (ix2 (0 : Fin 1) j) = A.u b (at' s 1023) j := by
  refine Eq.trans ?_ ((Tile.u_apply X 1023 j).trans (h.uv _ _))
  pointwise [k0_pay478]

theorem Good.u2 (h : Good A b s mr X) (j : Fin 512) :
    k0_pay479 X.u (ix2 (0 : Fin 1) j) = A.u b (at' s 1022) j := by
  refine Eq.trans ?_ ((Tile.u_apply X 1022 j).trans (h.uv _ _))
  pointwise [k0_pay479]

end Cert.Mix
-- ==== Proof.Entry.lean ====
/- What the launch's input blocks hold: the arguments' elements, read through the host's slices,
   concatenations and transposes. -/
module

public import proofs.«01_k».proof.Proof.Gen.KernelIdeal.Frame
public import Idealize.ShloMosaic.Lib.Claim
public import Idealize.ShloMosaic.Lib.Pipeline.ValueKit
public import Idealize.ShloMosaic.Lib.Pointwise

@[expose] public section

set_option maxRecDepth 16384

noncomputable section

namespace Cert.Mix

open Idealize.ShloMosaic Idealize.ShloMosaic.TcCoe Idealize.SL.Sem Cert.KernelIdeal Cert.KernelIdeal.Gen

theorem idx : ∀ t : Fin cfg0.N,
    win0_0.index t = ![t.val / 4, t.val % 4, 0] ∧ win0_1.index t = ![t.val / 4, t.val % 4, 1]
    ∧ win0_2.index t = ![t.val / 4, t.val % 4, 2] ∧ win0_3.index t = ![t.val / 4, t.val % 4, 3]
    ∧ win0_4.index t = ![t.val / 4, t.val % 4, 4] ∧ win0_5.index t = ![t.val / 4, 0, t.val % 4]
    ∧ win0_6.index t = ![t.val / 4, 1, t.val % 4] ∧ win0_7.index t = ![t.val / 4, 0, t.val % 4]
    ∧ win0_8.index t = ![t.val / 4, t.val % 4, 0] ∧ win0_9.index t = ![0, 0] ∧ win0_10.index t = ![0, 0]
    ∧ win0_11.index t = ![0, 0] ∧ win0_14.index t = ![t.val / 4, t.val % 4, 0] ∧ win0_15.index t = ![t.val / 4, t.val % 4, 0] :=
  (by decide +kernel : ∀ t : Fin grid0.N, _)

variable (m : (ℓ : Loc nD τ sig) → Buf (Elt Ideal) ℓ) (c : Dev nD)

/-- The projection's element. -/
def PJ (b : Fin 8) (s : Fin 4096) (k : Fin 3592) : EReal := m ((c : Thread nD τ).loc main_arg1) (ix3 b s k)
/-- The batch of a grid point. -/
def bat (t : Fin cfg0.N) : Fin 8 := ⟨t.val / 4, by have : t.val < 32 := t.isLt; omega⟩
/-- The token of a grid point's row. -/
def tok (t : Fin cfg0.N) (r : Fin 1024) : Fin 4096 := ⟨1024 * (t.val % 4) + r.val, by omega⟩

theorem cat_0 (A B : S8x4096x512.Idx → EReal) (C : S8x4096x1536.Idx → EReal) (hc) (b : Fin 8) (s : Fin 4096) (j : Fin 512) :
    concatenate S8x4096x2560 2 [⟨S8x4096x512, A⟩, ⟨S8x4096x512, B⟩, ⟨S8x4096x1536, C⟩] hc (ix3 b s (⟨j.val, by omega⟩ : Fin 2560)) = A (ix3 b s j) := by
  refine concatenate_apply_piece (t := S8x4096x2560) (2 : Fin 3) [⟨S8x4096x512, A⟩, ⟨S8x4096x512, B⟩, ⟨S8x4096x1536, C⟩] hc (ix3 b s (⟨j.val, by omega⟩ : Fin 2560)) 0
    (Nat.lt_of_sub_eq_succ rfl) S8x4096x512 A rfl rfl 0 rfl (ix3 b s j) (fun a ha => ?_) ?_
  · fin_cases a
    · rfl
    · rfl
    · exact absurd rfl ha
  · show 0 + j.val = j.val
    omega
theorem cat_1 (A B : S8x4096x512.Idx → EReal) (C : S8x4096x1536.Idx → EReal) (hc) (b : Fin 8) (s : Fin 4096) (j : Fin 512) :
    concatenate S8x4096x2560 2 [⟨S8x4096x512, A⟩, ⟨S8x4096x512, B⟩, ⟨S8x4096x1536, C⟩] hc (ix3 b s (⟨512 + j.val, by omega⟩ : Fin 2560)) = B (ix3 b s j) := by
  refine concatenate_apply_piece (t := S8x4096x2560) (2 : Fin 3) [⟨S8x4096x512, A⟩, ⟨S8x4096x512, B⟩, ⟨S8x4096x1536, C⟩] hc (ix3 b s (⟨512 + j.val, by omega⟩ : Fin 2560)) 1
    (Nat.lt_of_sub_eq_succ rfl) S8x4096x512 B rfl rfl 512 rfl (ix3 b s j) (fun a ha => ?_) ?_
  · fin_cases a
    · rfl
    · rfl
    · exact absurd rfl ha
  · show 512 + j.val = 512 + j.val
    omega
theorem cat_2 (A B : S8x4096x512.Idx → EReal) (C : S8x4096x1536.Idx → EReal) (hc) (b : Fin 8) (s : Fin 4096) (j : Fin 1536) :
    concatenate S8x4096x2560 2 [⟨S8x4096x512, A⟩, ⟨S8x4096x512, B⟩, ⟨S8x4096x1536, C⟩] hc (ix3 b s (⟨1024 + j.val, by omega⟩ : Fin 2560)) = C (ix3 b s j) := by
  refine concatenate_apply_piece (t := S8x4096x2560) (2 : Fin 3) [⟨S8x4096x512, A⟩, ⟨S8x4096x512, B⟩, ⟨S8x4096x1536, C⟩] hc (ix3 b s (⟨1024 + j.val, by omega⟩ : Fin 2560)) 2
    (Nat.lt_of_sub_eq_succ rfl) S8x4096x1536 C rfl rfl 1024 rfl (ix3 b s j) (fun a ha => ?_) ?_
  · fin_cases a
    · rfl
    · rfl
    · exact absurd rfl ha
  · show 1024 + j.val = 1024 + j.val
    omega
theorem V_v4 : V m c main_v4 = concatenate S8x4096x2560 2 [
    ⟨S8x4096x512, extractStridedSlice S8x4096x512 ![0, 0, 512] (m ((c : Thread nD τ).loc main_arg1) : FVec Ideal S8x4096x3592 .f32) slices_S8x4096x3592_S8x4096x512_0_0_512⟩,
    ⟨S8x4096x512, extractStridedSlice S8x4096x512 ![0, 0, 1536] (m ((c : Thread nD τ).loc main_arg1) : FVec Ideal S8x4096x3592 .f32) slices_S8x4096x3592_S8x4096x512_0_0_1536⟩,
    ⟨S8x4096x1536, extractStridedSlice S8x4096x1536 ![0, 0, 2056] (m ((c : Thread nD τ).loc main_arg1) : FVec Ideal S8x4096x3592 .f32) slices_S8x4096x3592_S8x4096x1536_0_0_2056⟩]
    concatenates_S8x4096x512_S8x4096x512_S8x4096x1536_S8x4096x2560_d2 := rfl

theorem v4_k (b : Fin 8) (s : Fin 4096) (j : Fin 512) :
    V m c main_v4 (ix3 b s (⟨j.val, by omega⟩ : Fin 2560)) = PJ m c b s ⟨512 + j.val, by omega⟩ := by
  rw [V_v4, cat_0]
  unfold PJ
  pointwise []
theorem v4_o (b : Fin 8) (s : Fin 4096) (j : Fin 512) :
    V m c main_v4 (ix3 b s (⟨512 + j.val, by omega⟩ : Fin 2560)) = PJ m c b s ⟨1536 + j.val, by omega⟩ := by
  rw [V_v4, cat_1]
  unfold PJ
  pointwise []
theorem v4_c (b : Fin 8) (s : Fin 4096) (j : Fin 1536) :
    V m c main_v4 (ix3 b s (⟨1024 + j.val, by omega⟩ : Fin 2560)) = PJ m c b s ⟨2056 + j.val, by omega⟩ := by
  rw [V_v4, cat_2]
  unfold PJ
  pointwise []
theorem v11_q (b : Fin 8) (s : Fin 4096) (j : Fin 512) :
    V m c main_v11 (ix3 b (⟨j.val, by omega⟩ : Fin 1024) s) = PJ m c b s ⟨j.val, by omega⟩ * Ideal.ofBits .f32 0x3DB504F3#32 := by
  unfold PJ
  entry_read
  pointwise []
theorem v11_v (b : Fin 8) (s : Fin 4096) (j : Fin 512) :
    V m c main_v11 (ix3 b (⟨512 + j.val, by omega⟩ : Fin 1024) s) = PJ m c b s ⟨1024 + j.val, by omega⟩ := by
  unfold PJ
  entry_read
  pointwise []
theorem v13_g (b : Fin 8) (s : Fin 4096) (j : Fin 8) :
    V m c main_v13 (ix3 b j s) = PJ m c b s ⟨2048 + j.val, by omega⟩ := by
  unfold PJ
  entry_read
  pointwise []
theorem v21_w (k j : Fin 1024) : V m c main_v21 (ix2 k j) = m ((c : Thread nD τ).loc main_arg3) (ix2 k j) := by
  entry_read
  pointwise []
theorem v22_g (j : Fin 1024) : V m c main_v22 (ix2 (0 : Fin 1) j) = m ((c : Thread nD τ).loc main_arg4) (ix1 j) := by
  entry_read
  pointwise []

variable (t : Fin cfg0.N)

theorem blk_k (r : Fin 1024) (j : Fin 512) : iblk m c 0 t (ix3 (0 : Fin 1) r j) = PJ m c (bat t) (tok t r) ⟨512 + j.val, by omega⟩ := by
  refine Eq.trans ?_ (v4_k m c (bat t) (tok t r) j)
  unfold bat tok
  blk_ext [iblk, idx t]
theorem blk_o (r : Fin 1024) (j : Fin 512) : iblk m c 1 t (ix3 (0 : Fin 1) r j) = PJ m c (bat t) (tok t r) ⟨1536 + j.val, by omega⟩ := by
  refine Eq.trans ?_ (v4_o m c (bat t) (tok t r) j)
  unfold bat tok
  blk_ext [iblk, idx t]
theorem blk_cb (r : Fin 1024) (j : Fin 512) : iblk m c 2 t (ix3 (0 : Fin 1) r j) = PJ m c (bat t) (tok t r) ⟨2056 + j.val, by omega⟩ := by
  refine Eq.trans ?_ (v4_c m c (bat t) (tok t r) ⟨j.val, by omega⟩)
  unfold bat tok
  blk_ext [iblk, idx t]
theorem blk_cc (r : Fin 1024) (j : Fin 512) : iblk m c 3 t (ix3 (0 : Fin 1) r j) = PJ m c (bat t) (tok t r) ⟨2568 + j.val, by omega⟩ := by
  refine Eq.trans ?_ ((v4_c m c (bat t) (tok t r) ⟨512 + j.val, by omega⟩).trans (congrArg (PJ m c (bat t) (tok t r)) (Fin.ext (by show 2056 + (512 + j.val) = 2568 + j.val; omega))))
  unfold bat tok
  blk_ext [iblk, idx t]
theorem blk_cx (r : Fin 1024) (j : Fin 512) : iblk m c 4 t (ix3 (0 : Fin 1) r j) = PJ m c (bat t) (tok t r) ⟨3080 + j.val, by omega⟩ := by
  refine Eq.trans ?_ ((v4_c m c (bat t) (tok t r) ⟨1024 + j.val, by omega⟩).trans (congrArg (PJ m c (bat t) (tok t r)) (Fin.ext (by show 2056 + (1024 + j.val) = 3080 + j.val; omega))))
  unfold bat tok
  blk_ext [iblk, idx t]
theorem blk_q (r : Fin 1024) (j : Fin 512) : iblk m c 5 t (ix3 (0 : Fin 1) j r)
    = PJ m c (bat t) (tok t r) ⟨j.val, by omega⟩ * Ideal.ofBits .f32 0x3DB504F3#32 := by
  refine Eq.trans ?_ (v11_q m c (bat t) (tok t r) j)
  unfold bat tok
  blk_ext [iblk, idx t]
theorem blk_v (r : Fin 1024) (j : Fin 512) : iblk m c 6 t (ix3 (0 : Fin 1) j r) = PJ m c (bat t) (tok t r) ⟨1024 + j.val, by omega⟩ := by
  refine Eq.trans ?_ (v11_v m c (bat t) (tok t r) j)
  unfold bat tok
  blk_ext [iblk, idx t]
theorem blk_g (r : Fin 1024) (j : Fin 8) : iblk m c 7 t (ix3 (0 : Fin 1) j r) = PJ m c (bat t) (tok t r) ⟨2048 + j.val, by omega⟩ := by
  refine Eq.trans ?_ (v13_g m c (bat t) (tok t r) j)
  unfold bat tok
  blk_ext [iblk, idx t]
theorem blk_x (r j : Fin 1024) : iblk m c 8 t (ix3 (0 : Fin 1) r j) = m ((c : Thread nD τ).loc main_arg0) (ix3 (bat t) (tok t r) j) := by
  unfold bat tok
  blk_ext [iblk, V, idx t]
theorem blk_cw (r : Fin 3) (j : Fin 512) : iblk m c 9 t (ix2 r j) = m ((c : Thread nD τ).loc main_arg2) (ix2 r j) := by
  blk_ext [iblk, V, idx t]
theorem blk_w (r j : Fin 1024) : iblk m c 10 t (ix2 r j) = m ((c : Thread nD τ).loc main_arg3) (ix2 r j) := by
  refine Eq.trans ?_ (v21_w m c r j)
  blk_ext [iblk, idx t]
theorem blk_n (j : Fin 1024) : iblk m c 11 t (ix2 (0 : Fin 1) j) = m ((c : Thread nD τ).loc main_arg4) (ix1 j) := by
  refine Eq.trans ?_ (v22_g m c j)
  blk_ext [iblk, idx t]

end Cert.Mix
-- ==== Proof.RunA.lean ====
module

public import proofs.«01_k».proof.Proof.Tile
public import proofs.«01_k».proof.Proof.Gen.KernelIdeal.Frame.RunA
public import Idealize.ShloMosaic.Lib.Pipeline.ReadBack

@[expose] public section

set_option maxRecDepth 16384

noncomputable section

namespace Cert.Mix.A

open Idealize.ShloMosaic Idealize.SL.Sem Cert.KernelIdeal Cert.KernelIdeal.Gen Cert.Mix

variable {F : FTy → Type} [FloatOps F]

variable (c : Dev nD)
  (arg2 : Memref sig .tc .vmem S1x1024x512 .bf16) (harg2 : arg2.IsWhole)
  (arg3 : Memref sig .tc .vmem S1x1024x512 .bf16) (harg3 : arg3.IsWhole)
  (arg4 : Memref sig .tc .vmem S1x1024x512 .bf16) (harg4 : arg4.IsWhole)
  (arg5 : Memref sig .tc .vmem S1x1024x512 .bf16) (harg5 : arg5.IsWhole)
  (arg6 : Memref sig .tc .vmem S1x1024x512 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x8x1024 .f32) (harg9 : arg9.IsWhole)
  (arg10 : Memref sig .tc .vmem S1x1024x1024 .f32) (harg10 : arg10.IsWhole)
  (arg11 : Memref sig .tc .vmem S3x512 .f32) (harg11 : arg11.IsWhole)
  (arg12 : Memref sig .tc .vmem S1024x1024 .bf16) (harg12 : arg12.IsWhole)
  (arg13 : Memref sig .tc .vmem S1x1024 .f32) (harg13 : arg13.IsWhole)
  (arg14 : Memref sig .tc .vmem S1024x128 .bf16) (harg14 : arg14.IsWhole)
  (arg15 : Memref sig .tc .vmem S1x128 .f32) (harg15 : arg15.IsWhole)
  (arg16 : Memref sig .tc .vmem S1x1024x1024 .f32) (harg16 : arg16.IsWhole)
  (arg17 : Memref sig .tc .vmem S1x1024x1024 .bf16) (harg17 : arg17.IsWhole)
  (arg21 : Memref sig .tc .vmem S2x144x256 .f32) (harg21 : arg21.IsWhole)
  (arg22 : Memref sig .tc .vmem S8x128 .f32) (harg22 : arg22.IsWhole)
  (arg23 : Memref sig .tc .vmem S8x512 .f32) (harg23 : arg23.IsWhole)
  (arg24 : Memref sig .tc .vmem S32x128 .i32) (harg24 : arg24.IsWhole)
  (arg25 : Memref sig .tc .vmem S1024x1024 .bf16) (harg25 : arg25.IsWhole)
  (x0 : Vec F S1x1024x512 .bf16) (x1 : Vec F S1x1024x512 .bf16) (x2 : Vec F S1x1024x512 .bf16) (x3 : Vec F S1x1024x512 .bf16) (x4 : Vec F S1x1024x512 .bf16) (x5 : Vec F S1x512x1024 .bf16) (x6 : Vec F S1x512x1024 .bf16) (x7 : Vec F S1x8x1024 .f32) (x8 : Vec F S1x1024x1024 .f32) (x9 : Vec F S3x512 .f32) (x10 : Vec F S1024x1024 .bf16) (x11 : Vec F S1x1024 .f32) (x12 : Vec F S1024x128 .bf16) (x13 : Vec F S1x128 .f32) (xs0 : Vec F S2x144x256 .f32) (xs1 : Vec F S8x128 .f32) (xs2 : Vec F S8x512 .f32) (xs3 : Vec F S32x128 .i32)

/-- The blocks of a tile that clears its scratch. -/
def blk : Blk F := ⟨View.ld x7 (Rect.unit ![0, 0, 0] S1x8x1024.size inb_S1x8x1024_S1x8x1024_0_0_0), x0, x1, x5, x6, k0_pay5, k0_pay6⟩

theorem m0 : (kernelRun0_A.sl.v66 c arg22) = mS (blk x0 x1 x5 x6 x7) 0 := by
  rw [kernelRun0_A.sl.v66, kernelRun0_A.sl.HS1_1, View.readCov_fill _ _ _ _ _ (by decide)]
  rfl

theorem c0_0 : (kernelRun0_A.sl.v153 c arg21) = cS (blk x0 x1 x5 x6 x7) 0 0 := by
  rw [kernelRun0_A.sl.v153, kernelRun0_A.sl.HS0_1, View.readCov_fill _ _ _ _ _ (by decide)]
  rfl

theorem c0_1 : (kernelRun0_A.sl.v305 c arg2 harg2 arg8 harg8 arg9 harg9 arg21 arg22 x0 x6 x7) = cS (blk x0 x1 x5 x6 x7) 1 0 := by
  rw [kernelRun0_A.sl.v305, kernelRun0_A.sl.HS0_2, View.readCov_skip _ _ _ _ _ (by decide), kernelRun0_A.sl.HS0_1, View.readCov_fill _ _ _ _ _ (by decide)]
  rfl

theorem m1 : (kernelRun0_A.sl.r_11 c arg9 harg9 arg22 x7) = mS (blk x0 x1 x5 x6 x7) 1 := by
  simp only [kernelRun0_A.sl.r_11, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, View.readAt_eq_ld, harg9.read_unread, m0 c arg22 x0 x1 x5 x6 x7]
  rfl

theorem m2 : (kernelRun0_A.sl.r_46 c arg9 harg9 arg22 x7) = mS (blk x0 x1 x5 x6 x7) 2 := by
  simp only [kernelRun0_A.sl.r_46, kernelRun0_A.sl.r, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, View.readAt_eq_ld, harg9.read_unread, m1 c arg9 harg9 arg22 x0 x1 x5 x6 x7]
  rfl

theorem m3 : (kernelRun0_A.sl.r_80 c arg9 harg9 arg22 x7) = mS (blk x0 x1 x5 x6 x7) 3 := by
  simp only [kernelRun0_A.sl.r_80, kernelRun0_A.sl.r, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, View.readAt_eq_ld, harg9.read_unread, m2 c arg9 harg9 arg22 x0 x1 x5 x6 x7]
  rfl

theorem m4 : (kernelRun0_A.sl.r_118 c arg9 harg9 arg22 x7) = mS (blk x0 x1 x5 x6 x7) 4 := by
  simp only [kernelRun0_A.sl.r_118, kernelRun0_A.sl.r_114, kernelRun0_A.sl.r, kernelRun0_A.sl.r_115, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r_116, View.readAt_eq_ld, harg9.read_unread, m3 c arg9 harg9 arg22 x0 x1 x5 x6 x7]
  rfl

theorem m5 : (kernelRun0_A.sl.r_157 c arg9 harg9 arg22 x7) = mS (blk x0 x1 x5 x6 x7) 5 := by
  simp only [kernelRun0_A.sl.r_157, kernelRun0_A.sl.r_154, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_156, View.readAt_eq_ld, harg9.read_unread, m4 c arg9 harg9 arg22 x0 x1 x5 x6 x7]
  rfl

theorem m6 : (kernelRun0_A.sl.r_194 c arg9 harg9 arg22 x7) = mS (blk x0 x1 x5 x6 x7) 6 := by
  simp only [kernelRun0_A.sl.r_194, kernelRun0_A.sl.r, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, View.readAt_eq_ld, harg9.read_unread, m5 c arg9 harg9 arg22 x0 x1 x5 x6 x7]
  rfl

theorem m7 : (kernelRun0_A.sl.r_231 c arg9 harg9 arg22 x7) = mS (blk x0 x1 x5 x6 x7) 7 := by
  simp only [kernelRun0_A.sl.r_231, kernelRun0_A.sl.r, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, View.readAt_eq_ld, harg9.read_unread, m6 c arg9 harg9 arg22 x0 x1 x5 x6 x7]
  rfl

theorem m8 : (kernelRun0_A.sl.r_266 c arg9 harg9 arg22 x7) = mS (blk x0 x1 x5 x6 x7) 8 := by
  simp only [kernelRun0_A.sl.r_266, kernelRun0_A.sl.r, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, View.readAt_eq_ld, harg9.read_unread, m7 c arg9 harg9 arg22 x0 x1 x5 x6 x7]
  rfl

theorem c1_0 : (kernelRun0_A.sl.v483 c arg2 harg2 arg8 harg8 arg9 harg9 arg21 arg22 x0 x6 x7) = cS (blk x0 x1 x5 x6 x7) 0 1 := by
  rw [kernelRun0_A.sl.v483, kernelRun0_A.sl.HS0_3, View.readCov_skip _ _ _ _ _ (by decide), kernelRun0_A.sl.HS0_2, View.readCov_cons_toLoadRect]
  simp only [kernelRun0_A.sl.r_13, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_24, kernelRun0_A.sl.r_26, kernelRun0_A.sl.r_18, kernelRun0_A.sl.r_16, kernelRun0_A.sl.r_14, kernelRun0_A.sl.r_27, kernelRun0_A.sl.r_12, kernelRun0_A.sl.r_28, View.readAt_eq_ld, harg2.read_unread, harg8.read_unread, harg9.read_unread, m0 c arg22 x0 x1 x5 x6 x7, c0_0 c arg21 x0 x1 x5 x6 x7]
  rfl

theorem c1_1 : (kernelRun0_A.sl.v635 c arg2 harg2 arg8 harg8 arg9 harg9 arg21 arg22 x0 x6 x7) = cS (blk x0 x1 x5 x6 x7) 1 1 := by
  rw [kernelRun0_A.sl.v635, kernelRun0_A.sl.HS0_4, View.readCov_skip _ _ _ _ _ (by decide), kernelRun0_A.sl.HS0_3, View.readCov_cons_toLoadRect]
  simp only [kernelRun0_A.sl.r_12, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_13, kernelRun0_A.sl.r_39, kernelRun0_A.sl.r_41, kernelRun0_A.sl.r_32, kernelRun0_A.sl.r_14, kernelRun0_A.sl.r_42, kernelRun0_A.sl.r_30, kernelRun0_A.sl.r_43, kernelRun0_A.sl.cst_66, View.readAt_eq_ld, harg2.read_unread, harg8.read_unread, harg9.read_unread, m0 c arg22 x0 x1 x5 x6 x7, c0_1 c arg2 harg2 arg8 harg8 arg9 harg9 arg21 arg22 x0 x1 x5 x6 x7]
  rfl

theorem c2_0 : (kernelRun0_A.sl.v813 c arg2 harg2 arg8 harg8 arg9 harg9 arg21 arg22 x0 x6 x7) = cS (blk x0 x1 x5 x6 x7) 0 2 := by
  rw [kernelRun0_A.sl.v813, kernelRun0_A.sl.HS0_5, View.readCov_skip _ _ _ _ _ (by decide), kernelRun0_A.sl.HS0_4, View.readCov_cons_toLoadRect]
  simp only [kernelRun0_A.sl.r_61, kernelRun0_A.sl.r_53, kernelRun0_A.sl.r_51, kernelRun0_A.sl.r_49, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_62, kernelRun0_A.sl.r_47, kernelRun0_A.sl.r_63, kernelRun0_A.sl.r_48, kernelRun0_A.sl.r_64, View.readAt_eq_ld, harg2.read_unread, harg8.read_unread, harg9.read_unread, c1_0 c arg2 harg2 arg8 harg8 arg9 harg9 arg21 arg22 x0 x1 x5 x6 x7, m1 c arg9 harg9 arg22 x0 x1 x5 x6 x7]
  rfl

theorem c2_1 : (kernelRun0_A.sl.v965 c arg2 harg2 arg8 harg8 arg9 harg9 arg21 arg22 x0 x6 x7) = cS (blk x0 x1 x5 x6 x7) 1 2 := by
  rw [kernelRun0_A.sl.v965, kernelRun0_A.sl.HS0_6, View.readCov_skip _ _ _ _ _ (by decide), kernelRun0_A.sl.HS0_5, View.readCov_cons_toLoadRect]
  simp only [kernelRun0_A.sl.r_48, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_73, kernelRun0_A.sl.r_75, kernelRun0_A.sl.r_67, kernelRun0_A.sl.r_65, kernelRun0_A.sl.r_49, kernelRun0_A.sl.r_76, kernelRun0_A.sl.r_47, kernelRun0_A.sl.r_77, View.readAt_eq_ld, harg2.read_unread, harg8.read_unread, harg9.read_unread, m1 c arg9 harg9 arg22 x0 x1 x5 x6 x7, c1_1 c arg2 harg2 arg8 harg8 arg9 harg9 arg21 arg22 x0 x1 x5 x6 x7]
  rfl

theorem c3_0 : (kernelRun0_A.sl.v1143 c arg2 harg2 arg8 harg8 arg9 harg9 arg21 arg22 x0 x6 x7) = cS (blk x0 x1 x5 x6 x7) 0 3 := by
  rw [kernelRun0_A.sl.v1143, kernelRun0_A.sl.HS0_7, View.readCov_skip _ _ _ _ _ (by decide), kernelRun0_A.sl.HS0_6, View.readCov_cons_toLoadRect]
  simp only [kernelRun0_A.sl.r_100, kernelRun0_A.sl.r_96, kernelRun0_A.sl.r_87, kernelRun0_A.sl.r_95, kernelRun0_A.sl.r_94, kernelRun0_A.sl.r_85, kernelRun0_A.sl.r_83, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_82, kernelRun0_A.sl.r_81, View.readAt_eq_ld, harg2.read_unread, harg8.read_unread, harg9.read_unread, c2_0 c arg2 harg2 arg8 harg8 arg9 harg9 arg21 arg22 x0 x1 x5 x6 x7, m2 c arg9 harg9 arg22 x0 x1 x5 x6 x7]
  rfl

theorem c3_1 : (kernelRun0_A.sl.v1295 c arg2 harg2 arg8 harg8 arg9 harg9 arg21 arg22 x0 x6 x7) = cS (blk x0 x1 x5 x6 x7) 1 3 := by
  rw [kernelRun0_A.sl.v1295, kernelRun0_A.sl.HS0_8, View.readCov_skip _ _ _ _ _ (by decide), kernelRun0_A.sl.HS0_7, View.readCov_cons_toLoadRect]
  simp only [kernelRun0_A.sl.r_110, kernelRun0_A.sl.r_103, kernelRun0_A.sl.r_101, kernelRun0_A.sl.r_83, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_111, kernelRun0_A.sl.r_81, kernelRun0_A.sl.r_112, kernelRun0_A.sl.r_82, kernelRun0_A.sl.r_113, View.readAt_eq_ld, harg2.read_unread, harg8.read_unread, harg9.read_unread, c2_1 c arg2 harg2 arg8 harg8 arg9 harg9 arg21 arg22 x0 x1 x5 x6 x7, m2 c arg9 harg9 arg22 x0 x1 x5 x6 x7]
  rfl

theorem c4_0 : (kernelRun0_A.sl.v1473 c arg2 harg2 arg8 harg8 arg9 harg9 arg21 arg22 x0 x6 x7) = cS (blk x0 x1 x5 x6 x7) 0 4 := by
  rw [kernelRun0_A.sl.v1473, kernelRun0_A.sl.HS0_9, View.readCov_skip _ _ _ _ _ (by decide), kernelRun0_A.sl.HS0_8, View.readCov_cons_toLoadRect]
  simp only [kernelRun0_A.sl.r_119, kernelRun0_A.sl.r_116, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r_115, kernelRun0_A.sl.r_114, kernelRun0_A.sl.r, kernelRun0_A.sl.r_120, kernelRun0_A.sl.r_121, kernelRun0_A.sl.r_123, kernelRun0_A.sl.r_129, kernelRun0_A.sl.r_130, kernelRun0_A.sl.r_125, kernelRun0_A.sl.r_131, View.readAt_eq_ld, harg2.read_unread, harg8.read_unread, harg9.read_unread, m3 c arg9 harg9 arg22 x0 x1 x5 x6 x7, c3_0 c arg2 harg2 arg8 harg8 arg9 harg9 arg21 arg22 x0 x1 x5 x6 x7]
  rfl

theorem c4_1 : (kernelRun0_A.sl.v1625 c arg2 harg2 arg8 harg8 arg9 harg9 arg21 arg22 x0 x6 x7) = cS (blk x0 x1 x5 x6 x7) 1 4 := by
  rw [kernelRun0_A.sl.v1625, kernelRun0_A.sl.HS0_10, View.readCov_skip _ _ _ _ _ (by decide), kernelRun0_A.sl.HS0_9, View.readCov_cons_toLoadRect]
  simp only [kernelRun0_A.sl.r_150, kernelRun0_A.sl.r_147, kernelRun0_A.sl.r_137, kernelRun0_A.sl.r_146, kernelRun0_A.sl.r_144, kernelRun0_A.sl.r_135, kernelRun0_A.sl.r_121, kernelRun0_A.sl.r_116, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r_115, kernelRun0_A.sl.r_114, kernelRun0_A.sl.r, kernelRun0_A.sl.r_120, kernelRun0_A.sl.r_119, View.readAt_eq_ld, harg2.read_unread, harg8.read_unread, harg9.read_unread, c3_1 c arg2 harg2 arg8 harg8 arg9 harg9 arg21 arg22 x0 x1 x5 x6 x7, m3 c arg9 harg9 arg22 x0 x1 x5 x6 x7]
  rfl

theorem c5_0 : (kernelRun0_A.sl.v1803 c arg2 harg2 arg8 harg8 arg9 harg9 arg21 arg22 x0 x6 x7) = cS (blk x0 x1 x5 x6 x7) 0 5 := by
  rw [kernelRun0_A.sl.v1803, kernelRun0_A.sl.HS0_11, View.readCov_skip _ _ _ _ _ (by decide), kernelRun0_A.sl.HS0_10, View.readCov_cons_toLoadRect]
  simp only [kernelRun0_A.sl.r_158, kernelRun0_A.sl.r_156, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r_154, kernelRun0_A.sl.r, kernelRun0_A.sl.r_152, kernelRun0_A.sl.r_159, kernelRun0_A.sl.r_162, kernelRun0_A.sl.r_170, kernelRun0_A.sl.r_171, kernelRun0_A.sl.r_164, kernelRun0_A.sl.r_173, kernelRun0_A.sl.r_160, kernelRun0_A.sl.r_153, kernelRun0_A.sl.r_174, View.readAt_eq_ld, harg2.read_unread, harg8.read_unread, harg9.read_unread, m4 c arg9 harg9 arg22 x0 x1 x5 x6 x7, c4_0 c arg2 harg2 arg8 harg8 arg9 harg9 arg21 arg22 x0 x1 x5 x6 x7]
  rfl

theorem c5_1 : (kernelRun0_A.sl.v1955 c arg2 harg2 arg8 harg8 arg9 harg9 arg21 arg22 x0 x6 x7) = cS (blk x0 x1 x5 x6 x7) 1 5 := by
  rw [kernelRun0_A.sl.v1955, kernelRun0_A.sl.HS0_12, View.readCov_skip _ _ _ _ _ (by decide), kernelRun0_A.sl.HS0_11, View.readCov_cons_toLoadRect]
  simp only [kernelRun0_A.sl.r_158, kernelRun0_A.sl.r_156, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r_154, kernelRun0_A.sl.r, kernelRun0_A.sl.r_152, kernelRun0_A.sl.r_159, kernelRun0_A.sl.r_160, kernelRun0_A.sl.r_153, kernelRun0_A.sl.r_177, kernelRun0_A.sl.r_184, kernelRun0_A.sl.r_185, kernelRun0_A.sl.r_179, kernelRun0_A.sl.r_186, View.readAt_eq_ld, harg2.read_unread, harg8.read_unread, harg9.read_unread, m4 c arg9 harg9 arg22 x0 x1 x5 x6 x7, c4_1 c arg2 harg2 arg8 harg8 arg9 harg9 arg21 arg22 x0 x1 x5 x6 x7]
  rfl

theorem c6_0 : (kernelRun0_A.sl.v2133 c arg2 harg2 arg8 harg8 arg9 harg9 arg21 arg22 x0 x6 x7) = cS (blk x0 x1 x5 x6 x7) 0 6 := by
  rw [kernelRun0_A.sl.v2133, kernelRun0_A.sl.HS0_13, View.readCov_skip _ _ _ _ _ (by decide), kernelRun0_A.sl.HS0_12, View.readCov_cons_toLoadRect]
  simp only [kernelRun0_A.sl.r_195, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_196, kernelRun0_A.sl.r_208, kernelRun0_A.sl.r_210, kernelRun0_A.sl.r_201, kernelRun0_A.sl.r_197, kernelRun0_A.sl.r_211, kernelRun0_A.sl.r_199, kernelRun0_A.sl.r_212, View.readAt_eq_ld, harg2.read_unread, harg8.read_unread, harg9.read_unread, m5 c arg9 harg9 arg22 x0 x1 x5 x6 x7, c5_0 c arg2 harg2 arg8 harg8 arg9 harg9 arg21 arg22 x0 x1 x5 x6 x7]
  rfl

theorem c6_1 : (kernelRun0_A.sl.v2285 c arg2 harg2 arg8 harg8 arg9 harg9 arg21 arg22 x0 x6 x7) = cS (blk x0 x1 x5 x6 x7) 1 6 := by
  rw [kernelRun0_A.sl.v2285, kernelRun0_A.sl.HS0_14, View.readCov_skip _ _ _ _ _ (by decide), kernelRun0_A.sl.HS0_13, View.readCov_cons_toLoadRect]
  simp only [kernelRun0_A.sl.r_195, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_196, kernelRun0_A.sl.r_214, kernelRun0_A.sl.r_222, kernelRun0_A.sl.r_223, kernelRun0_A.sl.r_216, kernelRun0_A.sl.r_225, kernelRun0_A.sl.r_197, kernelRun0_A.sl.r_226, View.readAt_eq_ld, harg2.read_unread, harg8.read_unread, harg9.read_unread, m5 c arg9 harg9 arg22 x0 x1 x5 x6 x7, c5_1 c arg2 harg2 arg8 harg8 arg9 harg9 arg21 arg22 x0 x1 x5 x6 x7]
  rfl

theorem c7_0 : (kernelRun0_A.sl.v2463 c arg2 harg2 arg8 harg8 arg9 harg9 arg21 arg22 x0 x6 x7) = cS (blk x0 x1 x5 x6 x7) 0 7 := by
  rw [kernelRun0_A.sl.v2463, kernelRun0_A.sl.HS0_15, View.readCov_skip _ _ _ _ _ (by decide), kernelRun0_A.sl.HS0_14, View.readCov_cons_toLoadRect]
  simp only [kernelRun0_A.sl.r_233, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_244, kernelRun0_A.sl.r_246, kernelRun0_A.sl.r_238, kernelRun0_A.sl.r_236, kernelRun0_A.sl.r_234, kernelRun0_A.sl.r_247, kernelRun0_A.sl.r_232, kernelRun0_A.sl.r_248, View.readAt_eq_ld, harg2.read_unread, harg8.read_unread, harg9.read_unread, m6 c arg9 harg9 arg22 x0 x1 x5 x6 x7, c6_0 c arg2 harg2 arg8 harg8 arg9 harg9 arg21 arg22 x0 x1 x5 x6 x7]
  rfl

theorem c7_1 : (kernelRun0_A.sl.v2615 c arg2 harg2 arg8 harg8 arg9 harg9 arg21 arg22 x0 x6 x7) = cS (blk x0 x1 x5 x6 x7) 1 7 := by
  rw [kernelRun0_A.sl.v2615, kernelRun0_A.sl.HS0_16, View.readCov_skip _ _ _ _ _ (by decide), kernelRun0_A.sl.HS0_15, View.readCov_cons_toLoadRect]
  simp only [kernelRun0_A.sl.r_232, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_233, kernelRun0_A.sl.r_259, kernelRun0_A.sl.r_261, kernelRun0_A.sl.r_252, kernelRun0_A.sl.r_234, kernelRun0_A.sl.r_262, kernelRun0_A.sl.r_250, kernelRun0_A.sl.r_263, kernelRun0_A.sl.cst_66, View.readAt_eq_ld, harg2.read_unread, harg8.read_unread, harg9.read_unread, m6 c arg9 harg9 arg22 x0 x1 x5 x6 x7, c6_1 c arg2 harg2 arg8 harg8 arg9 harg9 arg21 arg22 x0 x1 x5 x6 x7]
  rfl

theorem g7_3 : k0_pay472 (kernelRun0_A.sl.r_298 c arg2 harg2 arg3 harg3 arg7 harg7 arg8 harg8 arg9 harg9 arg21 arg22 x0 x1 x5 x6 x7) = gP (blk x0 x1 x5 x6 x7) 7 1 1 := by
  simp only [kernelRun0_A.sl.r_298, kernelRun0_A.sl.r_294, kernelRun0_A.sl.r_292, kernelRun0_A.sl.r_270, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_291, kernelRun0_A.sl.r_290, kernelRun0_A.sl.r_285, kernelRun0_A.sl.r_288, kernelRun0_A.sl.r_287, kernelRun0_A.sl.r_286, kernelRun0_A.sl.r_289, kernelRun0_A.sl.r_265, View.readAt_eq_ld, harg2.read_unread, harg3.read_unread, harg7.read_unread, harg8.read_unread, harg9.read_unread, c7_1 c arg2 harg2 arg8 harg8 arg9 harg9 arg21 arg22 x0 x1 x5 x6 x7, m7 c arg9 harg9 arg22 x0 x1 x5 x6 x7]
  rfl

theorem g7_2 : k0_pay470 (kernelRun0_A.sl.r_289 c arg9 harg9 arg22 x7) (kernelRun0_A.sl.r_294 c arg2 harg2 arg7 harg7 arg8 harg8 arg9 harg9 arg21 arg22 x0 x5 x6 x7) (View.readAt (Elt F) arg3.view (Rect.unit (s := S1x1024x512) ![0, 896, 256] S1x128x128.size inb_S1x1024x512_S1x128x128_0_896_256).toLoadRect (harg3.unread x1)) = gP (blk x0 x1 x5 x6 x7) 7 1 0 := by
  simp only [kernelRun0_A.sl.r_289, kernelRun0_A.sl.r_270, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_265, kernelRun0_A.sl.r_294, kernelRun0_A.sl.r_292, kernelRun0_A.sl.r_291, kernelRun0_A.sl.r_290, kernelRun0_A.sl.r_285, kernelRun0_A.sl.r_288, kernelRun0_A.sl.r_287, kernelRun0_A.sl.r_286, View.readAt_eq_ld, harg2.read_unread, harg3.read_unread, harg7.read_unread, harg8.read_unread, harg9.read_unread, m7 c arg9 harg9 arg22 x0 x1 x5 x6 x7, c7_1 c arg2 harg2 arg8 harg8 arg9 harg9 arg21 arg22 x0 x1 x5 x6 x7]
  rfl

theorem g7_1 : k0_pay449 (kernelRun0_A.sl.r_276 c arg9 harg9 arg22 x7) (kernelRun0_A.sl.r_280 c arg2 harg2 arg7 harg7 arg8 harg8 arg9 harg9 arg21 arg22 x0 x5 x6 x7) (View.readAt (Elt F) arg3.view (Rect.unit (s := S1x1024x512) ![0, 896, 128] S1x128x128.size inb_S1x1024x512_S1x128x128_0_896_128).toLoadRect (harg3.unread x1)) = gP (blk x0 x1 x5 x6 x7) 7 0 1 := by
  simp only [kernelRun0_A.sl.r_276, kernelRun0_A.sl.r_270, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_265, kernelRun0_A.sl.r_280, kernelRun0_A.sl.r_279, kernelRun0_A.sl.r_272, kernelRun0_A.sl.r_278, kernelRun0_A.sl.r_277, kernelRun0_A.sl.r_275, kernelRun0_A.sl.r_274, kernelRun0_A.sl.r_271, kernelRun0_A.sl.r_273, View.readAt_eq_ld, harg2.read_unread, harg3.read_unread, harg7.read_unread, harg8.read_unread, harg9.read_unread, m7 c arg9 harg9 arg22 x0 x1 x5 x6 x7, c7_0 c arg2 harg2 arg8 harg8 arg9 harg9 arg21 arg22 x0 x1 x5 x6 x7]
  rfl

theorem g7_0 : k0_pay448 (kernelRun0_A.sl.r_276 c arg9 harg9 arg22 x7) (kernelRun0_A.sl.r_280 c arg2 harg2 arg7 harg7 arg8 harg8 arg9 harg9 arg21 arg22 x0 x5 x6 x7) (View.readAt (Elt F) arg3.view (Rect.unit (s := S1x1024x512) ![0, 896, 0] S1x128x128.size inb_S1x1024x512_S1x128x128_0_896_0).toLoadRect (harg3.unread x1)) = gP (blk x0 x1 x5 x6 x7) 7 0 0 := by
  simp only [kernelRun0_A.sl.r_276, kernelRun0_A.sl.r_270, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_265, kernelRun0_A.sl.r_280, kernelRun0_A.sl.r_279, kernelRun0_A.sl.r_272, kernelRun0_A.sl.r_278, kernelRun0_A.sl.r_277, kernelRun0_A.sl.r_275, kernelRun0_A.sl.r_274, kernelRun0_A.sl.r_271, kernelRun0_A.sl.r_273, View.readAt_eq_ld, harg2.read_unread, harg3.read_unread, harg7.read_unread, harg8.read_unread, harg9.read_unread, m7 c arg9 harg9 arg22 x0 x1 x5 x6 x7, c7_0 c arg2 harg2 arg8 harg8 arg9 harg9 arg21 arg22 x0 x1 x5 x6 x7]
  rfl

theorem g6_3 : k0_pay414 (kernelRun0_A.sl.r_264 c arg2 harg2 arg7 harg7 arg8 harg8 arg9 harg9 arg21 arg22 x0 x5 x6 x7) (View.readAt (Elt F) arg3.view (Rect.unit (s := S1x1024x512) ![0, 768, 384] S1x128x128.size inb_S1x1024x512_S1x128x128_0_768_384).toLoadRect (harg3.unread x1)) = gP (blk x0 x1 x5 x6 x7) 6 1 1 := by
  simp only [kernelRun0_A.sl.r_264, kernelRun0_A.sl.r_260, kernelRun0_A.sl.r_256, kernelRun0_A.sl.r_235, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_255, kernelRun0_A.sl.r_254, kernelRun0_A.sl.r_253, kernelRun0_A.sl.r_252, kernelRun0_A.sl.r_251, kernelRun0_A.sl.r_258, kernelRun0_A.sl.r_257, kernelRun0_A.sl.r_230, View.readAt_eq_ld, harg2.read_unread, harg3.read_unread, harg7.read_unread, harg8.read_unread, harg9.read_unread, c6_1 c arg2 harg2 arg8 harg8 arg9 harg9 arg21 arg22 x0 x1 x5 x6 x7, m6 c arg9 harg9 arg22 x0 x1 x5 x6 x7]
  rfl

theorem g6_2 : k0_pay413 (kernelRun0_A.sl.r_258 c arg9 harg9 arg22 x7) (kernelRun0_A.sl.r_260 c arg2 harg2 arg7 harg7 arg8 harg8 arg9 harg9 arg21 arg22 x0 x5 x6 x7) (View.readAt (Elt F) arg3.view (Rect.unit (s := S1x1024x512) ![0, 768, 256] S1x128x128.size inb_S1x1024x512_S1x128x128_0_768_256).toLoadRect (harg3.unread x1)) = gP (blk x0 x1 x5 x6 x7) 6 1 0 := by
  simp only [kernelRun0_A.sl.r_258, kernelRun0_A.sl.r_257, kernelRun0_A.sl.r_230, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r_255, kernelRun0_A.sl.r_235, kernelRun0_A.sl.r, kernelRun0_A.sl.r_260, kernelRun0_A.sl.r_256, kernelRun0_A.sl.r_254, kernelRun0_A.sl.r_253, kernelRun0_A.sl.r_252, kernelRun0_A.sl.r_251, View.readAt_eq_ld, harg2.read_unread, harg3.read_unread, harg7.read_unread, harg8.read_unread, harg9.read_unread, m6 c arg9 harg9 arg22 x0 x1 x5 x6 x7, c6_1 c arg2 harg2 arg8 harg8 arg9 harg9 arg21 arg22 x0 x1 x5 x6 x7]
  rfl

theorem g6_1 : k0_pay393 (kernelRun0_A.sl.r_249 c arg2 harg2 arg3 harg3 arg7 harg7 arg8 harg8 arg9 harg9 arg21 arg22 x0 x1 x5 x6 x7) = gP (blk x0 x1 x5 x6 x7) 6 0 1 := by
  simp only [kernelRun0_A.sl.r_249, kernelRun0_A.sl.r_245, kernelRun0_A.sl.r_243, kernelRun0_A.sl.r_235, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_242, kernelRun0_A.sl.r_241, kernelRun0_A.sl.r_236, kernelRun0_A.sl.r_239, kernelRun0_A.sl.r_238, kernelRun0_A.sl.r_237, kernelRun0_A.sl.r_240, kernelRun0_A.sl.r_230, View.readAt_eq_ld, harg2.read_unread, harg3.read_unread, harg7.read_unread, harg8.read_unread, harg9.read_unread, c6_0 c arg2 harg2 arg8 harg8 arg9 harg9 arg21 arg22 x0 x1 x5 x6 x7, m6 c arg9 harg9 arg22 x0 x1 x5 x6 x7]
  rfl

theorem g6_0 : k0_pay391 (kernelRun0_A.sl.r_240 c arg9 harg9 arg22 x7) (kernelRun0_A.sl.r_245 c arg2 harg2 arg7 harg7 arg8 harg8 arg9 harg9 arg21 arg22 x0 x5 x6 x7) (View.readAt (Elt F) arg3.view (Rect.unit (s := S1x1024x512) ![0, 768, 0] S1x128x128.size inb_S1x1024x512_S1x128x128_0_768_0).toLoadRect (harg3.unread x1)) = gP (blk x0 x1 x5 x6 x7) 6 0 0 := by
  simp only [kernelRun0_A.sl.r_240, kernelRun0_A.sl.r_235, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_230, kernelRun0_A.sl.r_245, kernelRun0_A.sl.r_243, kernelRun0_A.sl.r_242, kernelRun0_A.sl.r_241, kernelRun0_A.sl.r_236, kernelRun0_A.sl.r_239, kernelRun0_A.sl.r_238, kernelRun0_A.sl.r_237, View.readAt_eq_ld, harg2.read_unread, harg3.read_unread, harg7.read_unread, harg8.read_unread, harg9.read_unread, m6 c arg9 harg9 arg22 x0 x1 x5 x6 x7, c6_0 c arg2 harg2 arg8 harg8 arg9 harg9 arg21 arg22 x0 x1 x5 x6 x7]
  rfl

theorem g5_3 : k0_pay360 (kernelRun0_A.sl.r_227 c arg2 harg2 arg7 harg7 arg8 harg8 arg9 harg9 arg21 arg22 x0 x5 x6 x7) (View.readAt (Elt F) arg3.view (Rect.unit (s := S1x1024x512) ![0, 640, 384] S1x128x128.size inb_S1x1024x512_S1x128x128_0_640_384).toLoadRect (harg3.unread x1)) = gP (blk x0 x1 x5 x6 x7) 5 1 1 := by
  simp only [kernelRun0_A.sl.r_227, kernelRun0_A.sl.r_224, kernelRun0_A.sl.r_220, kernelRun0_A.sl.r_198, kernelRun0_A.sl.cst_377, kernelRun0_A.sl.r_193, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_219, kernelRun0_A.sl.r_218, kernelRun0_A.sl.r_217, kernelRun0_A.sl.r_216, kernelRun0_A.sl.r_215, kernelRun0_A.sl.r_221, kernelRun0_A.sl.r_192, View.readAt_eq_ld, harg2.read_unread, harg3.read_unread, harg7.read_unread, harg8.read_unread, harg9.read_unread, c5_1 c arg2 harg2 arg8 harg8 arg9 harg9 arg21 arg22 x0 x1 x5 x6 x7, m5 c arg9 harg9 arg22 x0 x1 x5 x6 x7]
  rfl

theorem g5_2 : k0_pay359 (kernelRun0_A.sl.r_228 c arg3 harg3 x1) (kernelRun0_A.sl.r_229 c arg2 harg2 arg7 harg7 arg8 harg8 arg9 harg9 arg21 arg22 x0 x5 x6 x7) = gP (blk x0 x1 x5 x6 x7) 5 1 0 := by
  simp only [kernelRun0_A.sl.r_228, kernelRun0_A.sl.r_229, kernelRun0_A.sl.r_224, kernelRun0_A.sl.r_220, kernelRun0_A.sl.r_198, kernelRun0_A.sl.cst_377, kernelRun0_A.sl.r_193, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_219, kernelRun0_A.sl.r_218, kernelRun0_A.sl.r_217, kernelRun0_A.sl.r_216, kernelRun0_A.sl.r_215, kernelRun0_A.sl.r_221, kernelRun0_A.sl.r_192, View.readAt_eq_ld, harg2.read_unread, harg3.read_unread, harg7.read_unread, harg8.read_unread, harg9.read_unread, c5_1 c arg2 harg2 arg8 harg8 arg9 harg9 arg21 arg22 x0 x1 x5 x6 x7, m5 c arg9 harg9 arg22 x0 x1 x5 x6 x7]
  rfl

theorem g5_1 : k0_pay339 (kernelRun0_A.sl.r_213 c arg2 harg2 arg7 harg7 arg8 harg8 arg9 harg9 arg21 arg22 x0 x5 x6 x7) (View.readAt (Elt F) arg3.view (Rect.unit (s := S1x1024x512) ![0, 640, 128] S1x128x128.size inb_S1x1024x512_S1x128x128_0_640_128).toLoadRect (harg3.unread x1)) = gP (blk x0 x1 x5 x6 x7) 5 0 1 := by
  simp only [kernelRun0_A.sl.r_213, kernelRun0_A.sl.r_209, kernelRun0_A.sl.r_205, kernelRun0_A.sl.cst_377, kernelRun0_A.sl.r_193, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_204, kernelRun0_A.sl.r_203, kernelRun0_A.sl.r_202, kernelRun0_A.sl.r_201, kernelRun0_A.sl.r_200, kernelRun0_A.sl.r_207, kernelRun0_A.sl.r_206, kernelRun0_A.sl.r_192, View.readAt_eq_ld, harg2.read_unread, harg3.read_unread, harg7.read_unread, harg8.read_unread, harg9.read_unread, c5_0 c arg2 harg2 arg8 harg8 arg9 harg9 arg21 arg22 x0 x1 x5 x6 x7, m5 c arg9 harg9 arg22 x0 x1 x5 x6 x7]
  rfl

theorem g5_0 : k0_pay338 (kernelRun0_A.sl.r_207 c arg9 harg9 arg22 x7) (kernelRun0_A.sl.r_209 c arg2 harg2 arg7 harg7 arg8 harg8 arg9 harg9 arg21 arg22 x0 x5 x6 x7) (View.readAt (Elt F) arg3.view (Rect.unit (s := S1x1024x512) ![0, 640, 0] S1x128x128.size inb_S1x1024x512_S1x128x128_0_640_0).toLoadRect (harg3.unread x1)) = gP (blk x0 x1 x5 x6 x7) 5 0 0 := by
  simp only [kernelRun0_A.sl.r_207, kernelRun0_A.sl.r_206, kernelRun0_A.sl.cst_377, kernelRun0_A.sl.r_193, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_192, kernelRun0_A.sl.r_209, kernelRun0_A.sl.r_205, kernelRun0_A.sl.r_204, kernelRun0_A.sl.r_203, kernelRun0_A.sl.r_202, kernelRun0_A.sl.r_201, kernelRun0_A.sl.r_200, View.readAt_eq_ld, harg2.read_unread, harg3.read_unread, harg7.read_unread, harg8.read_unread, harg9.read_unread, m5 c arg9 harg9 arg22 x0 x1 x5 x6 x7, c5_0 c arg2 harg2 arg8 harg8 arg9 harg9 arg21 arg22 x0 x1 x5 x6 x7]
  rfl

theorem g4_3 : k0_pay306 (kernelRun0_A.sl.r_190 c arg2 harg2 arg7 harg7 arg8 harg8 arg9 harg9 arg21 arg22 x0 x5 x6 x7) (kernelRun0_A.sl.r_191 c arg2 harg2 arg7 harg7 arg8 harg8 arg9 harg9 arg21 arg22 x0 x5 x6 x7) (View.readAt (Elt F) arg3.view (Rect.unit (s := S1x1024x512) ![0, 512, 384] S1x128x128.size inb_S1x1024x512_S1x128x128_0_512_384).toLoadRect (harg3.unread x1)) = gP (blk x0 x1 x5 x6 x7) 4 1 1 := by
  simp only [kernelRun0_A.sl.r_190, kernelRun0_A.sl.r_189, kernelRun0_A.sl.r_182, kernelRun0_A.sl.r_161, kernelRun0_A.sl.r_155, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_181, kernelRun0_A.sl.r_180, kernelRun0_A.sl.r_178, kernelRun0_A.sl.r_188, kernelRun0_A.sl.r_187, kernelRun0_A.sl.r_179, kernelRun0_A.sl.r_191, kernelRun0_A.sl.r_183, kernelRun0_A.sl.r_151, View.readAt_eq_ld, harg2.read_unread, harg3.read_unread, harg7.read_unread, harg8.read_unread, harg9.read_unread, m4 c arg9 harg9 arg22 x0 x1 x5 x6 x7, c4_1 c arg2 harg2 arg8 harg8 arg9 harg9 arg21 arg22 x0 x1 x5 x6 x7]
  rfl

theorem g4_2 : k0_pay305 (kernelRun0_A.sl.r_190 c arg2 harg2 arg7 harg7 arg8 harg8 arg9 harg9 arg21 arg22 x0 x5 x6 x7) (kernelRun0_A.sl.r_191 c arg2 harg2 arg7 harg7 arg8 harg8 arg9 harg9 arg21 arg22 x0 x5 x6 x7) (View.readAt (Elt F) arg3.view (Rect.unit (s := S1x1024x512) ![0, 512, 256] S1x128x128.size inb_S1x1024x512_S1x128x128_0_512_256).toLoadRect (harg3.unread x1)) = gP (blk x0 x1 x5 x6 x7) 4 1 0 := by
  simp only [kernelRun0_A.sl.r_190, kernelRun0_A.sl.r_189, kernelRun0_A.sl.r_182, kernelRun0_A.sl.r_161, kernelRun0_A.sl.r_155, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_181, kernelRun0_A.sl.r_180, kernelRun0_A.sl.r_178, kernelRun0_A.sl.r_188, kernelRun0_A.sl.r_187, kernelRun0_A.sl.r_179, kernelRun0_A.sl.r_191, kernelRun0_A.sl.r_183, kernelRun0_A.sl.r_151, View.readAt_eq_ld, harg2.read_unread, harg3.read_unread, harg7.read_unread, harg8.read_unread, harg9.read_unread, m4 c arg9 harg9 arg22 x0 x1 x5 x6 x7, c4_1 c arg2 harg2 arg8 harg8 arg9 harg9 arg21 arg22 x0 x1 x5 x6 x7]
  rfl

theorem g4_1 : k0_pay280 (kernelRun0_A.sl.r_175 c arg2 harg2 arg7 harg7 arg8 harg8 arg9 harg9 arg21 arg22 x0 x5 x6 x7) (View.readAt (Elt F) arg3.view (Rect.unit (s := S1x1024x512) ![0, 512, 128] S1x128x128.size inb_S1x1024x512_S1x128x128_0_512_128).toLoadRect (harg3.unread x1)) = gP (blk x0 x1 x5 x6 x7) 4 0 1 := by
  simp only [kernelRun0_A.sl.r_175, kernelRun0_A.sl.r_172, kernelRun0_A.sl.r_168, kernelRun0_A.sl.r_155, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_167, kernelRun0_A.sl.r_166, kernelRun0_A.sl.r_165, kernelRun0_A.sl.r_164, kernelRun0_A.sl.r_163, kernelRun0_A.sl.r_169, kernelRun0_A.sl.r_151, View.readAt_eq_ld, harg2.read_unread, harg3.read_unread, harg7.read_unread, harg8.read_unread, harg9.read_unread, c4_0 c arg2 harg2 arg8 harg8 arg9 harg9 arg21 arg22 x0 x1 x5 x6 x7, m4 c arg9 harg9 arg22 x0 x1 x5 x6 x7]
  rfl

theorem g4_0 : k0_pay279 (kernelRun0_A.sl.r_176 c arg2 harg2 arg3 harg3 arg7 harg7 arg8 harg8 arg9 harg9 arg21 arg22 x0 x1 x5 x6 x7) = gP (blk x0 x1 x5 x6 x7) 4 0 0 := by
  simp only [kernelRun0_A.sl.r_176, kernelRun0_A.sl.r_172, kernelRun0_A.sl.r_168, kernelRun0_A.sl.r_155, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_167, kernelRun0_A.sl.r_166, kernelRun0_A.sl.r_165, kernelRun0_A.sl.r_164, kernelRun0_A.sl.r_163, kernelRun0_A.sl.r_169, kernelRun0_A.sl.r_151, View.readAt_eq_ld, harg2.read_unread, harg3.read_unread, harg7.read_unread, harg8.read_unread, harg9.read_unread, c4_0 c arg2 harg2 arg8 harg8 arg9 harg9 arg21 arg22 x0 x1 x5 x6 x7, m4 c arg9 harg9 arg22 x0 x1 x5 x6 x7]
  rfl

theorem g3_3 : k0_pay248 (kernelRun0_A.sl.r_140 c arg9 harg9 arg22 x7) (kernelRun0_A.sl.r_149 c arg2 harg2 arg7 harg7 arg8 harg8 arg9 harg9 arg21 arg22 x0 x5 x6 x7) (View.readAt (Elt F) arg3.view (Rect.unit (s := S1x1024x512) ![0, 384, 384] S1x128x128.size inb_S1x1024x512_S1x128x128_0_384_384).toLoadRect (harg3.unread x1)) = gP (blk x0 x1 x5 x6 x7) 3 1 1 := by
  simp only [kernelRun0_A.sl.r_140, kernelRun0_A.sl.cst_168, kernelRun0_A.sl.r_139, kernelRun0_A.sl.r_122, kernelRun0_A.sl.r_116, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r_115, kernelRun0_A.sl.r_114, kernelRun0_A.sl.r, kernelRun0_A.sl.r_117, kernelRun0_A.sl.r_149, kernelRun0_A.sl.r_148, kernelRun0_A.sl.r_147, kernelRun0_A.sl.r_137, kernelRun0_A.sl.r_146, kernelRun0_A.sl.r_145, kernelRun0_A.sl.r_143, kernelRun0_A.sl.r_136, kernelRun0_A.sl.r_142, kernelRun0_A.sl.r_141, kernelRun0_A.sl.r_138, View.readAt_eq_ld, harg2.read_unread, harg3.read_unread, harg7.read_unread, harg8.read_unread, harg9.read_unread, m3 c arg9 harg9 arg22 x0 x1 x5 x6 x7, c3_1 c arg2 harg2 arg8 harg8 arg9 harg9 arg21 arg22 x0 x1 x5 x6 x7]
  rfl

theorem g3_2 : k0_pay247 (kernelRun0_A.sl.r_140 c arg9 harg9 arg22 x7) (kernelRun0_A.sl.r_149 c arg2 harg2 arg7 harg7 arg8 harg8 arg9 harg9 arg21 arg22 x0 x5 x6 x7) (View.readAt (Elt F) arg3.view (Rect.unit (s := S1x1024x512) ![0, 384, 256] S1x128x128.size inb_S1x1024x512_S1x128x128_0_384_256).toLoadRect (harg3.unread x1)) = gP (blk x0 x1 x5 x6 x7) 3 1 0 := by
  simp only [kernelRun0_A.sl.r_140, kernelRun0_A.sl.cst_168, kernelRun0_A.sl.r_139, kernelRun0_A.sl.r_122, kernelRun0_A.sl.r_116, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r_115, kernelRun0_A.sl.r_114, kernelRun0_A.sl.r, kernelRun0_A.sl.r_117, kernelRun0_A.sl.r_149, kernelRun0_A.sl.r_148, kernelRun0_A.sl.r_147, kernelRun0_A.sl.r_137, kernelRun0_A.sl.r_146, kernelRun0_A.sl.r_145, kernelRun0_A.sl.r_143, kernelRun0_A.sl.r_136, kernelRun0_A.sl.r_142, kernelRun0_A.sl.r_141, kernelRun0_A.sl.r_138, View.readAt_eq_ld, harg2.read_unread, harg3.read_unread, harg7.read_unread, harg8.read_unread, harg9.read_unread, m3 c arg9 harg9 arg22 x0 x1 x5 x6 x7, c3_1 c arg2 harg2 arg8 harg8 arg9 harg9 arg21 arg22 x0 x1 x5 x6 x7]
  rfl

theorem g3_1 : k0_pay224 (kernelRun0_A.sl.r_134 c arg2 harg2 arg7 harg7 arg8 harg8 arg9 harg9 arg21 arg22 x0 x5 x6 x7) (View.readAt (Elt F) arg3.view (Rect.unit (s := S1x1024x512) ![0, 384, 128] S1x128x128.size inb_S1x1024x512_S1x128x128_0_384_128).toLoadRect (harg3.unread x1)) = gP (blk x0 x1 x5 x6 x7) 3 0 1 := by
  simp only [kernelRun0_A.sl.r_134, kernelRun0_A.sl.r_133, kernelRun0_A.sl.r_127, kernelRun0_A.sl.r_116, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r_115, kernelRun0_A.sl.r_114, kernelRun0_A.sl.r, kernelRun0_A.sl.r_126, kernelRun0_A.sl.r_124, kernelRun0_A.sl.r_132, kernelRun0_A.sl.r_125, kernelRun0_A.sl.r_128, kernelRun0_A.sl.r_117, View.readAt_eq_ld, harg2.read_unread, harg3.read_unread, harg7.read_unread, harg8.read_unread, harg9.read_unread, m3 c arg9 harg9 arg22 x0 x1 x5 x6 x7, c3_0 c arg2 harg2 arg8 harg8 arg9 harg9 arg21 arg22 x0 x1 x5 x6 x7]
  rfl

theorem g3_0 : k0_pay223 (kernelRun0_A.sl.r_134 c arg2 harg2 arg7 harg7 arg8 harg8 arg9 harg9 arg21 arg22 x0 x5 x6 x7) (View.readAt (Elt F) arg3.view (Rect.unit (s := S1x1024x512) ![0, 384, 0] S1x128x128.size inb_S1x1024x512_S1x128x128_0_384_0).toLoadRect (harg3.unread x1)) = gP (blk x0 x1 x5 x6 x7) 3 0 0 := by
  simp only [kernelRun0_A.sl.r_134, kernelRun0_A.sl.r_133, kernelRun0_A.sl.r_127, kernelRun0_A.sl.r_116, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r_115, kernelRun0_A.sl.r_114, kernelRun0_A.sl.r, kernelRun0_A.sl.r_126, kernelRun0_A.sl.r_124, kernelRun0_A.sl.r_132, kernelRun0_A.sl.r_125, kernelRun0_A.sl.r_128, kernelRun0_A.sl.r_117, View.readAt_eq_ld, harg2.read_unread, harg3.read_unread, harg7.read_unread, harg8.read_unread, harg9.read_unread, m3 c arg9 harg9 arg22 x0 x1 x5 x6 x7, c3_0 c arg2 harg2 arg8 harg8 arg9 harg9 arg21 arg22 x0 x1 x5 x6 x7]
  rfl

theorem g2_3 : k0_pay195 (kernelRun0_A.sl.r_105 c arg9 harg9 arg22 x7) (kernelRun0_A.sl.r_109 c arg2 harg2 arg7 harg7 arg8 harg8 arg9 harg9 arg21 arg22 x0 x5 x6 x7) (View.readAt (Elt F) arg3.view (Rect.unit (s := S1x1024x512) ![0, 256, 384] S1x128x128.size inb_S1x1024x512_S1x128x128_0_256_384).toLoadRect (harg3.unread x1)) = gP (blk x0 x1 x5 x6 x7) 2 1 1 := by
  simp only [kernelRun0_A.sl.r_105, kernelRun0_A.sl.r_84, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_79, kernelRun0_A.sl.r_109, kernelRun0_A.sl.r_108, kernelRun0_A.sl.r_102, kernelRun0_A.sl.r_107, kernelRun0_A.sl.r_106, kernelRun0_A.sl.r_104, kernelRun0_A.sl.r_101, kernelRun0_A.sl.r_103, View.readAt_eq_ld, harg2.read_unread, harg3.read_unread, harg7.read_unread, harg8.read_unread, harg9.read_unread, m2 c arg9 harg9 arg22 x0 x1 x5 x6 x7, c2_1 c arg2 harg2 arg8 harg8 arg9 harg9 arg21 arg22 x0 x1 x5 x6 x7]
  rfl

theorem g2_2 : k0_pay194 (kernelRun0_A.sl.r_105 c arg9 harg9 arg22 x7) (kernelRun0_A.sl.r_109 c arg2 harg2 arg7 harg7 arg8 harg8 arg9 harg9 arg21 arg22 x0 x5 x6 x7) (View.readAt (Elt F) arg3.view (Rect.unit (s := S1x1024x512) ![0, 256, 256] S1x128x128.size inb_S1x1024x512_S1x128x128_0_256_256).toLoadRect (harg3.unread x1)) = gP (blk x0 x1 x5 x6 x7) 2 1 0 := by
  simp only [kernelRun0_A.sl.r_105, kernelRun0_A.sl.r_84, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_79, kernelRun0_A.sl.r_109, kernelRun0_A.sl.r_108, kernelRun0_A.sl.r_102, kernelRun0_A.sl.r_107, kernelRun0_A.sl.r_106, kernelRun0_A.sl.r_104, kernelRun0_A.sl.r_101, kernelRun0_A.sl.r_103, View.readAt_eq_ld, harg2.read_unread, harg3.read_unread, harg7.read_unread, harg8.read_unread, harg9.read_unread, m2 c arg9 harg9 arg22 x0 x1 x5 x6 x7, c2_1 c arg2 harg2 arg8 harg8 arg9 harg9 arg21 arg22 x0 x1 x5 x6 x7]
  rfl

theorem g2_1 : k0_pay171 (kernelRun0_A.sl.r_90 c arg9 harg9 arg22 x7) (kernelRun0_A.sl.r_99 c arg2 harg2 arg7 harg7 arg8 harg8 arg9 harg9 arg21 arg22 x0 x5 x6 x7) (View.readAt (Elt F) arg3.view (Rect.unit (s := S1x1024x512) ![0, 256, 128] S1x128x128.size inb_S1x1024x512_S1x128x128_0_256_128).toLoadRect (harg3.unread x1)) = gP (blk x0 x1 x5 x6 x7) 2 0 1 := by
  simp only [kernelRun0_A.sl.r_90, kernelRun0_A.sl.r_89, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.cst_168, kernelRun0_A.sl.r_84, kernelRun0_A.sl.r_79, kernelRun0_A.sl.r_99, kernelRun0_A.sl.r_98, kernelRun0_A.sl.r_97, kernelRun0_A.sl.r_96, kernelRun0_A.sl.r_87, kernelRun0_A.sl.r_95, kernelRun0_A.sl.r_93, kernelRun0_A.sl.r_86, kernelRun0_A.sl.r_92, kernelRun0_A.sl.r_91, kernelRun0_A.sl.r_88, View.readAt_eq_ld, harg2.read_unread, harg3.read_unread, harg7.read_unread, harg8.read_unread, harg9.read_unread, m2 c arg9 harg9 arg22 x0 x1 x5 x6 x7, c2_0 c arg2 harg2 arg8 harg8 arg9 harg9 arg21 arg22 x0 x1 x5 x6 x7]
  rfl

theorem g2_0 : k0_pay170 (kernelRun0_A.sl.r_90 c arg9 harg9 arg22 x7) (kernelRun0_A.sl.r_99 c arg2 harg2 arg7 harg7 arg8 harg8 arg9 harg9 arg21 arg22 x0 x5 x6 x7) (View.readAt (Elt F) arg3.view (Rect.unit (s := S1x1024x512) ![0, 256, 0] S1x128x128.size inb_S1x1024x512_S1x128x128_0_256_0).toLoadRect (harg3.unread x1)) = gP (blk x0 x1 x5 x6 x7) 2 0 0 := by
  simp only [kernelRun0_A.sl.r_90, kernelRun0_A.sl.r_89, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.cst_168, kernelRun0_A.sl.r_84, kernelRun0_A.sl.r_79, kernelRun0_A.sl.r_99, kernelRun0_A.sl.r_98, kernelRun0_A.sl.r_97, kernelRun0_A.sl.r_96, kernelRun0_A.sl.r_87, kernelRun0_A.sl.r_95, kernelRun0_A.sl.r_93, kernelRun0_A.sl.r_86, kernelRun0_A.sl.r_92, kernelRun0_A.sl.r_91, kernelRun0_A.sl.r_88, View.readAt_eq_ld, harg2.read_unread, harg3.read_unread, harg7.read_unread, harg8.read_unread, harg9.read_unread, m2 c arg9 harg9 arg22 x0 x1 x5 x6 x7, c2_0 c arg2 harg2 arg8 harg8 arg9 harg9 arg21 arg22 x0 x1 x5 x6 x7]
  rfl

theorem g1_3 : k0_pay137 (kernelRun0_A.sl.r_78 c arg2 harg2 arg3 harg3 arg7 harg7 arg8 harg8 arg9 harg9 arg21 arg22 x0 x1 x5 x6 x7) = gP (blk x0 x1 x5 x6 x7) 1 1 1 := by
  simp only [kernelRun0_A.sl.r_78, kernelRun0_A.sl.r_74, kernelRun0_A.sl.r_72, kernelRun0_A.sl.r_50, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_71, kernelRun0_A.sl.r_70, kernelRun0_A.sl.r_65, kernelRun0_A.sl.r_68, kernelRun0_A.sl.r_67, kernelRun0_A.sl.r_66, kernelRun0_A.sl.r_69, kernelRun0_A.sl.r_45, View.readAt_eq_ld, harg2.read_unread, harg3.read_unread, harg7.read_unread, harg8.read_unread, harg9.read_unread, c1_1 c arg2 harg2 arg8 harg8 arg9 harg9 arg21 arg22 x0 x1 x5 x6 x7, m1 c arg9 harg9 arg22 x0 x1 x5 x6 x7]
  rfl

theorem g1_2 : k0_pay135 (kernelRun0_A.sl.r_69 c arg9 harg9 arg22 x7) (kernelRun0_A.sl.r_74 c arg2 harg2 arg7 harg7 arg8 harg8 arg9 harg9 arg21 arg22 x0 x5 x6 x7) (View.readAt (Elt F) arg3.view (Rect.unit (s := S1x1024x512) ![0, 128, 256] S1x128x128.size inb_S1x1024x512_S1x128x128_0_128_256).toLoadRect (harg3.unread x1)) = gP (blk x0 x1 x5 x6 x7) 1 1 0 := by
  simp only [kernelRun0_A.sl.r_69, kernelRun0_A.sl.r_50, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_45, kernelRun0_A.sl.r_74, kernelRun0_A.sl.r_72, kernelRun0_A.sl.r_71, kernelRun0_A.sl.r_70, kernelRun0_A.sl.r_65, kernelRun0_A.sl.r_68, kernelRun0_A.sl.r_67, kernelRun0_A.sl.r_66, View.readAt_eq_ld, harg2.read_unread, harg3.read_unread, harg7.read_unread, harg8.read_unread, harg9.read_unread, m1 c arg9 harg9 arg22 x0 x1 x5 x6 x7, c1_1 c arg2 harg2 arg8 harg8 arg9 harg9 arg21 arg22 x0 x1 x5 x6 x7]
  rfl

theorem g1_1 : k0_pay114 (kernelRun0_A.sl.r_56 c arg9 harg9 arg22 x7) (kernelRun0_A.sl.r_60 c arg2 harg2 arg7 harg7 arg8 harg8 arg9 harg9 arg21 arg22 x0 x5 x6 x7) (View.readAt (Elt F) arg3.view (Rect.unit (s := S1x1024x512) ![0, 128, 128] S1x128x128.size inb_S1x1024x512_S1x128x128_0_128_128).toLoadRect (harg3.unread x1)) = gP (blk x0 x1 x5 x6 x7) 1 0 1 := by
  simp only [kernelRun0_A.sl.r_56, kernelRun0_A.sl.r_50, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_45, kernelRun0_A.sl.r_60, kernelRun0_A.sl.r_59, kernelRun0_A.sl.r_52, kernelRun0_A.sl.r_58, kernelRun0_A.sl.r_57, kernelRun0_A.sl.r_55, kernelRun0_A.sl.r_54, kernelRun0_A.sl.r_51, kernelRun0_A.sl.r_53, View.readAt_eq_ld, harg2.read_unread, harg3.read_unread, harg7.read_unread, harg8.read_unread, harg9.read_unread, m1 c arg9 harg9 arg22 x0 x1 x5 x6 x7, c1_0 c arg2 harg2 arg8 harg8 arg9 harg9 arg21 arg22 x0 x1 x5 x6 x7]
  rfl

theorem g1_0 : k0_pay113 (kernelRun0_A.sl.r_56 c arg9 harg9 arg22 x7) (kernelRun0_A.sl.r_60 c arg2 harg2 arg7 harg7 arg8 harg8 arg9 harg9 arg21 arg22 x0 x5 x6 x7) (View.readAt (Elt F) arg3.view (Rect.unit (s := S1x1024x512) ![0, 128, 0] S1x128x128.size inb_S1x1024x512_S1x128x128_0_128_0).toLoadRect (harg3.unread x1)) = gP (blk x0 x1 x5 x6 x7) 1 0 0 := by
  simp only [kernelRun0_A.sl.r_56, kernelRun0_A.sl.r_50, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_45, kernelRun0_A.sl.r_60, kernelRun0_A.sl.r_59, kernelRun0_A.sl.r_52, kernelRun0_A.sl.r_58, kernelRun0_A.sl.r_57, kernelRun0_A.sl.r_55, kernelRun0_A.sl.r_54, kernelRun0_A.sl.r_51, kernelRun0_A.sl.r_53, View.readAt_eq_ld, harg2.read_unread, harg3.read_unread, harg7.read_unread, harg8.read_unread, harg9.read_unread, m1 c arg9 harg9 arg22 x0 x1 x5 x6 x7, c1_0 c arg2 harg2 arg8 harg8 arg9 harg9 arg21 arg22 x0 x1 x5 x6 x7]
  rfl

theorem g0_3 : k0_pay79 (kernelRun0_A.sl.r_44 c arg2 harg2 arg7 harg7 arg8 harg8 arg9 harg9 arg21 arg22 x0 x5 x6 x7) (View.readAt (Elt F) arg3.view (Rect.unit (s := S1x1024x512) ![0, 0, 384] S1x128x128.size inb_S1x1024x512_S1x128x128_0_0_384).toLoadRect (harg3.unread x1)) = gP (blk x0 x1 x5 x6 x7) 0 1 1 := by
  simp only [kernelRun0_A.sl.r_44, kernelRun0_A.sl.r_40, kernelRun0_A.sl.r_36, kernelRun0_A.sl.r_15, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_35, kernelRun0_A.sl.r_34, kernelRun0_A.sl.r_33, kernelRun0_A.sl.r_32, kernelRun0_A.sl.r_31, kernelRun0_A.sl.r_38, kernelRun0_A.sl.r_37, kernelRun0_A.sl.r_10, View.readAt_eq_ld, harg2.read_unread, harg3.read_unread, harg7.read_unread, harg8.read_unread, harg9.read_unread, c0_1 c arg2 harg2 arg8 harg8 arg9 harg9 arg21 arg22 x0 x1 x5 x6 x7, m0 c arg22 x0 x1 x5 x6 x7]
  rfl

theorem g0_2 : k0_pay78 (kernelRun0_A.sl.r_38 c arg9 harg9 arg22 x7) (kernelRun0_A.sl.r_40 c arg2 harg2 arg7 harg7 arg8 harg8 arg9 harg9 arg21 arg22 x0 x5 x6 x7) (View.readAt (Elt F) arg3.view (Rect.unit (s := S1x1024x512) ![0, 0, 256] S1x128x128.size inb_S1x1024x512_S1x128x128_0_0_256).toLoadRect (harg3.unread x1)) = gP (blk x0 x1 x5 x6 x7) 0 1 0 := by
  simp only [kernelRun0_A.sl.r_38, kernelRun0_A.sl.r_37, kernelRun0_A.sl.r_10, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r_35, kernelRun0_A.sl.r_15, kernelRun0_A.sl.r, kernelRun0_A.sl.r_40, kernelRun0_A.sl.r_36, kernelRun0_A.sl.r_34, kernelRun0_A.sl.r_33, kernelRun0_A.sl.r_32, kernelRun0_A.sl.r_31, View.readAt_eq_ld, harg2.read_unread, harg3.read_unread, harg7.read_unread, harg8.read_unread, harg9.read_unread, m0 c arg22 x0 x1 x5 x6 x7, c0_1 c arg2 harg2 arg8 harg8 arg9 harg9 arg21 arg22 x0 x1 x5 x6 x7]
  rfl

theorem g0_1 : k0_pay58 (kernelRun0_A.sl.r_29 c arg2 harg2 arg3 harg3 arg7 harg7 arg8 harg8 arg9 harg9 arg21 arg22 x0 x1 x5 x6 x7) = gP (blk x0 x1 x5 x6 x7) 0 0 1 := by
  simp only [kernelRun0_A.sl.r_29, kernelRun0_A.sl.r_25, kernelRun0_A.sl.r_23, kernelRun0_A.sl.r_15, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_22, kernelRun0_A.sl.r_21, kernelRun0_A.sl.r_16, kernelRun0_A.sl.r_19, kernelRun0_A.sl.r_18, kernelRun0_A.sl.r_17, kernelRun0_A.sl.r_20, kernelRun0_A.sl.r_10, View.readAt_eq_ld, harg2.read_unread, harg3.read_unread, harg7.read_unread, harg8.read_unread, harg9.read_unread, c0_0 c arg21 x0 x1 x5 x6 x7, m0 c arg22 x0 x1 x5 x6 x7]
  rfl

theorem g0_0 : k0_pay56 (kernelRun0_A.sl.r_20 c arg9 harg9 arg22 x7) (kernelRun0_A.sl.r_25 c arg2 harg2 arg7 harg7 arg8 harg8 arg9 harg9 arg21 arg22 x0 x5 x6 x7) (View.readAt (Elt F) arg3.view (Rect.unit (s := S1x1024x512) ![0, 0, 0] S1x128x128.size inb_S1x1024x512_S1x128x128_0_0_0).toLoadRect (harg3.unread x1)) = gP (blk x0 x1 x5 x6 x7) 0 0 0 := by
  simp only [kernelRun0_A.sl.r_20, kernelRun0_A.sl.r_15, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_10, kernelRun0_A.sl.r_25, kernelRun0_A.sl.r_23, kernelRun0_A.sl.r_22, kernelRun0_A.sl.r_21, kernelRun0_A.sl.r_16, kernelRun0_A.sl.r_19, kernelRun0_A.sl.r_18, kernelRun0_A.sl.r_17, View.readAt_eq_ld, harg2.read_unread, harg3.read_unread, harg7.read_unread, harg8.read_unread, harg9.read_unread, m0 c arg22 x0 x1 x5 x6 x7, c0_0 c arg21 x0 x1 x5 x6 x7]
  rfl

end Cert.Mix.A
-- ==== Proof.EndA.lean ====
module

public import proofs.«01_k».proof.Proof.Tile
public import proofs.«01_k».proof.Proof.RunA
public import proofs.«01_k».proof.Proof.Mix
public import proofs.«01_k».proof.Proof.Gen.KernelIdeal.Frame
public import Idealize.ShloMosaic.Lib.Pipeline.ReadBack

@[expose] public section

set_option maxRecDepth 16384

noncomputable section

namespace Cert.Mix.A

open Idealize.ShloMosaic Idealize.SL.Sem Cert.KernelIdeal Cert.KernelIdeal.Gen Cert.Mix

variable {F : FTy → Type} [FloatOps F]

variable (c : Dev nD)
  (arg2 : Memref sig .tc .vmem S1x1024x512 .bf16) (harg2 : arg2.IsWhole)
  (arg3 : Memref sig .tc .vmem S1x1024x512 .bf16) (harg3 : arg3.IsWhole)
  (arg4 : Memref sig .tc .vmem S1x1024x512 .bf16) (harg4 : arg4.IsWhole)
  (arg5 : Memref sig .tc .vmem S1x1024x512 .bf16) (harg5 : arg5.IsWhole)
  (arg6 : Memref sig .tc .vmem S1x1024x512 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x8x1024 .f32) (harg9 : arg9.IsWhole)
  (arg10 : Memref sig .tc .vmem S1x1024x1024 .f32) (harg10 : arg10.IsWhole)
  (arg11 : Memref sig .tc .vmem S3x512 .f32) (harg11 : arg11.IsWhole)
  (arg12 : Memref sig .tc .vmem S1024x1024 .bf16) (harg12 : arg12.IsWhole)
  (arg13 : Memref sig .tc .vmem S1x1024 .f32) (harg13 : arg13.IsWhole)
  (arg14 : Memref sig .tc .vmem S1024x128 .bf16) (harg14 : arg14.IsWhole)
  (arg15 : Memref sig .tc .vmem S1x128 .f32) (harg15 : arg15.IsWhole)
  (arg16 : Memref sig .tc .vmem S1x1024x1024 .f32) (harg16 : arg16.IsWhole)
  (arg17 : Memref sig .tc .vmem S1x1024x1024 .bf16) (harg17 : arg17.IsWhole)
  (arg21 : Memref sig .tc .vmem S2x144x256 .f32) (harg21 : arg21.IsWhole)
  (arg22 : Memref sig .tc .vmem S8x128 .f32) (harg22 : arg22.IsWhole)
  (arg23 : Memref sig .tc .vmem S8x512 .f32) (harg23 : arg23.IsWhole)
  (arg24 : Memref sig .tc .vmem S32x128 .i32) (harg24 : arg24.IsWhole)
  (arg25 : Memref sig .tc .vmem S1024x1024 .bf16) (harg25 : arg25.IsWhole)
  (x0 : Vec F S1x1024x512 .bf16) (x1 : Vec F S1x1024x512 .bf16) (x2 : Vec F S1x1024x512 .bf16) (x3 : Vec F S1x1024x512 .bf16) (x4 : Vec F S1x1024x512 .bf16) (x5 : Vec F S1x512x1024 .bf16) (x6 : Vec F S1x512x1024 .bf16) (x7 : Vec F S1x8x1024 .f32) (x8 : Vec F S1x1024x1024 .f32) (x9 : Vec F S3x512 .f32) (x10 : Vec F S1024x1024 .bf16) (x11 : Vec F S1x1024 .f32) (x12 : Vec F S1024x128 .bf16) (x13 : Vec F S1x128 .f32) (xs0 : Vec F S2x144x256 .f32) (xs1 : Vec F S8x128 .f32) (xs2 : Vec F S8x512 .f32) (xs3 : Vec F S32x128 .i32)

/-- Everything the tile reads. -/
def tile : Tile F := ⟨blk x0 x1 x5 x6 x7, x2, x3, x4, x8, x9, x10, x11,
  View.ld (k0_pay7 : Vec F S8x512 .f32) (Rect.unit (s := S8x512) ![0, 0] S1x512.size inb_S8x512_S1x512_0_0), View.ld (k0_pay7 : Vec F S8x512 .f32) (Rect.unit (s := S8x512) ![1, 0] S1x512.size inb_S8x512_S1x512_1_0)⟩

theorem v2720 : (kernelRun0_A.sl.v2720 c arg23) = View.ld (k0_pay7 : Vec F S8x512 .f32) (Rect.unit (s := S8x512) ![0, 0] S1x512.size inb_S8x512_S1x512_0_0) := by
  rw [kernelRun0_A.sl.v2720, kernelRun0_A.sl.HS2_1, View.readCov_fill _ _ _ _ _ (by decide)]

theorem v2721 : (kernelRun0_A.sl.v2721 c arg23) = View.ld (k0_pay7 : Vec F S8x512 .f32) (Rect.unit (s := S8x512) ![1, 0] S1x512.size inb_S8x512_S1x512_1_0) := by
  rw [kernelRun0_A.sl.v2721, kernelRun0_A.sl.HS2_1, View.readCov_fill _ _ _ _ _ (by decide)]

theorem hs4 : (kernelRun0_A.sl.HS4_33 c arg2 harg2 arg3 harg3 arg4 harg4 arg5 harg5 arg6 harg6 arg7 harg7 arg8 harg8 arg9 harg9 arg11 harg11 arg21 arg22 arg23 x0 x1 x2 x3 x4 x5 x6 x7 x9) = (tile x0 x1 x2 x3 x4 x5 x6 x7 x8 x9 x10 x11).mixPieces := by
  rw [kernelRun0_A.sl.HS4_33]
  simp only [g7_3 c arg2 harg2 arg3 harg3 arg7 harg7 arg8 harg8 arg9 harg9 arg21 arg22 x0 x1 x5 x6 x7, g7_2 c arg2 harg2 arg3 harg3 arg7 harg7 arg8 harg8 arg9 harg9 arg21 arg22 x0 x1 x5 x6 x7, g7_1 c arg2 harg2 arg3 harg3 arg7 harg7 arg8 harg8 arg9 harg9 arg21 arg22 x0 x1 x5 x6 x7, g7_0 c arg2 harg2 arg3 harg3 arg7 harg7 arg8 harg8 arg9 harg9 arg21 arg22 x0 x1 x5 x6 x7, g6_3 c arg2 harg2 arg3 harg3 arg7 harg7 arg8 harg8 arg9 harg9 arg21 arg22 x0 x1 x5 x6 x7, g6_2 c arg2 harg2 arg3 harg3 arg7 harg7 arg8 harg8 arg9 harg9 arg21 arg22 x0 x1 x5 x6 x7, g6_1 c arg2 harg2 arg3 harg3 arg7 harg7 arg8 harg8 arg9 harg9 arg21 arg22 x0 x1 x5 x6 x7, g6_0 c arg2 harg2 arg3 harg3 arg7 harg7 arg8 harg8 arg9 harg9 arg21 arg22 x0 x1 x5 x6 x7, g5_3 c arg2 harg2 arg3 harg3 arg7 harg7 arg8 harg8 arg9 harg9 arg21 arg22 x0 x1 x5 x6 x7, g5_2 c arg2 harg2 arg3 harg3 arg7 harg7 arg8 harg8 arg9 harg9 arg21 arg22 x0 x1 x5 x6 x7, g5_1 c arg2 harg2 arg3 harg3 arg7 harg7 arg8 harg8 arg9 harg9 arg21 arg22 x0 x1 x5 x6 x7, g5_0 c arg2 harg2 arg3 harg3 arg7 harg7 arg8 harg8 arg9 harg9 arg21 arg22 x0 x1 x5 x6 x7, g4_3 c arg2 harg2 arg3 harg3 arg7 harg7 arg8 harg8 arg9 harg9 arg21 arg22 x0 x1 x5 x6 x7, g4_2 c arg2 harg2 arg3 harg3 arg7 harg7 arg8 harg8 arg9 harg9 arg21 arg22 x0 x1 x5 x6 x7, g4_1 c arg2 harg2 arg3 harg3 arg7 harg7 arg8 harg8 arg9 harg9 arg21 arg22 x0 x1 x5 x6 x7, g4_0 c arg2 harg2 arg3 harg3 arg7 harg7 arg8 harg8 arg9 harg9 arg21 arg22 x0 x1 x5 x6 x7, g3_3 c arg2 harg2 arg3 harg3 arg7 harg7 arg8 harg8 arg9 harg9 arg21 arg22 x0 x1 x5 x6 x7, g3_2 c arg2 harg2 arg3 harg3 arg7 harg7 arg8 harg8 arg9 harg9 arg21 arg22 x0 x1 x5 x6 x7, g3_1 c arg2 harg2 arg3 harg3 arg7 harg7 arg8 harg8 arg9 harg9 arg21 arg22 x0 x1 x5 x6 x7, g3_0 c arg2 harg2 arg3 harg3 arg7 harg7 arg8 harg8 arg9 harg9 arg21 arg22 x0 x1 x5 x6 x7, g2_3 c arg2 harg2 arg3 harg3 arg7 harg7 arg8 harg8 arg9 harg9 arg21 arg22 x0 x1 x5 x6 x7, g2_2 c arg2 harg2 arg3 harg3 arg7 harg7 arg8 harg8 arg9 harg9 arg21 arg22 x0 x1 x5 x6 x7, g2_1 c arg2 harg2 arg3 harg3 arg7 harg7 arg8 harg8 arg9 harg9 arg21 arg22 x0 x1 x5 x6 x7, g2_0 c arg2 harg2 arg3 harg3 arg7 harg7 arg8 harg8 arg9 harg9 arg21 arg22 x0 x1 x5 x6 x7, g1_3 c arg2 harg2 arg3 harg3 arg7 harg7 arg8 harg8 arg9 harg9 arg21 arg22 x0 x1 x5 x6 x7, g1_2 c arg2 harg2 arg3 harg3 arg7 harg7 arg8 harg8 arg9 harg9 arg21 arg22 x0 x1 x5 x6 x7, g1_1 c arg2 harg2 arg3 harg3 arg7 harg7 arg8 harg8 arg9 harg9 arg21 arg22 x0 x1 x5 x6 x7, g1_0 c arg2 harg2 arg3 harg3 arg7 harg7 arg8 harg8 arg9 harg9 arg21 arg22 x0 x1 x5 x6 x7, g0_3 c arg2 harg2 arg3 harg3 arg7 harg7 arg8 harg8 arg9 harg9 arg21 arg22 x0 x1 x5 x6 x7, g0_2 c arg2 harg2 arg3 harg3 arg7 harg7 arg8 harg8 arg9 harg9 arg21 arg22 x0 x1 x5 x6 x7, g0_1 c arg2 harg2 arg3 harg3 arg7 harg7 arg8 harg8 arg9 harg9 arg21 arg22 x0 x1 x5 x6 x7, g0_0 c arg2 harg2 arg3 harg3 arg7 harg7 arg8 harg8 arg9 harg9 arg21 arg22 x0 x1 x5 x6 x7]
  simp only [kernelRun0_A.sl.r_301, kernelRun0_A.sl.HS2_1, kernelRun0_A.sl.r_300, kernelRun0_A.sl.r_299, View.readAt_eq_ld, harg2.read_unread, harg3.read_unread, harg4.read_unread, harg5.read_unread, harg6.read_unread, harg7.read_unread, harg8.read_unread, harg9.read_unread, harg11.read_unread, v2720 c arg23, v2721 c arg23]
  rfl

theorem mix : (kernelRun0_A.sl.v2766 c arg2 harg2 arg3 harg3 arg4 harg4 arg5 harg5 arg6 harg6 arg7 harg7 arg8 harg8 arg9 harg9 arg11 harg11 arg21 arg22 arg23 arg25 x0 x1 x2 x3 x4 x5 x6 x7 x9) = (tile x0 x1 x2 x3 x4 x5 x6 x7 x8 x9 x10 x11).mix := by
  rw [kernelRun0_A.sl.v2766, hs4 c arg2 harg2 arg3 harg3 arg4 harg4 arg5 harg5 arg6 harg6 arg7 harg7 arg8 harg8 arg9 harg9 arg11 harg11 arg21 arg22 arg23 x0 x1 x2 x3 x4 x5 x6 x7 x8 x9 x10 x11, View.readCov_eq_canon']
  rfl

theorem h14 : (kernelRun0_A.sl.H14_4 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10) = (tile x0 x1 x2 x3 x4 x5 x6 x7 x8 x9 x10 x11).xPieces := by
  rw [kernelRun0_A.sl.H14_4]
  simp only [kernelRun0_A.sl.r_302, mix c arg2 harg2 arg3 harg3 arg4 harg4 arg5 harg5 arg6 harg6 arg7 harg7 arg8 harg8 arg9 harg9 arg11 harg11 arg21 arg22 arg23 arg25 x0 x1 x2 x3 x4 x5 x6 x7 x8 x9 x10 x11, View.readAt_eq_ld, harg2.read_unread, harg3.read_unread, harg4.read_unread, harg5.read_unread, harg6.read_unread, harg7.read_unread, harg8.read_unread, harg9.read_unread, harg10.read_unread, harg11.read_unread, harg12.read_unread]
  rfl

theorem x2l : (kernelRun0_A.sl.v2820 c arg2 harg2 arg3 harg3 arg4 harg4 arg5 harg5 arg6 harg6 arg7 harg7 arg8 harg8 arg9 harg9 arg10 harg10 arg11 harg11 arg12 harg12 arg16 arg21 arg22 arg23 arg25 x0 x1 x2 x3 x4 x5 x6 x7 x8 x9 x10) = (tile x0 x1 x2 x3 x4 x5 x6 x7 x8 x9 x10 x11).x2l := by
  rw [kernelRun0_A.sl.v2820, h14 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10 x11, View.readCov_eq_canon']
  rfl

theorem hnP : k0_pay491 (kernelRun0_A.sl.v2766 c arg2 harg2 arg3 harg3 arg4 harg4 arg5 harg5 arg6 harg6 arg7 harg7 arg8 harg8 arg9 harg9 arg11 harg11 arg21 arg22 arg23 arg25 x0 x1 x2 x3 x4 x5 x6 x7 x9) (kernelRun0_A.sl.r_303 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10) (View.readAt (Elt F) arg10.view (Rect.unit (s := S1x1024x1024) ![0, 0, 768] S1x1024x256.size inb_S1x1024x1024_S1x1024x256_0_0_768).toLoadRect (harg10.unread x8)) (View.readAt (Elt F) arg12.view (Rect.unit (s := S1024x1024) ![0, 768] S1024x256.size inb_S1024x1024_S1024x256_0_768).toLoadRect (harg12.unread x10)) (kernelRun0_A.sl.v2820 c arg2 harg2 arg3 harg3 arg4 harg4 arg5 harg5 arg6 harg6 arg7 harg7 arg8 harg8 arg9 harg9 arg10 harg10 arg11 harg11 arg12 harg12 arg16 arg21 arg22 arg23 arg25 x0 x1 x2 x3 x4 x5 x6 x7 x8 x9 x10) (View.readAt (Elt F) arg13.view (Rect.unit (s := S1x1024) ![0, 0] S1x1024.size inb_S1x1024_S1x1024_0_0).toLoadRect (harg13.unread x11)) = (tile x0 x1 x2 x3 x4 x5 x6 x7 x8 x9 x10 x11).hnP := by
  simp only [kernelRun0_A.sl.r_303, kernelRun0_A.sl.r_302, mix c arg2 harg2 arg3 harg3 arg4 harg4 arg5 harg5 arg6 harg6 arg7 harg7 arg8 harg8 arg9 harg9 arg11 harg11 arg21 arg22 arg23 arg25 x0 x1 x2 x3 x4 x5 x6 x7 x8 x9 x10 x11, x2l c arg2 harg2 arg3 harg3 arg4 harg4 arg5 harg5 arg6 harg6 arg7 harg7 arg8 harg8 arg9 harg9 arg10 harg10 arg11 harg11 arg12 harg12 arg16 arg21 arg22 arg23 arg25 x0 x1 x2 x3 x4 x5 x6 x7 x8 x9 x10 x11, View.readAt_eq_ld, harg2.read_unread, harg3.read_unread, harg4.read_unread, harg5.read_unread, harg6.read_unread, harg7.read_unread, harg8.read_unread, harg9.read_unread, harg10.read_unread, harg11.read_unread, harg12.read_unread, harg13.read_unread]
  rfl

theorem c8_0 : k0_pay446 (kernelRun0_A.sl.r_281 c arg2 harg2 arg8 harg8 arg9 harg9 x0 x6 x7) (kernelRun0_A.sl.r_282 c arg2 harg2 arg8 harg8 arg9 harg9 arg21 arg22 x0 x6 x7) (kernelRun0_A.sl.r_283 c arg9 harg9 arg22 x7) (kernelRun0_A.sl.r_284 c arg9 harg9 arg22 x7) = cS (blk x0 x1 x5 x6 x7) 0 8 := by
  simp only [kernelRun0_A.sl.r_281, kernelRun0_A.sl.r_273, kernelRun0_A.sl.r_271, kernelRun0_A.sl.r_269, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_282, kernelRun0_A.sl.r_267, kernelRun0_A.sl.r_283, kernelRun0_A.sl.r_268, kernelRun0_A.sl.r_284, View.readAt_eq_ld, harg2.read_unread, harg8.read_unread, harg9.read_unread, c7_0 c arg2 harg2 arg8 harg8 arg9 harg9 arg21 arg22 x0 x1 x5 x6 x7, m7 c arg9 harg9 arg22 x0 x1 x5 x6 x7]
  rfl

theorem c8_1 : k0_pay468 (kernelRun0_A.sl.r_268 c arg9 harg9 arg22 x7) (kernelRun0_A.sl.r_293 c arg2 harg2 arg8 harg8 arg9 harg9 arg21 arg22 x0 x6 x7) (kernelRun0_A.sl.r_295 c arg2 harg2 arg8 harg8 arg9 harg9 x0 x6 x7) (kernelRun0_A.sl.r_296 c arg9 harg9 arg22 x7) (kernelRun0_A.sl.r_297 c arg9 harg9 arg22 x7) = cS (blk x0 x1 x5 x6 x7) 1 8 := by
  simp only [kernelRun0_A.sl.r_268, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r, kernelRun0_A.sl.r_293, kernelRun0_A.sl.r_295, kernelRun0_A.sl.r_287, kernelRun0_A.sl.r_285, kernelRun0_A.sl.r_269, kernelRun0_A.sl.r_296, kernelRun0_A.sl.r_267, kernelRun0_A.sl.r_297, View.readAt_eq_ld, harg2.read_unread, harg8.read_unread, harg9.read_unread, m7 c arg9 harg9 arg22 x0 x1 x5 x6 x7, c7_1 c arg2 harg2 arg8 harg8 arg9 harg9 arg21 arg22 x0 x1 x5 x6 x7]
  rfl

variable (i : grid0.Coords) (arg18 : Memref sig .tc .vmem S1x8x1024 .i32) (harg18 : arg18.IsWhole)
  (arg19 : Memref sig .tc .vmem S1x8x1024 .f32) (harg19 : arg19.IsWhole)
  (arg20 : Memref sig .tc .vmem S32x128 .i32) (harg20 : arg20.IsWhole) (hc0 : cond0_0 i) (hc1 : cond0_1 i)

/-- The residual stream the tile stores. -/
theorem out14 : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 = (tile x0 x1 x2 x3 x4 x5 x6 x7 x8 x9 x10 x11).x2 := by
  show VO0_14.read (Elt F) (VO0_14.writes (Elt F) VO0_14.junk (kernelRun0_A.sl.H14_4 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10)) = _
  rw [h14 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10 x11, View.read_writes_junk_eq_canon]
  rfl

/-- The normalised stream the tile stores. -/
theorem out15 : out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 = (tile x0 x1 x2 x3 x4 x5 x6 x7 x8 x9 x10 x11).hn := by
  show VO0_15.read (Elt F) (VO0_15.writes (Elt F) VO0_15.junk [⟨Rect.unit ![0, 0, 0] S1x1024x1024.size inb_S1x1024x1024_S1x1024x1024_0_0_0, k0_pay491 (kernelRun0_A.sl.v2766 c arg2 harg2 arg3 harg3 arg4 harg4 arg5 harg5 arg6 harg6 arg7 harg7 arg8 harg8 arg9 harg9 arg11 harg11 arg21 arg22 arg23 arg25 x0 x1 x2 x3 x4 x5 x6 x7 x9) (kernelRun0_A.sl.r_303 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10) (View.readAt (Elt F) arg10.view (Rect.unit (s := S1x1024x1024) ![0, 0, 768] S1x1024x256.size inb_S1x1024x1024_S1x1024x256_0_0_768).toLoadRect (harg10.unread x8)) (View.readAt (Elt F) arg12.view (Rect.unit (s := S1024x1024) ![0, 768] S1024x256.size inb_S1024x1024_S1024x256_0_768).toLoadRect (harg12.unread x10)) (kernelRun0_A.sl.v2820 c arg2 harg2 arg3 harg3 arg4 harg4 arg5 harg5 arg6 harg6 arg7 harg7 arg8 harg8 arg9 harg9 arg10 harg10 arg11 harg11 arg12 harg12 arg16 arg21 arg22 arg23 arg25 x0 x1 x2 x3 x4 x5 x6 x7 x8 x9 x10) (View.readAt (Elt F) arg13.view (Rect.unit (s := S1x1024) ![0, 0] S1x1024.size inb_S1x1024_S1x1024_0_0).toLoadRect (harg13.unread x11))⟩]) = _
  rw [hnP c arg2 harg2 arg3 harg3 arg4 harg4 arg5 harg5 arg6 harg6 arg7 harg7 arg8 harg8 arg9 harg9 arg10 harg10 arg11 harg11 arg12 harg12 arg13 harg13 arg16 arg21 arg22 arg23 arg25 x0 x1 x2 x3 x4 x5 x6 x7 x8 x9 x10 x11, View.read_writes_junk_eq_canon]
  rfl

/-- The memory the tile leaves. -/
theorem out_ct (p : Fin 2) (e : Fin 144) (d : Fin 256) : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 (ix3 p e d) = cS (blk x0 x1 x5 x6 x7) p 8 (ix3 (0 : Fin 1) e d) := by
  show VS0_0.read (Elt F) (VS0_0.writes (Elt F) VS0_0.junk (⟨Rect.unit ![1, 0, 0] S1x144x256.size inb_S2x144x256_S1x144x256_1_0_0, k0_pay468 (kernelRun0_A.sl.r_268 c arg9 harg9 arg22 x7) (kernelRun0_A.sl.r_293 c arg2 harg2 arg8 harg8 arg9 harg9 arg21 arg22 x0 x6 x7) (kernelRun0_A.sl.r_295 c arg2 harg2 arg8 harg8 arg9 harg9 x0 x6 x7) (kernelRun0_A.sl.r_296 c arg9 harg9 arg22 x7) (kernelRun0_A.sl.r_297 c arg9 harg9 arg22 x7)⟩ :: kernelRun0_A.sl.HS0_16 c arg2 harg2 arg8 harg8 arg9 harg9 arg21 arg22 x0 x6 x7)) (ix3 p e d) = _
  rw [View.read_writes_junk_eq_canon, kernelRun0_A.sl.HS0_16, c8_1 c arg2 harg2 arg8 harg8 arg9 harg9 arg21 arg22 x0 x1 x5 x6 x7, c8_0 c arg2 harg2 arg8 harg8 arg9 harg9 arg21 arg22 x0 x1 x5 x6 x7]
  refine (ct_read _ _ _ p e d).trans ?_
  by_cases hp : p = 0
  · rw [if_pos hp, hp]
  · obtain rfl : p = 1 := by omega
    rw [if_neg hp]

/-- The stabilisers the tile leaves. -/
theorem out_m (h : Fin 4) : sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 (ix2 (⟨h.val, by omega⟩ : Fin 8) (0 : Fin 128))
    = k0_pay473 (mS (blk x0 x1 x5 x6 x7) 8) (ix2 h (0 : Fin 128)) := by
  rw [← m8 c arg9 harg9 arg22 x0 x1 x5 x6 x7]
  exact m_read _ _ _ _ h

/-- The last row of the convolution's input. -/
theorem out_u1 (j : Fin 512) : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 (ix2 (0 : Fin 8) j) = k0_pay478 (tile x0 x1 x2 x3 x4 x5 x6 x7 x8 x9 x10 x11).u (ix2 (0 : Fin 1) j) := by
  have e : (kernelRun0_A.sl.r_299 c arg5 harg5 arg6 harg6 x3 x4) = (tile x0 x1 x2 x3 x4 x5 x6 x7 x8 x9 x10 x11).u := by
    simp only [kernelRun0_A.sl.r_299, View.readAt_eq_ld, harg5.read_unread, harg6.read_unread]
    rfl
  rw [← e]
  exact u_read0 _ _ _ _ _ j

/-- The last but one row of the convolution's input. -/
theorem out_u2 (j : Fin 512) : sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 (ix2 (1 : Fin 8) j) = k0_pay479 (tile x0 x1 x2 x3 x4 x5 x6 x7 x8 x9 x10 x11).u (ix2 (0 : Fin 1) j) := by
  have e : (kernelRun0_A.sl.r_299 c arg5 harg5 arg6 harg6 x3 x4) = (tile x0 x1 x2 x3 x4 x5 x6 x7 x8 x9 x10 x11).u := by
    simp only [kernelRun0_A.sl.r_299, View.readAt_eq_ld, harg5.read_unread, harg6.read_unread]
    rfl
  rw [← e]
  exact u_read1 _ _ _ _ j

end Cert.Mix.A
-- ==== Proof.RunB.lean ====
module

public import proofs.«01_k».proof.Proof.Tile
public import proofs.«01_k».proof.Proof.Gen.KernelIdeal.Frame.RunB
public import Idealize.ShloMosaic.Lib.Pipeline.ReadBack

@[expose] public section

set_option maxRecDepth 16384

noncomputable section

namespace Cert.Mix.B

open Idealize.ShloMosaic Idealize.SL.Sem Cert.KernelIdeal Cert.KernelIdeal.Gen Cert.Mix

variable {F : FTy → Type} [FloatOps F]

variable (c : Dev nD)
  (arg2 : Memref sig .tc .vmem S1x1024x512 .bf16) (harg2 : arg2.IsWhole)
  (arg3 : Memref sig .tc .vmem S1x1024x512 .bf16) (harg3 : arg3.IsWhole)
  (arg4 : Memref sig .tc .vmem S1x1024x512 .bf16) (harg4 : arg4.IsWhole)
  (arg5 : Memref sig .tc .vmem S1x1024x512 .bf16) (harg5 : arg5.IsWhole)
  (arg6 : Memref sig .tc .vmem S1x1024x512 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x8x1024 .f32) (harg9 : arg9.IsWhole)
  (arg10 : Memref sig .tc .vmem S1x1024x1024 .f32) (harg10 : arg10.IsWhole)
  (arg11 : Memref sig .tc .vmem S3x512 .f32) (harg11 : arg11.IsWhole)
  (arg12 : Memref sig .tc .vmem S1024x1024 .bf16) (harg12 : arg12.IsWhole)
  (arg13 : Memref sig .tc .vmem S1x1024 .f32) (harg13 : arg13.IsWhole)
  (arg14 : Memref sig .tc .vmem S1024x128 .bf16) (harg14 : arg14.IsWhole)
  (arg15 : Memref sig .tc .vmem S1x128 .f32) (harg15 : arg15.IsWhole)
  (arg16 : Memref sig .tc .vmem S1x1024x1024 .f32) (harg16 : arg16.IsWhole)
  (arg17 : Memref sig .tc .vmem S1x1024x1024 .bf16) (harg17 : arg17.IsWhole)
  (arg21 : Memref sig .tc .vmem S2x144x256 .f32) (harg21 : arg21.IsWhole)
  (arg22 : Memref sig .tc .vmem S8x128 .f32) (harg22 : arg22.IsWhole)
  (arg23 : Memref sig .tc .vmem S8x512 .f32) (harg23 : arg23.IsWhole)
  (arg24 : Memref sig .tc .vmem S32x128 .i32) (harg24 : arg24.IsWhole)
  (arg25 : Memref sig .tc .vmem S1024x1024 .bf16) (harg25 : arg25.IsWhole)
  (x0 : Vec F S1x1024x512 .bf16) (x1 : Vec F S1x1024x512 .bf16) (x2 : Vec F S1x1024x512 .bf16) (x3 : Vec F S1x1024x512 .bf16) (x4 : Vec F S1x1024x512 .bf16) (x5 : Vec F S1x512x1024 .bf16) (x6 : Vec F S1x512x1024 .bf16) (x7 : Vec F S1x8x1024 .f32) (x8 : Vec F S1x1024x1024 .f32) (x9 : Vec F S3x512 .f32) (x10 : Vec F S1024x1024 .bf16) (x11 : Vec F S1x1024 .f32) (x12 : Vec F S1024x128 .bf16) (x13 : Vec F S1x128 .f32) (xs0 : Vec F S2x144x256 .f32) (xs1 : Vec F S8x128 .f32) (xs2 : Vec F S8x512 .f32) (xs3 : Vec F S32x128 .i32)

/-- The blocks of a tile that finds its scratch as the tile before left it. -/
def blk : Blk F := ⟨View.ld x7 (Rect.unit ![0, 0, 0] S1x8x1024.size inb_S1x8x1024_S1x8x1024_0_0_0), x0, x1, x5, x6, xs0, xs1⟩

theorem m0 : (kernelRun0_B.sl.r_10 c arg22 harg22 xs1) = mS (blk x0 x1 x5 x6 x7 xs0 xs1) 0 := by
  simp only [kernelRun0_B.sl.r_10, View.readAt_eq_ld, harg22.read_unread]
  rfl

theorem c0_1 : (kernelRun0_B.sl.v305 c arg21 harg21 xs0) = cS (blk x0 x1 x5 x6 x7 xs0 xs1) 1 0 := by
  simp only [kernelRun0_B.sl.v305, View.readAt_eq_ld, harg21.read_unread]
  rfl

theorem m1 : (kernelRun0_B.sl.r_12 c arg9 harg9 arg22 harg22 x7 xs1) = mS (blk x0 x1 x5 x6 x7 xs0 xs1) 1 := by
  simp only [kernelRun0_B.sl.r_12, kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, View.readAt_eq_ld, harg9.read_unread, harg22.read_unread]
  rfl

theorem m2 : (kernelRun0_B.sl.r_47 c arg9 harg9 arg22 harg22 x7 xs1) = mS (blk x0 x1 x5 x6 x7 xs0 xs1) 2 := by
  simp only [kernelRun0_B.sl.r_47, kernelRun0_B.sl.r, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, View.readAt_eq_ld, harg9.read_unread, m1 c arg9 harg9 arg22 harg22 x0 x1 x5 x6 x7 xs0 xs1]
  rfl

theorem m3 : (kernelRun0_B.sl.r_81 c arg9 harg9 arg22 harg22 x7 xs1) = mS (blk x0 x1 x5 x6 x7 xs0 xs1) 3 := by
  simp only [kernelRun0_B.sl.r_81, kernelRun0_B.sl.r, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, View.readAt_eq_ld, harg9.read_unread, m2 c arg9 harg9 arg22 harg22 x0 x1 x5 x6 x7 xs0 xs1]
  rfl

theorem m4 : (kernelRun0_B.sl.r_119 c arg9 harg9 arg22 harg22 x7 xs1) = mS (blk x0 x1 x5 x6 x7 xs0 xs1) 4 := by
  simp only [kernelRun0_B.sl.r_119, kernelRun0_B.sl.r_115, kernelRun0_B.sl.r, kernelRun0_B.sl.r_116, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r_117, View.readAt_eq_ld, harg9.read_unread, m3 c arg9 harg9 arg22 harg22 x0 x1 x5 x6 x7 xs0 xs1]
  rfl

theorem m5 : (kernelRun0_B.sl.r_158 c arg9 harg9 arg22 harg22 x7 xs1) = mS (blk x0 x1 x5 x6 x7 xs0 xs1) 5 := by
  simp only [kernelRun0_B.sl.r_158, kernelRun0_B.sl.r_155, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_157, View.readAt_eq_ld, harg9.read_unread, m4 c arg9 harg9 arg22 harg22 x0 x1 x5 x6 x7 xs0 xs1]
  rfl

theorem m6 : (kernelRun0_B.sl.r_195 c arg9 harg9 arg22 harg22 x7 xs1) = mS (blk x0 x1 x5 x6 x7 xs0 xs1) 6 := by
  simp only [kernelRun0_B.sl.r_195, kernelRun0_B.sl.r, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, View.readAt_eq_ld, harg9.read_unread, m5 c arg9 harg9 arg22 harg22 x0 x1 x5 x6 x7 xs0 xs1]
  rfl

theorem m7 : (kernelRun0_B.sl.r_232 c arg9 harg9 arg22 harg22 x7 xs1) = mS (blk x0 x1 x5 x6 x7 xs0 xs1) 7 := by
  simp only [kernelRun0_B.sl.r_232, kernelRun0_B.sl.r, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, View.readAt_eq_ld, harg9.read_unread, m6 c arg9 harg9 arg22 harg22 x0 x1 x5 x6 x7 xs0 xs1]
  rfl

theorem m8 : (kernelRun0_B.sl.r_267 c arg9 harg9 arg22 harg22 x7 xs1) = mS (blk x0 x1 x5 x6 x7 xs0 xs1) 8 := by
  simp only [kernelRun0_B.sl.r_267, kernelRun0_B.sl.r, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, View.readAt_eq_ld, harg9.read_unread, m7 c arg9 harg9 arg22 harg22 x0 x1 x5 x6 x7 xs0 xs1]
  rfl

theorem c1_0 : (kernelRun0_B.sl.v483 c arg2 harg2 arg8 harg8 arg9 harg9 arg21 harg21 arg22 harg22 x0 x6 x7 xs0 xs1) = cS (blk x0 x1 x5 x6 x7 xs0 xs1) 0 1 := by
  rw [kernelRun0_B.sl.v483, kernelRun0_B.sl.HS0_2, View.readCov_skip _ _ _ _ _ (by decide), View.readCov_cons_toLoadRect]
  simp only [kernelRun0_B.sl.r_14, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_25, kernelRun0_B.sl.r_27, kernelRun0_B.sl.r_19, kernelRun0_B.sl.r_17, kernelRun0_B.sl.r_15, kernelRun0_B.sl.r_28, kernelRun0_B.sl.r_13, kernelRun0_B.sl.r_29, View.readAt_eq_ld, harg2.read_unread, harg8.read_unread, harg9.read_unread, harg21.read_unread, harg22.read_unread]
  rfl

theorem c1_1 : (kernelRun0_B.sl.v635 c arg2 harg2 arg8 harg8 arg9 harg9 arg21 harg21 arg22 harg22 x0 x6 x7 xs0 xs1) = cS (blk x0 x1 x5 x6 x7 xs0 xs1) 1 1 := by
  rw [kernelRun0_B.sl.v635, kernelRun0_B.sl.HS0_3, View.readCov_skip _ _ _ _ _ (by decide), kernelRun0_B.sl.HS0_2, View.readCov_cons_toLoadRect]
  simp only [kernelRun0_B.sl.r_13, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_14, kernelRun0_B.sl.r_40, kernelRun0_B.sl.r_42, kernelRun0_B.sl.r_33, kernelRun0_B.sl.r_15, kernelRun0_B.sl.r_43, kernelRun0_B.sl.r_31, kernelRun0_B.sl.r_44, kernelRun0_B.sl.cst_66, View.readAt_eq_ld, harg2.read_unread, harg8.read_unread, harg9.read_unread, harg22.read_unread, c0_1 c arg21 harg21 x0 x1 x5 x6 x7 xs0 xs1]
  rfl

theorem c2_0 : (kernelRun0_B.sl.v813 c arg2 harg2 arg8 harg8 arg9 harg9 arg21 harg21 arg22 harg22 x0 x6 x7 xs0 xs1) = cS (blk x0 x1 x5 x6 x7 xs0 xs1) 0 2 := by
  rw [kernelRun0_B.sl.v813, kernelRun0_B.sl.HS0_4, View.readCov_skip _ _ _ _ _ (by decide), kernelRun0_B.sl.HS0_3, View.readCov_cons_toLoadRect]
  simp only [kernelRun0_B.sl.r_62, kernelRun0_B.sl.r_54, kernelRun0_B.sl.r_52, kernelRun0_B.sl.r_50, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_63, kernelRun0_B.sl.r_48, kernelRun0_B.sl.r_64, kernelRun0_B.sl.r_49, kernelRun0_B.sl.r_65, View.readAt_eq_ld, harg2.read_unread, harg8.read_unread, harg9.read_unread, c1_0 c arg2 harg2 arg8 harg8 arg9 harg9 arg21 harg21 arg22 harg22 x0 x1 x5 x6 x7 xs0 xs1, m1 c arg9 harg9 arg22 harg22 x0 x1 x5 x6 x7 xs0 xs1]
  rfl

theorem c2_1 : (kernelRun0_B.sl.v965 c arg2 harg2 arg8 harg8 arg9 harg9 arg21 harg21 arg22 harg22 x0 x6 x7 xs0 xs1) = cS (blk x0 x1 x5 x6 x7 xs0 xs1) 1 2 := by
  rw [kernelRun0_B.sl.v965, kernelRun0_B.sl.HS0_5, View.readCov_skip _ _ _ _ _ (by decide), kernelRun0_B.sl.HS0_4, View.readCov_cons_toLoadRect]
  simp only [kernelRun0_B.sl.r_49, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_74, kernelRun0_B.sl.r_76, kernelRun0_B.sl.r_68, kernelRun0_B.sl.r_66, kernelRun0_B.sl.r_50, kernelRun0_B.sl.r_77, kernelRun0_B.sl.r_48, kernelRun0_B.sl.r_78, View.readAt_eq_ld, harg2.read_unread, harg8.read_unread, harg9.read_unread, m1 c arg9 harg9 arg22 harg22 x0 x1 x5 x6 x7 xs0 xs1, c1_1 c arg2 harg2 arg8 harg8 arg9 harg9 arg21 harg21 arg22 harg22 x0 x1 x5 x6 x7 xs0 xs1]
  rfl

theorem c3_0 : (kernelRun0_B.sl.v1143 c arg2 harg2 arg8 harg8 arg9 harg9 arg21 harg21 arg22 harg22 x0 x6 x7 xs0 xs1) = cS (blk x0 x1 x5 x6 x7 xs0 xs1) 0 3 := by
  rw [kernelRun0_B.sl.v1143, kernelRun0_B.sl.HS0_6, View.readCov_skip _ _ _ _ _ (by decide), kernelRun0_B.sl.HS0_5, View.readCov_cons_toLoadRect]
  simp only [kernelRun0_B.sl.r_101, kernelRun0_B.sl.r_97, kernelRun0_B.sl.r_88, kernelRun0_B.sl.r_96, kernelRun0_B.sl.r_95, kernelRun0_B.sl.r_86, kernelRun0_B.sl.r_84, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_83, kernelRun0_B.sl.r_82, View.readAt_eq_ld, harg2.read_unread, harg8.read_unread, harg9.read_unread, c2_0 c arg2 harg2 arg8 harg8 arg9 harg9 arg21 harg21 arg22 harg22 x0 x1 x5 x6 x7 xs0 xs1, m2 c arg9 harg9 arg22 harg22 x0 x1 x5 x6 x7 xs0 xs1]
  rfl

theorem c3_1 : (kernelRun0_B.sl.v1295 c arg2 harg2 arg8 harg8 arg9 harg9 arg21 harg21 arg22 harg22 x0 x6 x7 xs0 xs1) = cS (blk x0 x1 x5 x6 x7 xs0 xs1) 1 3 := by
  rw [kernelRun0_B.sl.v1295, kernelRun0_B.sl.HS0_7, View.readCov_skip _ _ _ _ _ (by decide), kernelRun0_B.sl.HS0_6, View.readCov_cons_toLoadRect]
  simp only [kernelRun0_B.sl.r_111, kernelRun0_B.sl.r_104, kernelRun0_B.sl.r_102, kernelRun0_B.sl.r_84, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_112, kernelRun0_B.sl.r_82, kernelRun0_B.sl.r_113, kernelRun0_B.sl.r_83, kernelRun0_B.sl.r_114, View.readAt_eq_ld, harg2.read_unread, harg8.read_unread, harg9.read_unread, c2_1 c arg2 harg2 arg8 harg8 arg9 harg9 arg21 harg21 arg22 harg22 x0 x1 x5 x6 x7 xs0 xs1, m2 c arg9 harg9 arg22 harg22 x0 x1 x5 x6 x7 xs0 xs1]
  rfl

theorem c4_0 : (kernelRun0_B.sl.v1473 c arg2 harg2 arg8 harg8 arg9 harg9 arg21 harg21 arg22 harg22 x0 x6 x7 xs0 xs1) = cS (blk x0 x1 x5 x6 x7 xs0 xs1) 0 4 := by
  rw [kernelRun0_B.sl.v1473, kernelRun0_B.sl.HS0_8, View.readCov_skip _ _ _ _ _ (by decide), kernelRun0_B.sl.HS0_7, View.readCov_cons_toLoadRect]
  simp only [kernelRun0_B.sl.r_120, kernelRun0_B.sl.r_117, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r_116, kernelRun0_B.sl.r_115, kernelRun0_B.sl.r, kernelRun0_B.sl.r_121, kernelRun0_B.sl.r_122, kernelRun0_B.sl.r_124, kernelRun0_B.sl.r_130, kernelRun0_B.sl.r_131, kernelRun0_B.sl.r_126, kernelRun0_B.sl.r_132, View.readAt_eq_ld, harg2.read_unread, harg8.read_unread, harg9.read_unread, m3 c arg9 harg9 arg22 harg22 x0 x1 x5 x6 x7 xs0 xs1, c3_0 c arg2 harg2 arg8 harg8 arg9 harg9 arg21 harg21 arg22 harg22 x0 x1 x5 x6 x7 xs0 xs1]
  rfl

theorem c4_1 : (kernelRun0_B.sl.v1625 c arg2 harg2 arg8 harg8 arg9 harg9 arg21 harg21 arg22 harg22 x0 x6 x7 xs0 xs1) = cS (blk x0 x1 x5 x6 x7 xs0 xs1) 1 4 := by
  rw [kernelRun0_B.sl.v1625, kernelRun0_B.sl.HS0_9, View.readCov_skip _ _ _ _ _ (by decide), kernelRun0_B.sl.HS0_8, View.readCov_cons_toLoadRect]
  simp only [kernelRun0_B.sl.r_151, kernelRun0_B.sl.r_148, kernelRun0_B.sl.r_138, kernelRun0_B.sl.r_147, kernelRun0_B.sl.r_145, kernelRun0_B.sl.r_136, kernelRun0_B.sl.r_122, kernelRun0_B.sl.r_117, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r_116, kernelRun0_B.sl.r_115, kernelRun0_B.sl.r, kernelRun0_B.sl.r_121, kernelRun0_B.sl.r_120, View.readAt_eq_ld, harg2.read_unread, harg8.read_unread, harg9.read_unread, c3_1 c arg2 harg2 arg8 harg8 arg9 harg9 arg21 harg21 arg22 harg22 x0 x1 x5 x6 x7 xs0 xs1, m3 c arg9 harg9 arg22 harg22 x0 x1 x5 x6 x7 xs0 xs1]
  rfl

theorem c5_0 : (kernelRun0_B.sl.v1803 c arg2 harg2 arg8 harg8 arg9 harg9 arg21 harg21 arg22 harg22 x0 x6 x7 xs0 xs1) = cS (blk x0 x1 x5 x6 x7 xs0 xs1) 0 5 := by
  rw [kernelRun0_B.sl.v1803, kernelRun0_B.sl.HS0_10, View.readCov_skip _ _ _ _ _ (by decide), kernelRun0_B.sl.HS0_9, View.readCov_cons_toLoadRect]
  simp only [kernelRun0_B.sl.r_159, kernelRun0_B.sl.r_157, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r_155, kernelRun0_B.sl.r, kernelRun0_B.sl.r_153, kernelRun0_B.sl.r_160, kernelRun0_B.sl.r_163, kernelRun0_B.sl.r_171, kernelRun0_B.sl.r_172, kernelRun0_B.sl.r_165, kernelRun0_B.sl.r_174, kernelRun0_B.sl.r_161, kernelRun0_B.sl.r_154, kernelRun0_B.sl.r_175, View.readAt_eq_ld, harg2.read_unread, harg8.read_unread, harg9.read_unread, m4 c arg9 harg9 arg22 harg22 x0 x1 x5 x6 x7 xs0 xs1, c4_0 c arg2 harg2 arg8 harg8 arg9 harg9 arg21 harg21 arg22 harg22 x0 x1 x5 x6 x7 xs0 xs1]
  rfl

theorem c5_1 : (kernelRun0_B.sl.v1955 c arg2 harg2 arg8 harg8 arg9 harg9 arg21 harg21 arg22 harg22 x0 x6 x7 xs0 xs1) = cS (blk x0 x1 x5 x6 x7 xs0 xs1) 1 5 := by
  rw [kernelRun0_B.sl.v1955, kernelRun0_B.sl.HS0_11, View.readCov_skip _ _ _ _ _ (by decide), kernelRun0_B.sl.HS0_10, View.readCov_cons_toLoadRect]
  simp only [kernelRun0_B.sl.r_159, kernelRun0_B.sl.r_157, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r_155, kernelRun0_B.sl.r, kernelRun0_B.sl.r_153, kernelRun0_B.sl.r_160, kernelRun0_B.sl.r_161, kernelRun0_B.sl.r_154, kernelRun0_B.sl.r_178, kernelRun0_B.sl.r_185, kernelRun0_B.sl.r_186, kernelRun0_B.sl.r_180, kernelRun0_B.sl.r_187, View.readAt_eq_ld, harg2.read_unread, harg8.read_unread, harg9.read_unread, m4 c arg9 harg9 arg22 harg22 x0 x1 x5 x6 x7 xs0 xs1, c4_1 c arg2 harg2 arg8 harg8 arg9 harg9 arg21 harg21 arg22 harg22 x0 x1 x5 x6 x7 xs0 xs1]
  rfl

theorem c6_0 : (kernelRun0_B.sl.v2133 c arg2 harg2 arg8 harg8 arg9 harg9 arg21 harg21 arg22 harg22 x0 x6 x7 xs0 xs1) = cS (blk x0 x1 x5 x6 x7 xs0 xs1) 0 6 := by
  rw [kernelRun0_B.sl.v2133, kernelRun0_B.sl.HS0_12, View.readCov_skip _ _ _ _ _ (by decide), kernelRun0_B.sl.HS0_11, View.readCov_cons_toLoadRect]
  simp only [kernelRun0_B.sl.r_196, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_197, kernelRun0_B.sl.r_209, kernelRun0_B.sl.r_211, kernelRun0_B.sl.r_202, kernelRun0_B.sl.r_198, kernelRun0_B.sl.r_212, kernelRun0_B.sl.r_200, kernelRun0_B.sl.r_213, View.readAt_eq_ld, harg2.read_unread, harg8.read_unread, harg9.read_unread, m5 c arg9 harg9 arg22 harg22 x0 x1 x5 x6 x7 xs0 xs1, c5_0 c arg2 harg2 arg8 harg8 arg9 harg9 arg21 harg21 arg22 harg22 x0 x1 x5 x6 x7 xs0 xs1]
  rfl

theorem c6_1 : (kernelRun0_B.sl.v2285 c arg2 harg2 arg8 harg8 arg9 harg9 arg21 harg21 arg22 harg22 x0 x6 x7 xs0 xs1) = cS (blk x0 x1 x5 x6 x7 xs0 xs1) 1 6 := by
  rw [kernelRun0_B.sl.v2285, kernelRun0_B.sl.HS0_13, View.readCov_skip _ _ _ _ _ (by decide), kernelRun0_B.sl.HS0_12, View.readCov_cons_toLoadRect]
  simp only [kernelRun0_B.sl.r_196, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_197, kernelRun0_B.sl.r_215, kernelRun0_B.sl.r_223, kernelRun0_B.sl.r_224, kernelRun0_B.sl.r_217, kernelRun0_B.sl.r_226, kernelRun0_B.sl.r_198, kernelRun0_B.sl.r_227, View.readAt_eq_ld, harg2.read_unread, harg8.read_unread, harg9.read_unread, m5 c arg9 harg9 arg22 harg22 x0 x1 x5 x6 x7 xs0 xs1, c5_1 c arg2 harg2 arg8 harg8 arg9 harg9 arg21 harg21 arg22 harg22 x0 x1 x5 x6 x7 xs0 xs1]
  rfl

theorem c7_0 : (kernelRun0_B.sl.v2463 c arg2 harg2 arg8 harg8 arg9 harg9 arg21 harg21 arg22 harg22 x0 x6 x7 xs0 xs1) = cS (blk x0 x1 x5 x6 x7 xs0 xs1) 0 7 := by
  rw [kernelRun0_B.sl.v2463, kernelRun0_B.sl.HS0_14, View.readCov_skip _ _ _ _ _ (by decide), kernelRun0_B.sl.HS0_13, View.readCov_cons_toLoadRect]
  simp only [kernelRun0_B.sl.r_234, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_245, kernelRun0_B.sl.r_247, kernelRun0_B.sl.r_239, kernelRun0_B.sl.r_237, kernelRun0_B.sl.r_235, kernelRun0_B.sl.r_248, kernelRun0_B.sl.r_233, kernelRun0_B.sl.r_249, View.readAt_eq_ld, harg2.read_unread, harg8.read_unread, harg9.read_unread, m6 c arg9 harg9 arg22 harg22 x0 x1 x5 x6 x7 xs0 xs1, c6_0 c arg2 harg2 arg8 harg8 arg9 harg9 arg21 harg21 arg22 harg22 x0 x1 x5 x6 x7 xs0 xs1]
  rfl

theorem c7_1 : (kernelRun0_B.sl.v2615 c arg2 harg2 arg8 harg8 arg9 harg9 arg21 harg21 arg22 harg22 x0 x6 x7 xs0 xs1) = cS (blk x0 x1 x5 x6 x7 xs0 xs1) 1 7 := by
  rw [kernelRun0_B.sl.v2615, kernelRun0_B.sl.HS0_15, View.readCov_skip _ _ _ _ _ (by decide), kernelRun0_B.sl.HS0_14, View.readCov_cons_toLoadRect]
  simp only [kernelRun0_B.sl.r_233, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_234, kernelRun0_B.sl.r_260, kernelRun0_B.sl.r_262, kernelRun0_B.sl.r_253, kernelRun0_B.sl.r_235, kernelRun0_B.sl.r_263, kernelRun0_B.sl.r_251, kernelRun0_B.sl.r_264, kernelRun0_B.sl.cst_66, View.readAt_eq_ld, harg2.read_unread, harg8.read_unread, harg9.read_unread, m6 c arg9 harg9 arg22 harg22 x0 x1 x5 x6 x7 xs0 xs1, c6_1 c arg2 harg2 arg8 harg8 arg9 harg9 arg21 harg21 arg22 harg22 x0 x1 x5 x6 x7 xs0 xs1]
  rfl

theorem g7_3 : k0_pay472 (kernelRun0_B.sl.r_299 c arg2 harg2 arg3 harg3 arg7 harg7 arg8 harg8 arg9 harg9 arg21 harg21 arg22 harg22 x0 x1 x5 x6 x7 xs0 xs1) = gP (blk x0 x1 x5 x6 x7 xs0 xs1) 7 1 1 := by
  simp only [kernelRun0_B.sl.r_299, kernelRun0_B.sl.r_295, kernelRun0_B.sl.r_293, kernelRun0_B.sl.r_271, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_292, kernelRun0_B.sl.r_291, kernelRun0_B.sl.r_286, kernelRun0_B.sl.r_289, kernelRun0_B.sl.r_288, kernelRun0_B.sl.r_287, kernelRun0_B.sl.r_290, kernelRun0_B.sl.r_266, View.readAt_eq_ld, harg2.read_unread, harg3.read_unread, harg7.read_unread, harg8.read_unread, harg9.read_unread, c7_1 c arg2 harg2 arg8 harg8 arg9 harg9 arg21 harg21 arg22 harg22 x0 x1 x5 x6 x7 xs0 xs1, m7 c arg9 harg9 arg22 harg22 x0 x1 x5 x6 x7 xs0 xs1]
  rfl

theorem g7_2 : k0_pay470 (kernelRun0_B.sl.r_290 c arg9 harg9 arg22 harg22 x7 xs1) (kernelRun0_B.sl.r_295 c arg2 harg2 arg7 harg7 arg8 harg8 arg9 harg9 arg21 harg21 arg22 harg22 x0 x5 x6 x7 xs0 xs1) (View.readAt (Elt F) arg3.view (Rect.unit (s := S1x1024x512) ![0, 896, 256] S1x128x128.size inb_S1x1024x512_S1x128x128_0_896_256).toLoadRect (harg3.unread x1)) = gP (blk x0 x1 x5 x6 x7 xs0 xs1) 7 1 0 := by
  simp only [kernelRun0_B.sl.r_290, kernelRun0_B.sl.r_271, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_266, kernelRun0_B.sl.r_295, kernelRun0_B.sl.r_293, kernelRun0_B.sl.r_292, kernelRun0_B.sl.r_291, kernelRun0_B.sl.r_286, kernelRun0_B.sl.r_289, kernelRun0_B.sl.r_288, kernelRun0_B.sl.r_287, View.readAt_eq_ld, harg2.read_unread, harg3.read_unread, harg7.read_unread, harg8.read_unread, harg9.read_unread, m7 c arg9 harg9 arg22 harg22 x0 x1 x5 x6 x7 xs0 xs1, c7_1 c arg2 harg2 arg8 harg8 arg9 harg9 arg21 harg21 arg22 harg22 x0 x1 x5 x6 x7 xs0 xs1]
  rfl

theorem g7_1 : k0_pay449 (kernelRun0_B.sl.r_277 c arg9 harg9 arg22 harg22 x7 xs1) (kernelRun0_B.sl.r_281 c arg2 harg2 arg7 harg7 arg8 harg8 arg9 harg9 arg21 harg21 arg22 harg22 x0 x5 x6 x7 xs0 xs1) (View.readAt (Elt F) arg3.view (Rect.unit (s := S1x1024x512) ![0, 896, 128] S1x128x128.size inb_S1x1024x512_S1x128x128_0_896_128).toLoadRect (harg3.unread x1)) = gP (blk x0 x1 x5 x6 x7 xs0 xs1) 7 0 1 := by
  simp only [kernelRun0_B.sl.r_277, kernelRun0_B.sl.r_271, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_266, kernelRun0_B.sl.r_281, kernelRun0_B.sl.r_280, kernelRun0_B.sl.r_273, kernelRun0_B.sl.r_279, kernelRun0_B.sl.r_278, kernelRun0_B.sl.r_276, kernelRun0_B.sl.r_275, kernelRun0_B.sl.r_272, kernelRun0_B.sl.r_274, View.readAt_eq_ld, harg2.read_unread, harg3.read_unread, harg7.read_unread, harg8.read_unread, harg9.read_unread, m7 c arg9 harg9 arg22 harg22 x0 x1 x5 x6 x7 xs0 xs1, c7_0 c arg2 harg2 arg8 harg8 arg9 harg9 arg21 harg21 arg22 harg22 x0 x1 x5 x6 x7 xs0 xs1]
  rfl

theorem g7_0 : k0_pay448 (kernelRun0_B.sl.r_277 c arg9 harg9 arg22 harg22 x7 xs1) (kernelRun0_B.sl.r_281 c arg2 harg2 arg7 harg7 arg8 harg8 arg9 harg9 arg21 harg21 arg22 harg22 x0 x5 x6 x7 xs0 xs1) (View.readAt (Elt F) arg3.view (Rect.unit (s := S1x1024x512) ![0, 896, 0] S1x128x128.size inb_S1x1024x512_S1x128x128_0_896_0).toLoadRect (harg3.unread x1)) = gP (blk x0 x1 x5 x6 x7 xs0 xs1) 7 0 0 := by
  simp only [kernelRun0_B.sl.r_277, kernelRun0_B.sl.r_271, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_266, kernelRun0_B.sl.r_281, kernelRun0_B.sl.r_280, kernelRun0_B.sl.r_273, kernelRun0_B.sl.r_279, kernelRun0_B.sl.r_278, kernelRun0_B.sl.r_276, kernelRun0_B.sl.r_275, kernelRun0_B.sl.r_272, kernelRun0_B.sl.r_274, View.readAt_eq_ld, harg2.read_unread, harg3.read_unread, harg7.read_unread, harg8.read_unread, harg9.read_unread, m7 c arg9 harg9 arg22 harg22 x0 x1 x5 x6 x7 xs0 xs1, c7_0 c arg2 harg2 arg8 harg8 arg9 harg9 arg21 harg21 arg22 harg22 x0 x1 x5 x6 x7 xs0 xs1]
  rfl

theorem g6_3 : k0_pay414 (kernelRun0_B.sl.r_265 c arg2 harg2 arg7 harg7 arg8 harg8 arg9 harg9 arg21 harg21 arg22 harg22 x0 x5 x6 x7 xs0 xs1) (View.readAt (Elt F) arg3.view (Rect.unit (s := S1x1024x512) ![0, 768, 384] S1x128x128.size inb_S1x1024x512_S1x128x128_0_768_384).toLoadRect (harg3.unread x1)) = gP (blk x0 x1 x5 x6 x7 xs0 xs1) 6 1 1 := by
  simp only [kernelRun0_B.sl.r_265, kernelRun0_B.sl.r_261, kernelRun0_B.sl.r_257, kernelRun0_B.sl.r_236, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_256, kernelRun0_B.sl.r_255, kernelRun0_B.sl.r_254, kernelRun0_B.sl.r_253, kernelRun0_B.sl.r_252, kernelRun0_B.sl.r_259, kernelRun0_B.sl.r_258, kernelRun0_B.sl.r_231, View.readAt_eq_ld, harg2.read_unread, harg3.read_unread, harg7.read_unread, harg8.read_unread, harg9.read_unread, c6_1 c arg2 harg2 arg8 harg8 arg9 harg9 arg21 harg21 arg22 harg22 x0 x1 x5 x6 x7 xs0 xs1, m6 c arg9 harg9 arg22 harg22 x0 x1 x5 x6 x7 xs0 xs1]
  rfl

theorem g6_2 : k0_pay413 (kernelRun0_B.sl.r_259 c arg9 harg9 arg22 harg22 x7 xs1) (kernelRun0_B.sl.r_261 c arg2 harg2 arg7 harg7 arg8 harg8 arg9 harg9 arg21 harg21 arg22 harg22 x0 x5 x6 x7 xs0 xs1) (View.readAt (Elt F) arg3.view (Rect.unit (s := S1x1024x512) ![0, 768, 256] S1x128x128.size inb_S1x1024x512_S1x128x128_0_768_256).toLoadRect (harg3.unread x1)) = gP (blk x0 x1 x5 x6 x7 xs0 xs1) 6 1 0 := by
  simp only [kernelRun0_B.sl.r_259, kernelRun0_B.sl.r_258, kernelRun0_B.sl.r_231, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r_256, kernelRun0_B.sl.r_236, kernelRun0_B.sl.r, kernelRun0_B.sl.r_261, kernelRun0_B.sl.r_257, kernelRun0_B.sl.r_255, kernelRun0_B.sl.r_254, kernelRun0_B.sl.r_253, kernelRun0_B.sl.r_252, View.readAt_eq_ld, harg2.read_unread, harg3.read_unread, harg7.read_unread, harg8.read_unread, harg9.read_unread, m6 c arg9 harg9 arg22 harg22 x0 x1 x5 x6 x7 xs0 xs1, c6_1 c arg2 harg2 arg8 harg8 arg9 harg9 arg21 harg21 arg22 harg22 x0 x1 x5 x6 x7 xs0 xs1]
  rfl

theorem g6_1 : k0_pay393 (kernelRun0_B.sl.r_250 c arg2 harg2 arg3 harg3 arg7 harg7 arg8 harg8 arg9 harg9 arg21 harg21 arg22 harg22 x0 x1 x5 x6 x7 xs0 xs1) = gP (blk x0 x1 x5 x6 x7 xs0 xs1) 6 0 1 := by
  simp only [kernelRun0_B.sl.r_250, kernelRun0_B.sl.r_246, kernelRun0_B.sl.r_244, kernelRun0_B.sl.r_236, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_243, kernelRun0_B.sl.r_242, kernelRun0_B.sl.r_237, kernelRun0_B.sl.r_240, kernelRun0_B.sl.r_239, kernelRun0_B.sl.r_238, kernelRun0_B.sl.r_241, kernelRun0_B.sl.r_231, View.readAt_eq_ld, harg2.read_unread, harg3.read_unread, harg7.read_unread, harg8.read_unread, harg9.read_unread, c6_0 c arg2 harg2 arg8 harg8 arg9 harg9 arg21 harg21 arg22 harg22 x0 x1 x5 x6 x7 xs0 xs1, m6 c arg9 harg9 arg22 harg22 x0 x1 x5 x6 x7 xs0 xs1]
  rfl

theorem g6_0 : k0_pay391 (kernelRun0_B.sl.r_241 c arg9 harg9 arg22 harg22 x7 xs1) (kernelRun0_B.sl.r_246 c arg2 harg2 arg7 harg7 arg8 harg8 arg9 harg9 arg21 harg21 arg22 harg22 x0 x5 x6 x7 xs0 xs1) (View.readAt (Elt F) arg3.view (Rect.unit (s := S1x1024x512) ![0, 768, 0] S1x128x128.size inb_S1x1024x512_S1x128x128_0_768_0).toLoadRect (harg3.unread x1)) = gP (blk x0 x1 x5 x6 x7 xs0 xs1) 6 0 0 := by
  simp only [kernelRun0_B.sl.r_241, kernelRun0_B.sl.r_236, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_231, kernelRun0_B.sl.r_246, kernelRun0_B.sl.r_244, kernelRun0_B.sl.r_243, kernelRun0_B.sl.r_242, kernelRun0_B.sl.r_237, kernelRun0_B.sl.r_240, kernelRun0_B.sl.r_239, kernelRun0_B.sl.r_238, View.readAt_eq_ld, harg2.read_unread, harg3.read_unread, harg7.read_unread, harg8.read_unread, harg9.read_unread, m6 c arg9 harg9 arg22 harg22 x0 x1 x5 x6 x7 xs0 xs1, c6_0 c arg2 harg2 arg8 harg8 arg9 harg9 arg21 harg21 arg22 harg22 x0 x1 x5 x6 x7 xs0 xs1]
  rfl

theorem g5_3 : k0_pay360 (kernelRun0_B.sl.r_228 c arg2 harg2 arg7 harg7 arg8 harg8 arg9 harg9 arg21 harg21 arg22 harg22 x0 x5 x6 x7 xs0 xs1) (View.readAt (Elt F) arg3.view (Rect.unit (s := S1x1024x512) ![0, 640, 384] S1x128x128.size inb_S1x1024x512_S1x128x128_0_640_384).toLoadRect (harg3.unread x1)) = gP (blk x0 x1 x5 x6 x7 xs0 xs1) 5 1 1 := by
  simp only [kernelRun0_B.sl.r_228, kernelRun0_B.sl.r_225, kernelRun0_B.sl.r_221, kernelRun0_B.sl.r_199, kernelRun0_B.sl.cst_377, kernelRun0_B.sl.r_194, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_220, kernelRun0_B.sl.r_219, kernelRun0_B.sl.r_218, kernelRun0_B.sl.r_217, kernelRun0_B.sl.r_216, kernelRun0_B.sl.r_222, kernelRun0_B.sl.r_193, View.readAt_eq_ld, harg2.read_unread, harg3.read_unread, harg7.read_unread, harg8.read_unread, harg9.read_unread, c5_1 c arg2 harg2 arg8 harg8 arg9 harg9 arg21 harg21 arg22 harg22 x0 x1 x5 x6 x7 xs0 xs1, m5 c arg9 harg9 arg22 harg22 x0 x1 x5 x6 x7 xs0 xs1]
  rfl

theorem g5_2 : k0_pay359 (kernelRun0_B.sl.r_229 c arg3 harg3 x1) (kernelRun0_B.sl.r_230 c arg2 harg2 arg7 harg7 arg8 harg8 arg9 harg9 arg21 harg21 arg22 harg22 x0 x5 x6 x7 xs0 xs1) = gP (blk x0 x1 x5 x6 x7 xs0 xs1) 5 1 0 := by
  simp only [kernelRun0_B.sl.r_229, kernelRun0_B.sl.r_230, kernelRun0_B.sl.r_225, kernelRun0_B.sl.r_221, kernelRun0_B.sl.r_199, kernelRun0_B.sl.cst_377, kernelRun0_B.sl.r_194, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_220, kernelRun0_B.sl.r_219, kernelRun0_B.sl.r_218, kernelRun0_B.sl.r_217, kernelRun0_B.sl.r_216, kernelRun0_B.sl.r_222, kernelRun0_B.sl.r_193, View.readAt_eq_ld, harg2.read_unread, harg3.read_unread, harg7.read_unread, harg8.read_unread, harg9.read_unread, c5_1 c arg2 harg2 arg8 harg8 arg9 harg9 arg21 harg21 arg22 harg22 x0 x1 x5 x6 x7 xs0 xs1, m5 c arg9 harg9 arg22 harg22 x0 x1 x5 x6 x7 xs0 xs1]
  rfl

theorem g5_1 : k0_pay339 (kernelRun0_B.sl.r_214 c arg2 harg2 arg7 harg7 arg8 harg8 arg9 harg9 arg21 harg21 arg22 harg22 x0 x5 x6 x7 xs0 xs1) (View.readAt (Elt F) arg3.view (Rect.unit (s := S1x1024x512) ![0, 640, 128] S1x128x128.size inb_S1x1024x512_S1x128x128_0_640_128).toLoadRect (harg3.unread x1)) = gP (blk x0 x1 x5 x6 x7 xs0 xs1) 5 0 1 := by
  simp only [kernelRun0_B.sl.r_214, kernelRun0_B.sl.r_210, kernelRun0_B.sl.r_206, kernelRun0_B.sl.cst_377, kernelRun0_B.sl.r_194, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_205, kernelRun0_B.sl.r_204, kernelRun0_B.sl.r_203, kernelRun0_B.sl.r_202, kernelRun0_B.sl.r_201, kernelRun0_B.sl.r_208, kernelRun0_B.sl.r_207, kernelRun0_B.sl.r_193, View.readAt_eq_ld, harg2.read_unread, harg3.read_unread, harg7.read_unread, harg8.read_unread, harg9.read_unread, c5_0 c arg2 harg2 arg8 harg8 arg9 harg9 arg21 harg21 arg22 harg22 x0 x1 x5 x6 x7 xs0 xs1, m5 c arg9 harg9 arg22 harg22 x0 x1 x5 x6 x7 xs0 xs1]
  rfl

theorem g5_0 : k0_pay338 (kernelRun0_B.sl.r_208 c arg9 harg9 arg22 harg22 x7 xs1) (kernelRun0_B.sl.r_210 c arg2 harg2 arg7 harg7 arg8 harg8 arg9 harg9 arg21 harg21 arg22 harg22 x0 x5 x6 x7 xs0 xs1) (View.readAt (Elt F) arg3.view (Rect.unit (s := S1x1024x512) ![0, 640, 0] S1x128x128.size inb_S1x1024x512_S1x128x128_0_640_0).toLoadRect (harg3.unread x1)) = gP (blk x0 x1 x5 x6 x7 xs0 xs1) 5 0 0 := by
  simp only [kernelRun0_B.sl.r_208, kernelRun0_B.sl.r_207, kernelRun0_B.sl.cst_377, kernelRun0_B.sl.r_194, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_193, kernelRun0_B.sl.r_210, kernelRun0_B.sl.r_206, kernelRun0_B.sl.r_205, kernelRun0_B.sl.r_204, kernelRun0_B.sl.r_203, kernelRun0_B.sl.r_202, kernelRun0_B.sl.r_201, View.readAt_eq_ld, harg2.read_unread, harg3.read_unread, harg7.read_unread, harg8.read_unread, harg9.read_unread, m5 c arg9 harg9 arg22 harg22 x0 x1 x5 x6 x7 xs0 xs1, c5_0 c arg2 harg2 arg8 harg8 arg9 harg9 arg21 harg21 arg22 harg22 x0 x1 x5 x6 x7 xs0 xs1]
  rfl

theorem g4_3 : k0_pay306 (kernelRun0_B.sl.r_191 c arg2 harg2 arg7 harg7 arg8 harg8 arg9 harg9 arg21 harg21 arg22 harg22 x0 x5 x6 x7 xs0 xs1) (kernelRun0_B.sl.r_192 c arg2 harg2 arg7 harg7 arg8 harg8 arg9 harg9 arg21 harg21 arg22 harg22 x0 x5 x6 x7 xs0 xs1) (View.readAt (Elt F) arg3.view (Rect.unit (s := S1x1024x512) ![0, 512, 384] S1x128x128.size inb_S1x1024x512_S1x128x128_0_512_384).toLoadRect (harg3.unread x1)) = gP (blk x0 x1 x5 x6 x7 xs0 xs1) 4 1 1 := by
  simp only [kernelRun0_B.sl.r_191, kernelRun0_B.sl.r_190, kernelRun0_B.sl.r_183, kernelRun0_B.sl.r_162, kernelRun0_B.sl.r_156, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_182, kernelRun0_B.sl.r_181, kernelRun0_B.sl.r_179, kernelRun0_B.sl.r_189, kernelRun0_B.sl.r_188, kernelRun0_B.sl.r_180, kernelRun0_B.sl.r_192, kernelRun0_B.sl.r_184, kernelRun0_B.sl.r_152, View.readAt_eq_ld, harg2.read_unread, harg3.read_unread, harg7.read_unread, harg8.read_unread, harg9.read_unread, m4 c arg9 harg9 arg22 harg22 x0 x1 x5 x6 x7 xs0 xs1, c4_1 c arg2 harg2 arg8 harg8 arg9 harg9 arg21 harg21 arg22 harg22 x0 x1 x5 x6 x7 xs0 xs1]
  rfl

theorem g4_2 : k0_pay305 (kernelRun0_B.sl.r_191 c arg2 harg2 arg7 harg7 arg8 harg8 arg9 harg9 arg21 harg21 arg22 harg22 x0 x5 x6 x7 xs0 xs1) (kernelRun0_B.sl.r_192 c arg2 harg2 arg7 harg7 arg8 harg8 arg9 harg9 arg21 harg21 arg22 harg22 x0 x5 x6 x7 xs0 xs1) (View.readAt (Elt F) arg3.view (Rect.unit (s := S1x1024x512) ![0, 512, 256] S1x128x128.size inb_S1x1024x512_S1x128x128_0_512_256).toLoadRect (harg3.unread x1)) = gP (blk x0 x1 x5 x6 x7 xs0 xs1) 4 1 0 := by
  simp only [kernelRun0_B.sl.r_191, kernelRun0_B.sl.r_190, kernelRun0_B.sl.r_183, kernelRun0_B.sl.r_162, kernelRun0_B.sl.r_156, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_182, kernelRun0_B.sl.r_181, kernelRun0_B.sl.r_179, kernelRun0_B.sl.r_189, kernelRun0_B.sl.r_188, kernelRun0_B.sl.r_180, kernelRun0_B.sl.r_192, kernelRun0_B.sl.r_184, kernelRun0_B.sl.r_152, View.readAt_eq_ld, harg2.read_unread, harg3.read_unread, harg7.read_unread, harg8.read_unread, harg9.read_unread, m4 c arg9 harg9 arg22 harg22 x0 x1 x5 x6 x7 xs0 xs1, c4_1 c arg2 harg2 arg8 harg8 arg9 harg9 arg21 harg21 arg22 harg22 x0 x1 x5 x6 x7 xs0 xs1]
  rfl

theorem g4_1 : k0_pay280 (kernelRun0_B.sl.r_176 c arg2 harg2 arg7 harg7 arg8 harg8 arg9 harg9 arg21 harg21 arg22 harg22 x0 x5 x6 x7 xs0 xs1) (View.readAt (Elt F) arg3.view (Rect.unit (s := S1x1024x512) ![0, 512, 128] S1x128x128.size inb_S1x1024x512_S1x128x128_0_512_128).toLoadRect (harg3.unread x1)) = gP (blk x0 x1 x5 x6 x7 xs0 xs1) 4 0 1 := by
  simp only [kernelRun0_B.sl.r_176, kernelRun0_B.sl.r_173, kernelRun0_B.sl.r_169, kernelRun0_B.sl.r_156, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_168, kernelRun0_B.sl.r_167, kernelRun0_B.sl.r_166, kernelRun0_B.sl.r_165, kernelRun0_B.sl.r_164, kernelRun0_B.sl.r_170, kernelRun0_B.sl.r_152, View.readAt_eq_ld, harg2.read_unread, harg3.read_unread, harg7.read_unread, harg8.read_unread, harg9.read_unread, c4_0 c arg2 harg2 arg8 harg8 arg9 harg9 arg21 harg21 arg22 harg22 x0 x1 x5 x6 x7 xs0 xs1, m4 c arg9 harg9 arg22 harg22 x0 x1 x5 x6 x7 xs0 xs1]
  rfl

theorem g4_0 : k0_pay279 (kernelRun0_B.sl.r_177 c arg2 harg2 arg3 harg3 arg7 harg7 arg8 harg8 arg9 harg9 arg21 harg21 arg22 harg22 x0 x1 x5 x6 x7 xs0 xs1) = gP (blk x0 x1 x5 x6 x7 xs0 xs1) 4 0 0 := by
  simp only [kernelRun0_B.sl.r_177, kernelRun0_B.sl.r_173, kernelRun0_B.sl.r_169, kernelRun0_B.sl.r_156, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_168, kernelRun0_B.sl.r_167, kernelRun0_B.sl.r_166, kernelRun0_B.sl.r_165, kernelRun0_B.sl.r_164, kernelRun0_B.sl.r_170, kernelRun0_B.sl.r_152, View.readAt_eq_ld, harg2.read_unread, harg3.read_unread, harg7.read_unread, harg8.read_unread, harg9.read_unread, c4_0 c arg2 harg2 arg8 harg8 arg9 harg9 arg21 harg21 arg22 harg22 x0 x1 x5 x6 x7 xs0 xs1, m4 c arg9 harg9 arg22 harg22 x0 x1 x5 x6 x7 xs0 xs1]
  rfl

theorem g3_3 : k0_pay248 (kernelRun0_B.sl.r_141 c arg9 harg9 arg22 harg22 x7 xs1) (kernelRun0_B.sl.r_150 c arg2 harg2 arg7 harg7 arg8 harg8 arg9 harg9 arg21 harg21 arg22 harg22 x0 x5 x6 x7 xs0 xs1) (View.readAt (Elt F) arg3.view (Rect.unit (s := S1x1024x512) ![0, 384, 384] S1x128x128.size inb_S1x1024x512_S1x128x128_0_384_384).toLoadRect (harg3.unread x1)) = gP (blk x0 x1 x5 x6 x7 xs0 xs1) 3 1 1 := by
  simp only [kernelRun0_B.sl.r_141, kernelRun0_B.sl.cst_168, kernelRun0_B.sl.r_140, kernelRun0_B.sl.r_123, kernelRun0_B.sl.r_117, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r_116, kernelRun0_B.sl.r_115, kernelRun0_B.sl.r, kernelRun0_B.sl.r_118, kernelRun0_B.sl.r_150, kernelRun0_B.sl.r_149, kernelRun0_B.sl.r_148, kernelRun0_B.sl.r_138, kernelRun0_B.sl.r_147, kernelRun0_B.sl.r_146, kernelRun0_B.sl.r_144, kernelRun0_B.sl.r_137, kernelRun0_B.sl.r_143, kernelRun0_B.sl.r_142, kernelRun0_B.sl.r_139, View.readAt_eq_ld, harg2.read_unread, harg3.read_unread, harg7.read_unread, harg8.read_unread, harg9.read_unread, m3 c arg9 harg9 arg22 harg22 x0 x1 x5 x6 x7 xs0 xs1, c3_1 c arg2 harg2 arg8 harg8 arg9 harg9 arg21 harg21 arg22 harg22 x0 x1 x5 x6 x7 xs0 xs1]
  rfl

theorem g3_2 : k0_pay247 (kernelRun0_B.sl.r_141 c arg9 harg9 arg22 harg22 x7 xs1) (kernelRun0_B.sl.r_150 c arg2 harg2 arg7 harg7 arg8 harg8 arg9 harg9 arg21 harg21 arg22 harg22 x0 x5 x6 x7 xs0 xs1) (View.readAt (Elt F) arg3.view (Rect.unit (s := S1x1024x512) ![0, 384, 256] S1x128x128.size inb_S1x1024x512_S1x128x128_0_384_256).toLoadRect (harg3.unread x1)) = gP (blk x0 x1 x5 x6 x7 xs0 xs1) 3 1 0 := by
  simp only [kernelRun0_B.sl.r_141, kernelRun0_B.sl.cst_168, kernelRun0_B.sl.r_140, kernelRun0_B.sl.r_123, kernelRun0_B.sl.r_117, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r_116, kernelRun0_B.sl.r_115, kernelRun0_B.sl.r, kernelRun0_B.sl.r_118, kernelRun0_B.sl.r_150, kernelRun0_B.sl.r_149, kernelRun0_B.sl.r_148, kernelRun0_B.sl.r_138, kernelRun0_B.sl.r_147, kernelRun0_B.sl.r_146, kernelRun0_B.sl.r_144, kernelRun0_B.sl.r_137, kernelRun0_B.sl.r_143, kernelRun0_B.sl.r_142, kernelRun0_B.sl.r_139, View.readAt_eq_ld, harg2.read_unread, harg3.read_unread, harg7.read_unread, harg8.read_unread, harg9.read_unread, m3 c arg9 harg9 arg22 harg22 x0 x1 x5 x6 x7 xs0 xs1, c3_1 c arg2 harg2 arg8 harg8 arg9 harg9 arg21 harg21 arg22 harg22 x0 x1 x5 x6 x7 xs0 xs1]
  rfl

theorem g3_1 : k0_pay224 (kernelRun0_B.sl.r_135 c arg2 harg2 arg7 harg7 arg8 harg8 arg9 harg9 arg21 harg21 arg22 harg22 x0 x5 x6 x7 xs0 xs1) (View.readAt (Elt F) arg3.view (Rect.unit (s := S1x1024x512) ![0, 384, 128] S1x128x128.size inb_S1x1024x512_S1x128x128_0_384_128).toLoadRect (harg3.unread x1)) = gP (blk x0 x1 x5 x6 x7 xs0 xs1) 3 0 1 := by
  simp only [kernelRun0_B.sl.r_135, kernelRun0_B.sl.r_134, kernelRun0_B.sl.r_128, kernelRun0_B.sl.r_117, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r_116, kernelRun0_B.sl.r_115, kernelRun0_B.sl.r, kernelRun0_B.sl.r_127, kernelRun0_B.sl.r_125, kernelRun0_B.sl.r_133, kernelRun0_B.sl.r_126, kernelRun0_B.sl.r_129, kernelRun0_B.sl.r_118, View.readAt_eq_ld, harg2.read_unread, harg3.read_unread, harg7.read_unread, harg8.read_unread, harg9.read_unread, m3 c arg9 harg9 arg22 harg22 x0 x1 x5 x6 x7 xs0 xs1, c3_0 c arg2 harg2 arg8 harg8 arg9 harg9 arg21 harg21 arg22 harg22 x0 x1 x5 x6 x7 xs0 xs1]
  rfl

theorem g3_0 : k0_pay223 (kernelRun0_B.sl.r_135 c arg2 harg2 arg7 harg7 arg8 harg8 arg9 harg9 arg21 harg21 arg22 harg22 x0 x5 x6 x7 xs0 xs1) (View.readAt (Elt F) arg3.view (Rect.unit (s := S1x1024x512) ![0, 384, 0] S1x128x128.size inb_S1x1024x512_S1x128x128_0_384_0).toLoadRect (harg3.unread x1)) = gP (blk x0 x1 x5 x6 x7 xs0 xs1) 3 0 0 := by
  simp only [kernelRun0_B.sl.r_135, kernelRun0_B.sl.r_134, kernelRun0_B.sl.r_128, kernelRun0_B.sl.r_117, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r_116, kernelRun0_B.sl.r_115, kernelRun0_B.sl.r, kernelRun0_B.sl.r_127, kernelRun0_B.sl.r_125, kernelRun0_B.sl.r_133, kernelRun0_B.sl.r_126, kernelRun0_B.sl.r_129, kernelRun0_B.sl.r_118, View.readAt_eq_ld, harg2.read_unread, harg3.read_unread, harg7.read_unread, harg8.read_unread, harg9.read_unread, m3 c arg9 harg9 arg22 harg22 x0 x1 x5 x6 x7 xs0 xs1, c3_0 c arg2 harg2 arg8 harg8 arg9 harg9 arg21 harg21 arg22 harg22 x0 x1 x5 x6 x7 xs0 xs1]
  rfl

theorem g2_3 : k0_pay195 (kernelRun0_B.sl.r_106 c arg9 harg9 arg22 harg22 x7 xs1) (kernelRun0_B.sl.r_110 c arg2 harg2 arg7 harg7 arg8 harg8 arg9 harg9 arg21 harg21 arg22 harg22 x0 x5 x6 x7 xs0 xs1) (View.readAt (Elt F) arg3.view (Rect.unit (s := S1x1024x512) ![0, 256, 384] S1x128x128.size inb_S1x1024x512_S1x128x128_0_256_384).toLoadRect (harg3.unread x1)) = gP (blk x0 x1 x5 x6 x7 xs0 xs1) 2 1 1 := by
  simp only [kernelRun0_B.sl.r_106, kernelRun0_B.sl.r_85, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_80, kernelRun0_B.sl.r_110, kernelRun0_B.sl.r_109, kernelRun0_B.sl.r_103, kernelRun0_B.sl.r_108, kernelRun0_B.sl.r_107, kernelRun0_B.sl.r_105, kernelRun0_B.sl.r_102, kernelRun0_B.sl.r_104, View.readAt_eq_ld, harg2.read_unread, harg3.read_unread, harg7.read_unread, harg8.read_unread, harg9.read_unread, m2 c arg9 harg9 arg22 harg22 x0 x1 x5 x6 x7 xs0 xs1, c2_1 c arg2 harg2 arg8 harg8 arg9 harg9 arg21 harg21 arg22 harg22 x0 x1 x5 x6 x7 xs0 xs1]
  rfl

theorem g2_2 : k0_pay194 (kernelRun0_B.sl.r_106 c arg9 harg9 arg22 harg22 x7 xs1) (kernelRun0_B.sl.r_110 c arg2 harg2 arg7 harg7 arg8 harg8 arg9 harg9 arg21 harg21 arg22 harg22 x0 x5 x6 x7 xs0 xs1) (View.readAt (Elt F) arg3.view (Rect.unit (s := S1x1024x512) ![0, 256, 256] S1x128x128.size inb_S1x1024x512_S1x128x128_0_256_256).toLoadRect (harg3.unread x1)) = gP (blk x0 x1 x5 x6 x7 xs0 xs1) 2 1 0 := by
  simp only [kernelRun0_B.sl.r_106, kernelRun0_B.sl.r_85, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_80, kernelRun0_B.sl.r_110, kernelRun0_B.sl.r_109, kernelRun0_B.sl.r_103, kernelRun0_B.sl.r_108, kernelRun0_B.sl.r_107, kernelRun0_B.sl.r_105, kernelRun0_B.sl.r_102, kernelRun0_B.sl.r_104, View.readAt_eq_ld, harg2.read_unread, harg3.read_unread, harg7.read_unread, harg8.read_unread, harg9.read_unread, m2 c arg9 harg9 arg22 harg22 x0 x1 x5 x6 x7 xs0 xs1, c2_1 c arg2 harg2 arg8 harg8 arg9 harg9 arg21 harg21 arg22 harg22 x0 x1 x5 x6 x7 xs0 xs1]
  rfl

theorem g2_1 : k0_pay171 (kernelRun0_B.sl.r_91 c arg9 harg9 arg22 harg22 x7 xs1) (kernelRun0_B.sl.r_100 c arg2 harg2 arg7 harg7 arg8 harg8 arg9 harg9 arg21 harg21 arg22 harg22 x0 x5 x6 x7 xs0 xs1) (View.readAt (Elt F) arg3.view (Rect.unit (s := S1x1024x512) ![0, 256, 128] S1x128x128.size inb_S1x1024x512_S1x128x128_0_256_128).toLoadRect (harg3.unread x1)) = gP (blk x0 x1 x5 x6 x7 xs0 xs1) 2 0 1 := by
  simp only [kernelRun0_B.sl.r_91, kernelRun0_B.sl.r_90, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.cst_168, kernelRun0_B.sl.r_85, kernelRun0_B.sl.r_80, kernelRun0_B.sl.r_100, kernelRun0_B.sl.r_99, kernelRun0_B.sl.r_98, kernelRun0_B.sl.r_97, kernelRun0_B.sl.r_88, kernelRun0_B.sl.r_96, kernelRun0_B.sl.r_94, kernelRun0_B.sl.r_87, kernelRun0_B.sl.r_93, kernelRun0_B.sl.r_92, kernelRun0_B.sl.r_89, View.readAt_eq_ld, harg2.read_unread, harg3.read_unread, harg7.read_unread, harg8.read_unread, harg9.read_unread, m2 c arg9 harg9 arg22 harg22 x0 x1 x5 x6 x7 xs0 xs1, c2_0 c arg2 harg2 arg8 harg8 arg9 harg9 arg21 harg21 arg22 harg22 x0 x1 x5 x6 x7 xs0 xs1]
  rfl

theorem g2_0 : k0_pay170 (kernelRun0_B.sl.r_91 c arg9 harg9 arg22 harg22 x7 xs1) (kernelRun0_B.sl.r_100 c arg2 harg2 arg7 harg7 arg8 harg8 arg9 harg9 arg21 harg21 arg22 harg22 x0 x5 x6 x7 xs0 xs1) (View.readAt (Elt F) arg3.view (Rect.unit (s := S1x1024x512) ![0, 256, 0] S1x128x128.size inb_S1x1024x512_S1x128x128_0_256_0).toLoadRect (harg3.unread x1)) = gP (blk x0 x1 x5 x6 x7 xs0 xs1) 2 0 0 := by
  simp only [kernelRun0_B.sl.r_91, kernelRun0_B.sl.r_90, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.cst_168, kernelRun0_B.sl.r_85, kernelRun0_B.sl.r_80, kernelRun0_B.sl.r_100, kernelRun0_B.sl.r_99, kernelRun0_B.sl.r_98, kernelRun0_B.sl.r_97, kernelRun0_B.sl.r_88, kernelRun0_B.sl.r_96, kernelRun0_B.sl.r_94, kernelRun0_B.sl.r_87, kernelRun0_B.sl.r_93, kernelRun0_B.sl.r_92, kernelRun0_B.sl.r_89, View.readAt_eq_ld, harg2.read_unread, harg3.read_unread, harg7.read_unread, harg8.read_unread, harg9.read_unread, m2 c arg9 harg9 arg22 harg22 x0 x1 x5 x6 x7 xs0 xs1, c2_0 c arg2 harg2 arg8 harg8 arg9 harg9 arg21 harg21 arg22 harg22 x0 x1 x5 x6 x7 xs0 xs1]
  rfl

theorem g1_3 : k0_pay137 (kernelRun0_B.sl.r_79 c arg2 harg2 arg3 harg3 arg7 harg7 arg8 harg8 arg9 harg9 arg21 harg21 arg22 harg22 x0 x1 x5 x6 x7 xs0 xs1) = gP (blk x0 x1 x5 x6 x7 xs0 xs1) 1 1 1 := by
  simp only [kernelRun0_B.sl.r_79, kernelRun0_B.sl.r_75, kernelRun0_B.sl.r_73, kernelRun0_B.sl.r_51, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_72, kernelRun0_B.sl.r_71, kernelRun0_B.sl.r_66, kernelRun0_B.sl.r_69, kernelRun0_B.sl.r_68, kernelRun0_B.sl.r_67, kernelRun0_B.sl.r_70, kernelRun0_B.sl.r_46, View.readAt_eq_ld, harg2.read_unread, harg3.read_unread, harg7.read_unread, harg8.read_unread, harg9.read_unread, c1_1 c arg2 harg2 arg8 harg8 arg9 harg9 arg21 harg21 arg22 harg22 x0 x1 x5 x6 x7 xs0 xs1, m1 c arg9 harg9 arg22 harg22 x0 x1 x5 x6 x7 xs0 xs1]
  rfl

theorem g1_2 : k0_pay135 (kernelRun0_B.sl.r_70 c arg9 harg9 arg22 harg22 x7 xs1) (kernelRun0_B.sl.r_75 c arg2 harg2 arg7 harg7 arg8 harg8 arg9 harg9 arg21 harg21 arg22 harg22 x0 x5 x6 x7 xs0 xs1) (View.readAt (Elt F) arg3.view (Rect.unit (s := S1x1024x512) ![0, 128, 256] S1x128x128.size inb_S1x1024x512_S1x128x128_0_128_256).toLoadRect (harg3.unread x1)) = gP (blk x0 x1 x5 x6 x7 xs0 xs1) 1 1 0 := by
  simp only [kernelRun0_B.sl.r_70, kernelRun0_B.sl.r_51, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_46, kernelRun0_B.sl.r_75, kernelRun0_B.sl.r_73, kernelRun0_B.sl.r_72, kernelRun0_B.sl.r_71, kernelRun0_B.sl.r_66, kernelRun0_B.sl.r_69, kernelRun0_B.sl.r_68, kernelRun0_B.sl.r_67, View.readAt_eq_ld, harg2.read_unread, harg3.read_unread, harg7.read_unread, harg8.read_unread, harg9.read_unread, m1 c arg9 harg9 arg22 harg22 x0 x1 x5 x6 x7 xs0 xs1, c1_1 c arg2 harg2 arg8 harg8 arg9 harg9 arg21 harg21 arg22 harg22 x0 x1 x5 x6 x7 xs0 xs1]
  rfl

theorem g1_1 : k0_pay114 (kernelRun0_B.sl.r_57 c arg9 harg9 arg22 harg22 x7 xs1) (kernelRun0_B.sl.r_61 c arg2 harg2 arg7 harg7 arg8 harg8 arg9 harg9 arg21 harg21 arg22 harg22 x0 x5 x6 x7 xs0 xs1) (View.readAt (Elt F) arg3.view (Rect.unit (s := S1x1024x512) ![0, 128, 128] S1x128x128.size inb_S1x1024x512_S1x128x128_0_128_128).toLoadRect (harg3.unread x1)) = gP (blk x0 x1 x5 x6 x7 xs0 xs1) 1 0 1 := by
  simp only [kernelRun0_B.sl.r_57, kernelRun0_B.sl.r_51, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_46, kernelRun0_B.sl.r_61, kernelRun0_B.sl.r_60, kernelRun0_B.sl.r_53, kernelRun0_B.sl.r_59, kernelRun0_B.sl.r_58, kernelRun0_B.sl.r_56, kernelRun0_B.sl.r_55, kernelRun0_B.sl.r_52, kernelRun0_B.sl.r_54, View.readAt_eq_ld, harg2.read_unread, harg3.read_unread, harg7.read_unread, harg8.read_unread, harg9.read_unread, m1 c arg9 harg9 arg22 harg22 x0 x1 x5 x6 x7 xs0 xs1, c1_0 c arg2 harg2 arg8 harg8 arg9 harg9 arg21 harg21 arg22 harg22 x0 x1 x5 x6 x7 xs0 xs1]
  rfl

theorem g1_0 : k0_pay113 (kernelRun0_B.sl.r_57 c arg9 harg9 arg22 harg22 x7 xs1) (kernelRun0_B.sl.r_61 c arg2 harg2 arg7 harg7 arg8 harg8 arg9 harg9 arg21 harg21 arg22 harg22 x0 x5 x6 x7 xs0 xs1) (View.readAt (Elt F) arg3.view (Rect.unit (s := S1x1024x512) ![0, 128, 0] S1x128x128.size inb_S1x1024x512_S1x128x128_0_128_0).toLoadRect (harg3.unread x1)) = gP (blk x0 x1 x5 x6 x7 xs0 xs1) 1 0 0 := by
  simp only [kernelRun0_B.sl.r_57, kernelRun0_B.sl.r_51, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_46, kernelRun0_B.sl.r_61, kernelRun0_B.sl.r_60, kernelRun0_B.sl.r_53, kernelRun0_B.sl.r_59, kernelRun0_B.sl.r_58, kernelRun0_B.sl.r_56, kernelRun0_B.sl.r_55, kernelRun0_B.sl.r_52, kernelRun0_B.sl.r_54, View.readAt_eq_ld, harg2.read_unread, harg3.read_unread, harg7.read_unread, harg8.read_unread, harg9.read_unread, m1 c arg9 harg9 arg22 harg22 x0 x1 x5 x6 x7 xs0 xs1, c1_0 c arg2 harg2 arg8 harg8 arg9 harg9 arg21 harg21 arg22 harg22 x0 x1 x5 x6 x7 xs0 xs1]
  rfl

theorem g0_3 : k0_pay79 (kernelRun0_B.sl.r_45 c arg2 harg2 arg7 harg7 arg8 harg8 arg9 harg9 arg21 harg21 arg22 harg22 x0 x5 x6 x7 xs0 xs1) (View.readAt (Elt F) arg3.view (Rect.unit (s := S1x1024x512) ![0, 0, 384] S1x128x128.size inb_S1x1024x512_S1x128x128_0_0_384).toLoadRect (harg3.unread x1)) = gP (blk x0 x1 x5 x6 x7 xs0 xs1) 0 1 1 := by
  simp only [kernelRun0_B.sl.r_45, kernelRun0_B.sl.r_41, kernelRun0_B.sl.r_37, kernelRun0_B.sl.r_16, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_36, kernelRun0_B.sl.r_35, kernelRun0_B.sl.r_34, kernelRun0_B.sl.r_33, kernelRun0_B.sl.r_32, kernelRun0_B.sl.r_39, kernelRun0_B.sl.r_38, kernelRun0_B.sl.r_11, View.readAt_eq_ld, harg2.read_unread, harg3.read_unread, harg7.read_unread, harg8.read_unread, harg9.read_unread, c0_1 c arg21 harg21 x0 x1 x5 x6 x7 xs0 xs1, m0 c arg22 harg22 x0 x1 x5 x6 x7 xs0 xs1]
  rfl

theorem g0_2 : k0_pay78 (kernelRun0_B.sl.r_39 c arg9 harg9 arg22 harg22 x7 xs1) (kernelRun0_B.sl.r_41 c arg2 harg2 arg7 harg7 arg8 harg8 arg9 harg9 arg21 harg21 arg22 harg22 x0 x5 x6 x7 xs0 xs1) (View.readAt (Elt F) arg3.view (Rect.unit (s := S1x1024x512) ![0, 0, 256] S1x128x128.size inb_S1x1024x512_S1x128x128_0_0_256).toLoadRect (harg3.unread x1)) = gP (blk x0 x1 x5 x6 x7 xs0 xs1) 0 1 0 := by
  simp only [kernelRun0_B.sl.r_39, kernelRun0_B.sl.r_38, kernelRun0_B.sl.r_11, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r_36, kernelRun0_B.sl.r_16, kernelRun0_B.sl.r, kernelRun0_B.sl.r_41, kernelRun0_B.sl.r_37, kernelRun0_B.sl.r_35, kernelRun0_B.sl.r_34, kernelRun0_B.sl.r_33, kernelRun0_B.sl.r_32, View.readAt_eq_ld, harg2.read_unread, harg3.read_unread, harg7.read_unread, harg8.read_unread, harg9.read_unread, m0 c arg22 harg22 x0 x1 x5 x6 x7 xs0 xs1, c0_1 c arg21 harg21 x0 x1 x5 x6 x7 xs0 xs1]
  rfl

theorem g0_1 : k0_pay58 (kernelRun0_B.sl.r_30 c arg2 harg2 arg3 harg3 arg7 harg7 arg8 harg8 arg9 harg9 arg21 harg21 arg22 harg22 x0 x1 x5 x6 x7 xs0 xs1) = gP (blk x0 x1 x5 x6 x7 xs0 xs1) 0 0 1 := by
  simp only [kernelRun0_B.sl.r_30, kernelRun0_B.sl.r_26, kernelRun0_B.sl.r_24, kernelRun0_B.sl.r_16, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_23, kernelRun0_B.sl.r_22, kernelRun0_B.sl.r_17, kernelRun0_B.sl.r_20, kernelRun0_B.sl.r_19, kernelRun0_B.sl.r_18, kernelRun0_B.sl.r_21, kernelRun0_B.sl.r_11, View.readAt_eq_ld, harg2.read_unread, harg3.read_unread, harg7.read_unread, harg8.read_unread, harg9.read_unread, harg21.read_unread, m0 c arg22 harg22 x0 x1 x5 x6 x7 xs0 xs1]
  rfl

theorem g0_0 : k0_pay56 (kernelRun0_B.sl.r_21 c arg9 harg9 arg22 harg22 x7 xs1) (kernelRun0_B.sl.r_26 c arg2 harg2 arg7 harg7 arg8 harg8 arg9 harg9 arg21 harg21 arg22 harg22 x0 x5 x6 x7 xs0 xs1) (View.readAt (Elt F) arg3.view (Rect.unit (s := S1x1024x512) ![0, 0, 0] S1x128x128.size inb_S1x1024x512_S1x128x128_0_0_0).toLoadRect (harg3.unread x1)) = gP (blk x0 x1 x5 x6 x7 xs0 xs1) 0 0 0 := by
  simp only [kernelRun0_B.sl.r_21, kernelRun0_B.sl.r_16, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_11, kernelRun0_B.sl.r_26, kernelRun0_B.sl.r_24, kernelRun0_B.sl.r_23, kernelRun0_B.sl.r_22, kernelRun0_B.sl.r_17, kernelRun0_B.sl.r_20, kernelRun0_B.sl.r_19, kernelRun0_B.sl.r_18, View.readAt_eq_ld, harg2.read_unread, harg3.read_unread, harg7.read_unread, harg8.read_unread, harg9.read_unread, harg21.read_unread, m0 c arg22 harg22 x0 x1 x5 x6 x7 xs0 xs1]
  rfl

end Cert.Mix.B
-- ==== Proof.EndB.lean ====
module

public import proofs.«01_k».proof.Proof.Tile
public import proofs.«01_k».proof.Proof.RunB
public import proofs.«01_k».proof.Proof.Mix
public import proofs.«01_k».proof.Proof.Gen.KernelIdeal.Frame
public import Idealize.ShloMosaic.Lib.Pipeline.ReadBack

@[expose] public section

set_option maxRecDepth 16384

noncomputable section

namespace Cert.Mix.B

open Idealize.ShloMosaic Idealize.SL.Sem Cert.KernelIdeal Cert.KernelIdeal.Gen Cert.Mix

variable {F : FTy → Type} [FloatOps F]

variable (c : Dev nD)
  (arg2 : Memref sig .tc .vmem S1x1024x512 .bf16) (harg2 : arg2.IsWhole)
  (arg3 : Memref sig .tc .vmem S1x1024x512 .bf16) (harg3 : arg3.IsWhole)
  (arg4 : Memref sig .tc .vmem S1x1024x512 .bf16) (harg4 : arg4.IsWhole)
  (arg5 : Memref sig .tc .vmem S1x1024x512 .bf16) (harg5 : arg5.IsWhole)
  (arg6 : Memref sig .tc .vmem S1x1024x512 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x8x1024 .f32) (harg9 : arg9.IsWhole)
  (arg10 : Memref sig .tc .vmem S1x1024x1024 .f32) (harg10 : arg10.IsWhole)
  (arg11 : Memref sig .tc .vmem S3x512 .f32) (harg11 : arg11.IsWhole)
  (arg12 : Memref sig .tc .vmem S1024x1024 .bf16) (harg12 : arg12.IsWhole)
  (arg13 : Memref sig .tc .vmem S1x1024 .f32) (harg13 : arg13.IsWhole)
  (arg14 : Memref sig .tc .vmem S1024x128 .bf16) (harg14 : arg14.IsWhole)
  (arg15 : Memref sig .tc .vmem S1x128 .f32) (harg15 : arg15.IsWhole)
  (arg16 : Memref sig .tc .vmem S1x1024x1024 .f32) (harg16 : arg16.IsWhole)
  (arg17 : Memref sig .tc .vmem S1x1024x1024 .bf16) (harg17 : arg17.IsWhole)
  (arg21 : Memref sig .tc .vmem S2x144x256 .f32) (harg21 : arg21.IsWhole)
  (arg22 : Memref sig .tc .vmem S8x128 .f32) (harg22 : arg22.IsWhole)
  (arg23 : Memref sig .tc .vmem S8x512 .f32) (harg23 : arg23.IsWhole)
  (arg24 : Memref sig .tc .vmem S32x128 .i32) (harg24 : arg24.IsWhole)
  (arg25 : Memref sig .tc .vmem S1024x1024 .bf16) (harg25 : arg25.IsWhole)
  (x0 : Vec F S1x1024x512 .bf16) (x1 : Vec F S1x1024x512 .bf16) (x2 : Vec F S1x1024x512 .bf16) (x3 : Vec F S1x1024x512 .bf16) (x4 : Vec F S1x1024x512 .bf16) (x5 : Vec F S1x512x1024 .bf16) (x6 : Vec F S1x512x1024 .bf16) (x7 : Vec F S1x8x1024 .f32) (x8 : Vec F S1x1024x1024 .f32) (x9 : Vec F S3x512 .f32) (x10 : Vec F S1024x1024 .bf16) (x11 : Vec F S1x1024 .f32) (x12 : Vec F S1024x128 .bf16) (x13 : Vec F S1x128 .f32) (xs0 : Vec F S2x144x256 .f32) (xs1 : Vec F S8x128 .f32) (xs2 : Vec F S8x512 .f32) (xs3 : Vec F S32x128 .i32)

/-- Everything the tile reads. -/
def tile : Tile F := ⟨blk x0 x1 x5 x6 x7 xs0 xs1, x2, x3, x4, x8, x9, x10, x11,
  View.ld xs2 (Rect.unit (s := S8x512) ![0, 0] S1x512.size inb_S8x512_S1x512_0_0), View.ld xs2 (Rect.unit (s := S8x512) ![1, 0] S1x512.size inb_S8x512_S1x512_1_0)⟩

theorem hs4 : (kernelRun0_B.sl.HS4_33 c arg2 harg2 arg3 harg3 arg4 harg4 arg5 harg5 arg6 harg6 arg7 harg7 arg8 harg8 arg9 harg9 arg11 harg11 arg21 harg21 arg22 harg22 arg23 harg23 x0 x1 x2 x3 x4 x5 x6 x7 x9 xs0 xs1 xs2) = (tile x0 x1 x2 x3 x4 x5 x6 x7 x8 x9 x10 x11 xs0 xs1 xs2).mixPieces := by
  rw [kernelRun0_B.sl.HS4_33]
  simp only [g7_3 c arg2 harg2 arg3 harg3 arg7 harg7 arg8 harg8 arg9 harg9 arg21 harg21 arg22 harg22 x0 x1 x5 x6 x7 xs0 xs1, g7_2 c arg2 harg2 arg3 harg3 arg7 harg7 arg8 harg8 arg9 harg9 arg21 harg21 arg22 harg22 x0 x1 x5 x6 x7 xs0 xs1, g7_1 c arg2 harg2 arg3 harg3 arg7 harg7 arg8 harg8 arg9 harg9 arg21 harg21 arg22 harg22 x0 x1 x5 x6 x7 xs0 xs1, g7_0 c arg2 harg2 arg3 harg3 arg7 harg7 arg8 harg8 arg9 harg9 arg21 harg21 arg22 harg22 x0 x1 x5 x6 x7 xs0 xs1, g6_3 c arg2 harg2 arg3 harg3 arg7 harg7 arg8 harg8 arg9 harg9 arg21 harg21 arg22 harg22 x0 x1 x5 x6 x7 xs0 xs1, g6_2 c arg2 harg2 arg3 harg3 arg7 harg7 arg8 harg8 arg9 harg9 arg21 harg21 arg22 harg22 x0 x1 x5 x6 x7 xs0 xs1, g6_1 c arg2 harg2 arg3 harg3 arg7 harg7 arg8 harg8 arg9 harg9 arg21 harg21 arg22 harg22 x0 x1 x5 x6 x7 xs0 xs1, g6_0 c arg2 harg2 arg3 harg3 arg7 harg7 arg8 harg8 arg9 harg9 arg21 harg21 arg22 harg22 x0 x1 x5 x6 x7 xs0 xs1, g5_3 c arg2 harg2 arg3 harg3 arg7 harg7 arg8 harg8 arg9 harg9 arg21 harg21 arg22 harg22 x0 x1 x5 x6 x7 xs0 xs1, g5_2 c arg2 harg2 arg3 harg3 arg7 harg7 arg8 harg8 arg9 harg9 arg21 harg21 arg22 harg22 x0 x1 x5 x6 x7 xs0 xs1, g5_1 c arg2 harg2 arg3 harg3 arg7 harg7 arg8 harg8 arg9 harg9 arg21 harg21 arg22 harg22 x0 x1 x5 x6 x7 xs0 xs1, g5_0 c arg2 harg2 arg3 harg3 arg7 harg7 arg8 harg8 arg9 harg9 arg21 harg21 arg22 harg22 x0 x1 x5 x6 x7 xs0 xs1, g4_3 c arg2 harg2 arg3 harg3 arg7 harg7 arg8 harg8 arg9 harg9 arg21 harg21 arg22 harg22 x0 x1 x5 x6 x7 xs0 xs1, g4_2 c arg2 harg2 arg3 harg3 arg7 harg7 arg8 harg8 arg9 harg9 arg21 harg21 arg22 harg22 x0 x1 x5 x6 x7 xs0 xs1, g4_1 c arg2 harg2 arg3 harg3 arg7 harg7 arg8 harg8 arg9 harg9 arg21 harg21 arg22 harg22 x0 x1 x5 x6 x7 xs0 xs1, g4_0 c arg2 harg2 arg3 harg3 arg7 harg7 arg8 harg8 arg9 harg9 arg21 harg21 arg22 harg22 x0 x1 x5 x6 x7 xs0 xs1, g3_3 c arg2 harg2 arg3 harg3 arg7 harg7 arg8 harg8 arg9 harg9 arg21 harg21 arg22 harg22 x0 x1 x5 x6 x7 xs0 xs1, g3_2 c arg2 harg2 arg3 harg3 arg7 harg7 arg8 harg8 arg9 harg9 arg21 harg21 arg22 harg22 x0 x1 x5 x6 x7 xs0 xs1, g3_1 c arg2 harg2 arg3 harg3 arg7 harg7 arg8 harg8 arg9 harg9 arg21 harg21 arg22 harg22 x0 x1 x5 x6 x7 xs0 xs1, g3_0 c arg2 harg2 arg3 harg3 arg7 harg7 arg8 harg8 arg9 harg9 arg21 harg21 arg22 harg22 x0 x1 x5 x6 x7 xs0 xs1, g2_3 c arg2 harg2 arg3 harg3 arg7 harg7 arg8 harg8 arg9 harg9 arg21 harg21 arg22 harg22 x0 x1 x5 x6 x7 xs0 xs1, g2_2 c arg2 harg2 arg3 harg3 arg7 harg7 arg8 harg8 arg9 harg9 arg21 harg21 arg22 harg22 x0 x1 x5 x6 x7 xs0 xs1, g2_1 c arg2 harg2 arg3 harg3 arg7 harg7 arg8 harg8 arg9 harg9 arg21 harg21 arg22 harg22 x0 x1 x5 x6 x7 xs0 xs1, g2_0 c arg2 harg2 arg3 harg3 arg7 harg7 arg8 harg8 arg9 harg9 arg21 harg21 arg22 harg22 x0 x1 x5 x6 x7 xs0 xs1, g1_3 c arg2 harg2 arg3 harg3 arg7 harg7 arg8 harg8 arg9 harg9 arg21 harg21 arg22 harg22 x0 x1 x5 x6 x7 xs0 xs1, g1_2 c arg2 harg2 arg3 harg3 arg7 harg7 arg8 harg8 arg9 harg9 arg21 harg21 arg22 harg22 x0 x1 x5 x6 x7 xs0 xs1, g1_1 c arg2 harg2 arg3 harg3 arg7 harg7 arg8 harg8 arg9 harg9 arg21 harg21 arg22 harg22 x0 x1 x5 x6 x7 xs0 xs1, g1_0 c arg2 harg2 arg3 harg3 arg7 harg7 arg8 harg8 arg9 harg9 arg21 harg21 arg22 harg22 x0 x1 x5 x6 x7 xs0 xs1, g0_3 c arg2 harg2 arg3 harg3 arg7 harg7 arg8 harg8 arg9 harg9 arg21 harg21 arg22 harg22 x0 x1 x5 x6 x7 xs0 xs1, g0_2 c arg2 harg2 arg3 harg3 arg7 harg7 arg8 harg8 arg9 harg9 arg21 harg21 arg22 harg22 x0 x1 x5 x6 x7 xs0 xs1, g0_1 c arg2 harg2 arg3 harg3 arg7 harg7 arg8 harg8 arg9 harg9 arg21 harg21 arg22 harg22 x0 x1 x5 x6 x7 xs0 xs1, g0_0 c arg2 harg2 arg3 harg3 arg7 harg7 arg8 harg8 arg9 harg9 arg21 harg21 arg22 harg22 x0 x1 x5 x6 x7 xs0 xs1]
  simp only [kernelRun0_B.sl.r_302, kernelRun0_B.sl.r_301, kernelRun0_B.sl.r_300, View.readAt_eq_ld, harg2.read_unread, harg3.read_unread, harg4.read_unread, harg5.read_unread, harg6.read_unread, harg7.read_unread, harg8.read_unread, harg9.read_unread, harg11.read_unread, harg21.read_unread, harg22.read_unread, harg23.read_unread]
  rfl

theorem mix : (kernelRun0_B.sl.v2766 c arg2 harg2 arg3 harg3 arg4 harg4 arg5 harg5 arg6 harg6 arg7 harg7 arg8 harg8 arg9 harg9 arg11 harg11 arg21 harg21 arg22 harg22 arg23 harg23 arg25 x0 x1 x2 x3 x4 x5 x6 x7 x9 xs0 xs1 xs2) = (tile x0 x1 x2 x3 x4 x5 x6 x7 x8 x9 x10 x11 xs0 xs1 xs2).mix := by
  rw [kernelRun0_B.sl.v2766, hs4 c arg2 harg2 arg3 harg3 arg4 harg4 arg5 harg5 arg6 harg6 arg7 harg7 arg8 harg8 arg9 harg9 arg11 harg11 arg21 harg21 arg22 harg22 arg23 harg23 x0 x1 x2 x3 x4 x5 x6 x7 x8 x9 x10 x11 xs0 xs1 xs2, View.readCov_eq_canon']
  rfl

theorem h14 : (kernelRun0_B.sl.H14_4 c arg2 harg2 arg3 harg3 arg4 harg4 arg5 harg5 arg6 harg6 arg7 harg7 arg8 harg8 arg9 harg9 arg10 harg10 arg11 harg11 arg12 harg12 arg21 harg21 arg22 harg22 arg23 harg23 arg25 x0 x1 x2 x3 x4 x5 x6 x7 x8 x9 x10 xs0 xs1 xs2) = (tile x0 x1 x2 x3 x4 x5 x6 x7 x8 x9 x10 x11 xs0 xs1 xs2).xPieces := by
  rw [kernelRun0_B.sl.H14_4]
  simp only [kernelRun0_B.sl.r_303, mix c arg2 harg2 arg3 harg3 arg4 harg4 arg5 harg5 arg6 harg6 arg7 harg7 arg8 harg8 arg9 harg9 arg11 harg11 arg21 harg21 arg22 harg22 arg23 harg23 arg25 x0 x1 x2 x3 x4 x5 x6 x7 x8 x9 x10 x11 xs0 xs1 xs2, View.readAt_eq_ld, harg2.read_unread, harg3.read_unread, harg4.read_unread, harg5.read_unread, harg6.read_unread, harg7.read_unread, harg8.read_unread, harg9.read_unread, harg10.read_unread, harg11.read_unread, harg12.read_unread, harg21.read_unread, harg22.read_unread, harg23.read_unread]
  rfl

theorem x2l : (kernelRun0_B.sl.v2820 c arg2 harg2 arg3 harg3 arg4 harg4 arg5 harg5 arg6 harg6 arg7 harg7 arg8 harg8 arg9 harg9 arg10 harg10 arg11 harg11 arg12 harg12 arg16 arg21 harg21 arg22 harg22 arg23 harg23 arg25 x0 x1 x2 x3 x4 x5 x6 x7 x8 x9 x10 xs0 xs1 xs2) = (tile x0 x1 x2 x3 x4 x5 x6 x7 x8 x9 x10 x11 xs0 xs1 xs2).x2l := by
  rw [kernelRun0_B.sl.v2820, h14 c arg2 harg2 arg3 harg3 arg4 harg4 arg5 harg5 arg6 harg6 arg7 harg7 arg8 harg8 arg9 harg9 arg10 harg10 arg11 harg11 arg12 harg12 arg21 harg21 arg22 harg22 arg23 harg23 arg25 x0 x1 x2 x3 x4 x5 x6 x7 x8 x9 x10 x11 xs0 xs1 xs2, View.readCov_eq_canon']
  rfl

theorem hnP : k0_pay491 (kernelRun0_B.sl.v2766 c arg2 harg2 arg3 harg3 arg4 harg4 arg5 harg5 arg6 harg6 arg7 harg7 arg8 harg8 arg9 harg9 arg11 harg11 arg21 harg21 arg22 harg22 arg23 harg23 arg25 x0 x1 x2 x3 x4 x5 x6 x7 x9 xs0 xs1 xs2) (kernelRun0_B.sl.r_304 c arg2 harg2 arg3 harg3 arg4 harg4 arg5 harg5 arg6 harg6 arg7 harg7 arg8 harg8 arg9 harg9 arg10 harg10 arg11 harg11 arg12 harg12 arg21 harg21 arg22 harg22 arg23 harg23 arg25 x0 x1 x2 x3 x4 x5 x6 x7 x8 x9 x10 xs0 xs1 xs2) (View.readAt (Elt F) arg10.view (Rect.unit (s := S1x1024x1024) ![0, 0, 768] S1x1024x256.size inb_S1x1024x1024_S1x1024x256_0_0_768).toLoadRect (harg10.unread x8)) (View.readAt (Elt F) arg12.view (Rect.unit (s := S1024x1024) ![0, 768] S1024x256.size inb_S1024x1024_S1024x256_0_768).toLoadRect (harg12.unread x10)) (kernelRun0_B.sl.v2820 c arg2 harg2 arg3 harg3 arg4 harg4 arg5 harg5 arg6 harg6 arg7 harg7 arg8 harg8 arg9 harg9 arg10 harg10 arg11 harg11 arg12 harg12 arg16 arg21 harg21 arg22 harg22 arg23 harg23 arg25 x0 x1 x2 x3 x4 x5 x6 x7 x8 x9 x10 xs0 xs1 xs2) (View.readAt (Elt F) arg13.view (Rect.unit (s := S1x1024) ![0, 0] S1x1024.size inb_S1x1024_S1x1024_0_0).toLoadRect (harg13.unread x11)) = (tile x0 x1 x2 x3 x4 x5 x6 x7 x8 x9 x10 x11 xs0 xs1 xs2).hnP := by
  simp only [kernelRun0_B.sl.r_304, kernelRun0_B.sl.r_303, mix c arg2 harg2 arg3 harg3 arg4 harg4 arg5 harg5 arg6 harg6 arg7 harg7 arg8 harg8 arg9 harg9 arg11 harg11 arg21 harg21 arg22 harg22 arg23 harg23 arg25 x0 x1 x2 x3 x4 x5 x6 x7 x8 x9 x10 x11 xs0 xs1 xs2, x2l c arg2 harg2 arg3 harg3 arg4 harg4 arg5 harg5 arg6 harg6 arg7 harg7 arg8 harg8 arg9 harg9 arg10 harg10 arg11 harg11 arg12 harg12 arg16 arg21 harg21 arg22 harg22 arg23 harg23 arg25 x0 x1 x2 x3 x4 x5 x6 x7 x8 x9 x10 x11 xs0 xs1 xs2, View.readAt_eq_ld, harg2.read_unread, harg3.read_unread, harg4.read_unread, harg5.read_unread, harg6.read_unread, harg7.read_unread, harg8.read_unread, harg9.read_unread, harg10.read_unread, harg11.read_unread, harg12.read_unread, harg13.read_unread, harg21.read_unread, harg22.read_unread, harg23.read_unread]
  rfl

theorem c8_0 : k0_pay446 (kernelRun0_B.sl.r_282 c arg2 harg2 arg8 harg8 arg9 harg9 x0 x6 x7) (kernelRun0_B.sl.r_283 c arg2 harg2 arg8 harg8 arg9 harg9 arg21 harg21 arg22 harg22 x0 x6 x7 xs0 xs1) (kernelRun0_B.sl.r_284 c arg9 harg9 arg22 harg22 x7 xs1) (kernelRun0_B.sl.r_285 c arg9 harg9 arg22 harg22 x7 xs1) = cS (blk x0 x1 x5 x6 x7 xs0 xs1) 0 8 := by
  simp only [kernelRun0_B.sl.r_282, kernelRun0_B.sl.r_274, kernelRun0_B.sl.r_272, kernelRun0_B.sl.r_270, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_283, kernelRun0_B.sl.r_268, kernelRun0_B.sl.r_284, kernelRun0_B.sl.r_269, kernelRun0_B.sl.r_285, View.readAt_eq_ld, harg2.read_unread, harg8.read_unread, harg9.read_unread, c7_0 c arg2 harg2 arg8 harg8 arg9 harg9 arg21 harg21 arg22 harg22 x0 x1 x5 x6 x7 xs0 xs1, m7 c arg9 harg9 arg22 harg22 x0 x1 x5 x6 x7 xs0 xs1]
  rfl

theorem c8_1 : k0_pay468 (kernelRun0_B.sl.r_269 c arg9 harg9 arg22 harg22 x7 xs1) (kernelRun0_B.sl.r_294 c arg2 harg2 arg8 harg8 arg9 harg9 arg21 harg21 arg22 harg22 x0 x6 x7 xs0 xs1) (kernelRun0_B.sl.r_296 c arg2 harg2 arg8 harg8 arg9 harg9 x0 x6 x7) (kernelRun0_B.sl.r_297 c arg9 harg9 arg22 harg22 x7 xs1) (kernelRun0_B.sl.r_298 c arg9 harg9 arg22 harg22 x7 xs1) = cS (blk x0 x1 x5 x6 x7 xs0 xs1) 1 8 := by
  simp only [kernelRun0_B.sl.r_269, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r, kernelRun0_B.sl.r_294, kernelRun0_B.sl.r_296, kernelRun0_B.sl.r_288, kernelRun0_B.sl.r_286, kernelRun0_B.sl.r_270, kernelRun0_B.sl.r_297, kernelRun0_B.sl.r_268, kernelRun0_B.sl.r_298, View.readAt_eq_ld, harg2.read_unread, harg8.read_unread, harg9.read_unread, m7 c arg9 harg9 arg22 harg22 x0 x1 x5 x6 x7 xs0 xs1, c7_1 c arg2 harg2 arg8 harg8 arg9 harg9 arg21 harg21 arg22 harg22 x0 x1 x5 x6 x7 xs0 xs1]
  rfl

variable (i : grid0.Coords) (arg18 : Memref sig .tc .vmem S1x8x1024 .i32) (harg18 : arg18.IsWhole)
  (arg19 : Memref sig .tc .vmem S1x8x1024 .f32) (harg19 : arg19.IsWhole)
  (arg20 : Memref sig .tc .vmem S32x128 .i32) (harg20 : arg20.IsWhole) (hc0 : ¬cond0_0 i) (hc1 : ¬cond0_1 i)

/-- The residual stream the tile stores. -/
theorem out14 : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs0 xs1 xs2 xs3 = (tile x0 x1 x2 x3 x4 x5 x6 x7 x8 x9 x10 x11 xs0 xs1 xs2).x2 := by
  show VO0_14.read (Elt F) (VO0_14.writes (Elt F) VO0_14.junk (kernelRun0_B.sl.H14_4 c arg2 harg2 arg3 harg3 arg4 harg4 arg5 harg5 arg6 harg6 arg7 harg7 arg8 harg8 arg9 harg9 arg10 harg10 arg11 harg11 arg12 harg12 arg21 harg21 arg22 harg22 arg23 harg23 arg25 x0 x1 x2 x3 x4 x5 x6 x7 x8 x9 x10 xs0 xs1 xs2)) = _
  rw [h14 c arg2 harg2 arg3 harg3 arg4 harg4 arg5 harg5 arg6 harg6 arg7 harg7 arg8 harg8 arg9 harg9 arg10 harg10 arg11 harg11 arg12 harg12 arg21 harg21 arg22 harg22 arg23 harg23 arg25 x0 x1 x2 x3 x4 x5 x6 x7 x8 x9 x10 x11 xs0 xs1 xs2, View.read_writes_junk_eq_canon]
  rfl

/-- The normalised stream the tile stores. -/
theorem out15 : out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs0 xs1 xs2 xs3 = (tile x0 x1 x2 x3 x4 x5 x6 x7 x8 x9 x10 x11 xs0 xs1 xs2).hn := by
  show VO0_15.read (Elt F) (VO0_15.writes (Elt F) VO0_15.junk [⟨Rect.unit ![0, 0, 0] S1x1024x1024.size inb_S1x1024x1024_S1x1024x1024_0_0_0, k0_pay491 (kernelRun0_B.sl.v2766 c arg2 harg2 arg3 harg3 arg4 harg4 arg5 harg5 arg6 harg6 arg7 harg7 arg8 harg8 arg9 harg9 arg11 harg11 arg21 harg21 arg22 harg22 arg23 harg23 arg25 x0 x1 x2 x3 x4 x5 x6 x7 x9 xs0 xs1 xs2) (kernelRun0_B.sl.r_304 c arg2 harg2 arg3 harg3 arg4 harg4 arg5 harg5 arg6 harg6 arg7 harg7 arg8 harg8 arg9 harg9 arg10 harg10 arg11 harg11 arg12 harg12 arg21 harg21 arg22 harg22 arg23 harg23 arg25 x0 x1 x2 x3 x4 x5 x6 x7 x8 x9 x10 xs0 xs1 xs2) (View.readAt (Elt F) arg10.view (Rect.unit (s := S1x1024x1024) ![0, 0, 768] S1x1024x256.size inb_S1x1024x1024_S1x1024x256_0_0_768).toLoadRect (harg10.unread x8)) (View.readAt (Elt F) arg12.view (Rect.unit (s := S1024x1024) ![0, 768] S1024x256.size inb_S1024x1024_S1024x256_0_768).toLoadRect (harg12.unread x10)) (kernelRun0_B.sl.v2820 c arg2 harg2 arg3 harg3 arg4 harg4 arg5 harg5 arg6 harg6 arg7 harg7 arg8 harg8 arg9 harg9 arg10 harg10 arg11 harg11 arg12 harg12 arg16 arg21 harg21 arg22 harg22 arg23 harg23 arg25 x0 x1 x2 x3 x4 x5 x6 x7 x8 x9 x10 xs0 xs1 xs2) (View.readAt (Elt F) arg13.view (Rect.unit (s := S1x1024) ![0, 0] S1x1024.size inb_S1x1024_S1x1024_0_0).toLoadRect (harg13.unread x11))⟩]) = _
  rw [hnP c arg2 harg2 arg3 harg3 arg4 harg4 arg5 harg5 arg6 harg6 arg7 harg7 arg8 harg8 arg9 harg9 arg10 harg10 arg11 harg11 arg12 harg12 arg13 harg13 arg16 arg21 harg21 arg22 harg22 arg23 harg23 arg25 x0 x1 x2 x3 x4 x5 x6 x7 x8 x9 x10 x11 xs0 xs1 xs2, View.read_writes_junk_eq_canon]
  rfl

/-- The memory the tile leaves. -/
theorem out_ct (p : Fin 2) (e : Fin 144) (d : Fin 256) : sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs0 xs1 xs2 xs3 (ix3 p e d) = cS (blk x0 x1 x5 x6 x7 xs0 xs1) p 8 (ix3 (0 : Fin 1) e d) := by
  show VS0_0.read (Elt F) (VS0_0.writes (Elt F) VS0_0.junk (⟨Rect.unit ![1, 0, 0] S1x144x256.size inb_S2x144x256_S1x144x256_1_0_0, k0_pay468 (kernelRun0_B.sl.r_269 c arg9 harg9 arg22 harg22 x7 xs1) (kernelRun0_B.sl.r_294 c arg2 harg2 arg8 harg8 arg9 harg9 arg21 harg21 arg22 harg22 x0 x6 x7 xs0 xs1) (kernelRun0_B.sl.r_296 c arg2 harg2 arg8 harg8 arg9 harg9 x0 x6 x7) (kernelRun0_B.sl.r_297 c arg9 harg9 arg22 harg22 x7 xs1) (kernelRun0_B.sl.r_298 c arg9 harg9 arg22 harg22 x7 xs1)⟩ :: kernelRun0_B.sl.HS0_15 c arg2 harg2 arg8 harg8 arg9 harg9 arg21 harg21 arg22 harg22 x0 x6 x7 xs0 xs1)) (ix3 p e d) = _
  rw [View.read_writes_junk_eq_canon, kernelRun0_B.sl.HS0_15, c8_1 c arg2 harg2 arg8 harg8 arg9 harg9 arg21 harg21 arg22 harg22 x0 x1 x5 x6 x7 xs0 xs1, c8_0 c arg2 harg2 arg8 harg8 arg9 harg9 arg21 harg21 arg22 harg22 x0 x1 x5 x6 x7 xs0 xs1]
  refine (ct_read _ _ _ p e d).trans ?_
  by_cases hp : p = 0
  · rw [if_pos hp, hp]
  · obtain rfl : p = 1 := by omega
    rw [if_neg hp]

/-- The stabilisers the tile leaves. -/
theorem out_m (h : Fin 4) : sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs0 xs1 xs2 xs3 (ix2 (⟨h.val, by omega⟩ : Fin 8) (0 : Fin 128))
    = k0_pay473 (mS (blk x0 x1 x5 x6 x7 xs0 xs1) 8) (ix2 h (0 : Fin 128)) := by
  rw [← m8 c arg9 harg9 arg22 harg22 x0 x1 x5 x6 x7 xs0 xs1]
  exact m_read _ _ _ _ h

/-- The last row of the convolution's input. -/
theorem out_u1 (j : Fin 512) : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs0 xs1 xs2 xs3 (ix2 (0 : Fin 8) j) = k0_pay478 (tile x0 x1 x2 x3 x4 x5 x6 x7 x8 x9 x10 x11 xs0 xs1 xs2).u (ix2 (0 : Fin 1) j) := by
  have e : (kernelRun0_B.sl.r_300 c arg5 harg5 arg6 harg6 x3 x4) = (tile x0 x1 x2 x3 x4 x5 x6 x7 x8 x9 x10 x11 xs0 xs1 xs2).u := by
    simp only [kernelRun0_B.sl.r_300, View.readAt_eq_ld, harg5.read_unread, harg6.read_unread]
    rfl
  rw [← e]
  exact u_read0 _ _ _ _ _ j

/-- The last but one row of the convolution's input. -/
theorem out_u2 (j : Fin 512) : sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs0 xs1 xs2 xs3 (ix2 (1 : Fin 8) j) = k0_pay479 (tile x0 x1 x2 x3 x4 x5 x6 x7 x8 x9 x10 x11 xs0 xs1 xs2).u (ix2 (0 : Fin 1) j) := by
  have e : (kernelRun0_B.sl.r_300 c arg5 harg5 arg6 harg6 x3 x4) = (tile x0 x1 x2 x3 x4 x5 x6 x7 x8 x9 x10 x11 xs0 xs1 xs2).u := by
    simp only [kernelRun0_B.sl.r_300, View.readAt_eq_ld, harg5.read_unread, harg6.read_unread]
    rfl
  rw [← e]
  exact u_read1 _ _ _ _ j

end Cert.Mix.B
-- ==== Proof.RunC.lean ====
module

public import proofs.«01_k».proof.Proof.Tile
public import proofs.«01_k».proof.Proof.Gen.KernelIdeal.Frame.RunC
public import Idealize.ShloMosaic.Lib.Pipeline.ReadBack

@[expose] public section

set_option maxRecDepth 16384

noncomputable section

namespace Cert.Mix.C

open Idealize.ShloMosaic Idealize.SL.Sem Cert.KernelIdeal Cert.KernelIdeal.Gen Cert.Mix

variable {F : FTy → Type} [FloatOps F]

variable (c : Dev nD)
  (arg2 : Memref sig .tc .vmem S1x1024x512 .bf16) (harg2 : arg2.IsWhole)
  (arg3 : Memref sig .tc .vmem S1x1024x512 .bf16) (harg3 : arg3.IsWhole)
  (arg4 : Memref sig .tc .vmem S1x1024x512 .bf16) (harg4 : arg4.IsWhole)
  (arg5 : Memref sig .tc .vmem S1x1024x512 .bf16) (harg5 : arg5.IsWhole)
  (arg6 : Memref sig .tc .vmem S1x1024x512 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x8x1024 .f32) (harg9 : arg9.IsWhole)
  (arg10 : Memref sig .tc .vmem S1x1024x1024 .f32) (harg10 : arg10.IsWhole)
  (arg11 : Memref sig .tc .vmem S3x512 .f32) (harg11 : arg11.IsWhole)
  (arg12 : Memref sig .tc .vmem S1024x1024 .bf16) (harg12 : arg12.IsWhole)
  (arg13 : Memref sig .tc .vmem S1x1024 .f32) (harg13 : arg13.IsWhole)
  (arg14 : Memref sig .tc .vmem S1024x128 .bf16) (harg14 : arg14.IsWhole)
  (arg15 : Memref sig .tc .vmem S1x128 .f32) (harg15 : arg15.IsWhole)
  (arg16 : Memref sig .tc .vmem S1x1024x1024 .f32) (harg16 : arg16.IsWhole)
  (arg17 : Memref sig .tc .vmem S1x1024x1024 .bf16) (harg17 : arg17.IsWhole)
  (arg21 : Memref sig .tc .vmem S2x144x256 .f32) (harg21 : arg21.IsWhole)
  (arg22 : Memref sig .tc .vmem S8x128 .f32) (harg22 : arg22.IsWhole)
  (arg23 : Memref sig .tc .vmem S8x512 .f32) (harg23 : arg23.IsWhole)
  (arg24 : Memref sig .tc .vmem S32x128 .i32) (harg24 : arg24.IsWhole)
  (arg25 : Memref sig .tc .vmem S1024x1024 .bf16) (harg25 : arg25.IsWhole)
  (x0 : Vec F S1x1024x512 .bf16) (x1 : Vec F S1x1024x512 .bf16) (x2 : Vec F S1x1024x512 .bf16) (x3 : Vec F S1x1024x512 .bf16) (x4 : Vec F S1x1024x512 .bf16) (x5 : Vec F S1x512x1024 .bf16) (x6 : Vec F S1x512x1024 .bf16) (x7 : Vec F S1x8x1024 .f32) (x8 : Vec F S1x1024x1024 .f32) (x9 : Vec F S3x512 .f32) (x10 : Vec F S1024x1024 .bf16) (x11 : Vec F S1x1024 .f32) (x12 : Vec F S1024x128 .bf16) (x13 : Vec F S1x128 .f32) (xs0 : Vec F S2x144x256 .f32) (xs1 : Vec F S8x128 .f32) (xs2 : Vec F S8x512 .f32) (xs3 : Vec F S32x128 .i32)

/-- The blocks of a tile that clears its scratch. -/
def blk : Blk F := ⟨View.ld x7 (Rect.unit ![0, 0, 0] S1x8x1024.size inb_S1x8x1024_S1x8x1024_0_0_0), x0, x1, x5, x6, k0_pay5, k0_pay6⟩

theorem m0 : (kernelRun0_C.sl.v66 c arg22) = mS (blk x0 x1 x5 x6 x7) 0 := by
  rw [kernelRun0_C.sl.v66, kernelRun0_C.sl.HS1_1, View.readCov_fill _ _ _ _ _ (by decide)]
  rfl

theorem c0_0 : (kernelRun0_C.sl.v153 c arg21) = cS (blk x0 x1 x5 x6 x7) 0 0 := by
  rw [kernelRun0_C.sl.v153, kernelRun0_C.sl.HS0_1, View.readCov_fill _ _ _ _ _ (by decide)]
  rfl

theorem c0_1 : (kernelRun0_C.sl.v305 c arg2 harg2 arg8 harg8 arg9 harg9 arg21 arg22 x0 x6 x7) = cS (blk x0 x1 x5 x6 x7) 1 0 := by
  rw [kernelRun0_C.sl.v305, kernelRun0_C.sl.HS0_2, View.readCov_skip _ _ _ _ _ (by decide), kernelRun0_C.sl.HS0_1, View.readCov_fill _ _ _ _ _ (by decide)]
  rfl

theorem m1 : (kernelRun0_C.sl.r_11 c arg9 harg9 arg22 x7) = mS (blk x0 x1 x5 x6 x7) 1 := by
  simp only [kernelRun0_C.sl.r_11, kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, View.readAt_eq_ld, harg9.read_unread, m0 c arg22 x0 x1 x5 x6 x7]
  rfl

theorem m2 : (kernelRun0_C.sl.r_46 c arg9 harg9 arg22 x7) = mS (blk x0 x1 x5 x6 x7) 2 := by
  simp only [kernelRun0_C.sl.r_46, kernelRun0_C.sl.r, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, View.readAt_eq_ld, harg9.read_unread, m1 c arg9 harg9 arg22 x0 x1 x5 x6 x7]
  rfl

theorem m3 : (kernelRun0_C.sl.r_80 c arg9 harg9 arg22 x7) = mS (blk x0 x1 x5 x6 x7) 3 := by
  simp only [kernelRun0_C.sl.r_80, kernelRun0_C.sl.r, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, View.readAt_eq_ld, harg9.read_unread, m2 c arg9 harg9 arg22 x0 x1 x5 x6 x7]
  rfl

theorem m4 : (kernelRun0_C.sl.r_118 c arg9 harg9 arg22 x7) = mS (blk x0 x1 x5 x6 x7) 4 := by
  simp only [kernelRun0_C.sl.r_118, kernelRun0_C.sl.r_114, kernelRun0_C.sl.r, kernelRun0_C.sl.r_115, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r_116, View.readAt_eq_ld, harg9.read_unread, m3 c arg9 harg9 arg22 x0 x1 x5 x6 x7]
  rfl

theorem m5 : (kernelRun0_C.sl.r_157 c arg9 harg9 arg22 x7) = mS (blk x0 x1 x5 x6 x7) 5 := by
  simp only [kernelRun0_C.sl.r_157, kernelRun0_C.sl.r_154, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_156, View.readAt_eq_ld, harg9.read_unread, m4 c arg9 harg9 arg22 x0 x1 x5 x6 x7]
  rfl

theorem m6 : (kernelRun0_C.sl.r_194 c arg9 harg9 arg22 x7) = mS (blk x0 x1 x5 x6 x7) 6 := by
  simp only [kernelRun0_C.sl.r_194, kernelRun0_C.sl.r, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, View.readAt_eq_ld, harg9.read_unread, m5 c arg9 harg9 arg22 x0 x1 x5 x6 x7]
  rfl

theorem m7 : (kernelRun0_C.sl.r_231 c arg9 harg9 arg22 x7) = mS (blk x0 x1 x5 x6 x7) 7 := by
  simp only [kernelRun0_C.sl.r_231, kernelRun0_C.sl.r, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, View.readAt_eq_ld, harg9.read_unread, m6 c arg9 harg9 arg22 x0 x1 x5 x6 x7]
  rfl

theorem m8 : (kernelRun0_C.sl.r_266 c arg9 harg9 arg22 x7) = mS (blk x0 x1 x5 x6 x7) 8 := by
  simp only [kernelRun0_C.sl.r_266, kernelRun0_C.sl.r, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, View.readAt_eq_ld, harg9.read_unread, m7 c arg9 harg9 arg22 x0 x1 x5 x6 x7]
  rfl

theorem c1_0 : (kernelRun0_C.sl.v483 c arg2 harg2 arg8 harg8 arg9 harg9 arg21 arg22 x0 x6 x7) = cS (blk x0 x1 x5 x6 x7) 0 1 := by
  rw [kernelRun0_C.sl.v483, kernelRun0_C.sl.HS0_3, View.readCov_skip _ _ _ _ _ (by decide), kernelRun0_C.sl.HS0_2, View.readCov_cons_toLoadRect]
  simp only [kernelRun0_C.sl.r_13, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_24, kernelRun0_C.sl.r_26, kernelRun0_C.sl.r_18, kernelRun0_C.sl.r_16, kernelRun0_C.sl.r_14, kernelRun0_C.sl.r_27, kernelRun0_C.sl.r_12, kernelRun0_C.sl.r_28, View.readAt_eq_ld, harg2.read_unread, harg8.read_unread, harg9.read_unread, m0 c arg22 x0 x1 x5 x6 x7, c0_0 c arg21 x0 x1 x5 x6 x7]
  rfl

theorem c1_1 : (kernelRun0_C.sl.v635 c arg2 harg2 arg8 harg8 arg9 harg9 arg21 arg22 x0 x6 x7) = cS (blk x0 x1 x5 x6 x7) 1 1 := by
  rw [kernelRun0_C.sl.v635, kernelRun0_C.sl.HS0_4, View.readCov_skip _ _ _ _ _ (by decide), kernelRun0_C.sl.HS0_3, View.readCov_cons_toLoadRect]
  simp only [kernelRun0_C.sl.r_12, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_13, kernelRun0_C.sl.r_39, kernelRun0_C.sl.r_41, kernelRun0_C.sl.r_32, kernelRun0_C.sl.r_14, kernelRun0_C.sl.r_42, kernelRun0_C.sl.r_30, kernelRun0_C.sl.r_43, kernelRun0_C.sl.cst_66, View.readAt_eq_ld, harg2.read_unread, harg8.read_unread, harg9.read_unread, m0 c arg22 x0 x1 x5 x6 x7, c0_1 c arg2 harg2 arg8 harg8 arg9 harg9 arg21 arg22 x0 x1 x5 x6 x7]
  rfl

theorem c2_0 : (kernelRun0_C.sl.v813 c arg2 harg2 arg8 harg8 arg9 harg9 arg21 arg22 x0 x6 x7) = cS (blk x0 x1 x5 x6 x7) 0 2 := by
  rw [kernelRun0_C.sl.v813, kernelRun0_C.sl.HS0_5, View.readCov_skip _ _ _ _ _ (by decide), kernelRun0_C.sl.HS0_4, View.readCov_cons_toLoadRect]
  simp only [kernelRun0_C.sl.r_61, kernelRun0_C.sl.r_53, kernelRun0_C.sl.r_51, kernelRun0_C.sl.r_49, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_62, kernelRun0_C.sl.r_47, kernelRun0_C.sl.r_63, kernelRun0_C.sl.r_48, kernelRun0_C.sl.r_64, View.readAt_eq_ld, harg2.read_unread, harg8.read_unread, harg9.read_unread, c1_0 c arg2 harg2 arg8 harg8 arg9 harg9 arg21 arg22 x0 x1 x5 x6 x7, m1 c arg9 harg9 arg22 x0 x1 x5 x6 x7]
  rfl

theorem c2_1 : (kernelRun0_C.sl.v965 c arg2 harg2 arg8 harg8 arg9 harg9 arg21 arg22 x0 x6 x7) = cS (blk x0 x1 x5 x6 x7) 1 2 := by
  rw [kernelRun0_C.sl.v965, kernelRun0_C.sl.HS0_6, View.readCov_skip _ _ _ _ _ (by decide), kernelRun0_C.sl.HS0_5, View.readCov_cons_toLoadRect]
  simp only [kernelRun0_C.sl.r_48, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_73, kernelRun0_C.sl.r_75, kernelRun0_C.sl.r_67, kernelRun0_C.sl.r_65, kernelRun0_C.sl.r_49, kernelRun0_C.sl.r_76, kernelRun0_C.sl.r_47, kernelRun0_C.sl.r_77, View.readAt_eq_ld, harg2.read_unread, harg8.read_unread, harg9.read_unread, m1 c arg9 harg9 arg22 x0 x1 x5 x6 x7, c1_1 c arg2 harg2 arg8 harg8 arg9 harg9 arg21 arg22 x0 x1 x5 x6 x7]
  rfl

theorem c3_0 : (kernelRun0_C.sl.v1143 c arg2 harg2 arg8 harg8 arg9 harg9 arg21 arg22 x0 x6 x7) = cS (blk x0 x1 x5 x6 x7) 0 3 := by
  rw [kernelRun0_C.sl.v1143, kernelRun0_C.sl.HS0_7, View.readCov_skip _ _ _ _ _ (by decide), kernelRun0_C.sl.HS0_6, View.readCov_cons_toLoadRect]
  simp only [kernelRun0_C.sl.r_100, kernelRun0_C.sl.r_96, kernelRun0_C.sl.r_87, kernelRun0_C.sl.r_95, kernelRun0_C.sl.r_94, kernelRun0_C.sl.r_85, kernelRun0_C.sl.r_83, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_82, kernelRun0_C.sl.r_81, View.readAt_eq_ld, harg2.read_unread, harg8.read_unread, harg9.read_unread, c2_0 c arg2 harg2 arg8 harg8 arg9 harg9 arg21 arg22 x0 x1 x5 x6 x7, m2 c arg9 harg9 arg22 x0 x1 x5 x6 x7]
  rfl

theorem c3_1 : (kernelRun0_C.sl.v1295 c arg2 harg2 arg8 harg8 arg9 harg9 arg21 arg22 x0 x6 x7) = cS (blk x0 x1 x5 x6 x7) 1 3 := by
  rw [kernelRun0_C.sl.v1295, kernelRun0_C.sl.HS0_8, View.readCov_skip _ _ _ _ _ (by decide), kernelRun0_C.sl.HS0_7, View.readCov_cons_toLoadRect]
  simp only [kernelRun0_C.sl.r_110, kernelRun0_C.sl.r_103, kernelRun0_C.sl.r_101, kernelRun0_C.sl.r_83, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_111, kernelRun0_C.sl.r_81, kernelRun0_C.sl.r_112, kernelRun0_C.sl.r_82, kernelRun0_C.sl.r_113, View.readAt_eq_ld, harg2.read_unread, harg8.read_unread, harg9.read_unread, c2_1 c arg2 harg2 arg8 harg8 arg9 harg9 arg21 arg22 x0 x1 x5 x6 x7, m2 c arg9 harg9 arg22 x0 x1 x5 x6 x7]
  rfl

theorem c4_0 : (kernelRun0_C.sl.v1473 c arg2 harg2 arg8 harg8 arg9 harg9 arg21 arg22 x0 x6 x7) = cS (blk x0 x1 x5 x6 x7) 0 4 := by
  rw [kernelRun0_C.sl.v1473, kernelRun0_C.sl.HS0_9, View.readCov_skip _ _ _ _ _ (by decide), kernelRun0_C.sl.HS0_8, View.readCov_cons_toLoadRect]
  simp only [kernelRun0_C.sl.r_119, kernelRun0_C.sl.r_116, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r_115, kernelRun0_C.sl.r_114, kernelRun0_C.sl.r, kernelRun0_C.sl.r_120, kernelRun0_C.sl.r_121, kernelRun0_C.sl.r_123, kernelRun0_C.sl.r_129, kernelRun0_C.sl.r_130, kernelRun0_C.sl.r_125, kernelRun0_C.sl.r_131, View.readAt_eq_ld, harg2.read_unread, harg8.read_unread, harg9.read_unread, m3 c arg9 harg9 arg22 x0 x1 x5 x6 x7, c3_0 c arg2 harg2 arg8 harg8 arg9 harg9 arg21 arg22 x0 x1 x5 x6 x7]
  rfl

theorem c4_1 : (kernelRun0_C.sl.v1625 c arg2 harg2 arg8 harg8 arg9 harg9 arg21 arg22 x0 x6 x7) = cS (blk x0 x1 x5 x6 x7) 1 4 := by
  rw [kernelRun0_C.sl.v1625, kernelRun0_C.sl.HS0_10, View.readCov_skip _ _ _ _ _ (by decide), kernelRun0_C.sl.HS0_9, View.readCov_cons_toLoadRect]
  simp only [kernelRun0_C.sl.r_150, kernelRun0_C.sl.r_147, kernelRun0_C.sl.r_137, kernelRun0_C.sl.r_146, kernelRun0_C.sl.r_144, kernelRun0_C.sl.r_135, kernelRun0_C.sl.r_121, kernelRun0_C.sl.r_116, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r_115, kernelRun0_C.sl.r_114, kernelRun0_C.sl.r, kernelRun0_C.sl.r_120, kernelRun0_C.sl.r_119, View.readAt_eq_ld, harg2.read_unread, harg8.read_unread, harg9.read_unread, c3_1 c arg2 harg2 arg8 harg8 arg9 harg9 arg21 arg22 x0 x1 x5 x6 x7, m3 c arg9 harg9 arg22 x0 x1 x5 x6 x7]
  rfl

theorem c5_0 : (kernelRun0_C.sl.v1803 c arg2 harg2 arg8 harg8 arg9 harg9 arg21 arg22 x0 x6 x7) = cS (blk x0 x1 x5 x6 x7) 0 5 := by
  rw [kernelRun0_C.sl.v1803, kernelRun0_C.sl.HS0_11, View.readCov_skip _ _ _ _ _ (by decide), kernelRun0_C.sl.HS0_10, View.readCov_cons_toLoadRect]
  simp only [kernelRun0_C.sl.r_158, kernelRun0_C.sl.r_156, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r_154, kernelRun0_C.sl.r, kernelRun0_C.sl.r_152, kernelRun0_C.sl.r_159, kernelRun0_C.sl.r_162, kernelRun0_C.sl.r_170, kernelRun0_C.sl.r_171, kernelRun0_C.sl.r_164, kernelRun0_C.sl.r_173, kernelRun0_C.sl.r_160, kernelRun0_C.sl.r_153, kernelRun0_C.sl.r_174, View.readAt_eq_ld, harg2.read_unread, harg8.read_unread, harg9.read_unread, m4 c arg9 harg9 arg22 x0 x1 x5 x6 x7, c4_0 c arg2 harg2 arg8 harg8 arg9 harg9 arg21 arg22 x0 x1 x5 x6 x7]
  rfl

theorem c5_1 : (kernelRun0_C.sl.v1955 c arg2 harg2 arg8 harg8 arg9 harg9 arg21 arg22 x0 x6 x7) = cS (blk x0 x1 x5 x6 x7) 1 5 := by
  rw [kernelRun0_C.sl.v1955, kernelRun0_C.sl.HS0_12, View.readCov_skip _ _ _ _ _ (by decide), kernelRun0_C.sl.HS0_11, View.readCov_cons_toLoadRect]
  simp only [kernelRun0_C.sl.r_158, kernelRun0_C.sl.r_156, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r_154, kernelRun0_C.sl.r, kernelRun0_C.sl.r_152, kernelRun0_C.sl.r_159, kernelRun0_C.sl.r_160, kernelRun0_C.sl.r_153, kernelRun0_C.sl.r_177, kernelRun0_C.sl.r_184, kernelRun0_C.sl.r_185, kernelRun0_C.sl.r_179, kernelRun0_C.sl.r_186, View.readAt_eq_ld, harg2.read_unread, harg8.read_unread, harg9.read_unread, m4 c arg9 harg9 arg22 x0 x1 x5 x6 x7, c4_1 c arg2 harg2 arg8 harg8 arg9 harg9 arg21 arg22 x0 x1 x5 x6 x7]
  rfl

theorem c6_0 : (kernelRun0_C.sl.v2133 c arg2 harg2 arg8 harg8 arg9 harg9 arg21 arg22 x0 x6 x7) = cS (blk x0 x1 x5 x6 x7) 0 6 := by
  rw [kernelRun0_C.sl.v2133, kernelRun0_C.sl.HS0_13, View.readCov_skip _ _ _ _ _ (by decide), kernelRun0_C.sl.HS0_12, View.readCov_cons_toLoadRect]
  simp only [kernelRun0_C.sl.r_195, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_196, kernelRun0_C.sl.r_208, kernelRun0_C.sl.r_210, kernelRun0_C.sl.r_201, kernelRun0_C.sl.r_197, kernelRun0_C.sl.r_211, kernelRun0_C.sl.r_199, kernelRun0_C.sl.r_212, View.readAt_eq_ld, harg2.read_unread, harg8.read_unread, harg9.read_unread, m5 c arg9 harg9 arg22 x0 x1 x5 x6 x7, c5_0 c arg2 harg2 arg8 harg8 arg9 harg9 arg21 arg22 x0 x1 x5 x6 x7]
  rfl

theorem c6_1 : (kernelRun0_C.sl.v2285 c arg2 harg2 arg8 harg8 arg9 harg9 arg21 arg22 x0 x6 x7) = cS (blk x0 x1 x5 x6 x7) 1 6 := by
  rw [kernelRun0_C.sl.v2285, kernelRun0_C.sl.HS0_14, View.readCov_skip _ _ _ _ _ (by decide), kernelRun0_C.sl.HS0_13, View.readCov_cons_toLoadRect]
  simp only [kernelRun0_C.sl.r_195, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_196, kernelRun0_C.sl.r_214, kernelRun0_C.sl.r_222, kernelRun0_C.sl.r_223, kernelRun0_C.sl.r_216, kernelRun0_C.sl.r_225, kernelRun0_C.sl.r_197, kernelRun0_C.sl.r_226, View.readAt_eq_ld, harg2.read_unread, harg8.read_unread, harg9.read_unread, m5 c arg9 harg9 arg22 x0 x1 x5 x6 x7, c5_1 c arg2 harg2 arg8 harg8 arg9 harg9 arg21 arg22 x0 x1 x5 x6 x7]
  rfl

theorem c7_0 : (kernelRun0_C.sl.v2463 c arg2 harg2 arg8 harg8 arg9 harg9 arg21 arg22 x0 x6 x7) = cS (blk x0 x1 x5 x6 x7) 0 7 := by
  rw [kernelRun0_C.sl.v2463, kernelRun0_C.sl.HS0_15, View.readCov_skip _ _ _ _ _ (by decide), kernelRun0_C.sl.HS0_14, View.readCov_cons_toLoadRect]
  simp only [kernelRun0_C.sl.r_233, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_244, kernelRun0_C.sl.r_246, kernelRun0_C.sl.r_238, kernelRun0_C.sl.r_236, kernelRun0_C.sl.r_234, kernelRun0_C.sl.r_247, kernelRun0_C.sl.r_232, kernelRun0_C.sl.r_248, View.readAt_eq_ld, harg2.read_unread, harg8.read_unread, harg9.read_unread, m6 c arg9 harg9 arg22 x0 x1 x5 x6 x7, c6_0 c arg2 harg2 arg8 harg8 arg9 harg9 arg21 arg22 x0 x1 x5 x6 x7]
  rfl

theorem c7_1 : (kernelRun0_C.sl.v2615 c arg2 harg2 arg8 harg8 arg9 harg9 arg21 arg22 x0 x6 x7) = cS (blk x0 x1 x5 x6 x7) 1 7 := by
  rw [kernelRun0_C.sl.v2615, kernelRun0_C.sl.HS0_16, View.readCov_skip _ _ _ _ _ (by decide), kernelRun0_C.sl.HS0_15, View.readCov_cons_toLoadRect]
  simp only [kernelRun0_C.sl.r_232, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_233, kernelRun0_C.sl.r_259, kernelRun0_C.sl.r_261, kernelRun0_C.sl.r_252, kernelRun0_C.sl.r_234, kernelRun0_C.sl.r_262, kernelRun0_C.sl.r_250, kernelRun0_C.sl.r_263, kernelRun0_C.sl.cst_66, View.readAt_eq_ld, harg2.read_unread, harg8.read_unread, harg9.read_unread, m6 c arg9 harg9 arg22 x0 x1 x5 x6 x7, c6_1 c arg2 harg2 arg8 harg8 arg9 harg9 arg21 arg22 x0 x1 x5 x6 x7]
  rfl

theorem g7_3 : k0_pay472 (kernelRun0_C.sl.r_298 c arg2 harg2 arg3 harg3 arg7 harg7 arg8 harg8 arg9 harg9 arg21 arg22 x0 x1 x5 x6 x7) = gP (blk x0 x1 x5 x6 x7) 7 1 1 := by
  simp only [kernelRun0_C.sl.r_298, kernelRun0_C.sl.r_294, kernelRun0_C.sl.r_292, kernelRun0_C.sl.r_270, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_291, kernelRun0_C.sl.r_290, kernelRun0_C.sl.r_285, kernelRun0_C.sl.r_288, kernelRun0_C.sl.r_287, kernelRun0_C.sl.r_286, kernelRun0_C.sl.r_289, kernelRun0_C.sl.r_265, View.readAt_eq_ld, harg2.read_unread, harg3.read_unread, harg7.read_unread, harg8.read_unread, harg9.read_unread, c7_1 c arg2 harg2 arg8 harg8 arg9 harg9 arg21 arg22 x0 x1 x5 x6 x7, m7 c arg9 harg9 arg22 x0 x1 x5 x6 x7]
  rfl

theorem g7_2 : k0_pay470 (kernelRun0_C.sl.r_289 c arg9 harg9 arg22 x7) (kernelRun0_C.sl.r_294 c arg2 harg2 arg7 harg7 arg8 harg8 arg9 harg9 arg21 arg22 x0 x5 x6 x7) (View.readAt (Elt F) arg3.view (Rect.unit (s := S1x1024x512) ![0, 896, 256] S1x128x128.size inb_S1x1024x512_S1x128x128_0_896_256).toLoadRect (harg3.unread x1)) = gP (blk x0 x1 x5 x6 x7) 7 1 0 := by
  simp only [kernelRun0_C.sl.r_289, kernelRun0_C.sl.r_270, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_265, kernelRun0_C.sl.r_294, kernelRun0_C.sl.r_292, kernelRun0_C.sl.r_291, kernelRun0_C.sl.r_290, kernelRun0_C.sl.r_285, kernelRun0_C.sl.r_288, kernelRun0_C.sl.r_287, kernelRun0_C.sl.r_286, View.readAt_eq_ld, harg2.read_unread, harg3.read_unread, harg7.read_unread, harg8.read_unread, harg9.read_unread, m7 c arg9 harg9 arg22 x0 x1 x5 x6 x7, c7_1 c arg2 harg2 arg8 harg8 arg9 harg9 arg21 arg22 x0 x1 x5 x6 x7]
  rfl

theorem g7_1 : k0_pay449 (kernelRun0_C.sl.r_276 c arg9 harg9 arg22 x7) (kernelRun0_C.sl.r_280 c arg2 harg2 arg7 harg7 arg8 harg8 arg9 harg9 arg21 arg22 x0 x5 x6 x7) (View.readAt (Elt F) arg3.view (Rect.unit (s := S1x1024x512) ![0, 896, 128] S1x128x128.size inb_S1x1024x512_S1x128x128_0_896_128).toLoadRect (harg3.unread x1)) = gP (blk x0 x1 x5 x6 x7) 7 0 1 := by
  simp only [kernelRun0_C.sl.r_276, kernelRun0_C.sl.r_270, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_265, kernelRun0_C.sl.r_280, kernelRun0_C.sl.r_279, kernelRun0_C.sl.r_272, kernelRun0_C.sl.r_278, kernelRun0_C.sl.r_277, kernelRun0_C.sl.r_275, kernelRun0_C.sl.r_274, kernelRun0_C.sl.r_271, kernelRun0_C.sl.r_273, View.readAt_eq_ld, harg2.read_unread, harg3.read_unread, harg7.read_unread, harg8.read_unread, harg9.read_unread, m7 c arg9 harg9 arg22 x0 x1 x5 x6 x7, c7_0 c arg2 harg2 arg8 harg8 arg9 harg9 arg21 arg22 x0 x1 x5 x6 x7]
  rfl

theorem g7_0 : k0_pay448 (kernelRun0_C.sl.r_276 c arg9 harg9 arg22 x7) (kernelRun0_C.sl.r_280 c arg2 harg2 arg7 harg7 arg8 harg8 arg9 harg9 arg21 arg22 x0 x5 x6 x7) (View.readAt (Elt F) arg3.view (Rect.unit (s := S1x1024x512) ![0, 896, 0] S1x128x128.size inb_S1x1024x512_S1x128x128_0_896_0).toLoadRect (harg3.unread x1)) = gP (blk x0 x1 x5 x6 x7) 7 0 0 := by
  simp only [kernelRun0_C.sl.r_276, kernelRun0_C.sl.r_270, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_265, kernelRun0_C.sl.r_280, kernelRun0_C.sl.r_279, kernelRun0_C.sl.r_272, kernelRun0_C.sl.r_278, kernelRun0_C.sl.r_277, kernelRun0_C.sl.r_275, kernelRun0_C.sl.r_274, kernelRun0_C.sl.r_271, kernelRun0_C.sl.r_273, View.readAt_eq_ld, harg2.read_unread, harg3.read_unread, harg7.read_unread, harg8.read_unread, harg9.read_unread, m7 c arg9 harg9 arg22 x0 x1 x5 x6 x7, c7_0 c arg2 harg2 arg8 harg8 arg9 harg9 arg21 arg22 x0 x1 x5 x6 x7]
  rfl

theorem g6_3 : k0_pay414 (kernelRun0_C.sl.r_264 c arg2 harg2 arg7 harg7 arg8 harg8 arg9 harg9 arg21 arg22 x0 x5 x6 x7) (View.readAt (Elt F) arg3.view (Rect.unit (s := S1x1024x512) ![0, 768, 384] S1x128x128.size inb_S1x1024x512_S1x128x128_0_768_384).toLoadRect (harg3.unread x1)) = gP (blk x0 x1 x5 x6 x7) 6 1 1 := by
  simp only [kernelRun0_C.sl.r_264, kernelRun0_C.sl.r_260, kernelRun0_C.sl.r_256, kernelRun0_C.sl.r_235, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_255, kernelRun0_C.sl.r_254, kernelRun0_C.sl.r_253, kernelRun0_C.sl.r_252, kernelRun0_C.sl.r_251, kernelRun0_C.sl.r_258, kernelRun0_C.sl.r_257, kernelRun0_C.sl.r_230, View.readAt_eq_ld, harg2.read_unread, harg3.read_unread, harg7.read_unread, harg8.read_unread, harg9.read_unread, c6_1 c arg2 harg2 arg8 harg8 arg9 harg9 arg21 arg22 x0 x1 x5 x6 x7, m6 c arg9 harg9 arg22 x0 x1 x5 x6 x7]
  rfl

theorem g6_2 : k0_pay413 (kernelRun0_C.sl.r_258 c arg9 harg9 arg22 x7) (kernelRun0_C.sl.r_260 c arg2 harg2 arg7 harg7 arg8 harg8 arg9 harg9 arg21 arg22 x0 x5 x6 x7) (View.readAt (Elt F) arg3.view (Rect.unit (s := S1x1024x512) ![0, 768, 256] S1x128x128.size inb_S1x1024x512_S1x128x128_0_768_256).toLoadRect (harg3.unread x1)) = gP (blk x0 x1 x5 x6 x7) 6 1 0 := by
  simp only [kernelRun0_C.sl.r_258, kernelRun0_C.sl.r_257, kernelRun0_C.sl.r_230, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r_255, kernelRun0_C.sl.r_235, kernelRun0_C.sl.r, kernelRun0_C.sl.r_260, kernelRun0_C.sl.r_256, kernelRun0_C.sl.r_254, kernelRun0_C.sl.r_253, kernelRun0_C.sl.r_252, kernelRun0_C.sl.r_251, View.readAt_eq_ld, harg2.read_unread, harg3.read_unread, harg7.read_unread, harg8.read_unread, harg9.read_unread, m6 c arg9 harg9 arg22 x0 x1 x5 x6 x7, c6_1 c arg2 harg2 arg8 harg8 arg9 harg9 arg21 arg22 x0 x1 x5 x6 x7]
  rfl

theorem g6_1 : k0_pay393 (kernelRun0_C.sl.r_249 c arg2 harg2 arg3 harg3 arg7 harg7 arg8 harg8 arg9 harg9 arg21 arg22 x0 x1 x5 x6 x7) = gP (blk x0 x1 x5 x6 x7) 6 0 1 := by
  simp only [kernelRun0_C.sl.r_249, kernelRun0_C.sl.r_245, kernelRun0_C.sl.r_243, kernelRun0_C.sl.r_235, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_242, kernelRun0_C.sl.r_241, kernelRun0_C.sl.r_236, kernelRun0_C.sl.r_239, kernelRun0_C.sl.r_238, kernelRun0_C.sl.r_237, kernelRun0_C.sl.r_240, kernelRun0_C.sl.r_230, View.readAt_eq_ld, harg2.read_unread, harg3.read_unread, harg7.read_unread, harg8.read_unread, harg9.read_unread, c6_0 c arg2 harg2 arg8 harg8 arg9 harg9 arg21 arg22 x0 x1 x5 x6 x7, m6 c arg9 harg9 arg22 x0 x1 x5 x6 x7]
  rfl

theorem g6_0 : k0_pay391 (kernelRun0_C.sl.r_240 c arg9 harg9 arg22 x7) (kernelRun0_C.sl.r_245 c arg2 harg2 arg7 harg7 arg8 harg8 arg9 harg9 arg21 arg22 x0 x5 x6 x7) (View.readAt (Elt F) arg3.view (Rect.unit (s := S1x1024x512) ![0, 768, 0] S1x128x128.size inb_S1x1024x512_S1x128x128_0_768_0).toLoadRect (harg3.unread x1)) = gP (blk x0 x1 x5 x6 x7) 6 0 0 := by
  simp only [kernelRun0_C.sl.r_240, kernelRun0_C.sl.r_235, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_230, kernelRun0_C.sl.r_245, kernelRun0_C.sl.r_243, kernelRun0_C.sl.r_242, kernelRun0_C.sl.r_241, kernelRun0_C.sl.r_236, kernelRun0_C.sl.r_239, kernelRun0_C.sl.r_238, kernelRun0_C.sl.r_237, View.readAt_eq_ld, harg2.read_unread, harg3.read_unread, harg7.read_unread, harg8.read_unread, harg9.read_unread, m6 c arg9 harg9 arg22 x0 x1 x5 x6 x7, c6_0 c arg2 harg2 arg8 harg8 arg9 harg9 arg21 arg22 x0 x1 x5 x6 x7]
  rfl

theorem g5_3 : k0_pay360 (kernelRun0_C.sl.r_227 c arg2 harg2 arg7 harg7 arg8 harg8 arg9 harg9 arg21 arg22 x0 x5 x6 x7) (View.readAt (Elt F) arg3.view (Rect.unit (s := S1x1024x512) ![0, 640, 384] S1x128x128.size inb_S1x1024x512_S1x128x128_0_640_384).toLoadRect (harg3.unread x1)) = gP (blk x0 x1 x5 x6 x7) 5 1 1 := by
  simp only [kernelRun0_C.sl.r_227, kernelRun0_C.sl.r_224, kernelRun0_C.sl.r_220, kernelRun0_C.sl.r_198, kernelRun0_C.sl.cst_377, kernelRun0_C.sl.r_193, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_219, kernelRun0_C.sl.r_218, kernelRun0_C.sl.r_217, kernelRun0_C.sl.r_216, kernelRun0_C.sl.r_215, kernelRun0_C.sl.r_221, kernelRun0_C.sl.r_192, View.readAt_eq_ld, harg2.read_unread, harg3.read_unread, harg7.read_unread, harg8.read_unread, harg9.read_unread, c5_1 c arg2 harg2 arg8 harg8 arg9 harg9 arg21 arg22 x0 x1 x5 x6 x7, m5 c arg9 harg9 arg22 x0 x1 x5 x6 x7]
  rfl

theorem g5_2 : k0_pay359 (kernelRun0_C.sl.r_228 c arg3 harg3 x1) (kernelRun0_C.sl.r_229 c arg2 harg2 arg7 harg7 arg8 harg8 arg9 harg9 arg21 arg22 x0 x5 x6 x7) = gP (blk x0 x1 x5 x6 x7) 5 1 0 := by
  simp only [kernelRun0_C.sl.r_228, kernelRun0_C.sl.r_229, kernelRun0_C.sl.r_224, kernelRun0_C.sl.r_220, kernelRun0_C.sl.r_198, kernelRun0_C.sl.cst_377, kernelRun0_C.sl.r_193, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_219, kernelRun0_C.sl.r_218, kernelRun0_C.sl.r_217, kernelRun0_C.sl.r_216, kernelRun0_C.sl.r_215, kernelRun0_C.sl.r_221, kernelRun0_C.sl.r_192, View.readAt_eq_ld, harg2.read_unread, harg3.read_unread, harg7.read_unread, harg8.read_unread, harg9.read_unread, c5_1 c arg2 harg2 arg8 harg8 arg9 harg9 arg21 arg22 x0 x1 x5 x6 x7, m5 c arg9 harg9 arg22 x0 x1 x5 x6 x7]
  rfl

theorem g5_1 : k0_pay339 (kernelRun0_C.sl.r_213 c arg2 harg2 arg7 harg7 arg8 harg8 arg9 harg9 arg21 arg22 x0 x5 x6 x7) (View.readAt (Elt F) arg3.view (Rect.unit (s := S1x1024x512) ![0, 640, 128] S1x128x128.size inb_S1x1024x512_S1x128x128_0_640_128).toLoadRect (harg3.unread x1)) = gP (blk x0 x1 x5 x6 x7) 5 0 1 := by
  simp only [kernelRun0_C.sl.r_213, kernelRun0_C.sl.r_209, kernelRun0_C.sl.r_205, kernelRun0_C.sl.cst_377, kernelRun0_C.sl.r_193, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_204, kernelRun0_C.sl.r_203, kernelRun0_C.sl.r_202, kernelRun0_C.sl.r_201, kernelRun0_C.sl.r_200, kernelRun0_C.sl.r_207, kernelRun0_C.sl.r_206, kernelRun0_C.sl.r_192, View.readAt_eq_ld, harg2.read_unread, harg3.read_unread, harg7.read_unread, harg8.read_unread, harg9.read_unread, c5_0 c arg2 harg2 arg8 harg8 arg9 harg9 arg21 arg22 x0 x1 x5 x6 x7, m5 c arg9 harg9 arg22 x0 x1 x5 x6 x7]
  rfl

theorem g5_0 : k0_pay338 (kernelRun0_C.sl.r_207 c arg9 harg9 arg22 x7) (kernelRun0_C.sl.r_209 c arg2 harg2 arg7 harg7 arg8 harg8 arg9 harg9 arg21 arg22 x0 x5 x6 x7) (View.readAt (Elt F) arg3.view (Rect.unit (s := S1x1024x512) ![0, 640, 0] S1x128x128.size inb_S1x1024x512_S1x128x128_0_640_0).toLoadRect (harg3.unread x1)) = gP (blk x0 x1 x5 x6 x7) 5 0 0 := by
  simp only [kernelRun0_C.sl.r_207, kernelRun0_C.sl.r_206, kernelRun0_C.sl.cst_377, kernelRun0_C.sl.r_193, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_192, kernelRun0_C.sl.r_209, kernelRun0_C.sl.r_205, kernelRun0_C.sl.r_204, kernelRun0_C.sl.r_203, kernelRun0_C.sl.r_202, kernelRun0_C.sl.r_201, kernelRun0_C.sl.r_200, View.readAt_eq_ld, harg2.read_unread, harg3.read_unread, harg7.read_unread, harg8.read_unread, harg9.read_unread, m5 c arg9 harg9 arg22 x0 x1 x5 x6 x7, c5_0 c arg2 harg2 arg8 harg8 arg9 harg9 arg21 arg22 x0 x1 x5 x6 x7]
  rfl

theorem g4_3 : k0_pay306 (kernelRun0_C.sl.r_190 c arg2 harg2 arg7 harg7 arg8 harg8 arg9 harg9 arg21 arg22 x0 x5 x6 x7) (kernelRun0_C.sl.r_191 c arg2 harg2 arg7 harg7 arg8 harg8 arg9 harg9 arg21 arg22 x0 x5 x6 x7) (View.readAt (Elt F) arg3.view (Rect.unit (s := S1x1024x512) ![0, 512, 384] S1x128x128.size inb_S1x1024x512_S1x128x128_0_512_384).toLoadRect (harg3.unread x1)) = gP (blk x0 x1 x5 x6 x7) 4 1 1 := by
  simp only [kernelRun0_C.sl.r_190, kernelRun0_C.sl.r_189, kernelRun0_C.sl.r_182, kernelRun0_C.sl.r_161, kernelRun0_C.sl.r_155, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_181, kernelRun0_C.sl.r_180, kernelRun0_C.sl.r_178, kernelRun0_C.sl.r_188, kernelRun0_C.sl.r_187, kernelRun0_C.sl.r_179, kernelRun0_C.sl.r_191, kernelRun0_C.sl.r_183, kernelRun0_C.sl.r_151, View.readAt_eq_ld, harg2.read_unread, harg3.read_unread, harg7.read_unread, harg8.read_unread, harg9.read_unread, m4 c arg9 harg9 arg22 x0 x1 x5 x6 x7, c4_1 c arg2 harg2 arg8 harg8 arg9 harg9 arg21 arg22 x0 x1 x5 x6 x7]
  rfl

theorem g4_2 : k0_pay305 (kernelRun0_C.sl.r_190 c arg2 harg2 arg7 harg7 arg8 harg8 arg9 harg9 arg21 arg22 x0 x5 x6 x7) (kernelRun0_C.sl.r_191 c arg2 harg2 arg7 harg7 arg8 harg8 arg9 harg9 arg21 arg22 x0 x5 x6 x7) (View.readAt (Elt F) arg3.view (Rect.unit (s := S1x1024x512) ![0, 512, 256] S1x128x128.size inb_S1x1024x512_S1x128x128_0_512_256).toLoadRect (harg3.unread x1)) = gP (blk x0 x1 x5 x6 x7) 4 1 0 := by
  simp only [kernelRun0_C.sl.r_190, kernelRun0_C.sl.r_189, kernelRun0_C.sl.r_182, kernelRun0_C.sl.r_161, kernelRun0_C.sl.r_155, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_181, kernelRun0_C.sl.r_180, kernelRun0_C.sl.r_178, kernelRun0_C.sl.r_188, kernelRun0_C.sl.r_187, kernelRun0_C.sl.r_179, kernelRun0_C.sl.r_191, kernelRun0_C.sl.r_183, kernelRun0_C.sl.r_151, View.readAt_eq_ld, harg2.read_unread, harg3.read_unread, harg7.read_unread, harg8.read_unread, harg9.read_unread, m4 c arg9 harg9 arg22 x0 x1 x5 x6 x7, c4_1 c arg2 harg2 arg8 harg8 arg9 harg9 arg21 arg22 x0 x1 x5 x6 x7]
  rfl

theorem g4_1 : k0_pay280 (kernelRun0_C.sl.r_175 c arg2 harg2 arg7 harg7 arg8 harg8 arg9 harg9 arg21 arg22 x0 x5 x6 x7) (View.readAt (Elt F) arg3.view (Rect.unit (s := S1x1024x512) ![0, 512, 128] S1x128x128.size inb_S1x1024x512_S1x128x128_0_512_128).toLoadRect (harg3.unread x1)) = gP (blk x0 x1 x5 x6 x7) 4 0 1 := by
  simp only [kernelRun0_C.sl.r_175, kernelRun0_C.sl.r_172, kernelRun0_C.sl.r_168, kernelRun0_C.sl.r_155, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_167, kernelRun0_C.sl.r_166, kernelRun0_C.sl.r_165, kernelRun0_C.sl.r_164, kernelRun0_C.sl.r_163, kernelRun0_C.sl.r_169, kernelRun0_C.sl.r_151, View.readAt_eq_ld, harg2.read_unread, harg3.read_unread, harg7.read_unread, harg8.read_unread, harg9.read_unread, c4_0 c arg2 harg2 arg8 harg8 arg9 harg9 arg21 arg22 x0 x1 x5 x6 x7, m4 c arg9 harg9 arg22 x0 x1 x5 x6 x7]
  rfl

theorem g4_0 : k0_pay279 (kernelRun0_C.sl.r_176 c arg2 harg2 arg3 harg3 arg7 harg7 arg8 harg8 arg9 harg9 arg21 arg22 x0 x1 x5 x6 x7) = gP (blk x0 x1 x5 x6 x7) 4 0 0 := by
  simp only [kernelRun0_C.sl.r_176, kernelRun0_C.sl.r_172, kernelRun0_C.sl.r_168, kernelRun0_C.sl.r_155, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_167, kernelRun0_C.sl.r_166, kernelRun0_C.sl.r_165, kernelRun0_C.sl.r_164, kernelRun0_C.sl.r_163, kernelRun0_C.sl.r_169, kernelRun0_C.sl.r_151, View.readAt_eq_ld, harg2.read_unread, harg3.read_unread, harg7.read_unread, harg8.read_unread, harg9.read_unread, c4_0 c arg2 harg2 arg8 harg8 arg9 harg9 arg21 arg22 x0 x1 x5 x6 x7, m4 c arg9 harg9 arg22 x0 x1 x5 x6 x7]
  rfl

theorem g3_3 : k0_pay248 (kernelRun0_C.sl.r_140 c arg9 harg9 arg22 x7) (kernelRun0_C.sl.r_149 c arg2 harg2 arg7 harg7 arg8 harg8 arg9 harg9 arg21 arg22 x0 x5 x6 x7) (View.readAt (Elt F) arg3.view (Rect.unit (s := S1x1024x512) ![0, 384, 384] S1x128x128.size inb_S1x1024x512_S1x128x128_0_384_384).toLoadRect (harg3.unread x1)) = gP (blk x0 x1 x5 x6 x7) 3 1 1 := by
  simp only [kernelRun0_C.sl.r_140, kernelRun0_C.sl.cst_168, kernelRun0_C.sl.r_139, kernelRun0_C.sl.r_122, kernelRun0_C.sl.r_116, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r_115, kernelRun0_C.sl.r_114, kernelRun0_C.sl.r, kernelRun0_C.sl.r_117, kernelRun0_C.sl.r_149, kernelRun0_C.sl.r_148, kernelRun0_C.sl.r_147, kernelRun0_C.sl.r_137, kernelRun0_C.sl.r_146, kernelRun0_C.sl.r_145, kernelRun0_C.sl.r_143, kernelRun0_C.sl.r_136, kernelRun0_C.sl.r_142, kernelRun0_C.sl.r_141, kernelRun0_C.sl.r_138, View.readAt_eq_ld, harg2.read_unread, harg3.read_unread, harg7.read_unread, harg8.read_unread, harg9.read_unread, m3 c arg9 harg9 arg22 x0 x1 x5 x6 x7, c3_1 c arg2 harg2 arg8 harg8 arg9 harg9 arg21 arg22 x0 x1 x5 x6 x7]
  rfl

theorem g3_2 : k0_pay247 (kernelRun0_C.sl.r_140 c arg9 harg9 arg22 x7) (kernelRun0_C.sl.r_149 c arg2 harg2 arg7 harg7 arg8 harg8 arg9 harg9 arg21 arg22 x0 x5 x6 x7) (View.readAt (Elt F) arg3.view (Rect.unit (s := S1x1024x512) ![0, 384, 256] S1x128x128.size inb_S1x1024x512_S1x128x128_0_384_256).toLoadRect (harg3.unread x1)) = gP (blk x0 x1 x5 x6 x7) 3 1 0 := by
  simp only [kernelRun0_C.sl.r_140, kernelRun0_C.sl.cst_168, kernelRun0_C.sl.r_139, kernelRun0_C.sl.r_122, kernelRun0_C.sl.r_116, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r_115, kernelRun0_C.sl.r_114, kernelRun0_C.sl.r, kernelRun0_C.sl.r_117, kernelRun0_C.sl.r_149, kernelRun0_C.sl.r_148, kernelRun0_C.sl.r_147, kernelRun0_C.sl.r_137, kernelRun0_C.sl.r_146, kernelRun0_C.sl.r_145, kernelRun0_C.sl.r_143, kernelRun0_C.sl.r_136, kernelRun0_C.sl.r_142, kernelRun0_C.sl.r_141, kernelRun0_C.sl.r_138, View.readAt_eq_ld, harg2.read_unread, harg3.read_unread, harg7.read_unread, harg8.read_unread, harg9.read_unread, m3 c arg9 harg9 arg22 x0 x1 x5 x6 x7, c3_1 c arg2 harg2 arg8 harg8 arg9 harg9 arg21 arg22 x0 x1 x5 x6 x7]
  rfl

theorem g3_1 : k0_pay224 (kernelRun0_C.sl.r_134 c arg2 harg2 arg7 harg7 arg8 harg8 arg9 harg9 arg21 arg22 x0 x5 x6 x7) (View.readAt (Elt F) arg3.view (Rect.unit (s := S1x1024x512) ![0, 384, 128] S1x128x128.size inb_S1x1024x512_S1x128x128_0_384_128).toLoadRect (harg3.unread x1)) = gP (blk x0 x1 x5 x6 x7) 3 0 1 := by
  simp only [kernelRun0_C.sl.r_134, kernelRun0_C.sl.r_133, kernelRun0_C.sl.r_127, kernelRun0_C.sl.r_116, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r_115, kernelRun0_C.sl.r_114, kernelRun0_C.sl.r, kernelRun0_C.sl.r_126, kernelRun0_C.sl.r_124, kernelRun0_C.sl.r_132, kernelRun0_C.sl.r_125, kernelRun0_C.sl.r_128, kernelRun0_C.sl.r_117, View.readAt_eq_ld, harg2.read_unread, harg3.read_unread, harg7.read_unread, harg8.read_unread, harg9.read_unread, m3 c arg9 harg9 arg22 x0 x1 x5 x6 x7, c3_0 c arg2 harg2 arg8 harg8 arg9 harg9 arg21 arg22 x0 x1 x5 x6 x7]
  rfl

theorem g3_0 : k0_pay223 (kernelRun0_C.sl.r_134 c arg2 harg2 arg7 harg7 arg8 harg8 arg9 harg9 arg21 arg22 x0 x5 x6 x7) (View.readAt (Elt F) arg3.view (Rect.unit (s := S1x1024x512) ![0, 384, 0] S1x128x128.size inb_S1x1024x512_S1x128x128_0_384_0).toLoadRect (harg3.unread x1)) = gP (blk x0 x1 x5 x6 x7) 3 0 0 := by
  simp only [kernelRun0_C.sl.r_134, kernelRun0_C.sl.r_133, kernelRun0_C.sl.r_127, kernelRun0_C.sl.r_116, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r_115, kernelRun0_C.sl.r_114, kernelRun0_C.sl.r, kernelRun0_C.sl.r_126, kernelRun0_C.sl.r_124, kernelRun0_C.sl.r_132, kernelRun0_C.sl.r_125, kernelRun0_C.sl.r_128, kernelRun0_C.sl.r_117, View.readAt_eq_ld, harg2.read_unread, harg3.read_unread, harg7.read_unread, harg8.read_unread, harg9.read_unread, m3 c arg9 harg9 arg22 x0 x1 x5 x6 x7, c3_0 c arg2 harg2 arg8 harg8 arg9 harg9 arg21 arg22 x0 x1 x5 x6 x7]
  rfl

theorem g2_3 : k0_pay195 (kernelRun0_C.sl.r_105 c arg9 harg9 arg22 x7) (kernelRun0_C.sl.r_109 c arg2 harg2 arg7 harg7 arg8 harg8 arg9 harg9 arg21 arg22 x0 x5 x6 x7) (View.readAt (Elt F) arg3.view (Rect.unit (s := S1x1024x512) ![0, 256, 384] S1x128x128.size inb_S1x1024x512_S1x128x128_0_256_384).toLoadRect (harg3.unread x1)) = gP (blk x0 x1 x5 x6 x7) 2 1 1 := by
  simp only [kernelRun0_C.sl.r_105, kernelRun0_C.sl.r_84, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_79, kernelRun0_C.sl.r_109, kernelRun0_C.sl.r_108, kernelRun0_C.sl.r_102, kernelRun0_C.sl.r_107, kernelRun0_C.sl.r_106, kernelRun0_C.sl.r_104, kernelRun0_C.sl.r_101, kernelRun0_C.sl.r_103, View.readAt_eq_ld, harg2.read_unread, harg3.read_unread, harg7.read_unread, harg8.read_unread, harg9.read_unread, m2 c arg9 harg9 arg22 x0 x1 x5 x6 x7, c2_1 c arg2 harg2 arg8 harg8 arg9 harg9 arg21 arg22 x0 x1 x5 x6 x7]
  rfl

theorem g2_2 : k0_pay194 (kernelRun0_C.sl.r_105 c arg9 harg9 arg22 x7) (kernelRun0_C.sl.r_109 c arg2 harg2 arg7 harg7 arg8 harg8 arg9 harg9 arg21 arg22 x0 x5 x6 x7) (View.readAt (Elt F) arg3.view (Rect.unit (s := S1x1024x512) ![0, 256, 256] S1x128x128.size inb_S1x1024x512_S1x128x128_0_256_256).toLoadRect (harg3.unread x1)) = gP (blk x0 x1 x5 x6 x7) 2 1 0 := by
  simp only [kernelRun0_C.sl.r_105, kernelRun0_C.sl.r_84, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_79, kernelRun0_C.sl.r_109, kernelRun0_C.sl.r_108, kernelRun0_C.sl.r_102, kernelRun0_C.sl.r_107, kernelRun0_C.sl.r_106, kernelRun0_C.sl.r_104, kernelRun0_C.sl.r_101, kernelRun0_C.sl.r_103, View.readAt_eq_ld, harg2.read_unread, harg3.read_unread, harg7.read_unread, harg8.read_unread, harg9.read_unread, m2 c arg9 harg9 arg22 x0 x1 x5 x6 x7, c2_1 c arg2 harg2 arg8 harg8 arg9 harg9 arg21 arg22 x0 x1 x5 x6 x7]
  rfl

theorem g2_1 : k0_pay171 (kernelRun0_C.sl.r_90 c arg9 harg9 arg22 x7) (kernelRun0_C.sl.r_99 c arg2 harg2 arg7 harg7 arg8 harg8 arg9 harg9 arg21 arg22 x0 x5 x6 x7) (View.readAt (Elt F) arg3.view (Rect.unit (s := S1x1024x512) ![0, 256, 128] S1x128x128.size inb_S1x1024x512_S1x128x128_0_256_128).toLoadRect (harg3.unread x1)) = gP (blk x0 x1 x5 x6 x7) 2 0 1 := by
  simp only [kernelRun0_C.sl.r_90, kernelRun0_C.sl.r_89, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.cst_168, kernelRun0_C.sl.r_84, kernelRun0_C.sl.r_79, kernelRun0_C.sl.r_99, kernelRun0_C.sl.r_98, kernelRun0_C.sl.r_97, kernelRun0_C.sl.r_96, kernelRun0_C.sl.r_87, kernelRun0_C.sl.r_95, kernelRun0_C.sl.r_93, kernelRun0_C.sl.r_86, kernelRun0_C.sl.r_92, kernelRun0_C.sl.r_91, kernelRun0_C.sl.r_88, View.readAt_eq_ld, harg2.read_unread, harg3.read_unread, harg7.read_unread, harg8.read_unread, harg9.read_unread, m2 c arg9 harg9 arg22 x0 x1 x5 x6 x7, c2_0 c arg2 harg2 arg8 harg8 arg9 harg9 arg21 arg22 x0 x1 x5 x6 x7]
  rfl

theorem g2_0 : k0_pay170 (kernelRun0_C.sl.r_90 c arg9 harg9 arg22 x7) (kernelRun0_C.sl.r_99 c arg2 harg2 arg7 harg7 arg8 harg8 arg9 harg9 arg21 arg22 x0 x5 x6 x7) (View.readAt (Elt F) arg3.view (Rect.unit (s := S1x1024x512) ![0, 256, 0] S1x128x128.size inb_S1x1024x512_S1x128x128_0_256_0).toLoadRect (harg3.unread x1)) = gP (blk x0 x1 x5 x6 x7) 2 0 0 := by
  simp only [kernelRun0_C.sl.r_90, kernelRun0_C.sl.r_89, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.cst_168, kernelRun0_C.sl.r_84, kernelRun0_C.sl.r_79, kernelRun0_C.sl.r_99, kernelRun0_C.sl.r_98, kernelRun0_C.sl.r_97, kernelRun0_C.sl.r_96, kernelRun0_C.sl.r_87, kernelRun0_C.sl.r_95, kernelRun0_C.sl.r_93, kernelRun0_C.sl.r_86, kernelRun0_C.sl.r_92, kernelRun0_C.sl.r_91, kernelRun0_C.sl.r_88, View.readAt_eq_ld, harg2.read_unread, harg3.read_unread, harg7.read_unread, harg8.read_unread, harg9.read_unread, m2 c arg9 harg9 arg22 x0 x1 x5 x6 x7, c2_0 c arg2 harg2 arg8 harg8 arg9 harg9 arg21 arg22 x0 x1 x5 x6 x7]
  rfl

theorem g1_3 : k0_pay137 (kernelRun0_C.sl.r_78 c arg2 harg2 arg3 harg3 arg7 harg7 arg8 harg8 arg9 harg9 arg21 arg22 x0 x1 x5 x6 x7) = gP (blk x0 x1 x5 x6 x7) 1 1 1 := by
  simp only [kernelRun0_C.sl.r_78, kernelRun0_C.sl.r_74, kernelRun0_C.sl.r_72, kernelRun0_C.sl.r_50, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_71, kernelRun0_C.sl.r_70, kernelRun0_C.sl.r_65, kernelRun0_C.sl.r_68, kernelRun0_C.sl.r_67, kernelRun0_C.sl.r_66, kernelRun0_C.sl.r_69, kernelRun0_C.sl.r_45, View.readAt_eq_ld, harg2.read_unread, harg3.read_unread, harg7.read_unread, harg8.read_unread, harg9.read_unread, c1_1 c arg2 harg2 arg8 harg8 arg9 harg9 arg21 arg22 x0 x1 x5 x6 x7, m1 c arg9 harg9 arg22 x0 x1 x5 x6 x7]
  rfl

theorem g1_2 : k0_pay135 (kernelRun0_C.sl.r_69 c arg9 harg9 arg22 x7) (kernelRun0_C.sl.r_74 c arg2 harg2 arg7 harg7 arg8 harg8 arg9 harg9 arg21 arg22 x0 x5 x6 x7) (View.readAt (Elt F) arg3.view (Rect.unit (s := S1x1024x512) ![0, 128, 256] S1x128x128.size inb_S1x1024x512_S1x128x128_0_128_256).toLoadRect (harg3.unread x1)) = gP (blk x0 x1 x5 x6 x7) 1 1 0 := by
  simp only [kernelRun0_C.sl.r_69, kernelRun0_C.sl.r_50, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_45, kernelRun0_C.sl.r_74, kernelRun0_C.sl.r_72, kernelRun0_C.sl.r_71, kernelRun0_C.sl.r_70, kernelRun0_C.sl.r_65, kernelRun0_C.sl.r_68, kernelRun0_C.sl.r_67, kernelRun0_C.sl.r_66, View.readAt_eq_ld, harg2.read_unread, harg3.read_unread, harg7.read_unread, harg8.read_unread, harg9.read_unread, m1 c arg9 harg9 arg22 x0 x1 x5 x6 x7, c1_1 c arg2 harg2 arg8 harg8 arg9 harg9 arg21 arg22 x0 x1 x5 x6 x7]
  rfl

theorem g1_1 : k0_pay114 (kernelRun0_C.sl.r_56 c arg9 harg9 arg22 x7) (kernelRun0_C.sl.r_60 c arg2 harg2 arg7 harg7 arg8 harg8 arg9 harg9 arg21 arg22 x0 x5 x6 x7) (View.readAt (Elt F) arg3.view (Rect.unit (s := S1x1024x512) ![0, 128, 128] S1x128x128.size inb_S1x1024x512_S1x128x128_0_128_128).toLoadRect (harg3.unread x1)) = gP (blk x0 x1 x5 x6 x7) 1 0 1 := by
  simp only [kernelRun0_C.sl.r_56, kernelRun0_C.sl.r_50, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_45, kernelRun0_C.sl.r_60, kernelRun0_C.sl.r_59, kernelRun0_C.sl.r_52, kernelRun0_C.sl.r_58, kernelRun0_C.sl.r_57, kernelRun0_C.sl.r_55, kernelRun0_C.sl.r_54, kernelRun0_C.sl.r_51, kernelRun0_C.sl.r_53, View.readAt_eq_ld, harg2.read_unread, harg3.read_unread, harg7.read_unread, harg8.read_unread, harg9.read_unread, m1 c arg9 harg9 arg22 x0 x1 x5 x6 x7, c1_0 c arg2 harg2 arg8 harg8 arg9 harg9 arg21 arg22 x0 x1 x5 x6 x7]
  rfl

theorem g1_0 : k0_pay113 (kernelRun0_C.sl.r_56 c arg9 harg9 arg22 x7) (kernelRun0_C.sl.r_60 c arg2 harg2 arg7 harg7 arg8 harg8 arg9 harg9 arg21 arg22 x0 x5 x6 x7) (View.readAt (Elt F) arg3.view (Rect.unit (s := S1x1024x512) ![0, 128, 0] S1x128x128.size inb_S1x1024x512_S1x128x128_0_128_0).toLoadRect (harg3.unread x1)) = gP (blk x0 x1 x5 x6 x7) 1 0 0 := by
  simp only [kernelRun0_C.sl.r_56, kernelRun0_C.sl.r_50, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_45, kernelRun0_C.sl.r_60, kernelRun0_C.sl.r_59, kernelRun0_C.sl.r_52, kernelRun0_C.sl.r_58, kernelRun0_C.sl.r_57, kernelRun0_C.sl.r_55, kernelRun0_C.sl.r_54, kernelRun0_C.sl.r_51, kernelRun0_C.sl.r_53, View.readAt_eq_ld, harg2.read_unread, harg3.read_unread, harg7.read_unread, harg8.read_unread, harg9.read_unread, m1 c arg9 harg9 arg22 x0 x1 x5 x6 x7, c1_0 c arg2 harg2 arg8 harg8 arg9 harg9 arg21 arg22 x0 x1 x5 x6 x7]
  rfl

theorem g0_3 : k0_pay79 (kernelRun0_C.sl.r_44 c arg2 harg2 arg7 harg7 arg8 harg8 arg9 harg9 arg21 arg22 x0 x5 x6 x7) (View.readAt (Elt F) arg3.view (Rect.unit (s := S1x1024x512) ![0, 0, 384] S1x128x128.size inb_S1x1024x512_S1x128x128_0_0_384).toLoadRect (harg3.unread x1)) = gP (blk x0 x1 x5 x6 x7) 0 1 1 := by
  simp only [kernelRun0_C.sl.r_44, kernelRun0_C.sl.r_40, kernelRun0_C.sl.r_36, kernelRun0_C.sl.r_15, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_35, kernelRun0_C.sl.r_34, kernelRun0_C.sl.r_33, kernelRun0_C.sl.r_32, kernelRun0_C.sl.r_31, kernelRun0_C.sl.r_38, kernelRun0_C.sl.r_37, kernelRun0_C.sl.r_10, View.readAt_eq_ld, harg2.read_unread, harg3.read_unread, harg7.read_unread, harg8.read_unread, harg9.read_unread, c0_1 c arg2 harg2 arg8 harg8 arg9 harg9 arg21 arg22 x0 x1 x5 x6 x7, m0 c arg22 x0 x1 x5 x6 x7]
  rfl

theorem g0_2 : k0_pay78 (kernelRun0_C.sl.r_38 c arg9 harg9 arg22 x7) (kernelRun0_C.sl.r_40 c arg2 harg2 arg7 harg7 arg8 harg8 arg9 harg9 arg21 arg22 x0 x5 x6 x7) (View.readAt (Elt F) arg3.view (Rect.unit (s := S1x1024x512) ![0, 0, 256] S1x128x128.size inb_S1x1024x512_S1x128x128_0_0_256).toLoadRect (harg3.unread x1)) = gP (blk x0 x1 x5 x6 x7) 0 1 0 := by
  simp only [kernelRun0_C.sl.r_38, kernelRun0_C.sl.r_37, kernelRun0_C.sl.r_10, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r_35, kernelRun0_C.sl.r_15, kernelRun0_C.sl.r, kernelRun0_C.sl.r_40, kernelRun0_C.sl.r_36, kernelRun0_C.sl.r_34, kernelRun0_C.sl.r_33, kernelRun0_C.sl.r_32, kernelRun0_C.sl.r_31, View.readAt_eq_ld, harg2.read_unread, harg3.read_unread, harg7.read_unread, harg8.read_unread, harg9.read_unread, m0 c arg22 x0 x1 x5 x6 x7, c0_1 c arg2 harg2 arg8 harg8 arg9 harg9 arg21 arg22 x0 x1 x5 x6 x7]
  rfl

theorem g0_1 : k0_pay58 (kernelRun0_C.sl.r_29 c arg2 harg2 arg3 harg3 arg7 harg7 arg8 harg8 arg9 harg9 arg21 arg22 x0 x1 x5 x6 x7) = gP (blk x0 x1 x5 x6 x7) 0 0 1 := by
  simp only [kernelRun0_C.sl.r_29, kernelRun0_C.sl.r_25, kernelRun0_C.sl.r_23, kernelRun0_C.sl.r_15, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_22, kernelRun0_C.sl.r_21, kernelRun0_C.sl.r_16, kernelRun0_C.sl.r_19, kernelRun0_C.sl.r_18, kernelRun0_C.sl.r_17, kernelRun0_C.sl.r_20, kernelRun0_C.sl.r_10, View.readAt_eq_ld, harg2.read_unread, harg3.read_unread, harg7.read_unread, harg8.read_unread, harg9.read_unread, c0_0 c arg21 x0 x1 x5 x6 x7, m0 c arg22 x0 x1 x5 x6 x7]
  rfl

theorem g0_0 : k0_pay56 (kernelRun0_C.sl.r_20 c arg9 harg9 arg22 x7) (kernelRun0_C.sl.r_25 c arg2 harg2 arg7 harg7 arg8 harg8 arg9 harg9 arg21 arg22 x0 x5 x6 x7) (View.readAt (Elt F) arg3.view (Rect.unit (s := S1x1024x512) ![0, 0, 0] S1x128x128.size inb_S1x1024x512_S1x128x128_0_0_0).toLoadRect (harg3.unread x1)) = gP (blk x0 x1 x5 x6 x7) 0 0 0 := by
  simp only [kernelRun0_C.sl.r_20, kernelRun0_C.sl.r_15, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_10, kernelRun0_C.sl.r_25, kernelRun0_C.sl.r_23, kernelRun0_C.sl.r_22, kernelRun0_C.sl.r_21, kernelRun0_C.sl.r_16, kernelRun0_C.sl.r_19, kernelRun0_C.sl.r_18, kernelRun0_C.sl.r_17, View.readAt_eq_ld, harg2.read_unread, harg3.read_unread, harg7.read_unread, harg8.read_unread, harg9.read_unread, m0 c arg22 x0 x1 x5 x6 x7, c0_0 c arg21 x0 x1 x5 x6 x7]
  rfl

end Cert.Mix.C
-- ==== Proof.EndC.lean ====
module

public import proofs.«01_k».proof.Proof.Tile
public import proofs.«01_k».proof.Proof.RunC
public import proofs.«01_k».proof.Proof.Mix
public import proofs.«01_k».proof.Proof.Gen.KernelIdeal.Frame
public import Idealize.ShloMosaic.Lib.Pipeline.ReadBack

@[expose] public section

set_option maxRecDepth 16384

noncomputable section

namespace Cert.Mix.C

open Idealize.ShloMosaic Idealize.SL.Sem Cert.KernelIdeal Cert.KernelIdeal.Gen Cert.Mix

variable {F : FTy → Type} [FloatOps F]

variable (c : Dev nD)
  (arg2 : Memref sig .tc .vmem S1x1024x512 .bf16) (harg2 : arg2.IsWhole)
  (arg3 : Memref sig .tc .vmem S1x1024x512 .bf16) (harg3 : arg3.IsWhole)
  (arg4 : Memref sig .tc .vmem S1x1024x512 .bf16) (harg4 : arg4.IsWhole)
  (arg5 : Memref sig .tc .vmem S1x1024x512 .bf16) (harg5 : arg5.IsWhole)
  (arg6 : Memref sig .tc .vmem S1x1024x512 .bf16) (harg6 : arg6.IsWhole)
  (arg7 : Memref sig .tc .vmem S1x512x1024 .bf16) (harg7 : arg7.IsWhole)
  (arg8 : Memref sig .tc .vmem S1x512x1024 .bf16) (harg8 : arg8.IsWhole)
  (arg9 : Memref sig .tc .vmem S1x8x1024 .f32) (harg9 : arg9.IsWhole)
  (arg10 : Memref sig .tc .vmem S1x1024x1024 .f32) (harg10 : arg10.IsWhole)
  (arg11 : Memref sig .tc .vmem S3x512 .f32) (harg11 : arg11.IsWhole)
  (arg12 : Memref sig .tc .vmem S1024x1024 .bf16) (harg12 : arg12.IsWhole)
  (arg13 : Memref sig .tc .vmem S1x1024 .f32) (harg13 : arg13.IsWhole)
  (arg14 : Memref sig .tc .vmem S1024x128 .bf16) (harg14 : arg14.IsWhole)
  (arg15 : Memref sig .tc .vmem S1x128 .f32) (harg15 : arg15.IsWhole)
  (arg16 : Memref sig .tc .vmem S1x1024x1024 .f32) (harg16 : arg16.IsWhole)
  (arg17 : Memref sig .tc .vmem S1x1024x1024 .bf16) (harg17 : arg17.IsWhole)
  (arg21 : Memref sig .tc .vmem S2x144x256 .f32) (harg21 : arg21.IsWhole)
  (arg22 : Memref sig .tc .vmem S8x128 .f32) (harg22 : arg22.IsWhole)
  (arg23 : Memref sig .tc .vmem S8x512 .f32) (harg23 : arg23.IsWhole)
  (arg24 : Memref sig .tc .vmem S32x128 .i32) (harg24 : arg24.IsWhole)
  (arg25 : Memref sig .tc .vmem S1024x1024 .bf16) (harg25 : arg25.IsWhole)
  (x0 : Vec F S1x1024x512 .bf16) (x1 : Vec F S1x1024x512 .bf16) (x2 : Vec F S1x1024x512 .bf16) (x3 : Vec F S1x1024x512 .bf16) (x4 : Vec F S1x1024x512 .bf16) (x5 : Vec F S1x512x1024 .bf16) (x6 : Vec F S1x512x1024 .bf16) (x7 : Vec F S1x8x1024 .f32) (x8 : Vec F S1x1024x1024 .f32) (x9 : Vec F S3x512 .f32) (x10 : Vec F S1024x1024 .bf16) (x11 : Vec F S1x1024 .f32) (x12 : Vec F S1024x128 .bf16) (x13 : Vec F S1x128 .f32) (xs0 : Vec F S2x144x256 .f32) (xs1 : Vec F S8x128 .f32) (xs2 : Vec F S8x512 .f32) (xs3 : Vec F S32x128 .i32)

/-- Everything the tile reads. -/
def tile : Tile F := ⟨blk x0 x1 x5 x6 x7, x2, x3, x4, x8, x9, x10, x11,
  View.ld (k0_pay7 : Vec F S8x512 .f32) (Rect.unit (s := S8x512) ![0, 0] S1x512.size inb_S8x512_S1x512_0_0), View.ld (k0_pay7 : Vec F S8x512 .f32) (Rect.unit (s := S8x512) ![1, 0] S1x512.size inb_S8x512_S1x512_1_0)⟩

theorem v2720 : (kernelRun0_C.sl.v2720 c arg23) = View.ld (k0_pay7 : Vec F S8x512 .f32) (Rect.unit (s := S8x512) ![0, 0] S1x512.size inb_S8x512_S1x512_0_0) := by
  rw [kernelRun0_C.sl.v2720, kernelRun0_C.sl.HS2_1, View.readCov_fill _ _ _ _ _ (by decide)]

theorem v2721 : (kernelRun0_C.sl.v2721 c arg23) = View.ld (k0_pay7 : Vec F S8x512 .f32) (Rect.unit (s := S8x512) ![1, 0] S1x512.size inb_S8x512_S1x512_1_0) := by
  rw [kernelRun0_C.sl.v2721, kernelRun0_C.sl.HS2_1, View.readCov_fill _ _ _ _ _ (by decide)]

theorem hs4 : (kernelRun0_C.sl.HS4_33 c arg2 harg2 arg3 harg3 arg4 harg4 arg5 harg5 arg6 harg6 arg7 harg7 arg8 harg8 arg9 harg9 arg11 harg11 arg21 arg22 arg23 x0 x1 x2 x3 x4 x5 x6 x7 x9) = (tile x0 x1 x2 x3 x4 x5 x6 x7 x8 x9 x10 x11).mixPieces := by
  rw [kernelRun0_C.sl.HS4_33]
  simp only [g7_3 c arg2 harg2 arg3 harg3 arg7 harg7 arg8 harg8 arg9 harg9 arg21 arg22 x0 x1 x5 x6 x7, g7_2 c arg2 harg2 arg3 harg3 arg7 harg7 arg8 harg8 arg9 harg9 arg21 arg22 x0 x1 x5 x6 x7, g7_1 c arg2 harg2 arg3 harg3 arg7 harg7 arg8 harg8 arg9 harg9 arg21 arg22 x0 x1 x5 x6 x7, g7_0 c arg2 harg2 arg3 harg3 arg7 harg7 arg8 harg8 arg9 harg9 arg21 arg22 x0 x1 x5 x6 x7, g6_3 c arg2 harg2 arg3 harg3 arg7 harg7 arg8 harg8 arg9 harg9 arg21 arg22 x0 x1 x5 x6 x7, g6_2 c arg2 harg2 arg3 harg3 arg7 harg7 arg8 harg8 arg9 harg9 arg21 arg22 x0 x1 x5 x6 x7, g6_1 c arg2 harg2 arg3 harg3 arg7 harg7 arg8 harg8 arg9 harg9 arg21 arg22 x0 x1 x5 x6 x7, g6_0 c arg2 harg2 arg3 harg3 arg7 harg7 arg8 harg8 arg9 harg9 arg21 arg22 x0 x1 x5 x6 x7, g5_3 c arg2 harg2 arg3 harg3 arg7 harg7 arg8 harg8 arg9 harg9 arg21 arg22 x0 x1 x5 x6 x7, g5_2 c arg2 harg2 arg3 harg3 arg7 harg7 arg8 harg8 arg9 harg9 arg21 arg22 x0 x1 x5 x6 x7, g5_1 c arg2 harg2 arg3 harg3 arg7 harg7 arg8 harg8 arg9 harg9 arg21 arg22 x0 x1 x5 x6 x7, g5_0 c arg2 harg2 arg3 harg3 arg7 harg7 arg8 harg8 arg9 harg9 arg21 arg22 x0 x1 x5 x6 x7, g4_3 c arg2 harg2 arg3 harg3 arg7 harg7 arg8 harg8 arg9 harg9 arg21 arg22 x0 x1 x5 x6 x7, g4_2 c arg2 harg2 arg3 harg3 arg7 harg7 arg8 harg8 arg9 harg9 arg21 arg22 x0 x1 x5 x6 x7, g4_1 c arg2 harg2 arg3 harg3 arg7 harg7 arg8 harg8 arg9 harg9 arg21 arg22 x0 x1 x5 x6 x7, g4_0 c arg2 harg2 arg3 harg3 arg7 harg7 arg8 harg8 arg9 harg9 arg21 arg22 x0 x1 x5 x6 x7, g3_3 c arg2 harg2 arg3 harg3 arg7 harg7 arg8 harg8 arg9 harg9 arg21 arg22 x0 x1 x5 x6 x7, g3_2 c arg2 harg2 arg3 harg3 arg7 harg7 arg8 harg8 arg9 harg9 arg21 arg22 x0 x1 x5 x6 x7, g3_1 c arg2 harg2 arg3 harg3 arg7 harg7 arg8 harg8 arg9 harg9 arg21 arg22 x0 x1 x5 x6 x7, g3_0 c arg2 harg2 arg3 harg3 arg7 harg7 arg8 harg8 arg9 harg9 arg21 arg22 x0 x1 x5 x6 x7, g2_3 c arg2 harg2 arg3 harg3 arg7 harg7 arg8 harg8 arg9 harg9 arg21 arg22 x0 x1 x5 x6 x7, g2_2 c arg2 harg2 arg3 harg3 arg7 harg7 arg8 harg8 arg9 harg9 arg21 arg22 x0 x1 x5 x6 x7, g2_1 c arg2 harg2 arg3 harg3 arg7 harg7 arg8 harg8 arg9 harg9 arg21 arg22 x0 x1 x5 x6 x7, g2_0 c arg2 harg2 arg3 harg3 arg7 harg7 arg8 harg8 arg9 harg9 arg21 arg22 x0 x1 x5 x6 x7, g1_3 c arg2 harg2 arg3 harg3 arg7 harg7 arg8 harg8 arg9 harg9 arg21 arg22 x0 x1 x5 x6 x7, g1_2 c arg2 harg2 arg3 harg3 arg7 harg7 arg8 harg8 arg9 harg9 arg21 arg22 x0 x1 x5 x6 x7, g1_1 c arg2 harg2 arg3 harg3 arg7 harg7 arg8 harg8 arg9 harg9 arg21 arg22 x0 x1 x5 x6 x7, g1_0 c arg2 harg2 arg3 harg3 arg7 harg7 arg8 harg8 arg9 harg9 arg21 arg22 x0 x1 x5 x6 x7, g0_3 c arg2 harg2 arg3 harg3 arg7 harg7 arg8 harg8 arg9 harg9 arg21 arg22 x0 x1 x5 x6 x7, g0_2 c arg2 harg2 arg3 harg3 arg7 harg7 arg8 harg8 arg9 harg9 arg21 arg22 x0 x1 x5 x6 x7, g0_1 c arg2 harg2 arg3 harg3 arg7 harg7 arg8 harg8 arg9 harg9 arg21 arg22 x0 x1 x5 x6 x7, g0_0 c arg2 harg2 arg3 harg3 arg7 harg7 arg8 harg8 arg9 harg9 arg21 arg22 x0 x1 x5 x6 x7]
  simp only [kernelRun0_C.sl.r_301, kernelRun0_C.sl.HS2_1, kernelRun0_C.sl.r_300, kernelRun0_C.sl.r_299, View.readAt_eq_ld, harg2.read_unread, harg3.read_unread, harg4.read_unread, harg5.read_unread, harg6.read_unread, harg7.read_unread, harg8.read_unread, harg9.read_unread, harg11.read_unread, v2720 c arg23, v2721 c arg23]
  rfl

theorem mix : (kernelRun0_C.sl.v2766 c arg2 harg2 arg3 harg3 arg4 harg4 arg5 harg5 arg6 harg6 arg7 harg7 arg8 harg8 arg9 harg9 arg11 harg11 arg21 arg22 arg23 arg25 x0 x1 x2 x3 x4 x5 x6 x7 x9) = (tile x0 x1 x2 x3 x4 x5 x6 x7 x8 x9 x10 x11).mix := by
  rw [kernelRun0_C.sl.v2766, hs4 c arg2 harg2 arg3 harg3 arg4 harg4 arg5 harg5 arg6 harg6 arg7 harg7 arg8 harg8 arg9 harg9 arg11 harg11 arg21 arg22 arg23 x0 x1 x2 x3 x4 x5 x6 x7 x8 x9 x10 x11, View.readCov_eq_canon']
  rfl

theorem h14 : (kernelRun0_C.sl.H14_4 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10) = (tile x0 x1 x2 x3 x4 x5 x6 x7 x8 x9 x10 x11).xPieces := by
  rw [kernelRun0_C.sl.H14_4]
  simp only [kernelRun0_C.sl.r_302, mix c arg2 harg2 arg3 harg3 arg4 harg4 arg5 harg5 arg6 harg6 arg7 harg7 arg8 harg8 arg9 harg9 arg11 harg11 arg21 arg22 arg23 arg25 x0 x1 x2 x3 x4 x5 x6 x7 x8 x9 x10 x11, View.readAt_eq_ld, harg2.read_unread, harg3.read_unread, harg4.read_unread, harg5.read_unread, harg6.read_unread, harg7.read_unread, harg8.read_unread, harg9.read_unread, harg10.read_unread, harg11.read_unread, harg12.read_unread]
  rfl

theorem x2l : (kernelRun0_C.sl.v2820 c arg2 harg2 arg3 harg3 arg4 harg4 arg5 harg5 arg6 harg6 arg7 harg7 arg8 harg8 arg9 harg9 arg10 harg10 arg11 harg11 arg12 harg12 arg16 arg21 arg22 arg23 arg25 x0 x1 x2 x3 x4 x5 x6 x7 x8 x9 x10) = (tile x0 x1 x2 x3 x4 x5 x6 x7 x8 x9 x10 x11).x2l := by
  rw [kernelRun0_C.sl.v2820, h14 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10 x11, View.readCov_eq_canon']
  rfl

theorem hnP : k0_pay491 (kernelRun0_C.sl.v2766 c arg2 harg2 arg3 harg3 arg4 harg4 arg5 harg5 arg6 harg6 arg7 harg7 arg8 harg8 arg9 harg9 arg11 harg11 arg21 arg22 arg23 arg25 x0 x1 x2 x3 x4 x5 x6 x7 x9) (kernelRun0_C.sl.r_303 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10) (View.readAt (Elt F) arg10.view (Rect.unit (s := S1x1024x1024) ![0, 0, 768] S1x1024x256.size inb_S1x1024x1024_S1x1024x256_0_0_768).toLoadRect (harg10.unread x8)) (View.readAt (Elt F) arg12.view (Rect.unit (s := S1024x1024) ![0, 768] S1024x256.size inb_S1024x1024_S1024x256_0_768).toLoadRect (harg12.unread x10)) (kernelRun0_C.sl.v2820 c arg2 harg2 arg3 harg3 arg4 harg4 arg5 harg5 arg6 harg6 arg7 harg7 arg8 harg8 arg9 harg9 arg10 harg10 arg11 harg11 arg12 harg12 arg16 arg21 arg22 arg23 arg25 x0 x1 x2 x3 x4 x5 x6 x7 x8 x9 x10) (View.readAt (Elt F) arg13.view (Rect.unit (s := S1x1024) ![0, 0] S1x1024.size inb_S1x1024_S1x1024_0_0).toLoadRect (harg13.unread x11)) = (tile x0 x1 x2 x3 x4 x5 x6 x7 x8 x9 x10 x11).hnP := by
  simp only [kernelRun0_C.sl.r_303, kernelRun0_C.sl.r_302, mix c arg2 harg2 arg3 harg3 arg4 harg4 arg5 harg5 arg6 harg6 arg7 harg7 arg8 harg8 arg9 harg9 arg11 harg11 arg21 arg22 arg23 arg25 x0 x1 x2 x3 x4 x5 x6 x7 x8 x9 x10 x11, x2l c arg2 harg2 arg3 harg3 arg4 harg4 arg5 harg5 arg6 harg6 arg7 harg7 arg8 harg8 arg9 harg9 arg10 harg10 arg11 harg11 arg12 harg12 arg16 arg21 arg22 arg23 arg25 x0 x1 x2 x3 x4 x5 x6 x7 x8 x9 x10 x11, View.readAt_eq_ld, harg2.read_unread, harg3.read_unread, harg4.read_unread, harg5.read_unread, harg6.read_unread, harg7.read_unread, harg8.read_unread, harg9.read_unread, harg10.read_unread, harg11.read_unread, harg12.read_unread, harg13.read_unread]
  rfl

theorem c8_0 : k0_pay446 (kernelRun0_C.sl.r_281 c arg2 harg2 arg8 harg8 arg9 harg9 x0 x6 x7) (kernelRun0_C.sl.r_282 c arg2 harg2 arg8 harg8 arg9 harg9 arg21 arg22 x0 x6 x7) (kernelRun0_C.sl.r_283 c arg9 harg9 arg22 x7) (kernelRun0_C.sl.r_284 c arg9 harg9 arg22 x7) = cS (blk x0 x1 x5 x6 x7) 0 8 := by
  simp only [kernelRun0_C.sl.r_281, kernelRun0_C.sl.r_273, kernelRun0_C.sl.r_271, kernelRun0_C.sl.r_269, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_282, kernelRun0_C.sl.r_267, kernelRun0_C.sl.r_283, kernelRun0_C.sl.r_268, kernelRun0_C.sl.r_284, View.readAt_eq_ld, harg2.read_unread, harg8.read_unread, harg9.read_unread, c7_0 c arg2 harg2 arg8 harg8 arg9 harg9 arg21 arg22 x0 x1 x5 x6 x7, m7 c arg9 harg9 arg22 x0 x1 x5 x6 x7]
  rfl

theorem c8_1 : k0_pay468 (kernelRun0_C.sl.r_268 c arg9 harg9 arg22 x7) (kernelRun0_C.sl.r_293 c arg2 harg2 arg8 harg8 arg9 harg9 arg21 arg22 x0 x6 x7) (kernelRun0_C.sl.r_295 c arg2 harg2 arg8 harg8 arg9 harg9 x0 x6 x7) (kernelRun0_C.sl.r_296 c arg9 harg9 arg22 x7) (kernelRun0_C.sl.r_297 c arg9 harg9 arg22 x7) = cS (blk x0 x1 x5 x6 x7) 1 8 := by
  simp only [kernelRun0_C.sl.r_268, kernelRun0_C.sl.r_9, kernelRun0_C.sl.r_8, kernelRun0_C.sl.r_7, kernelRun0_C.sl.r_6, kernelRun0_C.sl.r_5, kernelRun0_C.sl.r_4, kernelRun0_C.sl.r_3, kernelRun0_C.sl.r_2, kernelRun0_C.sl.r_1, kernelRun0_C.sl.r, kernelRun0_C.sl.r_293, kernelRun0_C.sl.r_295, kernelRun0_C.sl.r_287, kernelRun0_C.sl.r_285, kernelRun0_C.sl.r_269, kernelRun0_C.sl.r_296, kernelRun0_C.sl.r_267, kernelRun0_C.sl.r_297, View.readAt_eq_ld, harg2.read_unread, harg8.read_unread, harg9.read_unread, m7 c arg9 harg9 arg22 x0 x1 x5 x6 x7, c7_1 c arg2 harg2 arg8 harg8 arg9 harg9 arg21 arg22 x0 x1 x5 x6 x7]
  rfl

variable (i : grid0.Coords) (arg18 : Memref sig .tc .vmem S1x8x1024 .i32) (harg18 : arg18.IsWhole)
  (arg19 : Memref sig .tc .vmem S1x8x1024 .f32) (harg19 : arg19.IsWhole)
  (arg20 : Memref sig .tc .vmem S32x128 .i32) (harg20 : arg20.IsWhole) (hc0 : cond0_0 i) (hc1 : ¬cond0_1 i)

/-- The residual stream the tile stores. -/
theorem out14 : out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs3 = (tile x0 x1 x2 x3 x4 x5 x6 x7 x8 x9 x10 x11).x2 := by
  show VO0_14.read (Elt F) (VO0_14.writes (Elt F) VO0_14.junk (kernelRun0_C.sl.H14_4 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10)) = _
  rw [h14 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10 x11, View.read_writes_junk_eq_canon]
  rfl

/-- The normalised stream the tile stores. -/
theorem out15 : out0_C_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs3 = (tile x0 x1 x2 x3 x4 x5 x6 x7 x8 x9 x10 x11).hn := by
  show VO0_15.read (Elt F) (VO0_15.writes (Elt F) VO0_15.junk [⟨Rect.unit ![0, 0, 0] S1x1024x1024.size inb_S1x1024x1024_S1x1024x1024_0_0_0, k0_pay491 (kernelRun0_C.sl.v2766 c arg2 harg2 arg3 harg3 arg4 harg4 arg5 harg5 arg6 harg6 arg7 harg7 arg8 harg8 arg9 harg9 arg11 harg11 arg21 arg22 arg23 arg25 x0 x1 x2 x3 x4 x5 x6 x7 x9) (kernelRun0_C.sl.r_303 c arg2 harg2 arg3 harg3 arg4 harg4 arg5 harg5 arg6 harg6 arg7 harg7 arg8 harg8 arg9 harg9 arg10 harg10 arg11 harg11 arg12 harg12 arg21 arg22 arg23 arg25 x0 x1 x2 x3 x4 x5 x6 x7 x8 x9 x10) (View.readAt (Elt F) arg10.view (Rect.unit (s := S1x1024x1024) ![0, 0, 768] S1x1024x256.size inb_S1x1024x1024_S1x1024x256_0_0_768).toLoadRect (harg10.unread x8)) (View.readAt (Elt F) arg12.view (Rect.unit (s := S1024x1024) ![0, 768] S1024x256.size inb_S1024x1024_S1024x256_0_768).toLoadRect (harg12.unread x10)) (kernelRun0_C.sl.v2820 c arg2 harg2 arg3 harg3 arg4 harg4 arg5 harg5 arg6 harg6 arg7 harg7 arg8 harg8 arg9 harg9 arg10 harg10 arg11 harg11 arg12 harg12 arg16 arg21 arg22 arg23 arg25 x0 x1 x2 x3 x4 x5 x6 x7 x8 x9 x10) (View.readAt (Elt F) arg13.view (Rect.unit (s := S1x1024) ![0, 0] S1x1024.size inb_S1x1024_S1x1024_0_0).toLoadRect (harg13.unread x11))⟩]) = _
  rw [hnP c arg2 harg2 arg3 harg3 arg4 harg4 arg5 harg5 arg6 harg6 arg7 harg7 arg8 harg8 arg9 harg9 arg10 harg10 arg11 harg11 arg12 harg12 arg13 harg13 arg16 arg21 arg22 arg23 arg25 x0 x1 x2 x3 x4 x5 x6 x7 x8 x9 x10 x11, View.read_writes_junk_eq_canon]
  rfl

/-- The memory the tile leaves. -/
theorem out_ct (p : Fin 2) (e : Fin 144) (d : Fin 256) : sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs3 (ix3 p e d) = cS (blk x0 x1 x5 x6 x7) p 8 (ix3 (0 : Fin 1) e d) := by
  show VS0_0.read (Elt F) (VS0_0.writes (Elt F) VS0_0.junk (⟨Rect.unit ![1, 0, 0] S1x144x256.size inb_S2x144x256_S1x144x256_1_0_0, k0_pay468 (kernelRun0_C.sl.r_268 c arg9 harg9 arg22 x7) (kernelRun0_C.sl.r_293 c arg2 harg2 arg8 harg8 arg9 harg9 arg21 arg22 x0 x6 x7) (kernelRun0_C.sl.r_295 c arg2 harg2 arg8 harg8 arg9 harg9 x0 x6 x7) (kernelRun0_C.sl.r_296 c arg9 harg9 arg22 x7) (kernelRun0_C.sl.r_297 c arg9 harg9 arg22 x7)⟩ :: kernelRun0_C.sl.HS0_16 c arg2 harg2 arg8 harg8 arg9 harg9 arg21 arg22 x0 x6 x7)) (ix3 p e d) = _
  rw [View.read_writes_junk_eq_canon, kernelRun0_C.sl.HS0_16, c8_1 c arg2 harg2 arg8 harg8 arg9 harg9 arg21 arg22 x0 x1 x5 x6 x7, c8_0 c arg2 harg2 arg8 harg8 arg9 harg9 arg21 arg22 x0 x1 x5 x6 x7]
  refine (ct_read _ _ _ p e d).trans ?_
  by_cases hp : p = 0
  · rw [if_pos hp, hp]
  · obtain rfl : p = 1 := by omega
    rw [if_neg hp]

/-- The stabilisers the tile leaves. -/
theorem out_m (h : Fin 4) : sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs3 (ix2 (⟨h.val, by omega⟩ : Fin 8) (0 : Fin 128))
    = k0_pay473 (mS (blk x0 x1 x5 x6 x7) 8) (ix2 h (0 : Fin 128)) := by
  rw [← m8 c arg9 harg9 arg22 x0 x1 x5 x6 x7]
  exact m_read _ _ _ _ h

/-- The last row of the convolution's input. -/
theorem out_u1 (j : Fin 512) : sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs3 (ix2 (0 : Fin 8) j) = k0_pay478 (tile x0 x1 x2 x3 x4 x5 x6 x7 x8 x9 x10 x11).u (ix2 (0 : Fin 1) j) := by
  have e : (kernelRun0_C.sl.r_299 c arg5 harg5 arg6 harg6 x3 x4) = (tile x0 x1 x2 x3 x4 x5 x6 x7 x8 x9 x10 x11).u := by
    simp only [kernelRun0_C.sl.r_299, View.readAt_eq_ld, harg5.read_unread, harg6.read_unread]
    rfl
  rw [← e]
  exact u_read0 _ _ _ _ _ j

/-- The last but one row of the convolution's input. -/
theorem out_u2 (j : Fin 512) : sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 xs3 (ix2 (1 : Fin 8) j) = k0_pay479 (tile x0 x1 x2 x3 x4 x5 x6 x7 x8 x9 x10 x11).u (ix2 (0 : Fin 1) j) := by
  have e : (kernelRun0_C.sl.r_299 c arg5 harg5 arg6 harg6 x3 x4) = (tile x0 x1 x2 x3 x4 x5 x6 x7 x8 x9 x10 x11).u := by
    simp only [kernelRun0_C.sl.r_299, View.readAt_eq_ld, harg5.read_unread, harg6.read_unread]
    rfl
  rw [← e]
  exact u_read1 _ _ _ _ j

end Cert.Mix.C
-- ==== Proof.State.lean ====
/- The launch, point by point: every grid point is a tile whose inputs are the layer's. -/
module

public import proofs.«01_k».proof.Proof.Good
public import proofs.«01_k».proof.Proof.Entry
public import proofs.«01_k».proof.Proof.EndA
public import proofs.«01_k».proof.Proof.EndB
public import proofs.«01_k».proof.Proof.EndC

@[expose] public section

set_option maxRecDepth 16384

noncomputable section

namespace Cert.Mix

open Idealize.ShloMosaic Idealize.ShloMosaic.TcCoe Idealize.SL.Sem Cert.KernelIdeal Cert.KernelIdeal.Gen

variable (m : (ℓ : Loc nD τ sig) → Buf (Elt Ideal) ℓ) (c : Dev nD)

/-- The arguments as the launch finds them. -/
def args : Args where
  x b s k := m ((c : Thread nD τ).loc main_arg0) (ix3 b s k)
  J := PJ m c
  cw r j := m ((c : Thread nD τ).loc main_arg2) (ix2 r j)
  w r j := m ((c : Thread nD τ).loc main_arg3) (ix2 r j)
  g j := m ((c : Thread nD τ).loc main_arg4) (ix1 j)

/-- The tile of a grid point. -/
def til (t : Fin cfg0.N) : Fin 4 := ⟨t.val % 4, by omega⟩

theorem ld_g (x : Vec Ideal S1x8x1024 .f32) (j : Fin 8) (r : Fin 1024) :
    View.ld x (Rect.unit ![0, 0, 0] S1x8x1024.size inb_S1x8x1024_S1x8x1024_0_0_0) (ix3 (0 : Fin 1) j r) = x (ix3 (0 : Fin 1) j r) := by
  refine congrArg x ?_
  funext a
  fin_cases a
  · rfl
  · apply Fin.ext; show 0 + 1 * j.val = j.val; omega
  · apply Fin.ext; show 0 + 1 * r.val = r.val; omega

/-- The two rows of the convolution's input kept between tiles. -/
abbrev row0 (x : Vec Ideal S8x512 .f32) : Vec Ideal S1x512 .f32 :=
  View.ld x (Rect.unit (s := S8x512) ![0, 0] S1x512.size inb_S8x512_S1x512_0_0)
abbrev row1 (x : Vec Ideal S8x512 .f32) : Vec Ideal S1x512 .f32 :=
  View.ld x (Rect.unit (s := S8x512) ![1, 0] S1x512.size inb_S8x512_S1x512_1_0)

theorem row0_apply (x : Vec Ideal S8x512 .f32) (j : Fin 512) : row0 x (ix2 (0 : Fin 1) j) = x (ix2 (0 : Fin 8) j) := by
  refine congrArg x ?_
  funext a
  fin_cases a
  · rfl
  · apply Fin.ext; show 0 + 1 * j.val = j.val; omega

theorem row1_apply (x : Vec Ideal S8x512 .f32) (j : Fin 512) : row1 x (ix2 (0 : Fin 1) j) = x (ix2 (1 : Fin 8) j) := by
  refine congrArg x ?_
  funext a
  fin_cases a
  · rfl
  · apply Fin.ext; show 0 + 1 * j.val = j.val; omega

/-- A tile over its input blocks and a state on entry. -/
abbrev tileOf (x0 x1 x2 x3 x4 : Vec Ideal S1x1024x512 .bf16) (x5 x6 : Vec Ideal S1x512x1024 .bf16) (x7 : Vec Ideal S1x8x1024 .f32)
    (x8 : Vec Ideal S1x1024x1024 .f32) (x9 : Vec Ideal S3x512 .f32) (x10 : Vec Ideal S1024x1024 .bf16) (x11 : Vec Ideal S1x1024 .f32)
    (C : Vec Ideal S2x144x256 .f32) (M : Vec Ideal S8x128 .f32) (U : Vec Ideal S8x512 .f32) : Tile Ideal :=
  ⟨⟨View.ld x7 (Rect.unit ![0, 0, 0] S1x8x1024.size inb_S1x8x1024_S1x8x1024_0_0_0), x0, x1, x5, x6, C, M⟩,
    x2, x3, x4, x8, x9, x10, x11, row0 U, row1 U⟩

theorem good_of {x0 x1 x2 x3 x4 : Vec Ideal S1x1024x512 .bf16} {x5 x6 : Vec Ideal S1x512x1024 .bf16} {x7 : Vec Ideal S1x8x1024 .f32}
    {x8 : Vec Ideal S1x1024x1024 .f32} {x9 : Vec Ideal S3x512 .f32} {x10 : Vec Ideal S1024x1024 .bf16} {x11 : Vec Ideal S1x1024 .f32}
    {C : Vec Ideal S2x144x256 .f32} {M : Vec Ideal S8x128 .f32} {U : Vec Ideal S8x512 .f32}
    {A : Args} {b : Fin 8} {s : Fin 4} {mr : Fin 4 → ℝ}
    (st : IsSt A b (1024 * s.val) mr M C (row0 U) (row1 U)) (fin : A.Finite)
    (k : ∀ (r : Fin 1024) (j : Fin 512), x0 (ix3 (0 : Fin 1) r j) = A.J b (at' s r) ⟨512 + j.val, by omega⟩)
    (o : ∀ (r : Fin 1024) (j : Fin 512), x1 (ix3 (0 : Fin 1) r j) = A.J b (at' s r) ⟨1536 + j.val, by omega⟩)
    (cb : ∀ (r : Fin 1024) (j : Fin 512), x2 (ix3 (0 : Fin 1) r j) = A.J b (at' s r) ⟨2056 + j.val, by omega⟩)
    (cc : ∀ (r : Fin 1024) (j : Fin 512), x3 (ix3 (0 : Fin 1) r j) = A.J b (at' s r) ⟨2568 + j.val, by omega⟩)
    (cx : ∀ (r : Fin 1024) (j : Fin 512), x4 (ix3 (0 : Fin 1) r j) = A.J b (at' s r) ⟨3080 + j.val, by omega⟩)
    (q : ∀ (r : Fin 1024) (j : Fin 512), x5 (ix3 (0 : Fin 1) j r) = A.J b (at' s r) ⟨j.val, by omega⟩ * Ideal.ofBits .f32 0x3DB504F3#32)
    (v : ∀ (r : Fin 1024) (j : Fin 512), x6 (ix3 (0 : Fin 1) j r) = A.J b (at' s r) ⟨1024 + j.val, by omega⟩)
    (g : ∀ (r : Fin 1024) (j : Fin 8), x7 (ix3 (0 : Fin 1) j r) = A.J b (at' s r) ⟨2048 + j.val, by omega⟩)
    (x : ∀ r j : Fin 1024, x8 (ix3 (0 : Fin 1) r j) = A.x b (at' s r) j)
    (cw : ∀ (r : Fin 3) (j : Fin 512), x9 (ix2 r j) = A.cw r j) (w : ∀ r j : Fin 1024, x10 (ix2 r j) = A.w r j)
    (n : ∀ j : Fin 1024, x11 (ix2 (0 : Fin 1) j) = A.g j) :
    Good A b s mr (tileOf x0 x1 x2 x3 x4 x5 x6 x7 x8 x9 x10 x11 C M U) :=
  ⟨st, fin, fun r j => (ld_g _ _ _).trans (g r j), k, o, q, v, cb, cc, cx, x, cw, w, n⟩

/-- A point's tile, over a state on entry. -/
abbrev tileAt (t : Fin cfg0.N) (C : Vec Ideal S2x144x256 .f32) (M : Vec Ideal S8x128 .f32) (U : Vec Ideal S8x512 .f32) : Tile Ideal :=
  tileOf (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) C M U

theorem good (hf : (args m c).Finite) (t : Fin cfg0.N) (mr : Fin 4 → ℝ) (C : Vec Ideal S2x144x256 .f32) (M : Vec Ideal S8x128 .f32)
    (U : Vec Ideal S8x512 .f32) (h : IsSt (args m c) (bat t) (1024 * (til t).val) mr M C (row0 U) (row1 U)) :
    Good (args m c) (bat t) (til t) mr (tileAt m c t C M U) :=
  good_of h hf (blk_k m c t) (blk_o m c t) (blk_cb m c t) (blk_cc m c t) (blk_cx m c t) (blk_q m c t) (blk_v m c t) (blk_g m c t)
    (blk_x m c t) (blk_cw m c t) (blk_w m c t) (blk_n m c t)

/-- What a point leaves, given its tile. -/
structure Left (X : Tile Ideal) (o14 : Vec Ideal S1x1024x1024 .f32) (o15 : Vec Ideal S1x1024x1024 .bf16) (C : Vec Ideal S2x144x256 .f32) (M : Vec Ideal S8x128 .f32)
    (U : Vec Ideal S8x512 .f32) : Prop where
  h14 : o14 = X.x2
  h15 : o15 = X.hn
  hC : ∀ (p : Fin 2) (e : Fin 144) (d : Fin 256), C (ix3 p e d) = cS X.b p 8 (ix3 (0 : Fin 1) e d)
  hM : ∀ h : Fin 4, M (ix2 (⟨h.val, by omega⟩ : Fin 8) (0 : Fin 128)) = k0_pay473 (mS X.b 8) (ix2 h (0 : Fin 128))
  h1 : ∀ j : Fin 512, U (ix2 (0 : Fin 8) j) = k0_pay478 X.u (ix2 (0 : Fin 1) j)
  h2 : ∀ j : Fin 512, U (ix2 (1 : Fin 8) j) = k0_pay479 X.u (ix2 (0 : Fin 1) j)

end Cert.Mix
-- ==== Proof.Point.lean ====
/- What every grid point of the launch leaves: the layer's rows at its tile. -/
module

public import proofs.«01_k».proof.Proof.State

@[expose] public section

set_option maxRecDepth 16384

noncomputable section

namespace Cert.Mix

open Idealize.ShloMosaic Idealize.ShloMosaic.TcCoe Idealize.SL.Sem Cert.KernelIdeal Cert.KernelIdeal.Gen

variable (m : (ℓ : Loc nD τ sig) → Buf (Elt Ideal) ℓ) (c : Dev nD)

/-- A grid point leaves what its tile computes over a state. -/
abbrev LeftAt (t : Fin cfg0.N) (C : Vec Ideal S2x144x256 .f32) (M : Vec Ideal S8x128 .f32) (U : Vec Ideal S8x512 .f32) : Prop :=
  Left (tileAt m c t C M U) (outsAt0 m c t.val t.isLt).1 (outsAt0 m c t.val t.isLt).2.1 (outsAt0 m c t.val t.isLt).2.2.2.2.2.1
    (outsAt0 m c t.val t.isLt).2.2.2.2.2.2.1 (outsAt0 m c t.val t.isLt).2.2.2.2.2.2.2.1

theorem Left.of {α β γ δ : Type} {X : Tile Ideal} {o14 : Vec Ideal S1x1024x1024 .f32} {o15 : Vec Ideal S1x1024x1024 .bf16}
    {x : α} {y : β} {z : γ} {C : Vec Ideal S2x144x256 .f32} {M : Vec Ideal S8x128 .f32} {U : Vec Ideal S8x512 .f32} {D : δ}
    {P : Vec Ideal S1x1024x1024 .f32 × Vec Ideal S1x1024x1024 .bf16 × α × β × γ × Vec Ideal S2x144x256 .f32 × Vec Ideal S8x128 .f32
      × Vec Ideal S8x512 .f32 × δ}
    (hP : P = (o14, o15, x, y, z, C, M, U, D)) (h : Left X o14 o15 C M U) :
    Left X P.1 P.2.1 P.2.2.2.2.2.1 P.2.2.2.2.2.2.1 P.2.2.2.2.2.2.2.1 := by
  subst hP
  exact h

theorem left_A (t : Fin cfg0.N) (h0 : t.val % 4 = 0) (h1 : t.val % 32 = 0) :
    LeftAt m c t (k0_pay5 (F := Ideal)) (k0_pay6 (F := Ideal)) (k0_pay7 (F := Ideal)) :=
  Left.of (outsAt0_A m c t h0 h1)
    ⟨A.out14 .., A.out15 .., fun p e d => A.out_ct .., fun h => A.out_m .., fun j => A.out_u1 .., fun j => A.out_u2 ..⟩

theorem left_C (t : Fin cfg0.N) (h0 : t.val % 4 = 0) (h1 : ¬t.val % 32 = 0) :
    LeftAt m c t (k0_pay5 (F := Ideal)) (k0_pay6 (F := Ideal)) (k0_pay7 (F := Ideal)) :=
  Left.of (outsAt0_C m c t h0 h1)
    ⟨C.out14 .., C.out15 .., fun p e d => C.out_ct .., fun h => C.out_m .., fun j => C.out_u1 .., fun j => C.out_u2 ..⟩

theorem left_B (t : Fin cfg0.N) (h0 : ¬t.val % 4 = 0) (h1 : ¬t.val % 32 = 0) :
    LeftAt m c t (outsAt0 m c (t.val - 1) (Nat.lt_of_le_of_lt (Nat.sub_le _ _) t.isLt)).2.2.2.2.2.1
      (outsAt0 m c (t.val - 1) (Nat.lt_of_le_of_lt (Nat.sub_le _ _) t.isLt)).2.2.2.2.2.2.1
      (outsAt0 m c (t.val - 1) (Nat.lt_of_le_of_lt (Nat.sub_le _ _) t.isLt)).2.2.2.2.2.2.2.1 := by
  have h := outsAt0_B m c t h0 h1
  unfold LeftAt
  generalize outsAt0 m c (t.val - 1) (Nat.lt_of_le_of_lt (Nat.sub_le _ _) t.isLt) = P at h ⊢
  exact Left.of h
    ⟨B.out14 .., B.out15 .., fun p e d => B.out_ct .., fun h => B.out_m .., fun j => B.out_u1 .., fun j => B.out_u2 ..⟩

/-- What a tile leaves is the state the next tile of its sequence needs. -/
theorem Left.next {A : Args} {b : Fin 8} {s : Fin 4} {mr : Fin 4 → ℝ} {X : Tile Ideal} {o14 : Vec Ideal S1x1024x1024 .f32}
    {o15 : Vec Ideal S1x1024x1024 .bf16} {C : Vec Ideal S2x144x256 .f32} {M : Vec Ideal S8x128 .f32} {U : Vec Ideal S8x512 .f32}
    (h : Left X o14 o15 C M U) (g : Good A b s mr X) (hs : s.val < 3) :
    ∃ mr', IsSt A b (1024 * s.val + 1024) mr' M C (row0 U) (row1 U) := by
  obtain ⟨mr', hm, hc⟩ := g.next
  refine ⟨mr', fun a => (h.hM a).trans (hm a), fun p l e d => (h.hC p e _).trans (hc p l e d), fun j => ?_, fun j => ?_⟩
  · rw [row0_apply, h.h1, g.u1, Args.back, dif_pos (by omega)]
    rfl
  · rw [row1_apply, h.h2, g.u2, Args.back, dif_pos (by omega)]
    rfl

/-- The state before a sequence starts. -/
theorem start (A : Args) (b : Fin 8) (T : ℕ) (hT : T = 0) :
    IsSt A b T (fun _ => 0) (k0_pay6 (F := Ideal)) (k0_pay5 (F := Ideal)) (row0 (k0_pay7 (F := Ideal))) (row1 (k0_pay7 (F := Ideal))) := by
  subst hT
  refine ⟨fun h => ?_, fun p l e d => ?_, fun j => ?_, fun j => ?_⟩
  · pointwise [k0_pay6]
    simp
  · rw [Head.St_zero]
    pointwise [k0_pay5]
    simp
  · rw [row0_apply]
    pointwise [k0_pay7]
    simp [Args.back]
  · rw [row1_apply]
    pointwise [k0_pay7]
    simp [Args.back]

/-- Every grid point is a tile whose inputs are the layer's. -/
theorem point (hf : (args m c).Finite) : ∀ (n : ℕ) (hn : n < cfg0.N), ∃ mr C M U,
    Good (args m c) (bat ⟨n, hn⟩) (til ⟨n, hn⟩) mr (tileAt m c ⟨n, hn⟩ C M U) ∧ LeftAt m c ⟨n, hn⟩ C M U := by
  intro n
  induction n with
  | zero => exact fun hn => ⟨_, _, _, _, good m c hf ⟨0, hn⟩ _ _ _ _ (start _ _ _ rfl), left_A m c ⟨0, hn⟩ rfl rfl⟩
  | succ n ih =>
    intro hn
    by_cases h0 : (n + 1) % 4 = 0
    · refine ⟨_, _, _, _, good m c hf ⟨n + 1, hn⟩ _ _ _ _ (start _ _ _ ?_), ?_⟩
      · show 1024 * ((n + 1) % 4) = 0
        omega
      · by_cases h1 : (n + 1) % 32 = 0
        · exact left_A m c ⟨n + 1, hn⟩ h0 h1
        · exact left_C m c ⟨n + 1, hn⟩ h0 h1
    · obtain ⟨mr, C, M, U, g, l⟩ := ih (Nat.lt_of_succ_lt hn)
      obtain ⟨mr', h⟩ := l.next g (by show n % 4 < 3; omega)
      refine ⟨mr', _, _, _, good m c hf ⟨n + 1, hn⟩ _ _ _ _ ?_, left_B m c ⟨n + 1, hn⟩ h0 (by show ¬(n + 1) % 32 = 0; omega)⟩
      have e1 : bat ⟨n + 1, hn⟩ = bat ⟨n, Nat.lt_of_succ_lt hn⟩ := Fin.ext (by show (n + 1) / 4 = n / 4; omega)
      have e2 : 1024 * (til ⟨n + 1, hn⟩).val = 1024 * (til ⟨n, Nat.lt_of_succ_lt hn⟩).val + 1024 := by
        show 1024 * ((n + 1) % 4) = 1024 * (n % 4) + 1024
        omega
      rw [e1, e2]
      exact h

/-- The residual stream a grid point stores. -/
theorem point14 (hf : (args m c).Finite) (t : Fin cfg0.N) (r k : Fin 1024) :
    (outsAt0 m c t.val t.isLt).1 (ix3 (0 : Fin 1) r k) = (args m c).x2 (bat t) (tok t r) k := by
  obtain ⟨mr, C, M, U, g, l⟩ := point m c hf t.val t.isLt
  rw [l.h14, g.x2]
  rfl

/-- The normalised residual stream a grid point stores. -/
theorem point15 (hf : (args m c).Finite) (t : Fin cfg0.N) (r k : Fin 1024) :
    (outsAt0 m c t.val t.isLt).2.1 (ix3 (0 : Fin 1) r k) = (args m c).hn (bat t) (tok t r) k := by
  obtain ⟨mr, C, M, U, g, l⟩ := point m c hf t.val t.isLt
  rw [l.h15, g.hn]
  rfl

end Cert.Mix
-- ==== Proof.Final.lean ====
/- The launch's two stream arrays: the layer's residual stream and its normalised form. -/
module

public import proofs.«01_k».proof.Proof.Point

@[expose] public section

set_option maxRecDepth 16384

noncomputable section

namespace Cert.Mix

open Idealize.ShloMosaic Idealize.ShloMosaic.TcCoe Idealize.SL.Sem Cert.KernelIdeal Cert.KernelIdeal.Gen

variable (m : (ℓ : Loc nD τ sig) → Buf (Elt Ideal) ℓ) (c : Dev nD)

theorem final14 (hf : (args m c).Finite) :
    (dats m 0 c).arrAt 14 cfg0.N = fun i : S8x4096x1024.Idx => (args m c).x2 (i 0) (i 1) (i 2) := by
  refine (dats m 0 c).arrAt_eq_of_covers 14 _ (by decide +kernel) fun t _ y => ?_
  blk_simp
  rw [after0_14]
  obtain ⟨y0, y1, y2, rfl⟩ : ∃ (y0 : Fin 1) (y1 y2 : Fin 1024), y = ix3 y0 y1 y2 :=
    ⟨y 0, y 1, y 2, by funext a; fin_cases a <;> rfl⟩
  obtain rfl : y0 = 0 := Subsingleton.elim _ _
  refine (point14 m c hf t y1 y2).trans ?_
  generalize (args m c).x2 = f
  have e : (win0_14.blk t).view.emb (ix3 (0 : Fin 1) y1 y2) = (ix3 (bat t) (tok t y1) y2 : S8x4096x1024.Idx) := by
    unfold bat tok
    funext a
    fin_cases a <;> apply Fin.ext <;> blk_simp [idx t]
    · rfl
    · show t.val % 4 * 1024 + y1.val = 1024 * (t.val % 4) + y1.val
      omega
    · rfl
  rw [e]
  rfl

theorem final15 (hf : (args m c).Finite) :
    (dats m 0 c).arrAt 15 cfg0.N = fun i : S8x4096x1024.Idx => (args m c).hn (i 0) (i 1) (i 2) := by
  refine (dats m 0 c).arrAt_eq_of_covers 15 _ (by decide +kernel) fun t _ y => ?_
  blk_simp
  rw [after0_15]
  obtain ⟨y0, y1, y2, rfl⟩ : ∃ (y0 : Fin 1) (y1 y2 : Fin 1024), y = ix3 y0 y1 y2 :=
    ⟨y 0, y 1, y 2, by funext a; fin_cases a <;> rfl⟩
  obtain rfl : y0 = 0 := Subsingleton.elim _ _
  refine (point15 m c hf t y1 y2).trans ?_
  generalize (args m c).hn = f
  have e : (win0_15.blk t).view.emb (ix3 (0 : Fin 1) y1 y2) = (ix3 (bat t) (tok t y1) y2 : S8x4096x1024.Idx) := by
    unfold bat tok
    funext a
    fin_cases a <;> apply Fin.ext <;> blk_simp [idx t]
    · rfl
    · show t.val % 4 * 1024 + y1.val = 1024 * (t.val % 4) + y1.val
      omega
    · rfl
  rw [e]
  rfl

end Cert.Mix
-- ==== Proof.RefCum.lean ====
/- The reference's two folds over an axis: the running sum of the log forget gates, and a maximum
   that is only needed to be finite. -/
module

public import proofs.«01_k».proof.Proof.Gen.ReferenceIdeal.Read
public import proofs.«01_k».proof.Proof.Math
public import Idealize.ShloMosaic.Lib.Pointwise

@[expose] public section

set_option maxRecDepth 16384

noncomputable section

namespace Cert.Mix

open Idealize.ShloMosaic Cert.ReferenceIdeal Cert.ReferenceIdeal.Gen

theorem foldl_add_sum {α : Type} (f : α → EReal) : ∀ (l : List α) (a : EReal),
    l.foldl (fun r n => r + f n) a = a + (l.map f).sum
  | [], a => by simp
  | x :: l, a => by rw [List.foldl_cons, foldl_add_sum f l, List.map_cons, List.sum_cons, add_assoc]

theorem foldl_max_real {α : Type} (f : α → EReal) : ∀ (l : List α) (a : EReal), a ≠ ⊤ → (∀ x ∈ l, f x ≠ ⊤) →
    (a ≠ ⊥ ∨ ∃ x ∈ l, f x ≠ ⊥) → ∃ r : ℝ, l.foldl (fun r n => max r (f n)) a = (r : EReal)
  | [], a, ha, _, hb => by
    rcases hb with hb | ⟨x, hx, _⟩
    · exact ⟨a.toReal, (EReal.coe_toReal ha hb).symm⟩
    · exact absurd hx (List.not_mem_nil)
  | x :: l, a, ha, ht, hb => by
    refine foldl_max_real f l (max a (f x)) ?_ (fun y hy => ht y (List.mem_cons_of_mem _ hy)) ?_
    · rcases max_choice a (f x) with e | e <;> rw [e]
      · exact ha
      · exact ht x List.mem_cons_self
    · rcases hb with hb | ⟨y, hy, hb⟩
      · exact Or.inl fun e => hb (le_bot_iff.mp (e ▸ le_max_left a (f x)))
      · rcases List.mem_cons.mp hy with rfl | hy
        · exact Or.inl fun e => hb (le_bot_iff.mp (e ▸ le_max_right a (f y)))
        · exact Or.inr ⟨y, hy, hb⟩

/-- A window's places along its one long axis. -/
def places : Fin 4096 ≃ (⟨3, ![1, 1, 4096]⟩ : Shape).Idx where
  toFun w := ix3 (0 : Fin 1) (0 : Fin 1) w
  invFun i := i 2
  left_inv w := rfl
  right_inv i := by
    funext a
    fin_cases a
    · exact Subsingleton.elim (α := Fin 1) _ _
    · exact Subsingleton.elim (α := Fin 1) _ _
    · rfl

theorem window_apply (x : FVec Ideal S8x4x4096 .f32) (b : Fin 8) (h : Fin 4) (t : Fin 4096)
    (hw : S8x4x4096.ReduceWindows ![1, 1, 4096] ![1, 1, 1] ![0, 0, 4095] ![0, 0, 0] S8x4x4096) :
    Ideal.hostReduceWindowAdd ![1, 1, 4096] ![1, 1, 1] ![0, 0, 4095] ![0, 0, 0] hw x 0 (ix3 b h t)
      = ∑ s : Fin 4096, if s.val ≤ t.val then x (ix3 b h s) else 0 := by
  unfold Ideal.hostReduceWindowAdd Host.reduceWindow
  refine (foldl_add_sum _ _ _).trans ?_
  rw [zero_add, ← Fin.sum_univ_def]
  refine (Equiv.sum_comp (places.trans (⟨3, ![1, 1, 4096]⟩ : Shape).rowMajor) _).symm.trans ?_
  refine Eq.trans ?_ (Equiv.sum_comp (Equiv.addRight ((⟨(t.val + 1) % 4096, Nat.mod_lt _ (by decide)⟩ : Fin 4096))) _)
  refine Finset.sum_congr rfl fun w _ => ?_
  simp only [Equiv.trans_apply, Equiv.symm_apply_apply]
  show _ = if (w + (⟨(t.val + 1) % 4096, Nat.mod_lt _ (by decide)⟩ : Fin 4096)).val ≤ t.val
    then x (ix3 b h (w + (⟨(t.val + 1) % 4096, Nat.mod_lt _ (by decide)⟩ : Fin 4096))) else 0
  have hv : (w + (⟨(t.val + 1) % 4096, Nat.mod_lt _ (by decide)⟩ : Fin 4096)).val = (w.val + (t.val + 1) % 4096) % 4096 := rfl
  by_cases hc : 4095 ≤ t.val + w.val
  · refine (dif_pos ?_).trans (Eq.trans ?_ (if_pos (by rw [hv]; omega)).symm)
    rotate_left
    · refine congrArg x ?_
      funext a
      apply Fin.ext
      fin_cases a
      · show b.val * 1 + 0 - 0 = b.val; omega
      · show h.val * 1 + 0 - 0 = h.val; omega
      · show t.val * 1 + w.val - 4095 = (w + (⟨(t.val + 1) % 4096, Nat.mod_lt _ (by decide)⟩ : Fin 4096)).val
        rw [hv]; omega
    · intro a
      fin_cases a
      · show 0 ≤ b.val * 1 + 0 ∧ b.val * 1 + 0 - 0 < 8; omega
      · show 0 ≤ h.val * 1 + 0 ∧ h.val * 1 + 0 - 0 < 4; omega
      · show 4095 ≤ t.val * 1 + w.val ∧ t.val * 1 + w.val - 4095 < 4096; omega
  · refine (dif_neg ?_).trans (if_neg (by rw [hv]; omega)).symm
    intro hin
    have : 4095 ≤ t.val * 1 + w.val := (hin 2).1
    omega

theorem sum_upto (n : ℕ) (t : ℕ) (ht : t < n) (f : ℕ → ℝ) :
    ∑ s : Fin n, (if s.val ≤ t then ((f s.val : ℝ) : EReal) else 0) = ((∑ s ∈ Finset.range (t + 1), f s : ℝ) : EReal) := by
  have e : ∀ s : Fin n, (if s.val ≤ t then ((f s.val : ℝ) : EReal) else 0) = (((if s.val ≤ t then f s.val else 0 : ℝ)) : EReal) := by
    intro s
    split <;> simp
  rw [Finset.sum_congr rfl fun s _ => e s, ← coe_sum, Fin.sum_univ_eq_sum_range (fun j => if j ≤ t then f j else 0) n, ← Finset.sum_filter]
  congr 2
  ext j
  simp only [Finset.mem_filter, Finset.mem_range]
  omega

/-- A maximum over the last axis whose terms are nowhere `⊤` and somewhere finite. -/
theorem max_real (x : FVec Ideal S8x4x4096x4096 .f32) (b : Fin 8) (h : Fin 4) (t : Fin 4096) (init : FVec Ideal S_ .f32)
    (hr : S8x4x4096x4096.ReducesTo [3] S8x4x4096) (hu : 0 < S_.numel) (hi : ∀ i, init i = ⊥)
    (ht : ∀ s, x (ix4 b h t s) ≠ ⊤) (s₀ : Fin 4096) (hb : x (ix4 b h t s₀) ≠ ⊥) :
    ∃ r : ℝ, Host.reduce FloatOps.maximumf x init hr hu (ix3 b h t) = (r : EReal) := by
  unfold Host.reduce
  rw [hi]
  have drop : ∀ i : S8x4x4096x4096.Idx, hr.drop i = ix3 (i 0) (i 1) (i 2) := by
    intro i
    funext a
    fin_cases a <;> rfl
  refine foldl_max_real (fun n => x (S8x4x4096x4096.rowMajor.symm n)) _ _ bot_ne_top (fun n hn => ?_) (Or.inr ⟨S8x4x4096x4096.rowMajor (ix4 b h t s₀), ?_, ?_⟩)
  · have e := of_decide_eq_true (List.mem_filter.mp hn).2
    rw [drop] at e
    have e' : S8x4x4096x4096.rowMajor.symm n = ix4 b h t (S8x4x4096x4096.rowMajor.symm n 3) := by
      funext a
      fin_cases a
      · exact congrFun e 0
      · exact congrFun e 1
      · exact congrFun e 2
      · rfl
    show x (S8x4x4096x4096.rowMajor.symm n) ≠ ⊤
    rw [e']
    exact ht _
  · refine List.mem_filter.mpr ⟨List.mem_finRange _, decide_eq_true ?_⟩
    rw [Equiv.symm_apply_apply, drop]
    rfl
  · show x (S8x4x4096x4096.rowMajor.symm _) ≠ ⊥
    rw [Equiv.symm_apply_apply]
    exact hb

end Cert.Mix
-- ==== Proof.RefHead.lean ====
/- The reference's heads, over the reals. -/
module

public import proofs.«01_k».proof.Proof.RefCum
public import proofs.«01_k».proof.Proof.Spec
public import Idealize.ShloMosaic.Lib.WordCmp

@[expose] public section

set_option maxRecDepth 16384

noncomputable section

namespace Cert.Mix

open Idealize.ShloMosaic Cert.ReferenceIdeal Cert.ReferenceIdeal.Gen Cert.ReferenceIdeal.Read

/-- The log of the sigmoid, as the reference writes it: minus the softplus of the negated gate. -/
theorem soft_lsig (f : ℝ) :
    (FloatOps.hostNegf (F := Ideal) (Scalar.select
      (FloatOps.cmpf (F := Ideal) .une
        (FloatOps.subf (FloatOps.hostNegf (F := Ideal) (f : EReal)) (FloatOps.ofBits .f32 0x00000000#32))
        (FloatOps.subf (FloatOps.hostNegf (F := Ideal) (f : EReal)) (FloatOps.ofBits .f32 0x00000000#32)))
      (FloatOps.addf (FloatOps.hostNegf (F := Ideal) (f : EReal)) (FloatOps.ofBits .f32 0x00000000#32))
      (FloatOps.addf (FloatOps.maximumf (FloatOps.hostNegf (F := Ideal) (f : EReal)) (FloatOps.ofBits .f32 0x00000000#32))
        (FloatOps.hostUnary .log1p (FloatOps.hostUnary .exp (FloatOps.hostNegf (FloatOps.hostAbsf
          (FloatOps.subf (FloatOps.hostNegf (F := Ideal) (f : EReal)) (FloatOps.ofBits .f32 0x00000000#32))))))))
      : EReal) = ((lsig f : ℝ) : EReal) := by
  have n : FloatOps.cmpf (F := Ideal) (φ := .f32) .une (-(f : EReal) - 0) (-(f : EReal) - 0) = 0#1 := by
    simp [Ideal.cmpf_def, Ideal.cmp]
  simp only [Ideal.hostNegf_def, Ideal.negf_def, Ideal.subf_def, Ideal.addf_def, Ideal.maximumf_def, Ideal.hostAbsf_def, Ideal.absf_def,
    Ideal.hostUnary_exp_def, Ideal.hostUnary_log1p_def, Ideal.ofBits_def, Ideal.ofBits_zero_f32]
  rw [n]
  show -(max (-(f : EReal)) 0 + Ideal.log1p (Ideal.exp (-(max (-(f : EReal) - 0) (-(-(f : EReal) - 0)))))) = _
  rw [sub_zero, ← EReal.coe_neg, coe_abs, ← EReal.coe_neg, log1p_exp, ← EReal.coe_zero, coe_max, ← EReal.coe_add, ← EReal.coe_neg,
    abs_neg, lsig]
  congr 1
  rcases le_total f 0 with h | h
  · rw [min_eq_left h, max_eq_left (by linarith)]; ring
  · rw [min_eq_right h, max_eq_right (by linarith)]; ring

variable (x1 : (⟨S8x4096x3592, .f32⟩ : BufTy).Contents (Elt Ideal))

/-- The projection is the layer's, and finite. -/
def Reads (A : Args) : Prop := A.Finite ∧ ∀ b s k, x1 (ix3 b s k) = A.J b s k

variable {x1} {A : Args} (hx : Reads x1 A)

include hx

theorem Reads.at (b : Fin 8) (s : Fin 4096) (k : Fin 3592) : x1 (ix3 b s k) = ((A.lane b s.val k : ℝ) : EReal) := by
  rw [hx.2, hx.1, Args.lane, dif_pos s.isLt]

theorem ref_lf (b : Fin 8) (h : Fin 4) (t : Fin 4096) :
    val_main_v19 (F := Ideal) x1 (ix3 b h t) = (((A.head b h).lf t.val : ℝ) : EReal) := by
  have e : val_main_v5 (F := Ideal) x1 (ix3 b t h) = ((A.lane b t.val ⟨2052 + h.val, by omega⟩ : ℝ) : EReal) := by
    rw [← hx.at, val_main_v5_apply]
    exact congrArg x1 (by idx_ext)
  rw [val_main_v19_apply]
  have i : idx_main_v19 (ix3 b h t) = ix3 b t h := by idx_ext
  rw [i]
  simp only [val_main_v14_apply, val_main_call0_v1_apply, val_main_call0_call0_v11_apply,
    val_main_call0_call0_v10_apply, val_main_call0_call0_v9_apply, val_main_call0_call0_v8_apply, val_main_call0_call0_v7_apply,
    val_main_call0_call0_v6_apply, val_main_call0_call0_v5_apply, val_main_call0_call0_v4_apply, val_main_call0_call0_v3_apply,
    val_main_call0_call0_v2_apply, val_main_call0_call0_v1_apply, val_main_call0_call0_v0_apply, val_main_call0_call0_cst_apply,
    val_main_call0_v0_apply, e]
  refine (soft_lsig _).trans (congrArg Real.toEReal ?_)
  exact (if_pos t.isLt).symm

theorem ref_li (b : Fin 8) (h : Fin 4) (t : Fin 4096) :
    val_main_v18 (F := Ideal) x1 (ix3 b h t) = (((A.head b h).li t.val : ℝ) : EReal) := by
  rw [val_main_v18_apply, val_main_v4_apply]
  refine Eq.trans ?_ (hx.at b t ⟨2048 + h.val, by omega⟩)
  exact congrArg x1 (by idx_ext)

theorem ref_q (b : Fin 8) (h : Fin 4) (t : Fin 4096) (d : Fin 128) :
    val_main_v15 (F := Ideal) x1 (ix4 b h t d) = (((A.head b h).q t.val d : ℝ) : EReal) := by
  rw [val_main_v15_apply, val_main_v11_apply, val_main_v9_apply, val_main_v0_apply, val_main_v10_apply, val_main_cst_apply]
  have i : idx_main_v0 (idx_main_v9 (idx_main_v15 (ix4 b h t d))) = ix3 b t ⟨128 * h.val + d.val, by omega⟩ := by idx_ext
  rw [i, hx.at, Ideal.mulf_def, Ideal.ofBits_def, scale_eq, ← EReal.coe_mul]
  rfl

theorem ref_k (b : Fin 8) (h : Fin 4) (t : Fin 4096) (d : Fin 128) :
    val_main_v16 (F := Ideal) x1 (ix4 b h t d) = (((A.head b h).k t.val d : ℝ) : EReal) := by
  rw [val_main_v16_apply, val_main_v12_apply, val_main_v1_apply]
  refine Eq.trans ?_ (hx.at b t ⟨512 + (128 * h.val + d.val), by omega⟩)
  exact congrArg x1 (by idx_ext)

theorem ref_v (b : Fin 8) (h : Fin 4) (t : Fin 4096) (d : Fin 128) :
    val_main_v17 (F := Ideal) x1 (ix4 b h t d) = (((A.head b h).v t.val d : ℝ) : EReal) := by
  rw [val_main_v17_apply, val_main_v13_apply, val_main_v2_apply]
  refine Eq.trans ?_ (hx.at b t ⟨1024 + (128 * h.val + d.val), by omega⟩)
  exact congrArg x1 (by idx_ext)

end Cert.Mix
-- ==== Proof.RefMem.lean ====
/- The reference's memory read: all the tokens up to the present one at once, over the reals. -/
module

public import proofs.«01_k».proof.Proof.RefHead

@[expose] public section

set_option maxRecDepth 16384

noncomputable section

namespace Cert.Mix

open Finset
open Idealize.ShloMosaic Cert.ReferenceIdeal Cert.ReferenceIdeal.Gen Cert.ReferenceIdeal.Read

variable {x1 : (⟨S8x4096x3592, .f32⟩ : BufTy).Contents (Elt Ideal)} {A : Args} (hx : Reads x1 A)

theorem neg_inf32 : Ideal.ofBits .f32 0xFF800000#32 = (⊥ : EReal) := by simp [Ideal.ofBits, Ideal.ieee]

/-- The mask of the present and the past. -/
theorem ref_mask (t s : Fin 4096) :
    val_main_v22 (F := Ideal) (ix2 t s) = if s.val ≤ t.val then 1#1 else 0#1 := by
  rw [val_main_v22_apply, val_main_call2_v4_apply, val_main_call2_v2_apply, val_main_call2_v0_apply, val_main_call2_v1_apply,
    val_main_call2_c_apply, val_main_call2_v3_apply, val_main_v21_apply, val_main_c_apply, val_main_call2_v5_apply,
    val_main_call2_c_0_apply]
  show Scalar.select (IntOp.cmpi .sge (IntOp.addi (BitVec.ofNat 32 t.val) 0#32) (BitVec.ofNat 32 s.val)) 1#1 0#1 = _
  have a : IntOp.addi (BitVec.ofNat 32 t.val) 0#32 = BitVec.ofNat 32 t.val := by
    show BitVec.ofNat 32 t.val + 0#32 = _
    simp
  rw [a, WordCmp.cmpi_sge_ofNat (by omega) (by omega)]
  by_cases h : s.val ≤ t.val
  · rw [if_pos h]; simp [h, Scalar.select]
  · rw [if_neg h]; simp [h, Scalar.select]

include hx

theorem ref_F (b : Fin 8) (h : Fin 4) (t : Fin 4096) :
    val_main_v20 (F := Ideal) x1 (ix3 b h t) = (((A.head b h).G (t.val + 1) : ℝ) : EReal) := by
  have z : (val_main_call1_call0_v0 (F := Ideal)) (Shape.Idx.first h_S_) = (0 : EReal) := by
    rw [val_main_call1_call0_v0_apply, val_main_call1_call0_cst_apply, Ideal.ofBits_def, Ideal.ofBits_zero_f32]
  unfold val_main_v20
  simp only [Host.reduceWindowAdd, Ideal.hostReduceWindowAdd_def]
  rw [z, window_apply, Head.G, ← sum_upto 4096 t.val t.isLt]
  refine Finset.sum_congr rfl fun s _ => ?_
  rw [ref_lf hx]

theorem ref_D (b : Fin 8) (h : Fin 4) (t s : Fin 4096) :
    val_main_v30 (F := Ideal) x1 (ix4 b h t s)
      = (((A.head b h).G (t.val + 1) - (A.head b h).G (s.val + 1) + (A.head b h).li s.val : ℝ) : EReal) := by
  have i1 : idx_main_v23 (idx_main_v25 (ix4 b h t s)) = ix3 b h t := by idx_ext
  have i2 : idx_main_v24 (idx_main_v26 (ix4 b h t s)) = ix3 b h s := by idx_ext
  have i3 : idx_main_v28 (idx_main_v29 (ix4 b h t s)) = ix3 b h s := by idx_ext
  rw [val_main_v30_apply, val_main_v27_apply, val_main_v25_apply, val_main_v23_apply, val_main_v26_apply, val_main_v24_apply,
    val_main_v29_apply, val_main_v28_apply, i1, i2, i3, ref_F hx, ref_F hx, ref_li hx, Ideal.subf_def, Ideal.addf_def,
    ← EReal.coe_sub, ← EReal.coe_add]

theorem ref_E (b : Fin 8) (h : Fin 4) (t s : Fin 4096) :
    val_main_v31 (F := Ideal) x1 (ix4 b h t s)
      = if s.val ≤ t.val then (((A.head b h).G (t.val + 1) - (A.head b h).G (s.val + 1) + (A.head b h).li s.val : ℝ) : EReal)
        else (⊥ : EReal) := by
  have i1 : idx_main_call3_v1 (ix4 b h t s) = ix2 t s := by idx_ext
  rw [val_main_v31_apply, val_main_call3_v1_apply, val_main_call3_v2_apply, val_main_call3_v0_apply, val_main_cst_0_apply, i1,
    ref_mask, ref_D hx, Ideal.ofBits_def, neg_inf32]
  by_cases c : s.val ≤ t.val
  · rw [if_pos c, if_pos c]; rfl
  · rw [if_neg c, if_neg c]; rfl

/-- The stabilising exponent of a token is a real number: which one does not matter. -/
theorem ref_m (b : Fin 8) (h : Fin 4) (t : Fin 4096) :
    ∃ r : ℝ, val_main_v33 (F := Ideal) x1 (ix3 b h t) = (r : EReal) := by
  have ⟨r, hr⟩ : ∃ r : ℝ, val_main_v32 (F := Ideal) x1 (ix3 b h t) = (r : EReal) := by
    unfold val_main_v32
    refine max_real _ b h t _ _ _ (fun i => ?_) (fun s => ?_) ⟨0, by omega⟩ ?_
    · rw [val_main_cst_1_apply, Ideal.ofBits_def, neg_inf32]
    · rw [ref_E hx]; split
      · exact EReal.coe_ne_top _
      · exact bot_ne_top
    · rw [ref_E hx, if_pos (Nat.zero_le _)]
      exact EReal.coe_ne_bot _
  refine ⟨max ((A.head b h).G (t.val + 1)) r, ?_⟩
  rw [val_main_v33_apply, ref_F hx, hr, Ideal.maximumf_def, coe_max]

theorem ref_S (b : Fin 8) (h : Fin 4) (t s : Fin 4096) :
    val_main_v34 (F := Ideal) x1 (ix4 b h t s)
      = ((∑ d : Fin 128, (A.head b h).q t.val d * (A.head b h).k s.val d : ℝ) : EReal) := by
  rw [val_main_v34_apply, coe_sum]
  refine Finset.sum_congr rfl fun d _ => ?_
  have i1 : lidx_main_v34 (ix4 b h t s) d = ix4 b h t d := by idx_ext
  have i2 : ridx_main_v34 (ix4 b h t s) d = ix4 b h s d := by idx_ext
  rw [i1, i2, ref_q hx, ref_k hx, ← EReal.coe_mul]

theorem ref_W (b : Fin 8) (h : Fin 4) (t s : Fin 4096) (m : ℝ) (hm : val_main_v33 (F := Ideal) x1 (ix3 b h t) = (m : EReal)) :
    val_main_v39 (F := Ideal) x1 (ix4 b h t s)
      = (((∑ d : Fin 128, (A.head b h).q t.val d * (A.head b h).k s.val d)
          * (if s.val ≤ t.val then
              Real.exp ((A.head b h).G (t.val + 1) - (A.head b h).G (s.val + 1) + (A.head b h).li s.val - m) else 0) : ℝ) : EReal) := by
  have i1 : idx_main_v35 (idx_main_v36 (ix4 b h t s)) = ix3 b h t := by idx_ext
  rw [val_main_v39_apply, ref_S hx, val_main_v38_apply, val_main_v37_apply, val_main_v36_apply, val_main_v35_apply, i1, hm, ref_E hx,
    Ideal.subf_def, Ideal.hostUnary_exp_def, Ideal.mulf_def, EReal.coe_mul]
  refine congrArg (fun z : EReal => _ * z) ?_
  by_cases c : s.val ≤ t.val
  · rw [if_pos c, if_pos c, ← EReal.coe_sub, Ideal.exp_coe]
  · rw [if_neg c, if_neg c, EReal.bot_sub, Ideal.exp_bot, EReal.coe_zero]

theorem ref_num (b : Fin 8) (h : Fin 4) (t : Fin 4096) (e : Fin 128) (m : ℝ)
    (hm : val_main_v33 (F := Ideal) x1 (ix3 b h t) = (m : EReal)) :
    val_main_v40 (F := Ideal) x1 (ix4 b h t e) = ((Real.exp (-m) * (A.head b h).Num t.val e.val : ℝ) : EReal) := by
  rw [val_main_v40_apply, ← Head.Num_par, coe_sum]
  refine Finset.sum_congr rfl fun s _ => ?_
  have i1 : lidx_main_v40 (ix4 b h t e) s = ix4 b h t s := by idx_ext
  have i2 : ridx_main_v40 (ix4 b h t e) s = ix4 b h s e := by idx_ext
  rw [i1, i2, ref_W hx b h t s m hm, ref_v hx, ← EReal.coe_mul, Head.va, dif_pos e.isLt]
  rfl

theorem ref_den (b : Fin 8) (h : Fin 4) (t : Fin 4096) (m : ℝ)
    (hm : val_main_v33 (F := Ideal) x1 (ix3 b h t) = (m : EReal)) :
    val_main_v41 (F := Ideal) x1 (ix3 b h t) = ((Real.exp (-m) * (A.head b h).Num t.val 128 : ℝ) : EReal) := by
  rw [val_main_v41_apply, val_main_cst_2_apply, Ideal.ofBits_def, Ideal.ofBits_zero_f32, zero_add, ← Head.Num_par, coe_sum]
  refine Finset.sum_congr rfl fun s _ => ?_
  have i1 : idx_main_v41 (ix3 b h t) s = ix4 b h t s := by idx_ext
  rw [i1, ref_W hx b h t s m hm, Head.va, dif_neg (by omega), if_pos rfl, mul_one]
  rfl

theorem ref_out (b : Fin 8) (h : Fin 4) (t : Fin 4096) (e : Fin 128) :
    val_main_v48 (F := Ideal) x1 (ix4 b h t e) = (((A.head b h).out t.val e.val : ℝ) : EReal) := by
  obtain ⟨m, hm⟩ := ref_m hx b h t
  have i1 : idx_main_v46 (idx_main_v47 (ix4 b h t e)) = ix3 b h t := by idx_ext
  have p : max |Real.exp (-m) * (A.head b h).Num t.val 128| (Real.exp (-m)) ≠ 0 :=
    ne_of_gt (lt_max_of_lt_right (Real.exp_pos _))
  rw [val_main_v48_apply, ref_num hx b h t e m hm, val_main_v47_apply, val_main_v46_apply, i1, val_main_v45_apply, val_main_v42_apply,
    ref_den hx b h t m hm, val_main_v44_apply, val_main_v43_apply, hm, Ideal.hostNegf_def, Ideal.negf_def, Ideal.hostUnary_exp_def,
    ← EReal.coe_neg, Ideal.exp_coe, Ideal.hostAbsf_def, Ideal.absf_def, coe_abs, Ideal.maximumf_def, coe_max, Ideal.hostDivf_def,
    Ideal.div_coe p, ← EReal.coe_mul, Head.out_eq]

end Cert.Mix
-- ==== Proof.RefOut.lean ====
/- The reference's mixed row: gate, convolution, output projection and norm. -/
module

public import proofs.«01_k».proof.Proof.RefMem
public import Idealize.ShloMosaic.Lib.KernelVsHost

@[expose] public section

set_option maxRecDepth 16384

noncomputable section

namespace Cert.Mix

open Finset
open Idealize.ShloMosaic Cert.ReferenceIdeal Cert.ReferenceIdeal.Gen Cert.ReferenceIdeal.Read

theorem one32 : Ideal.ofBits .f32 0x3F800000#32 = (1 : EReal) := by
  simp [Ideal.ofBits, Ideal.ieee]
  rw [← EReal.coe_mul, ← EReal.coe_one]
  norm_num

theorem k1024 : Ideal.ofBits .f32 0x44800000#32 = ((1024 : ℝ) : EReal) := by
  simp [Ideal.ofBits, Ideal.ieee]
  rw [← EReal.coe_mul]
  norm_num

theorem inv1024 : Ideal.ofBits .f32 0x3A800000#32 = ((1 / 1024 : ℝ) : EReal) := by
  simp [Ideal.ofBits, Ideal.ieee]
  rw [← EReal.coe_mul]
  norm_num

variable {x0 : (⟨S8x4096x1024, .f32⟩ : BufTy).Contents (Elt Ideal)}
  {x1 : (⟨S8x4096x3592, .f32⟩ : BufTy).Contents (Elt Ideal)}
  {x2 : (⟨S3x512, .f32⟩ : BufTy).Contents (Elt Ideal)}
  {x3 : (⟨S1024x1024, .f32⟩ : BufTy).Contents (Elt Ideal)}
  {x4 : (⟨S1024, .f32⟩ : BufTy).Contents (Elt Ideal)} {A : Args}

variable (hx : Reads x1 A) (h0 : ∀ b s c, x0 (ix3 b s c) = A.x b s c) (h2 : ∀ i j, x2 (ix2 i j) = A.cw i j)
  (h3 : ∀ k c, x3 (ix2 k c) = A.w k c) (h4 : ∀ c, x4 (ix1 c) = A.g c)

include hx

theorem ref_mem (b : Fin 8) (s : Fin 4096) (k : Fin 512) :
    val_main_v57 (F := Ideal) x1 (ix3 b s k)
      = A.mem b s ⟨k.val / 128, by omega⟩ ⟨k.val % 128, Nat.mod_lt _ (by decide)⟩ := by
  have i1 : idx_main_v49 (idx_main_v50 (ix3 b s k))
      = ix4 b (⟨k.val / 128, by omega⟩ : Fin 4) s (⟨k.val % 128, Nat.mod_lt _ (by decide)⟩ : Fin 128) := by idx_ext
  have i2 : idx_main_v3 (ix3 b s k) = ix3 b s (⟨1536 + k.val, by omega⟩ : Fin 3592) := by idx_ext
  have i3 : (⟨1536 + k.val, by omega⟩ : Fin 3592) = ⟨1536 + (128 * (k.val / 128) + k.val % 128), by omega⟩ :=
    Fin.ext (by show 1536 + k.val = 1536 + (128 * (k.val / 128) + k.val % 128); omega)
  rw [val_main_v57_apply, val_main_v56_apply, val_main_v55_apply, val_main_cst_4_apply, val_main_v54_apply, val_main_v53_apply,
    val_main_cst_3_apply, val_main_v52_apply, val_main_v51_apply, val_main_v3_apply, i2, hx.2, i3, val_main_v50_apply,
    val_main_v49_apply, i1, ref_out hx]
  simp only [Ideal.mulf_def, Ideal.hostDivf_def, Ideal.ofBits_def, one32, Ideal.addf_def, Ideal.hostUnary_exp_def,
    Ideal.hostNegf_def, Ideal.negf_def]
  rfl

theorem ref_u (b : Fin 8) (s : Fin 4096) (j : Fin 512) : val_main_v58 (F := Ideal) x1 (ix3 b s j) = A.u b s j := by
  have i1 : idx_main_v7 (ix3 b s j) = ix3 b s (⟨2568 + j.val, by omega⟩ : Fin 3592) := by idx_ext
  have i2 : idx_main_v8 (ix3 b s j) = ix3 b s (⟨3080 + j.val, by omega⟩ : Fin 3592) := by idx_ext
  rw [val_main_v58_apply, val_main_v7_apply, val_main_v8_apply, i1, i2, hx.2, hx.2, Ideal.mulf_def]
  rfl

theorem ref_pad (b : Fin 8) (p : Fin 4098) (j : Fin 512) :
    val_main_v59 (F := Ideal) x1 (ix3 b p j) = if h : 2 ≤ p.val then A.u b ⟨p.val - 2, by omega⟩ j else 0 := by
  unfold val_main_v59
  by_cases h : 2 ≤ p.val
  · rw [dif_pos h, ← ref_u hx]
    refine pad_apply_of_inside _ _ _ _ _ _ _ _ _ fun a => ?_
    match a with
    | ⟨0, _⟩ => show b.val = 0 + b.val * (0 + 1); omega
    | ⟨1, _⟩ => show p.val = 2 + (p.val - 2) * (0 + 1); omega
    | ⟨2, _⟩ => show j.val = 0 + j.val * (0 + 1); omega
  · rw [dif_neg h]
    refine (pad_apply_of_not_inside _ _ _ _ _ _ _ _ 1 fun c => h c.1).trans ?_
    rw [val_main_call4_v0_apply, val_main_c_5_apply]
    show ((((0#32 : BitVec 32).toInt : ℤ) : ℝ) : EReal) = 0
    simp

include h2

theorem ref_conv (b : Fin 8) (s : Fin 4096) (j : Fin 512) :
    val_main_v80 (F := Ideal) x1 x2 (ix3 b s j) = A.conv b s j := by
  have i1 : idx_main_v6 (ix3 b s j) = ix3 b s (⟨2056 + j.val, by omega⟩ : Fin 3592) := by idx_ext
  have c0 : idx_main_v60 (idx_main_v61 (idx_main_v63 (idx_main_v64 (ix3 b s j)))) = ix2 (0 : Fin 3) j := by idx_ext
  have c1 : idx_main_v66 (idx_main_v67 (idx_main_v69 (idx_main_v70 (ix3 b s j)))) = ix2 (1 : Fin 3) j := by idx_ext
  have c2 : idx_main_v73 (idx_main_v74 (idx_main_v76 (idx_main_v77 (ix3 b s j)))) = ix2 (2 : Fin 3) j := by idx_ext
  have p0 : idx_main_v62 (ix3 b s j) = ix3 b (⟨s.val, by omega⟩ : Fin 4098) j := by idx_ext
  have p1 : idx_main_v68 (ix3 b s j) = ix3 b (⟨1 + s.val, by omega⟩ : Fin 4098) j := by idx_ext
  have p2 : idx_main_v75 (ix3 b s j) = ix3 b (⟨2 + s.val, by omega⟩ : Fin 4098) j := by idx_ext
  rw [val_main_v80_apply, val_main_v79_apply, val_main_v72_apply, val_main_v65_apply, val_main_v71_apply, val_main_v78_apply,
    val_main_v6_apply, i1, hx.2, val_main_v64_apply, val_main_v63_apply, val_main_v61_apply, val_main_v60_apply, c0, h2,
    val_main_v70_apply, val_main_v69_apply, val_main_v67_apply, val_main_v66_apply, c1, h2,
    val_main_v77_apply, val_main_v76_apply, val_main_v74_apply, val_main_v73_apply, c2, h2,
    val_main_v62_apply, p0, val_main_v68_apply, p1, val_main_v75_apply, p2, ref_pad hx, ref_pad hx, ref_pad hx]
  have e0 : (if h : 2 ≤ s.val then A.u b ⟨s.val - 2, by omega⟩ j else 0) = A.back 2 b s.val j := by
    unfold Args.back
    by_cases h : 2 ≤ s.val
    · rw [dif_pos h, dif_pos ⟨h, s.isLt⟩]
    · rw [dif_neg h, dif_neg fun c => h c.1]
  have e1 : (if h : 2 ≤ 1 + s.val then A.u b ⟨1 + s.val - 2, by omega⟩ j else 0) = A.back 1 b s.val j := by
    unfold Args.back
    by_cases h : 1 ≤ s.val
    · rw [dif_pos (by omega), dif_pos ⟨h, s.isLt⟩]
      exact congrArg (A.u b · j) (Fin.ext (by show 1 + s.val - 2 = s.val - 1; omega))
    · rw [dif_neg (by omega), dif_neg fun c => h c.1]
  have e2 : (if h : 2 ≤ 2 + s.val then A.u b ⟨2 + s.val - 2, by omega⟩ j else 0) = A.u b s j := by
    rw [dif_pos (by omega)]
    exact congrArg (A.u b · j) (Fin.ext (by show 2 + s.val - 2 = s.val; omega))
  simp only [Ideal.mulf_def, Ideal.addf_def]
  show A.J b s _ * (A.cw 0 j * (if h : 2 ≤ s.val then A.u b ⟨s.val - 2, by omega⟩ j else 0)
    + A.cw 1 j * (if h : 2 ≤ 1 + s.val then A.u b ⟨1 + s.val - 2, by omega⟩ j else 0)
    + A.cw 2 j * (if h : 2 ≤ 2 + s.val then A.u b ⟨2 + s.val - 2, by omega⟩ j else 0)) = _
  rw [e0, e1, e2]
  rfl

theorem ref_mixed (b : Fin 8) (s : Fin 4096) (k : Fin 1024) :
    val_main_v81 (F := Ideal) x1 x2 (ix3 b s k) = A.mixed b s k := by
  unfold val_main_v81 Args.mixed
  by_cases h : k.val < 512
  · rw [dif_pos h, ← ref_mem hx b s ⟨k.val, h⟩]
    refine concatenate_apply_piece (t := S8x4096x1024) 2 [⟨S8x4096x512, val_main_v57 (F := Ideal) x1⟩, ⟨S8x4096x512, val_main_v80 (F := Ideal) x1 x2⟩]
      _ _ 0 (by simp) S8x4096x512 _ rfl rfl 0 rfl (ix3 b s ⟨k.val, h⟩) (fun a ha => ?_) ?_
    · match a with
      | ⟨0, _⟩ => rfl
      | ⟨1, _⟩ => rfl
      | ⟨2, _⟩ => exact absurd rfl ha
    · show 0 + k.val = k.val
      omega
  · rw [dif_neg h, ← ref_conv hx h2 b s ⟨k.val - 512, by omega⟩]
    refine concatenate_apply_piece (t := S8x4096x1024) 2 [⟨S8x4096x512, val_main_v57 (F := Ideal) x1⟩, ⟨S8x4096x512, val_main_v80 (F := Ideal) x1 x2⟩]
      _ _ 1 (by simp) S8x4096x512 _ rfl rfl 512 rfl (ix3 b s ⟨k.val - 512, by omega⟩)
      (fun a ha => ?_) ?_
    · match a with
      | ⟨0, _⟩ => rfl
      | ⟨1, _⟩ => rfl
      | ⟨2, _⟩ => exact absurd rfl ha
    · show 512 + (k.val - 512) = k.val
      omega

include h0 h3

theorem ref_x2 (b : Fin 8) (s : Fin 4096) (c : Fin 1024) :
    val_main_v83 (F := Ideal) x0 x1 x2 x3 (ix3 b s c) = A.x2 b s c := by
  rw [val_main_v83_apply, h0, val_main_v82_apply, Ideal.addf_def, Args.x2]
  refine congrArg (A.x b s c + ·) (Finset.sum_congr rfl fun k _ => ?_)
  have i1 : lidx_main_v82 (ix3 b s c) k = ix3 b s k := by idx_ext
  have i2 : ridx_main_v82 (ix3 b s c) k = ix2 k c := by idx_ext
  rw [i1, i2, ref_mixed hx h2, h3]

include h4

theorem ref_hn (b : Fin 8) (s : Fin 4096) (c : Fin 1024) :
    val_main_v97 (F := Ideal) x0 x1 x2 x3 x4 (ix3 b s c) = A.hn b s c := by
  have i1 : idx_main_v86 (idx_main_v92 (ix3 b s c)) = ix2 b s := by idx_ext
  have i2 : idx_main_v94 (idx_main_v95 (ix3 b s c)) = ix1 c := by idx_ext
  have sq : ∀ k : Fin 1024, val_main_v84 (F := Ideal) x0 x1 x2 x3 (idx_main_v85 (ix2 b s) k) = A.x2 b s k * A.x2 b s k := by
    intro k
    have i3 : idx_main_v85 (ix2 b s) k = ix3 b s k := by idx_ext
    rw [i3, val_main_v84_apply, ref_x2 hx h0 h2 h3, Ideal.mulf_def]
  rw [val_main_v97_apply, val_main_v96_apply, val_main_v93_apply, ref_x2 hx h0 h2 h3, val_main_v92_apply, val_main_v91_apply,
    val_main_v90_apply, val_main_v88_apply, val_main_v86_apply, i1, val_main_v85_apply, val_main_v87_apply, val_main_cst_7_apply,
    val_main_v89_apply, val_main_cst_8_apply, val_main_cst_6_apply, val_main_v95_apply, val_main_v94_apply, i2, h4]
  simp only [sq, Ideal.mulf_def, Ideal.addf_def, Ideal.hostDivf_def, Ideal.ofBits_def, Ideal.ofBits_zero_f32, zero_add, k1024]
  rw [Ideal.div_coe (by norm_num), Args.hn, inv1024]
  rfl

end Cert.Mix
-- ==== Proof.Join.lean ====
/- The reference's results over the kernel's arguments, and the precondition read as finiteness of the projection. -/
module

public import proofs.«01_k».proof.Defs
public import proofs.«01_k».proof.Proof.RefOut
public import proofs.«01_k».proof.Proof.State
public import proofs.«01_k».proof.Proof.Gen.ReferenceIdeal

@[expose] public section

set_option maxRecDepth 16384

noncomputable section

namespace Cert.Mix

open Idealize.ShloMosaic Idealize.ShloMosaic.TcCoe

/-- The precondition's one side condition: a scalar spreads over the projection's shape. -/
theorem pre_facts : Cert.Pre_finite.Facts where
  bcast_S_S8x4096x3592 := by decide

theorem inf32 : Ideal.ofBits .f32 0x7F800000#32 = (⊤ : EReal) := by simp [Ideal.ofBits, Ideal.ieee]

/-- A number whose absolute value is below infinity is a real one. -/
theorem real_of_abs {a : EReal} (h : max a (-a) < ⊤) : a = (a.toReal : EReal) := by
  refine (EReal.coe_toReal ?_ ?_).symm
  · rintro rfl
    exact absurd h (by simp)
  · rintro rfl
    exact absurd h (by simp)

open Cert.KernelIdeal in
theorem finite_of_pre (m : (ℓ : Loc nD τ sig) → Buf (Elt Ideal) ℓ) (h : Cert.Pre_KernelIdeal_finite (hPre_finite := pre_facts) m)
    (c : Dev nD) : (args m c).Finite := by
  intro b s k
  have e := congrFun (h c) (ix3 b s k)
  refine real_of_abs (a := PJ m c b s k) ?_
  have e' : Ideal.cmp .olt (max (PJ m c b s k) (-PJ m c b s k)) (Ideal.ofBits .f32 0x7F800000#32) = 1#1 := e
  rw [inf32] at e'
  by_contra n
  simp [Ideal.cmp, n] at e'

section
open Cert.ReferenceIdeal Cert.ReferenceIdeal.Gen Cert.ReferenceIdeal.Read

theorem ref14 (m : (ℓ : Loc KernelIdeal.nD KernelIdeal.τ KernelIdeal.sig) → Buf (Elt Ideal) ℓ) (c : Dev KernelIdeal.nD) (hf : (args m c).Finite) :
    val_main_v83 (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      = fun i : S8x4096x1024.Idx => (args m c).x2 (i 0) (i 1) (i 2) := by
  funext i
  obtain ⟨b, s, k, rfl⟩ : ∃ (b : Fin 8) (s : Fin 4096) (k : Fin 1024), i = ix3 b s k :=
    ⟨i 0, i 1, i 2, by funext a; fin_cases a <;> rfl⟩
  exact ref_x2 (A := args m c) ⟨hf, fun _ _ _ => rfl⟩ (fun _ _ _ => rfl) (fun _ _ => rfl) (fun _ _ => rfl) b s k

theorem ref15 (m : (ℓ : Loc KernelIdeal.nD KernelIdeal.τ KernelIdeal.sig) → Buf (Elt Ideal) ℓ) (c : Dev KernelIdeal.nD) (hf : (args m c).Finite) :
    val_main_v97 (F := Ideal) (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4))
      = fun i : S8x4096x1024.Idx => (args m c).hn (i 0) (i 1) (i 2) := by
  funext i
  obtain ⟨b, s, k, rfl⟩ : ∃ (b : Fin 8) (s : Fin 4096) (k : Fin 1024), i = ix3 b s k :=
    ⟨i 0, i 1, i 2, by funext a; fin_cases a <;> rfl⟩
  exact ref_hn (A := args m c) ⟨hf, fun _ _ _ => rfl⟩ (fun _ _ _ => rfl) (fun _ _ => rfl) (fun _ _ => rfl) (fun _ => rfl) b s k

end

end Cert.Mix
-- ==== Proof.InPay.lean ====
/- The input projection: what it computes at a token, and what each store of its body computes, read at an index over the
   extended reals. -/
module

public import proofs.«01_k».proof.Proof.Gen.Kernel2Ideal.Skeleton
public import Idealize.ShloMosaic.Lib.Pointwise

@[expose] public section

set_option maxRecDepth 16384

noncomputable section

namespace Cert.Inp

open Idealize.ShloMosaic Idealize.SL.Sem Cert.Kernel2Ideal Cert.Kernel2Ideal.Gen

/-- A token normalised by its root mean square, times a gain. -/
def hnV (x g : Fin 1024 → EReal) (k : Fin 1024) : EReal :=
  x k * Ideal.rsqrt (Ideal.div (∑ r : Fin 1024, x r * x r) (Ideal.ofBits .f32 0x44800000#32) + Ideal.ofBits .f32 0x358637BD#32) * g k

/-- One column of the token's projection. -/
def projV (x g : Fin 1024 → EReal) (w : Fin 1024 → Fin 3592 → EReal) (b : Fin 3592 → EReal) (c : Fin 3592) : EReal :=
  (∑ k : Fin 1024, hnV x g k * w k c) + b c

theorem pay17_apply (X : Vec Ideal S1x1024x1024 .f32) (G : Vec Ideal S1x1024 .f32) (r k : Fin 1024) :
    k0_pay17 X G (ix2 r k) = hnV (fun k => X (ix3 (0 : Fin 1) r k)) (fun k => G (ix2 (0 : Fin 1) k)) k := by
  unfold hnV
  pointwise [k0_pay17]

theorem pay18_apply (X : Vec Ideal S1x1024x1024 .f32) (G : Vec Ideal S1x1024 .f32) (W : Vec Ideal S1024x512 .bf16)
    (B : Vec Ideal S1x512 .f32) (r : Fin 1024) (j : Fin 512) :
    k0_pay18 X G W B (ix3 (0 : Fin 1) r j) = (∑ k : Fin 1024, k0_pay17 X G (ix2 r k) * W (ix2 k j)) + B (ix2 (0 : Fin 1) j) := by
  pointwise [k0_pay18]

theorem pay20_apply (H : FVec Ideal S1024x1024 .bf16) (W : Vec Ideal S1024x512 .bf16)
    (B : Vec Ideal S1x512 .f32) (r : Fin 1024) (j : Fin 512) :
    k0_pay20 H (k0_pay19 W) B (ix3 (0 : Fin 1) r j) = (∑ k : Fin 1024, H (ix2 r k) * W (ix2 k j)) + B (ix2 (0 : Fin 1) j) := by
  pointwise [k0_pay20, k0_pay19]

theorem pay21_apply (H : FVec Ideal S1024x1024 .bf16) (W : Vec Ideal S1024x512 .bf16)
    (B : Vec Ideal S1x512 .f32) (r : Fin 1024) (j : Fin 512) :
    k0_pay21 H W B (ix3 (0 : Fin 1) r j) = (∑ k : Fin 1024, H (ix2 r k) * W (ix2 k j)) + B (ix2 (0 : Fin 1) j) := by
  pointwise [k0_pay21]

theorem pay22_apply (H : FVec Ideal S1024x1024 .bf16) (W : Vec Ideal S1024x512 .bf16)
    (B : Vec Ideal S1x512 .f32) (r : Fin 1024) (j : Fin 512) :
    k0_pay22 H W B (ix3 (0 : Fin 1) r j) = (∑ k : Fin 1024, H (ix2 r k) * W (ix2 k j)) + B (ix2 (0 : Fin 1) j) := by
  pointwise [k0_pay22]

theorem pay1_apply (H : FVec Ideal S1024x1024 .bf16) (W : Vec Ideal S1024x512 .bf16)
    (B : Vec Ideal S1x512 .f32) (r : Fin 1024) (j : Fin 512) :
    k0_pay1 (k0_pay23 H W) B (ix3 (0 : Fin 1) r j) = (∑ k : Fin 1024, H (ix2 r k) * W (ix2 k j)) + B (ix2 (0 : Fin 1) j) := by
  pointwise [k0_pay1, k0_pay23]

theorem pay2_apply (H : FVec Ideal S1024x1024 .bf16) (W : Vec Ideal S1040x1024 .bf16)
    (B : Vec Ideal S1040x1 .f32) (r : Fin 1024) (j : Fin 1040) :
    k0_pay2 H W B (ix2 j r) = (∑ k : Fin 1024, W (ix2 j k) * H (ix2 r k)) + B (ix2 j (0 : Fin 1)) := by
  pointwise [k0_pay2]

theorem pay3_apply (H : FVec Ideal S1024x1024 .bf16) (W : Vec Ideal S1040x1024 .bf16)
    (B : Vec Ideal S1040x1 .f32) (r : Fin 1024) (j : Fin 512) :
    k0_pay3 H W B (ix3 (0 : Fin 1) j r) = k0_pay2 H W B (ix2 (⟨j.val, by omega⟩ : Fin 1040) r) * Ideal.ofBits .f32 0x3DB504F3#32 := by
  pointwise [k0_pay3]

theorem pay4_apply (H : FVec Ideal S1024x1024 .bf16) (W : Vec Ideal S1040x1024 .bf16)
    (B : Vec Ideal S1040x1 .f32) (r : Fin 1024) (j : Fin 512) :
    k0_pay4 H W B (ix3 (0 : Fin 1) j r) = k0_pay2 H W B (ix2 (⟨512 + j.val, by omega⟩ : Fin 1040) r) := by
  pointwise [k0_pay4]

theorem pay5_apply (H : FVec Ideal S1024x1024 .bf16) (W : Vec Ideal S1040x1024 .bf16)
    (B : Vec Ideal S1040x1 .f32) (r : Fin 1024) (j : Fin 8) :
    k0_pay5 H W B (ix3 (0 : Fin 1) j r) = k0_pay2 H W B (ix2 (⟨1024 + j.val, by omega⟩ : Fin 1040) r) := by
  pointwise [k0_pay5]

theorem pay6_apply (v : Vec Ideal S1024x256 .bf16) (j : Fin 256) (k : Fin 1024) : k0_pay6 v (ix2 j k) = v (ix2 k j) := by
  pointwise [k0_pay6]

theorem pay7_apply (v : Vec Ideal S1024x256 .bf16) (j : Fin 256) (k : Fin 1024) : k0_pay7 v (ix2 j k) = v (ix2 k j) := by
  pointwise [k0_pay7]

theorem pay8_apply (v : Vec Ideal S1024x256 .bf16) (j : Fin 256) (k : Fin 1024) : k0_pay8 v (ix2 j k) = v (ix2 k j) := by
  pointwise [k0_pay8]

theorem pay9_apply (v : Vec Ideal S1024x256 .bf16) (j : Fin 256) (k : Fin 1024) : k0_pay9 v (ix2 j k) = v (ix2 k j) := by
  pointwise [k0_pay9]

theorem pay11_apply (v : Vec Ideal S1024x128 .bf16) (j : Fin 16) (k : Fin 1024) (hj : j.val < 8) :
    k0_pay11 (k0_pay10 v) (iota .tc S16x1024 32 [0] iota_S16x1024_d0_w32) (ix2 j k) = v (ix2 k (⟨j.val, by omega⟩ : Fin 128)) := by
  pointwise [k0_pay11, k0_pay10]
  have h : IntOp.cmpi CmpIPredicate.slt (BitVec.ofNat 32 j.val) 8#32 = 1#1 := by
    revert j
    decide
  rw [h]
  rfl

theorem pay12_apply (v : Vec Ideal S256x1544 .bf16) (k : Fin 256) (j : Fin 1536) :
    k0_pay12 v (ix2 k j) = v (ix2 k (⟨8 + j.val, by omega⟩ : Fin 1544)) := by
  pointwise [k0_pay12]

theorem pay13_apply (v : Vec Ideal S256x1544 .bf16) (k : Fin 256) (j : Fin 1536) :
    k0_pay13 v (ix2 k j) = v (ix2 k (⟨8 + j.val, by omega⟩ : Fin 1544)) := by
  pointwise [k0_pay13]

theorem pay14_apply (v : Vec Ideal S256x1544 .bf16) (k : Fin 256) (j : Fin 1536) :
    k0_pay14 v (ix2 k j) = v (ix2 k (⟨8 + j.val, by omega⟩ : Fin 1544)) := by
  pointwise [k0_pay14]

theorem pay16_apply (v : Vec Ideal S256x1544 .bf16) (k : Fin 256) (j : Fin 1536) :
    k0_pay16 (k0_pay15 v) (ix2 k j) = v (ix2 k (⟨8 + j.val, by omega⟩ : Fin 1544)) := by
  pointwise [k0_pay16, k0_pay15]

end Cert.Inp
-- ==== Proof.InTile.lean ====
/- What one tile of the input projection leaves in its buffers, read at an index: three outputs, and the two weight
   tables the first tile lays out for all of them. -/
module

public import proofs.«01_k».proof.Proof.InPay
public import Idealize.ShloMosaic.Lib.Pipeline.ValueKit
public import Idealize.ShloMosaic.Lib.Ring

@[expose] public section

set_option maxRecDepth 16384

noncomputable section

namespace Cert.Inp

open Idealize.ShloMosaic Idealize.SL.Sem Cert.Kernel2Ideal Cert.Kernel2Ideal.Gen

/-! ### Loads -/

theorem ld_ix2 {A B n k o p : ℕ} {e : EltTy} (x : (⟨2, ![A, B]⟩ : Shape).Idx → Elt Ideal e)
    (inb : ∀ a, (![o, p] : Fin 2 → ℕ) a + (⟨2, ![n, k]⟩ : Shape).size a ≤ (⟨2, ![A, B]⟩ : Shape).size a) (i : Fin n) (j : Fin k)
    (i' : Fin A) (j' : Fin B) (hi : o + i.val = i'.val) (hj : p + j.val = j'.val) :
    View.ld (Val := Elt Ideal) (e' := e) x (Rect.unit (s := (⟨2, ![A, B]⟩ : Shape)) ![o, p] (⟨2, ![n, k]⟩ : Shape).size inb) (ix2 i j) = x (ix2 i' j') := by
  refine congrArg x ?_
  funext a
  fin_cases a
  · apply Fin.ext; show o + 1 * i.val = i'.val; omega
  · apply Fin.ext; show p + 1 * j.val = j'.val; omega

theorem ld_ix3 {A B C : ℕ} {e : EltTy} (x : (⟨3, ![A, B, C]⟩ : Shape).Idx → Elt Ideal e)
    (inb : ∀ a, (![0, 0, 0] : Fin 3 → ℕ) a + (⟨3, ![A, B, C]⟩ : Shape).size a ≤ (⟨3, ![A, B, C]⟩ : Shape).size a) :
    View.ld (Val := Elt Ideal) (e' := e) x (Rect.unit (s := (⟨3, ![A, B, C]⟩ : Shape)) ![0, 0, 0] (⟨3, ![A, B, C]⟩ : Shape).size inb) = x := by
  funext y
  refine congrArg x ?_
  funext a
  fin_cases a
  · apply Fin.ext; show 0 + 1 * (y 0).val = (y 0).val; omega
  · apply Fin.ext; show 0 + 1 * (y 1).val = (y 1).val; omega
  · apply Fin.ext; show 0 + 1 * (y 2).val = (y 2).val; omega

theorem ld_all2 {A B : ℕ} {e : EltTy} (x : (⟨2, ![A, B]⟩ : Shape).Idx → Elt Ideal e)
    (inb : ∀ a, (![0, 0] : Fin 2 → ℕ) a + (⟨2, ![A, B]⟩ : Shape).size a ≤ (⟨2, ![A, B]⟩ : Shape).size a) :
    View.ld (Val := Elt Ideal) (e' := e) x (Rect.unit (s := (⟨2, ![A, B]⟩ : Shape)) ![0, 0] (⟨2, ![A, B]⟩ : Shape).size inb) = x := by
  funext y
  refine congrArg x ?_
  funext a
  fin_cases a
  · apply Fin.ext; show 0 + 1 * (y 0).val = (y 0).val; omega
  · apply Fin.ext; show 0 + 1 * (y 1).val = (y 1).val; omega

/-! ### Stores -/

/-- A store of some columns of a block, where it holds an element. -/
theorem at_cols {A C n o : ℕ} {e : EltTy} (P : (⟨3, ![1, A, n]⟩ : Shape).Idx → Elt Ideal e) (r : Fin A) (c : Fin C) (v : Elt Ideal e)
    (h : ∀ j : Fin n, o + j.val = c.val → P (ix3 (0 : Fin 1) r j) = v) :
    View.TileAt (S := (⟨3, ![1, A, C]⟩ : Shape)) (Val := Elt Ideal) (e := e) (ix3 (0 : Fin 1) r c) ![0, 0, o] (⟨3, ![1, A, n]⟩ : Shape).size P v := by
  intro x hx
  have h1 := hx 1
  have h2 := hx 2
  have e : x = ix3 (0 : Fin 1) r (x 2) := by
    funext a
    fin_cases a
    · exact Subsingleton.elim (α := Fin 1) _ _
    · apply Fin.ext
      have : r.val = 0 + (x 1).val := h1
      show (x 1).val = r.val
      omega
    · rfl
  rw [e]
  exact h (x 2) h2.symm

/-- A store of some rows of a block, where it holds an element. -/
theorem at_rows {A C n o : ℕ} {e : EltTy} (P : (⟨3, ![1, n, C]⟩ : Shape).Idx → Elt Ideal e) (r : Fin A) (c : Fin C) (v : Elt Ideal e)
    (h : ∀ i : Fin n, o + i.val = r.val → P (ix3 (0 : Fin 1) i c) = v) :
    View.TileAt (S := (⟨3, ![1, A, C]⟩ : Shape)) (Val := Elt Ideal) (e := e) (ix3 (0 : Fin 1) r c) ![0, o, 0] (⟨3, ![1, n, C]⟩ : Shape).size P v := by
  intro x hx
  have h1 := hx 1
  have h2 := hx 2
  have e : x = ix3 (0 : Fin 1) (x 1) c := by
    funext a
    fin_cases a
    · exact Subsingleton.elim (α := Fin 1) _ _
    · rfl
    · apply Fin.ext
      have : c.val = 0 + (x 2).val := h2
      show (x 2).val = c.val
      omega
  rw [e]
  exact h (x 1) h1.symm

/-- A store of some rows of a table, where it holds an element. -/
theorem at_table {A C n o : ℕ} {e : EltTy} (P : (⟨2, ![n, C]⟩ : Shape).Idx → Elt Ideal e) (r : Fin A) (c : Fin C) (v : Elt Ideal e)
    (h : ∀ i : Fin n, o + i.val = r.val → P (ix2 i c) = v) :
    View.TileAt (S := (⟨2, ![A, C]⟩ : Shape)) (Val := Elt Ideal) (e := e) (ix2 r c) ![o, 0] (⟨2, ![n, C]⟩ : Shape).size P v := by
  intro x hx
  have h1 := hx 0
  have h2 := hx 1
  have e : x = ix2 (x 0) c := by
    funext a
    fin_cases a
    · rfl
    · apply Fin.ext
      have : c.val = 0 + (x 1).val := h2
      show (x 1).val = c.val
      omega
  rw [e]
  exact h (x 0) h1.symm

/-! ### The two weight tables -/

variable (X : Vec Ideal S1x1024x1024 .f32) (G : Vec Ideal S1x1024 .f32) (W : Vec Ideal S1024x3592 .bf16) (B : Vec Ideal S1x2560 .f32)
  (D : Vec Ideal S1040x1 .f32) (T : Vec Ideal S1040x1024 .bf16) (C : Vec Ideal S1024x1536 .bf16)

/-- The columns of q, v and the gates, as rows. -/
def tPieces : List (View.Piece (Elt Ideal) S1040x1024 .bf16) :=
  [⟨Rect.unit ![1024, 0] S16x1024.size inb_S1040x1024_S16x1024_1024_0,
      k0_pay11 (k0_pay10 (View.ld W (Rect.unit ![0, 2048] S1024x128.size inb_S1024x3592_S1024x128_0_2048)))
        (iota .tc S16x1024 32 [0] iota_S16x1024_d0_w32)⟩,
    ⟨Rect.unit ![768, 0] S256x1024.size inb_S1040x1024_S256x1024_768_0,
      k0_pay9 (View.ld W (Rect.unit ![0, 1280] S1024x256.size inb_S1024x3592_S1024x256_0_1280))⟩,
    ⟨Rect.unit ![512, 0] S256x1024.size inb_S1040x1024_S256x1024_512_0,
      k0_pay8 (View.ld W (Rect.unit ![0, 1024] S1024x256.size inb_S1024x3592_S1024x256_0_1024))⟩,
    ⟨Rect.unit ![256, 0] S256x1024.size inb_S1040x1024_S256x1024_256_0,
      k0_pay7 (View.ld W (Rect.unit ![0, 256] S1024x256.size inb_S1024x3592_S1024x256_0_256))⟩,
    ⟨Rect.unit ![0, 0] S256x1024.size inb_S1040x1024_S256x1024_0_0,
      k0_pay6 (View.ld W (Rect.unit ![0, 0] S1024x256.size inb_S1024x3592_S1024x256_0_0))⟩]

/-- The convolution's columns. -/
def cPieces : List (View.Piece (Elt Ideal) S1024x1536 .bf16) :=
  [⟨Rect.unit ![768, 0] S256x1536.size inb_S1024x1536_S256x1536_768_0,
      k0_pay16 (k0_pay15 (View.ld W (Rect.unit ![768, 2048] S256x1544.size inb_S1024x3592_S256x1544_768_2048)))⟩,
    ⟨Rect.unit ![512, 0] S256x1536.size inb_S1024x1536_S256x1536_512_0,
      k0_pay14 (View.ld W (Rect.unit ![512, 2048] S256x1544.size inb_S1024x3592_S256x1544_512_2048))⟩,
    ⟨Rect.unit ![256, 0] S256x1536.size inb_S1024x1536_S256x1536_256_0,
      k0_pay13 (View.ld W (Rect.unit ![256, 2048] S256x1544.size inb_S1024x3592_S256x1544_256_2048))⟩,
    ⟨Rect.unit ![0, 0] S256x1536.size inb_S1024x1536_S256x1536_0_0,
      k0_pay12 (View.ld W (Rect.unit ![0, 2048] S256x1544.size inb_S1024x3592_S256x1544_0_2048))⟩]

/-- The column of the projection that row `j` of the first table holds. -/
def tc (j : Fin 1032) : Fin 3592 := ⟨if j.val < 512 then j.val else if j.val < 1024 then 512 + j.val else 1024 + j.val, by split_ifs <;> omega⟩

/-- The table holds q's, v's and the gates' columns as rows. -/
def IsT : Prop := ∀ (j : Fin 1032) (k : Fin 1024), T (ix2 (⟨j.val, by omega⟩ : Fin 1040) k) = W (ix2 k (tc j))
/-- The table holds the convolution's columns. -/
def IsC : Prop := ∀ (k : Fin 1024) (j : Fin 1536), C (ix2 k j) = W (ix2 k (⟨2056 + j.val, by omega⟩ : Fin 3592))

theorem isT : IsT W (View.canon (tPieces W)) := by
  intro j k
  refine View.canon_eq_of_allAt _ _ _ (View.cover_of_tiledBy (tPieces W) ![16, 1024] (by sl_kernel_rfl) _) ?_
  refine View.allAt_cons_unit _ _ _ _ _ (at_table _ _ _ _ fun i hi => ?_) ?_
  · have hi' : 1024 + i.val = j.val := hi
    refine (pay11_apply _ i k (by omega)).trans (ld_ix2 W _ k _ k (tc j) (Nat.zero_add _) ?_)
    simp only [tc]; split_ifs <;> omega
  refine View.allAt_cons_unit _ _ _ _ _ (at_table _ _ _ _ fun i hi => ?_) ?_
  · have hi' : 768 + i.val = j.val := hi
    refine (pay9_apply _ i k).trans (ld_ix2 W _ k _ k (tc j) (Nat.zero_add _) ?_)
    simp only [tc]; split_ifs <;> omega
  refine View.allAt_cons_unit _ _ _ _ _ (at_table _ _ _ _ fun i hi => ?_) ?_
  · have hi' : 512 + i.val = j.val := hi
    refine (pay8_apply _ i k).trans (ld_ix2 W _ k _ k (tc j) (Nat.zero_add _) ?_)
    simp only [tc]; split_ifs <;> omega
  refine View.allAt_cons_unit _ _ _ _ _ (at_table _ _ _ _ fun i hi => ?_) ?_
  · have hi' : 256 + i.val = j.val := hi
    refine (pay7_apply _ i k).trans (ld_ix2 W _ k _ k (tc j) (Nat.zero_add _) ?_)
    simp only [tc]; split_ifs <;> omega
  refine View.allAt_cons_unit _ _ _ _ _ (at_table _ _ _ _ fun i hi => ?_) (View.allAt_nil _ _)
  have hi' : 0 + i.val = j.val := hi
  refine (pay6_apply _ i k).trans (ld_ix2 W _ k _ k (tc j) (Nat.zero_add _) ?_)
  simp only [tc]; split_ifs <;> omega

theorem isC : IsC W (View.canon (cPieces W)) := by
  intro k j
  refine View.canon_eq_of_allAt _ _ _ (View.cover_of_tiledL (cPieces W) S256x1536.size (by sl_kernel_rfl) _) ?_
  refine View.allAt_cons_unit _ _ _ _ _ (at_table _ _ _ _ fun i hi => ?_) ?_
  · refine (pay16_apply _ i j).trans (ld_ix2 W _ i _ k _ hi ?_)
    show 2048 + (8 + j.val) = 2056 + j.val
    omega
  refine View.allAt_cons_unit _ _ _ _ _ (at_table _ _ _ _ fun i hi => ?_) ?_
  · refine (pay14_apply _ i j).trans (ld_ix2 W _ i _ k _ hi ?_)
    show 2048 + (8 + j.val) = 2056 + j.val
    omega
  refine View.allAt_cons_unit _ _ _ _ _ (at_table _ _ _ _ fun i hi => ?_) ?_
  · refine (pay13_apply _ i j).trans (ld_ix2 W _ i _ k _ hi ?_)
    show 2048 + (8 + j.val) = 2056 + j.val
    omega
  refine View.allAt_cons_unit _ _ _ _ _ (at_table _ _ _ _ fun i hi => ?_) (View.allAt_nil _ _)
  refine (pay12_apply _ i j).trans (ld_ix2 W _ i _ k _ hi ?_)
  show 2048 + (8 + j.val) = 2056 + j.val
  omega

/-! ### The three outputs -/

/-- The columns of k, the output gate and the convolution. -/
def aPieces : List (View.Piece (Elt Ideal) S1x1024x2560 .bf16) :=
  [⟨Rect.unit ![0, 0, 2048] S1x1024x512.size inb_S1x1024x2560_S1x1024x512_0_0_2048,
      k0_pay1 (k0_pay23 (k0_pay17 X G) (View.ld C (Rect.unit ![0, 1024] S1024x512.size inb_S1024x1536_S1024x512_0_1024)))
        (View.ld B (Rect.unit ![0, 2048] S1x512.size inb_S1x2560_S1x512_0_2048))⟩,
    ⟨Rect.unit ![0, 0, 1536] S1x1024x512.size inb_S1x1024x2560_S1x1024x512_0_0_1536,
      k0_pay22 (k0_pay17 X G) (View.ld C (Rect.unit ![0, 512] S1024x512.size inb_S1024x1536_S1024x512_0_512))
        (View.ld B (Rect.unit ![0, 1536] S1x512.size inb_S1x2560_S1x512_0_1536))⟩,
    ⟨Rect.unit ![0, 0, 1024] S1x1024x512.size inb_S1x1024x2560_S1x1024x512_0_0_1024,
      k0_pay21 (k0_pay17 X G) (View.ld C (Rect.unit ![0, 0] S1024x512.size inb_S1024x1536_S1024x512_0_0))
        (View.ld B (Rect.unit ![0, 1024] S1x512.size inb_S1x2560_S1x512_0_1024))⟩,
    ⟨Rect.unit ![0, 0, 512] S1x1024x512.size inb_S1x1024x2560_S1x1024x512_0_0_512,
      k0_pay20 (k0_pay17 X G) (k0_pay19 (View.ld W (Rect.unit ![0, 1536] S1024x512.size inb_S1024x3592_S1024x512_0_1536)))
        (View.ld B (Rect.unit ![0, 512] S1x512.size inb_S1x2560_S1x512_0_512))⟩,
    ⟨Rect.unit ![0, 0, 0] S1x1024x512.size inb_S1x1024x2560_S1x1024x512_0_0_0,
      k0_pay18 X G (View.ld W (Rect.unit ![0, 512] S1024x512.size inb_S1024x3592_S1024x512_0_512))
        (View.ld B (Rect.unit ![0, 0] S1x512.size inb_S1x2560_S1x512_0_0))⟩]

/-- q, scaled, and v, as rows. -/
def qPieces : List (View.Piece (Elt Ideal) S1x1024x1024 .bf16) :=
  [⟨Rect.unit ![0, 512, 0] S1x512x1024.size inb_S1x1024x1024_S1x512x1024_0_512_0, k0_pay4 (k0_pay17 X G) T D⟩,
    ⟨Rect.unit ![0, 0, 0] S1x512x1024.size inb_S1x1024x1024_S1x512x1024_0_0_0, k0_pay3 (k0_pay17 X G) T D⟩]

/-- The gates, as rows. -/
def gPieces : List (View.Piece (Elt Ideal) S1x8x1024 .f32) :=
  [⟨Rect.unit ![0, 0, 0] S1x8x1024.size inb_S1x8x1024_S1x8x1024_0_0_0, k0_pay5 (k0_pay17 X G) T D⟩]

/-- The column of the projection that column `j` of the first output holds. -/
def ac (j : Fin 2560) : Fin 3592 := ⟨if j.val < 512 then 512 + j.val else if j.val < 1024 then 1024 + j.val else 1032 + j.val, by split_ifs <;> omega⟩

/-- One column of the projection of a normalised tile. -/
def dot (r : Fin 1024) (c : Fin 3592) : EReal := ∑ k : Fin 1024, k0_pay17 X G (ix2 r k) * W (ix2 k c)

variable {W C T}

theorem a_at (hC : IsC W C) (r : Fin 1024) (j : Fin 2560) :
    View.canon (aPieces X G W B C) (ix3 (0 : Fin 1) r j) = dot X G W r (ac j) + B (ix2 (0 : Fin 1) j) := by
  refine View.canon_eq_of_allAt _ _ _ (View.cover_of_tiledL (aPieces X G W B C) S1x1024x512.size (by sl_kernel_rfl) _) ?_
  unfold dot
  have hw : ∀ (o : ℕ) (inb) (i : Fin 512) (k : Fin 1024), o + i.val = (ac j).val →
      View.ld W (Rect.unit (s := S1024x3592) ![0, o] S1024x512.size inb) (ix2 k i) = W (ix2 k (ac j)) :=
    fun o inb i k h => ld_ix2 W inb k i k (ac j) (by omega) h
  have hc : ∀ (o : ℕ) (inb) (i : Fin 512) (k : Fin 1024), 1024 + o + i.val = j.val →
      View.ld C (Rect.unit (s := S1024x1536) ![0, o] S1024x512.size inb) (ix2 k i) = W (ix2 k (ac j)) := by
    intro o inb i k h
    refine (ld_ix2 C inb k i k (⟨o + i.val, by omega⟩ : Fin 1536) (by omega) rfl).trans ((hC k _).trans (congrArg (fun c => W (ix2 k c)) (Fin.ext ?_)))
    simp only [ac]; split_ifs <;> omega
  have hb : ∀ (o : ℕ) (inb) (i : Fin 512), o + i.val = j.val →
      View.ld B (Rect.unit (s := S1x2560) ![0, o] S1x512.size inb) (ix2 (0 : Fin 1) i) = B (ix2 (0 : Fin 1) j) :=
    fun o inb i h => ld_ix2 B inb 0 i 0 j rfl h
  refine View.allAt_cons_unit _ _ _ _ _ (at_cols _ _ _ _ fun i hi => ?_) ?_
  · refine (pay1_apply _ _ _ r i).trans ?_
    rw [hb _ _ _ hi]
    simp only [hc 1024 _ i _ (by omega)]
  refine View.allAt_cons_unit _ _ _ _ _ (at_cols _ _ _ _ fun i hi => ?_) ?_
  · refine (pay22_apply _ _ _ r i).trans ?_
    rw [hb _ _ _ hi]
    simp only [hc 512 _ i _ (by omega)]
  refine View.allAt_cons_unit _ _ _ _ _ (at_cols _ _ _ _ fun i hi => ?_) ?_
  · refine (pay21_apply _ _ _ r i).trans ?_
    rw [hb _ _ _ hi]
    simp only [hc 0 _ i _ (by omega)]
  refine View.allAt_cons_unit _ _ _ _ _ (at_cols _ _ _ _ fun i hi => ?_) ?_
  · refine (pay20_apply _ _ _ r i).trans ?_
    rw [hb _ _ _ hi]
    simp only [hw 1536 _ i _ (by simp only [ac]; split_ifs <;> omega)]
  refine View.allAt_cons_unit _ _ _ _ _ (at_cols _ _ _ _ fun i hi => ?_) (View.allAt_nil _ _)
  refine (pay18_apply _ _ _ _ r i).trans ?_
  rw [hb _ _ _ hi]
  simp only [hw 512 _ i _ (by simp only [ac]; split_ifs <;> omega)]

theorem pay2_eq (hT : IsT W T) (r : Fin 1024) (j : Fin 1032) :
    k0_pay2 (k0_pay17 X G) T D (ix2 (⟨j.val, by omega⟩ : Fin 1040) r) = dot X G W r (tc j) + D (ix2 (⟨j.val, by omega⟩ : Fin 1040) (0 : Fin 1)) := by
  rw [pay2_apply]
  unfold dot
  congr 1
  exact Finset.sum_congr rfl fun k _ => by rw [hT j k, mul_comm]

theorem q_lo (hT : IsT W T) (r : Fin 1024) (j : Fin 512) :
    View.canon (qPieces X G D T) (ix3 (0 : Fin 1) (⟨j.val, by omega⟩ : Fin 1024) r)
      = (dot X G W r ⟨j.val, by omega⟩ + D (ix2 (⟨j.val, by omega⟩ : Fin 1040) (0 : Fin 1))) * Ideal.ofBits .f32 0x3DB504F3#32 := by
  refine View.canon_eq_of_allAt _ _ _ (View.cover_of_tiledL (qPieces X G D T) S1x512x1024.size (by sl_kernel_rfl) _) ?_
  refine View.allAt_cons_unit _ _ _ _ _ (at_rows _ _ _ _ fun i hi => ?_) ?_
  · have hi' : 512 + i.val = j.val := hi
    omega
  refine View.allAt_cons_unit _ _ _ _ _ (at_rows _ _ _ _ fun i hi => ?_) (View.allAt_nil _ _)
  have hi' : 0 + i.val = j.val := hi
  obtain rfl : i = j := Fin.ext (by omega)
  refine (pay3_apply _ _ _ r i).trans ?_
  rw [pay2_eq X G D hT r ⟨i.val, by omega⟩]
  congr 3
  exact Fin.ext (if_pos i.isLt)

theorem q_hi (hT : IsT W T) (r : Fin 1024) (j : Fin 512) :
    View.canon (qPieces X G D T) (ix3 (0 : Fin 1) (⟨512 + j.val, by omega⟩ : Fin 1024) r)
      = dot X G W r ⟨1024 + j.val, by omega⟩ + D (ix2 (⟨512 + j.val, by omega⟩ : Fin 1040) (0 : Fin 1)) := by
  refine View.canon_eq_of_allAt _ _ _ (View.cover_of_tiledL (qPieces X G D T) S1x512x1024.size (by sl_kernel_rfl) _) ?_
  refine View.allAt_cons_unit _ _ _ _ _ (at_rows _ _ _ _ fun i hi => ?_) ?_
  · have hi' : 512 + i.val = 512 + j.val := hi
    obtain rfl : i = j := Fin.ext (by omega)
    refine (pay4_apply _ _ _ r i).trans ?_
    refine (pay2_eq X G D hT r ⟨512 + i.val, by omega⟩).trans ?_
    congr 2
    apply Fin.ext
    simp only [tc]; split_ifs <;> omega
  refine View.allAt_cons_unit _ _ _ _ _ (at_rows _ _ _ _ fun i hi => ?_) (View.allAt_nil _ _)
  have hi' : 0 + i.val = 512 + j.val := hi
  omega

theorem g_at (hT : IsT W T) (r : Fin 1024) (j : Fin 8) :
    View.canon (gPieces X G D T) (ix3 (0 : Fin 1) j r)
      = dot X G W r ⟨2048 + j.val, by omega⟩ + D (ix2 (⟨1024 + j.val, by omega⟩ : Fin 1040) (0 : Fin 1)) := by
  refine View.canon_eq_of_allAt _ _ _ (View.cover_of_tiledL (gPieces X G D T) S1x8x1024.size (by sl_kernel_rfl) _) ?_
  refine View.allAt_cons_unit _ _ _ _ _ (at_rows _ _ _ _ fun i hi => ?_) (View.allAt_nil _ _)
  have hi' : 0 + i.val = j.val := hi
  obtain rfl : i = j := Fin.ext (by omega)
  refine (pay5_apply _ _ _ r i).trans ?_
  refine (pay2_eq X G D hT r ⟨1024 + i.val, by omega⟩).trans ?_
  congr 2
  apply Fin.ext
  simp only [tc]; split_ifs <;> omega

end Cert.Inp
-- ==== Proof.InEntry.lean ====
/- What the input projection's blocks hold: the arguments' elements, the bias's columns sorted as the outputs' are. -/
module

public import proofs.«01_k».proof.Proof.InTile
public import proofs.«01_k».proof.Proof.Gen.Kernel2Ideal.Frame
public import Idealize.ShloMosaic.Lib.Claim

@[expose] public section

set_option maxRecDepth 16384

noncomputable section

namespace Cert.Inp

open Idealize.ShloMosaic Idealize.ShloMosaic.TcCoe Idealize.SL.Sem Cert.Kernel2Ideal Cert.Kernel2Ideal.Gen

theorem idx : ∀ t : Fin cfg0.N,
    win0_0.index t = ![t.val / 4, t.val % 4, 0] ∧ win0_1.index t = ![0, 0] ∧ win0_2.index t = ![0, 0] ∧ win0_3.index t = ![0, 0]
    ∧ win0_4.index t = ![0, 0] ∧ win0_5.index t = ![t.val / 4, t.val % 4, 0] ∧ win0_6.index t = ![t.val / 4, 0, t.val % 4]
    ∧ win0_7.index t = ![t.val / 4, 0, t.val % 4] :=
  (by decide +kernel : ∀ t : Fin grid0.N, _)

variable (m : (ℓ : Loc nD τ sig) → Buf (Elt Ideal) ℓ) (c : Dev nD)

/-- The arguments as the launch finds them: the stream, its gain, the weights and the bias. -/
def aX (b : Fin 8) (s : Fin 4096) (k : Fin 1024) : EReal := m ((c : Thread nD τ).loc main_arg0) (ix3 b s k)
def aG (k : Fin 1024) : EReal := m ((c : Thread nD τ).loc main_arg1) (ix1 k)
def aW (k : Fin 1024) (j : Fin 3592) : EReal := m ((c : Thread nD τ).loc main_arg2) (ix2 k j)
def aB (j : Fin 3592) : EReal := m ((c : Thread nD τ).loc main_arg3) (ix1 j)

/-- The batch of a grid point. -/
def bat (t : Fin cfg0.N) : Fin 8 := ⟨t.val / 4, by have : t.val < 32 := t.isLt; omega⟩
/-- The token of a grid point's row. -/
def tok (t : Fin cfg0.N) (r : Fin 1024) : Fin 4096 := ⟨1024 * (t.val % 4) + r.val, by omega⟩

theorem catA_0 (A : S512.Idx → EReal) (B : S512.Idx → EReal) (C : S1536.Idx → EReal) (hc) (j : Fin 512) :
    concatenate S2560 0 [⟨S512, A⟩, ⟨S512, B⟩, ⟨S1536, C⟩] hc (ix1 (⟨0 + j.val, by omega⟩ : Fin 2560)) = A (ix1 j) := by
  refine concatenate_apply_piece (t := S2560) (0 : Fin 1) [⟨S512, A⟩, ⟨S512, B⟩, ⟨S1536, C⟩] hc (ix1 (⟨0 + j.val, by omega⟩ : Fin 2560)) 0
    (Nat.lt_of_sub_eq_succ rfl) S512 A rfl rfl 0 rfl (ix1 j) (fun a ha => ?_) rfl
  fin_cases a
  exact absurd rfl ha
theorem catA_1 (A : S512.Idx → EReal) (B : S512.Idx → EReal) (C : S1536.Idx → EReal) (hc) (j : Fin 512) :
    concatenate S2560 0 [⟨S512, A⟩, ⟨S512, B⟩, ⟨S1536, C⟩] hc (ix1 (⟨512 + j.val, by omega⟩ : Fin 2560)) = B (ix1 j) := by
  refine concatenate_apply_piece (t := S2560) (0 : Fin 1) [⟨S512, A⟩, ⟨S512, B⟩, ⟨S1536, C⟩] hc (ix1 (⟨512 + j.val, by omega⟩ : Fin 2560)) 1
    (Nat.lt_of_sub_eq_succ rfl) S512 B rfl rfl 512 rfl (ix1 j) (fun a ha => ?_) rfl
  fin_cases a
  exact absurd rfl ha
theorem catA_2 (A : S512.Idx → EReal) (B : S512.Idx → EReal) (C : S1536.Idx → EReal) (hc) (j : Fin 1536) :
    concatenate S2560 0 [⟨S512, A⟩, ⟨S512, B⟩, ⟨S1536, C⟩] hc (ix1 (⟨1024 + j.val, by omega⟩ : Fin 2560)) = C (ix1 j) := by
  refine concatenate_apply_piece (t := S2560) (0 : Fin 1) [⟨S512, A⟩, ⟨S512, B⟩, ⟨S1536, C⟩] hc (ix1 (⟨1024 + j.val, by omega⟩ : Fin 2560)) 2
    (Nat.lt_of_sub_eq_succ rfl) S1536 C rfl rfl 1024 rfl (ix1 j) (fun a ha => ?_) rfl
  fin_cases a
  exact absurd rfl ha
theorem catT_0 (A : S512.Idx → EReal) (B : S512.Idx → EReal) (C : S8.Idx → EReal) (D : S8.Idx → EReal) (hc) (j : Fin 512) :
    concatenate S1040 0 [⟨S512, A⟩, ⟨S512, B⟩, ⟨S8, C⟩, ⟨S8, D⟩] hc (ix1 (⟨0 + j.val, by omega⟩ : Fin 1040)) = A (ix1 j) := by
  refine concatenate_apply_piece (t := S1040) (0 : Fin 1) [⟨S512, A⟩, ⟨S512, B⟩, ⟨S8, C⟩, ⟨S8, D⟩] hc (ix1 (⟨0 + j.val, by omega⟩ : Fin 1040)) 0
    (Nat.lt_of_sub_eq_succ rfl) S512 A rfl rfl 0 rfl (ix1 j) (fun a ha => ?_) rfl
  fin_cases a
  exact absurd rfl ha
theorem catT_1 (A : S512.Idx → EReal) (B : S512.Idx → EReal) (C : S8.Idx → EReal) (D : S8.Idx → EReal) (hc) (j : Fin 512) :
    concatenate S1040 0 [⟨S512, A⟩, ⟨S512, B⟩, ⟨S8, C⟩, ⟨S8, D⟩] hc (ix1 (⟨512 + j.val, by omega⟩ : Fin 1040)) = B (ix1 j) := by
  refine concatenate_apply_piece (t := S1040) (0 : Fin 1) [⟨S512, A⟩, ⟨S512, B⟩, ⟨S8, C⟩, ⟨S8, D⟩] hc (ix1 (⟨512 + j.val, by omega⟩ : Fin 1040)) 1
    (Nat.lt_of_sub_eq_succ rfl) S512 B rfl rfl 512 rfl (ix1 j) (fun a ha => ?_) rfl
  fin_cases a
  exact absurd rfl ha
theorem catT_2 (A : S512.Idx → EReal) (B : S512.Idx → EReal) (C : S8.Idx → EReal) (D : S8.Idx → EReal) (hc) (j : Fin 8) :
    concatenate S1040 0 [⟨S512, A⟩, ⟨S512, B⟩, ⟨S8, C⟩, ⟨S8, D⟩] hc (ix1 (⟨1024 + j.val, by omega⟩ : Fin 1040)) = C (ix1 j) := by
  refine concatenate_apply_piece (t := S1040) (0 : Fin 1) [⟨S512, A⟩, ⟨S512, B⟩, ⟨S8, C⟩, ⟨S8, D⟩] hc (ix1 (⟨1024 + j.val, by omega⟩ : Fin 1040)) 2
    (Nat.lt_of_sub_eq_succ rfl) S8 C rfl rfl 1024 rfl (ix1 j) (fun a ha => ?_) rfl
  fin_cases a
  exact absurd rfl ha

theorem V_v4 : V m c main_v4 = broadcastInDim S1x2560 ![1] bcast_S2560_S1x2560_1 (concatenate S2560 0 [
    ⟨S512, extractStridedSlice S512 ![512] (m ((c : Thread nD τ).loc main_arg3) : FVec Ideal S3592 .f32) slices_S3592_S512_512⟩,
    ⟨S512, extractStridedSlice S512 ![1536] (m ((c : Thread nD τ).loc main_arg3) : FVec Ideal S3592 .f32) slices_S3592_S512_1536⟩,
    ⟨S1536, extractStridedSlice S1536 ![2056] (m ((c : Thread nD τ).loc main_arg3) : FVec Ideal S3592 .f32) slices_S3592_S1536_2056⟩] concatenates_S512_S512_S1536_S2560_d0) := rfl

theorem V_v10 : V m c main_v10 = broadcastInDim S1040x1 ![0] bcast_S1040_S1040x1_0 (concatenate S1040 0 [
    ⟨S512, extractStridedSlice S512 ![0] (m ((c : Thread nD τ).loc main_arg3) : FVec Ideal S3592 .f32) slices_S3592_S512_0⟩,
    ⟨S512, extractStridedSlice S512 ![1024] (m ((c : Thread nD τ).loc main_arg3) : FVec Ideal S3592 .f32) slices_S3592_S512_1024⟩,
    ⟨S8, extractStridedSlice S8 ![2048] (m ((c : Thread nD τ).loc main_arg3) : FVec Ideal S3592 .f32) slices_S3592_S8_2048⟩,
    ⟨S8, broadcastInDim S8 ![] bcast_S_S8 (constant (F := Ideal) S_ .f32 0x00000000#32)⟩] concatenates_S512_S512_S8_S8_S1040_d0) := rfl

theorem V_v11 : V m c main_v11 = broadcastInDim S1x1024 ![1] bcast_S1024_S1x1024_1 (m ((c : Thread nD τ).loc main_arg1) : FVec Ideal S1024 .f32) := rfl

theorem V_v12 : V m c main_v12 = (truncf (F := Ideal) .bf16 (m ((c : Thread nD τ).loc main_arg2) : FVec Ideal S1024x3592 .f32) bitsLt_bf16_f32 : FVec Ideal S1024x3592 .bf16) := rfl

theorem v11_g (k : Fin 1024) : V m c main_v11 (ix2 (0 : Fin 1) k) = aG m c k := by
  unfold aG
  rw [V_v11]
  pointwise []

theorem v12_w (k : Fin 1024) (j : Fin 3592) : V m c main_v12 (ix2 k j) = aW m c k j := by
  unfold aW
  rw [V_v12]
  pointwise []

theorem v4_0 (j : Fin 512) : V m c main_v4 (ix2 (0 : Fin 1) (⟨0 + j.val, by omega⟩ : Fin 2560)) = aB m c (⟨512 + j.val, by omega⟩ : Fin 3592) := by
  unfold aB
  rw [V_v4]
  refine Eq.trans (broadcastInDim_apply _ _ _ _ (ix1 (⟨0 + j.val, by omega⟩ : Fin 2560)) (fun a => by fin_cases a; rfl)) ?_
  rw [catA_0]
  pointwise []

theorem v4_1 (j : Fin 512) : V m c main_v4 (ix2 (0 : Fin 1) (⟨512 + j.val, by omega⟩ : Fin 2560)) = aB m c (⟨1536 + j.val, by omega⟩ : Fin 3592) := by
  unfold aB
  rw [V_v4]
  refine Eq.trans (broadcastInDim_apply _ _ _ _ (ix1 (⟨512 + j.val, by omega⟩ : Fin 2560)) (fun a => by fin_cases a; rfl)) ?_
  rw [catA_1]
  pointwise []

theorem v4_2 (j : Fin 1536) : V m c main_v4 (ix2 (0 : Fin 1) (⟨1024 + j.val, by omega⟩ : Fin 2560)) = aB m c (⟨2056 + j.val, by omega⟩ : Fin 3592) := by
  unfold aB
  rw [V_v4]
  refine Eq.trans (broadcastInDim_apply _ _ _ _ (ix1 (⟨1024 + j.val, by omega⟩ : Fin 2560)) (fun a => by fin_cases a; rfl)) ?_
  rw [catA_2]
  pointwise []

theorem v10_0 (j : Fin 512) : V m c main_v10 (ix2 (⟨0 + j.val, by omega⟩ : Fin 1040) (0 : Fin 1)) = aB m c (⟨0 + j.val, by omega⟩ : Fin 3592) := by
  unfold aB
  rw [V_v10]
  refine Eq.trans (broadcastInDim_apply _ _ _ _ (ix1 (⟨0 + j.val, by omega⟩ : Fin 1040)) (fun a => by fin_cases a; rfl)) ?_
  rw [catT_0]
  pointwise []

theorem v10_1 (j : Fin 512) : V m c main_v10 (ix2 (⟨512 + j.val, by omega⟩ : Fin 1040) (0 : Fin 1)) = aB m c (⟨1024 + j.val, by omega⟩ : Fin 3592) := by
  unfold aB
  rw [V_v10]
  refine Eq.trans (broadcastInDim_apply _ _ _ _ (ix1 (⟨512 + j.val, by omega⟩ : Fin 1040)) (fun a => by fin_cases a; rfl)) ?_
  rw [catT_1]
  pointwise []

theorem v10_2 (j : Fin 8) : V m c main_v10 (ix2 (⟨1024 + j.val, by omega⟩ : Fin 1040) (0 : Fin 1)) = aB m c (⟨2048 + j.val, by omega⟩ : Fin 3592) := by
  unfold aB
  rw [V_v10]
  refine Eq.trans (broadcastInDim_apply _ _ _ _ (ix1 (⟨1024 + j.val, by omega⟩ : Fin 1040)) (fun a => by fin_cases a; rfl)) ?_
  rw [catT_2]
  pointwise []

theorem v4_b (j : Fin 2560) : V m c main_v4 (ix2 (0 : Fin 1) j) = aB m c (ac j) := by
  rcases lt_or_ge j.val 512 with h1 | h1
  · have e : ac j = (⟨512 + j.val, by omega⟩ : Fin 3592) := Fin.ext (Eq.trans (b := 512 + j.val) (by simp only [ac]; split_ifs <;> omega) rfl)
    have e' : j = (⟨0 + j.val, by omega⟩ : Fin 2560) := Fin.ext (by show j.val = 0 + j.val; omega)
    exact (congrArg (fun i => V m c main_v4 (ix2 (0 : Fin 1) i)) e').trans ((v4_0 m c (⟨j.val, h1⟩ : Fin 512)).trans (congrArg (aB m c) e).symm)
  · rcases lt_or_ge j.val 1024 with h2 | h2
    · have e : ac j = (⟨1536 + (j.val - 512), by omega⟩ : Fin 3592) := Fin.ext (Eq.trans (b := 1536 + (j.val - 512)) (by simp only [ac]; split_ifs <;> omega) rfl)
      have e' : j = (⟨512 + (j.val - 512), by omega⟩ : Fin 2560) := Fin.ext (by show j.val = 512 + (j.val - 512); omega)
      exact (congrArg (fun i => V m c main_v4 (ix2 (0 : Fin 1) i)) e').trans ((v4_1 m c (⟨j.val - 512, by omega⟩ : Fin _)).trans (congrArg (aB m c) e).symm)
    · have e : ac j = (⟨2056 + (j.val - 1024), by omega⟩ : Fin 3592) := Fin.ext (Eq.trans (b := 2056 + (j.val - 1024)) (by simp only [ac]; split_ifs <;> omega) rfl)
      have e' : j = (⟨1024 + (j.val - 1024), by omega⟩ : Fin 2560) := Fin.ext (by show j.val = 1024 + (j.val - 1024); omega)
      exact (congrArg (fun i => V m c main_v4 (ix2 (0 : Fin 1) i)) e').trans ((v4_2 m c (⟨j.val - 1024, by omega⟩ : Fin _)).trans (congrArg (aB m c) e).symm)

theorem v10_b (j : Fin 1032) : V m c main_v10 (ix2 (⟨j.val, by omega⟩ : Fin 1040) (0 : Fin 1)) = aB m c (tc j) := by
  rcases lt_or_ge j.val 512 with h1 | h1
  · have e : tc j = (⟨0 + j.val, by omega⟩ : Fin 3592) := Fin.ext (Eq.trans (b := 0 + j.val) (by simp only [tc]; split_ifs <;> omega) rfl)
    have e' : (⟨j.val, by omega⟩ : Fin 1040) = (⟨0 + j.val, by omega⟩ : Fin 1040) := Fin.ext (by show j.val = 0 + j.val; omega)
    exact (congrArg (fun i => V m c main_v10 (ix2 i (0 : Fin 1))) e').trans ((v10_0 m c (⟨j.val, h1⟩ : Fin 512)).trans (congrArg (aB m c) e).symm)
  · rcases lt_or_ge j.val 1024 with h2 | h2
    · have e : tc j = (⟨1024 + (j.val - 512), by omega⟩ : Fin 3592) := Fin.ext (Eq.trans (b := 1024 + (j.val - 512)) (by simp only [tc]; split_ifs <;> omega) rfl)
      have e' : (⟨j.val, by omega⟩ : Fin 1040) = (⟨512 + (j.val - 512), by omega⟩ : Fin 1040) := Fin.ext (by show j.val = 512 + (j.val - 512); omega)
      exact (congrArg (fun i => V m c main_v10 (ix2 i (0 : Fin 1))) e').trans ((v10_1 m c (⟨j.val - 512, by omega⟩ : Fin _)).trans (congrArg (aB m c) e).symm)
    · have e : tc j = (⟨2048 + (j.val - 1024), by omega⟩ : Fin 3592) := Fin.ext (Eq.trans (b := 2048 + (j.val - 1024)) (by simp only [tc]; split_ifs <;> omega) rfl)
      have e' : (⟨j.val, by omega⟩ : Fin 1040) = (⟨1024 + (j.val - 1024), by omega⟩ : Fin 1040) := Fin.ext (by show j.val = 1024 + (j.val - 1024); omega)
      exact (congrArg (fun i => V m c main_v10 (ix2 i (0 : Fin 1))) e').trans ((v10_2 m c (⟨j.val - 1024, by omega⟩ : Fin _)).trans (congrArg (aB m c) e).symm)

variable (t : Fin cfg0.N)

theorem blk_x (r k : Fin 1024) : iblk m c 0 t (ix3 (0 : Fin 1) r k) = aX m c (bat t) (tok t r) k := by
  unfold aX bat tok
  blk_ext [iblk, V, idx t]

theorem blk_g (k : Fin 1024) : iblk m c 1 t (ix2 (0 : Fin 1) k) = aG m c k := by
  refine Eq.trans ?_ (v11_g m c k)
  blk_ext [iblk, idx t]

theorem blk_w (k : Fin 1024) (j : Fin 3592) : iblk m c 2 t (ix2 k j) = aW m c k j := by
  refine Eq.trans ?_ (v12_w m c k j)
  blk_ext [iblk, idx t]

theorem blk_a (j : Fin 2560) : iblk m c 3 t (ix2 (0 : Fin 1) j) = aB m c (ac j) := by
  refine Eq.trans ?_ (v4_b m c j)
  blk_ext [iblk, idx t]

theorem blk_t (j : Fin 1032) : iblk m c 4 t (ix2 (⟨j.val, by omega⟩ : Fin 1040) (0 : Fin 1)) = aB m c (tc j) := by
  refine Eq.trans ?_ (v10_b m c j)
  blk_ext [iblk, idx t]

end Cert.Inp
-- ==== Proof.InRun.lean ====
/- What the body's run leaves, case by case: the tile's pieces of `Proof.InTile`. -/
module

public import proofs.«01_k».proof.Proof.InTile
public import proofs.«01_k».proof.Proof.Gen.Kernel2Ideal.Frame
public import Idealize.ShloMosaic.Lib.Pipeline.ReadBack

@[expose] public section

set_option maxRecDepth 16384

noncomputable section

namespace Cert.Inp

open Idealize.ShloMosaic Idealize.SL.Sem Cert.Kernel2Ideal Cert.Kernel2Ideal.Gen

variable (c : Dev nD) (i : grid0.Coords)
  (arg2 : Memref sig .tc .vmem S1x1024x1024 .f32) (harg2 : arg2.IsWhole)
  (arg3 : Memref sig .tc .vmem S1x1024 .f32) (harg3 : arg3.IsWhole)
  (arg4 : Memref sig .tc .vmem S1024x3592 .bf16) (harg4 : arg4.IsWhole)
  (arg5 : Memref sig .tc .vmem S1x2560 .f32) (harg5 : arg5.IsWhole)
  (arg6 : Memref sig .tc .vmem S1040x1 .f32) (harg6 : arg6.IsWhole)
  (arg7 : Memref sig .tc .vmem S1x1024x2560 .bf16) (harg7 : arg7.IsWhole)
  (arg8 : Memref sig .tc .vmem S1x1024x1024 .bf16) (harg8 : arg8.IsWhole)
  (arg9 : Memref sig .tc .vmem S1x8x1024 .f32) (harg9 : arg9.IsWhole)
  (arg10 : Memref sig .tc .vmem S1040x1024 .bf16) (harg10 : arg10.IsWhole)
  (arg11 : Memref sig .tc .vmem S1024x1536 .bf16) (harg11 : arg11.IsWhole)
  (x0 : Vec Ideal S1x1024x1024 .f32) (x1 : Vec Ideal S1x1024 .f32) (x2 : Vec Ideal S1024x3592 .bf16) (x3 : Vec Ideal S1x2560 .f32)
  (x4 : Vec Ideal S1040x1 .f32) (xs0 : Vec Ideal S1040x1024 .bf16) (xs1 : Vec Ideal S1024x1536 .bf16)

/-! ### The first tile -/

namespace A

theorem hn : kernelRun0_A.sl.r_2 c arg2 harg2 arg3 harg3 x0 x1 = k0_pay17 x0 x1 := by
  simp only [kernelRun0_A.sl.r_2, View.readAt_eq_ld, harg2.read_unread, harg3.read_unread]
  rw [ld_ix3 x0, ld_all2 x1]

theorem tab : kernelRun0_A.sl.HS0_5 c arg4 harg4 x2 = tPieces x2 := by
  simp only [kernelRun0_A.sl.HS0_5, kernelRun0_A.sl.r, kernelRun0_A.sl.v133, View.readAt_eq_ld, harg4.read_unread]
  rfl

theorem tac : kernelRun0_A.sl.HS1_4 c arg4 harg4 x2 = cPieces x2 := by
  simp only [kernelRun0_A.sl.HS1_4, kernelRun0_A.sl.r_1, View.readAt_eq_ld, harg4.read_unread]
  rfl

theorem ldT : kernelRun0_A.sl.v74 c arg4 harg4 arg10 x2 = View.canon (tPieces x2) := by
  rw [kernelRun0_A.sl.v74, tab, View.readCov_eq_canon']
  exact ld_all2 (View.canon (tPieces x2)) inb_S1040x1024_S1040x1024_0_0

theorem ld0 : kernelRun0_A.sl.v44 c arg4 harg4 arg11 x2
    = View.ld (View.canon (cPieces x2)) (Rect.unit ![0, 0] S1024x512.size inb_S1024x1536_S1024x512_0_0) := by
  rw [kernelRun0_A.sl.v44, tac, View.readCov_eq_canon']

theorem ld1 : kernelRun0_A.sl.v54 c arg4 harg4 arg11 x2
    = View.ld (View.canon (cPieces x2)) (Rect.unit ![0, 512] S1024x512.size inb_S1024x1536_S1024x512_0_512) := by
  rw [kernelRun0_A.sl.v54, tac, View.readCov_eq_canon']

theorem ld2 : kernelRun0_A.sl.v64 c arg4 harg4 arg11 x2
    = View.ld (View.canon (cPieces x2)) (Rect.unit ![0, 1024] S1024x512.size inb_S1024x1536_S1024x512_0_1024) := by
  rw [kernelRun0_A.sl.v64, tac, View.readCov_eq_canon']

variable (hc0 : cond0_0 i)

theorem pa : (kernelRun0_A c i arg2 harg2 arg3 harg3 arg4 harg4 arg5 harg5 arg6 harg6 arg7 harg7 arg8 harg8 arg9 harg9 arg10 harg10 arg11 harg11 hc0 x0 x1 x2 x3 x4).1 = aPieces x0 x1 x2 x3 (View.canon (cPieces x2)) := by
  unfold kernelRun0_A
  dsimp only
  simp only [kernelRun0_A.sl.r_4, kernelRun0_A.sl.r_3, hn c arg2 harg2 arg3 harg3 x0 x1, ldT, ld0, ld1, ld2, View.readAt_eq_ld,
    harg2.read_unread, harg3.read_unread, harg4.read_unread, harg5.read_unread, harg6.read_unread]
  unfold aPieces
  rw [ld_ix3 x0, ld_all2 x1]

theorem pq : (kernelRun0_A c i arg2 harg2 arg3 harg3 arg4 harg4 arg5 harg5 arg6 harg6 arg7 harg7 arg8 harg8 arg9 harg9 arg10 harg10 arg11 harg11 hc0 x0 x1 x2 x3 x4).2.1 = qPieces x0 x1 x4 (View.canon (tPieces x2)) := by
  unfold kernelRun0_A
  dsimp only
  simp only [kernelRun0_A.sl.r_4, kernelRun0_A.sl.r_3, hn c arg2 harg2 arg3 harg3 x0 x1, ldT, ld0, ld1, ld2, View.readAt_eq_ld,
    harg2.read_unread, harg3.read_unread, harg4.read_unread, harg5.read_unread, harg6.read_unread]
  unfold qPieces
  rw [ld_all2 x4]

theorem pg : (kernelRun0_A c i arg2 harg2 arg3 harg3 arg4 harg4 arg5 harg5 arg6 harg6 arg7 harg7 arg8 harg8 arg9 harg9 arg10 harg10 arg11 harg11 hc0 x0 x1 x2 x3 x4).2.2.1 = gPieces x0 x1 x4 (View.canon (tPieces x2)) := by
  unfold kernelRun0_A
  dsimp only
  simp only [kernelRun0_A.sl.r_4, kernelRun0_A.sl.r_3, hn c arg2 harg2 arg3 harg3 x0 x1, ldT, ld0, ld1, ld2, View.readAt_eq_ld,
    harg2.read_unread, harg3.read_unread, harg4.read_unread, harg5.read_unread, harg6.read_unread]
  unfold gPieces
  rw [ld_all2 x4]

/-- k, the output gate and the convolution's columns, as the tile leaves them. -/
theorem out5 : out0_A_5 c i arg2 harg2 arg3 harg3 arg4 harg4 arg5 harg5 arg6 harg6 arg7 harg7 arg8 harg8 arg9 harg9 arg10 harg10 arg11 harg11 hc0 x0 x1 x2 x3 x4 = View.canon (aPieces x0 x1 x2 x3 (View.canon (cPieces x2))) := by
  rw [out0_A_5, pa, View.read_writes_junk_eq_canon]

/-- q and v, as the tile leaves them. -/
theorem out6 : out0_A_6 c i arg2 harg2 arg3 harg3 arg4 harg4 arg5 harg5 arg6 harg6 arg7 harg7 arg8 harg8 arg9 harg9 arg10 harg10 arg11 harg11 hc0 x0 x1 x2 x3 x4 = View.canon (qPieces x0 x1 x4 (View.canon (tPieces x2))) := by
  rw [out0_A_6, pq, View.read_writes_junk_eq_canon]

/-- The gates, as the tile leaves them. -/
theorem out7 : out0_A_7 c i arg2 harg2 arg3 harg3 arg4 harg4 arg5 harg5 arg6 harg6 arg7 harg7 arg8 harg8 arg9 harg9 arg10 harg10 arg11 harg11 hc0 x0 x1 x2 x3 x4 = View.canon (gPieces x0 x1 x4 (View.canon (tPieces x2))) := by
  rw [out0_A_7, pg, View.read_writes_junk_eq_canon]

/-- The table of q's, v's and the gates' columns the first tile leaves. -/
theorem sout0 : sout0_A_0 c i arg2 harg2 arg3 harg3 arg4 harg4 arg5 harg5 arg6 harg6 arg7 harg7 arg8 harg8 arg9 harg9 arg10 harg10 arg11 harg11 hc0 x0 x1 x2 x3 x4 = View.canon (tPieces x2) := by
  rw [sout0_A_0, View.read_writes_junk_eq_canon]
  unfold kernelRun0_A
  dsimp only
  rw [tab]

/-- The table of the convolution's columns the first tile leaves. -/
theorem sout1 : sout0_A_1 c i arg2 harg2 arg3 harg3 arg4 harg4 arg5 harg5 arg6 harg6 arg7 harg7 arg8 harg8 arg9 harg9 arg10 harg10 arg11 harg11 hc0 x0 x1 x2 x3 x4 = View.canon (cPieces x2) := by
  rw [sout0_A_1, View.read_writes_junk_eq_canon]
  unfold kernelRun0_A
  dsimp only
  rw [tac]

end A

/-! ### The other tiles -/

namespace B

theorem hn : kernelRun0_B.sl.r c arg2 harg2 arg3 harg3 x0 x1 = k0_pay17 x0 x1 := by
  simp only [kernelRun0_B.sl.r, View.readAt_eq_ld, harg2.read_unread, harg3.read_unread]
  rw [ld_ix3 x0, ld_all2 x1]

variable (hc0 : ¬cond0_0 i)

theorem pa : (kernelRun0_B c i arg2 harg2 arg3 harg3 arg4 harg4 arg5 harg5 arg6 harg6 arg7 harg7 arg8 harg8 arg9 harg9 arg10 harg10 arg11 harg11 hc0 x0 x1 x2 x3 x4 xs0 xs1).1 = aPieces x0 x1 x2 x3 xs1 := by
  unfold kernelRun0_B
  dsimp only
  simp only [kernelRun0_B.sl.r_2, kernelRun0_B.sl.r_1, hn c arg2 harg2 arg3 harg3 x0 x1, View.readAt_eq_ld,
    harg2.read_unread, harg3.read_unread, harg4.read_unread, harg5.read_unread, harg6.read_unread, harg10.read_unread, harg11.read_unread]
  unfold aPieces
  rw [ld_ix3 x0, ld_all2 x1]

theorem pq : (kernelRun0_B c i arg2 harg2 arg3 harg3 arg4 harg4 arg5 harg5 arg6 harg6 arg7 harg7 arg8 harg8 arg9 harg9 arg10 harg10 arg11 harg11 hc0 x0 x1 x2 x3 x4 xs0 xs1).2.1 = qPieces x0 x1 x4 xs0 := by
  unfold kernelRun0_B
  dsimp only
  simp only [kernelRun0_B.sl.r_2, kernelRun0_B.sl.r_1, hn c arg2 harg2 arg3 harg3 x0 x1, View.readAt_eq_ld,
    harg2.read_unread, harg3.read_unread, harg4.read_unread, harg5.read_unread, harg6.read_unread, harg10.read_unread, harg11.read_unread]
  unfold qPieces
  rw [ld_all2 x4, ld_all2 xs0]

theorem pg : (kernelRun0_B c i arg2 harg2 arg3 harg3 arg4 harg4 arg5 harg5 arg6 harg6 arg7 harg7 arg8 harg8 arg9 harg9 arg10 harg10 arg11 harg11 hc0 x0 x1 x2 x3 x4 xs0 xs1).2.2.1 = gPieces x0 x1 x4 xs0 := by
  unfold kernelRun0_B
  dsimp only
  simp only [kernelRun0_B.sl.r_2, kernelRun0_B.sl.r_1, hn c arg2 harg2 arg3 harg3 x0 x1, View.readAt_eq_ld,
    harg2.read_unread, harg3.read_unread, harg4.read_unread, harg5.read_unread, harg6.read_unread, harg10.read_unread, harg11.read_unread]
  unfold gPieces
  rw [ld_all2 x4, ld_all2 xs0]

/-- k, the output gate and the convolution's columns, as the tile leaves them. -/
theorem out5 : out0_B_5 c i arg2 harg2 arg3 harg3 arg4 harg4 arg5 harg5 arg6 harg6 arg7 harg7 arg8 harg8 arg9 harg9 arg10 harg10 arg11 harg11 hc0 x0 x1 x2 x3 x4 xs0 xs1 = View.canon (aPieces x0 x1 x2 x3 xs1) := by
  rw [out0_B_5, pa, View.read_writes_junk_eq_canon]

/-- q and v, as the tile leaves them. -/
theorem out6 : out0_B_6 c i arg2 harg2 arg3 harg3 arg4 harg4 arg5 harg5 arg6 harg6 arg7 harg7 arg8 harg8 arg9 harg9 arg10 harg10 arg11 harg11 hc0 x0 x1 x2 x3 x4 xs0 xs1 = View.canon (qPieces x0 x1 x4 xs0) := by
  rw [out0_B_6, pq, View.read_writes_junk_eq_canon]

/-- The gates, as the tile leaves them. -/
theorem out7 : out0_B_7 c i arg2 harg2 arg3 harg3 arg4 harg4 arg5 harg5 arg6 harg6 arg7 harg7 arg8 harg8 arg9 harg9 arg10 harg10 arg11 harg11 hc0 x0 x1 x2 x3 x4 xs0 xs1 = View.canon (gPieces x0 x1 x4 xs0) := by
  rw [out0_B_7, pg, View.read_writes_junk_eq_canon]

end B

end Cert.Inp
-- ==== Proof.InPoint.lean ====
/- The input projection's launch, point by point: every grid point leaves its tile's columns of the projection. -/
module

public import proofs.«01_k».proof.Proof.InEntry
public import proofs.«01_k».proof.Proof.InRun

@[expose] public section

set_option maxRecDepth 16384

noncomputable section

namespace Cert.Inp

open Idealize.ShloMosaic Idealize.ShloMosaic.TcCoe Idealize.SL.Sem Cert.Kernel2Ideal Cert.Kernel2Ideal.Gen

/-- What a point leaves over its blocks: the three results' pieces and the two tables. -/
structure Left (X : Vec Ideal S1x1024x1024 .f32) (G : Vec Ideal S1x1024 .f32) (W : Vec Ideal S1024x3592 .bf16) (B : Vec Ideal S1x2560 .f32)
    (D : Vec Ideal S1040x1 .f32) (o5 : Vec Ideal S1x1024x2560 .bf16) (o6 : Vec Ideal S1x1024x1024 .bf16) (o7 : Vec Ideal S1x8x1024 .f32)
    (T : Vec Ideal S1040x1024 .bf16) (C : Vec Ideal S1024x1536 .bf16) : Prop where
  hT : IsT W T
  hC : IsC W C
  h5 : o5 = View.canon (aPieces X G W B C)
  h6 : o6 = View.canon (qPieces X G D T)
  h7 : o7 = View.canon (gPieces X G D T)

theorem Left.of {X : Vec Ideal S1x1024x1024 .f32} {G : Vec Ideal S1x1024 .f32} {W : Vec Ideal S1024x3592 .bf16} {B : Vec Ideal S1x2560 .f32}
    {D : Vec Ideal S1040x1 .f32} {o5 : Vec Ideal S1x1024x2560 .bf16} {o6 : Vec Ideal S1x1024x1024 .bf16} {o7 : Vec Ideal S1x8x1024 .f32}
    {T : Vec Ideal S1040x1024 .bf16} {C : Vec Ideal S1024x1536 .bf16}
    {P : Vec Ideal S1x1024x2560 .bf16 × Vec Ideal S1x1024x1024 .bf16 × Vec Ideal S1x8x1024 .f32 × Vec Ideal S1040x1024 .bf16
      × Vec Ideal S1024x1536 .bf16}
    (hP : P = (o5, o6, o7, T, C)) (h : Left X G W B D o5 o6 o7 T C) : Left X G W B D P.1 P.2.1 P.2.2.1 P.2.2.2.1 P.2.2.2.2 := by
  subst hP
  exact h

variable (m : (ℓ : Loc nD τ sig) → Buf (Elt Ideal) ℓ) (c : Dev nD)

/-- A grid point leaves what its blocks say. -/
abbrev LeftAt (t : Fin cfg0.N) : Prop :=
  Left (iblk m c 0 t) (iblk m c 1 t) (iblk m c 2 t) (iblk m c 3 t) (iblk m c 4 t) (outsAt0 m c t.val t.isLt).1 (outsAt0 m c t.val t.isLt).2.1
    (outsAt0 m c t.val t.isLt).2.2.1 (outsAt0 m c t.val t.isLt).2.2.2.1 (outsAt0 m c t.val t.isLt).2.2.2.2

theorem left_A (t : Fin cfg0.N) (h0 : t.val % 32 = 0) : LeftAt m c t := by
  refine Left.of (outsAt0_A m c t h0) ⟨?_, ?_, ?_, ?_, ?_⟩
  · rw [A.sout0]
    exact isT _
  · rw [A.sout1]
    exact isC _
  · rw [A.sout1]
    exact A.out5 ..
  · rw [A.sout0]
    exact A.out6 ..
  · rw [A.sout0]
    exact A.out7 ..

theorem left_B (t : Fin cfg0.N) (h0 : ¬t.val % 32 = 0)
    (hT : IsT (iblk m c 2 t) (outsAt0 m c (t.val - 1) (Nat.lt_of_le_of_lt (Nat.sub_le _ _) t.isLt)).2.2.2.1)
    (hC : IsC (iblk m c 2 t) (outsAt0 m c (t.val - 1) (Nat.lt_of_le_of_lt (Nat.sub_le _ _) t.isLt)).2.2.2.2) : LeftAt m c t := by
  have h := outsAt0_B m c t h0
  unfold LeftAt
  generalize outsAt0 m c (t.val - 1) (Nat.lt_of_le_of_lt (Nat.sub_le _ _) t.isLt) = P at h hT hC
  exact Left.of h ⟨hT, hC, B.out5 .., B.out6 .., B.out7 ..⟩

theorem left_next (t : Fin cfg0.N) (h0 : ¬t.val % 32 = 0)
    (p : LeftAt m c ⟨t.val - 1, Nat.lt_of_le_of_lt (Nat.sub_le _ _) t.isLt⟩) : LeftAt m c t := by
  obtain ⟨hT, hC, -, -, -⟩ := p
  exact left_B m c t h0 (fun j k => (hT j k).trans ((blk_w m c _ k _).trans (blk_w m c t k _).symm))
    (fun k j => (hC k j).trans ((blk_w m c _ k _).trans (blk_w m c t k _).symm))

theorem left (n : ℕ) : ∀ t : Fin cfg0.N, t.val = n → LeftAt m c t := by
  induction n with
  | zero => exact fun t h => left_A m c t (by rw [h])
  | succ n ih =>
    intro t h
    have hn : t.val < 32 := t.isLt
    exact left_next m c t (by omega) (ih _ (by show t.val - 1 = n; omega))

/-- The projection of the layer's arguments at a token and a column. -/
def P (b : Fin 8) (s : Fin 4096) (j : Fin 3592) : EReal := projV (aX m c b s) (aG m c) (aW m c) (aB m c) j

variable (t : Fin cfg0.N)

theorem dot_eq (r : Fin 1024) (j : Fin 3592) :
    dot (iblk m c 0 t) (iblk m c 1 t) (iblk m c 2 t) r j + aB m c j = P m c (bat t) (tok t r) j := by
  unfold dot P projV
  refine congrArg (· + aB m c j) (Finset.sum_congr rfl fun k _ => ?_)
  rw [pay17_apply, blk_w m c t k j]
  refine congrArg (· * aW m c k j) ?_
  exact congrArg₂ (fun f g => hnV f g k) (funext fun k => blk_x m c t r k) (funext fun k => blk_g m c t k)

theorem point5 (r : Fin 1024) (j : Fin 2560) :
    (outsAt0 m c t.val t.isLt).1 (ix3 (0 : Fin 1) r j) = P m c (bat t) (tok t r) (ac j) := by
  have h := left m c t.val t rfl
  rw [h.h5, a_at _ _ _ h.hC, blk_a m c t j]
  exact dot_eq m c t r _

theorem point6q (r : Fin 1024) (j : Fin 512) :
    (outsAt0 m c t.val t.isLt).2.1 (ix3 (0 : Fin 1) (⟨j.val, by omega⟩ : Fin 1024) r)
      = P m c (bat t) (tok t r) ⟨j.val, by omega⟩ * Ideal.ofBits .f32 0x3DB504F3#32 := by
  have h := left m c t.val t rfl
  have e : tc ⟨j.val, by omega⟩ = (⟨j.val, by omega⟩ : Fin 3592) := Fin.ext (if_pos j.isLt)
  rw [h.h6, q_lo _ _ _ h.hT, blk_t m c t ⟨j.val, by omega⟩, e, dot_eq m c t r _]

theorem point6v (r : Fin 1024) (j : Fin 512) :
    (outsAt0 m c t.val t.isLt).2.1 (ix3 (0 : Fin 1) (⟨512 + j.val, by omega⟩ : Fin 1024) r)
      = P m c (bat t) (tok t r) ⟨1024 + j.val, by omega⟩ := by
  have h := left m c t.val t rfl
  have e : tc ⟨512 + j.val, by omega⟩ = (⟨1024 + j.val, by omega⟩ : Fin 3592) := Fin.ext (by simp only [tc]; split_ifs <;> omega)
  rw [h.h6, q_hi _ _ _ h.hT, blk_t m c t ⟨512 + j.val, by omega⟩, e, dot_eq m c t r _]

theorem point7 (r : Fin 1024) (j : Fin 8) :
    (outsAt0 m c t.val t.isLt).2.2.1 (ix3 (0 : Fin 1) j r) = P m c (bat t) (tok t r) ⟨2048 + j.val, by omega⟩ := by
  have h := left m c t.val t rfl
  have e : tc ⟨1024 + j.val, by omega⟩ = (⟨2048 + j.val, by omega⟩ : Fin 3592) := Fin.ext (by simp only [tc]; split_ifs <;> omega)
  rw [h.h7, g_at _ _ _ h.hT, blk_t m c t ⟨1024 + j.val, by omega⟩, e, dot_eq m c t r _]

end Cert.Inp
-- ==== Proof.InFinal.lean ====
/- The input projection's three result arrays. -/
module

public import proofs.«01_k».proof.Proof.InPoint

@[expose] public section

set_option maxRecDepth 16384

noncomputable section

namespace Cert.Inp

open Idealize.ShloMosaic Idealize.ShloMosaic.TcCoe Idealize.SL.Sem Cert.Kernel2Ideal Cert.Kernel2Ideal.Gen

variable (m : (ℓ : Loc nD τ sig) → Buf (Elt Ideal) ℓ) (c : Dev nD)

/-- q scaled and v, a row of the second result. -/
def qv (b : Fin 8) (j : Fin 1024) (s : Fin 4096) : EReal :=
  if h : j.val < 512 then P m c b s ⟨j.val, by omega⟩ * Ideal.ofBits .f32 0x3DB504F3#32 else P m c b s ⟨512 + j.val, by omega⟩

/-- A gate's row of the third result. -/
def gt (b : Fin 8) (j : Fin 8) (s : Fin 4096) : EReal := P m c b s ⟨2048 + j.val, by omega⟩

theorem point6 (t : Fin cfg0.N) (r j : Fin 1024) :
    (outsAt0 m c t.val t.isLt).2.1 (ix3 (0 : Fin 1) j r) = qv m c (bat t) j (tok t r) := by
  unfold qv
  split_ifs with h
  · exact point6q m c t r ⟨j.val, h⟩
  · have e : (⟨512 + (j.val - 512), by omega⟩ : Fin 1024) = j := Fin.ext (Nat.add_sub_cancel' (Nat.le_of_not_lt h))
    have e' : (⟨1024 + (j.val - 512), by omega⟩ : Fin 3592) = ⟨512 + j.val, by omega⟩ :=
      Fin.ext (Eq.trans (b := 512 + j.val) (by show 1024 + (j.val - 512) = 512 + j.val; omega) rfl)
    have p := point6v m c t r ⟨j.val - 512, by omega⟩
    exact ((congrArg (fun j => (outsAt0 m c t.val t.isLt).2.1 (ix3 (0 : Fin 1) j r)) e).symm.trans p).trans
      (congrArg (P m c (bat t) (tok t r)) e')

theorem final5 : (dats m 0 c).arrAt 5 cfg0.N = fun i : S8x4096x2560.Idx => P m c (i 0) (i 1) (ac (i 2)) := by
  refine (dats m 0 c).arrAt_eq_of_covers 5 _ (by decide +kernel) fun t _ y => ?_
  blk_simp
  rw [after0_5]
  obtain ⟨y0, y1, y2, rfl⟩ : ∃ (y0 : Fin 1) (y1 : Fin 1024) (y2 : Fin 2560), y = ix3 y0 y1 y2 :=
    ⟨y 0, y 1, y 2, by funext a; fin_cases a <;> rfl⟩
  obtain rfl : y0 = 0 := Subsingleton.elim _ _
  refine (point5 m c t y1 y2).trans ?_
  generalize P m c = f
  have e : (win0_5.blk t).view.emb (ix3 (0 : Fin 1) y1 y2) = (ix3 (bat t) (tok t y1) y2 : S8x4096x2560.Idx) := by
    unfold bat tok
    funext a
    fin_cases a <;> apply Fin.ext <;> blk_simp [idx t]
    · rfl
    · show t.val % 4 * 1024 + y1.val = 1024 * (t.val % 4) + y1.val
      omega
    · rfl
  rw [e]
  rfl

theorem final6 : (dats m 0 c).arrAt 6 cfg0.N = fun i : S8x1024x4096.Idx => qv m c (i 0) (i 1) (i 2) := by
  refine (dats m 0 c).arrAt_eq_of_covers 6 _ (by decide +kernel) fun t _ y => ?_
  blk_simp
  rw [after0_6]
  obtain ⟨y0, y1, y2, rfl⟩ : ∃ (y0 : Fin 1) (y1 y2 : Fin 1024), y = ix3 y0 y1 y2 :=
    ⟨y 0, y 1, y 2, by funext a; fin_cases a <;> rfl⟩
  obtain rfl : y0 = 0 := Subsingleton.elim _ _
  refine (point6 m c t y2 y1).trans ?_
  generalize qv m c = f
  have e : (win0_6.blk t).view.emb (ix3 (0 : Fin 1) y1 y2) = (ix3 (bat t) y1 (tok t y2) : S8x1024x4096.Idx) := by
    unfold bat tok
    funext a
    fin_cases a <;> apply Fin.ext <;> blk_simp [idx t]
    · rfl
    · rfl
    · show t.val % 4 * 1024 + y2.val = 1024 * (t.val % 4) + y2.val
      omega
  rw [e]
  rfl

theorem final7 : (dats m 0 c).arrAt 7 cfg0.N
    = fun i : S8x8x4096.Idx => gt m c (i 0) (i 1) (i 2) := by
  refine (dats m 0 c).arrAt_eq_of_covers 7 _ (by decide +kernel) fun t _ y => ?_
  blk_simp
  rw [after0_7]
  obtain ⟨y0, y1, y2, rfl⟩ : ∃ (y0 : Fin 1) (y1 : Fin 8) (y2 : Fin 1024), y = ix3 y0 y1 y2 :=
    ⟨y 0, y 1, y 2, by funext a; fin_cases a <;> rfl⟩
  obtain rfl : y0 = 0 := Subsingleton.elim _ _
  refine (point7 m c t y2 y1).trans ?_
  show gt m c (bat t) y1 (tok t y2) = _
  generalize gt m c = f
  have e : (win0_7.blk t).view.emb (ix3 (0 : Fin 1) y1 y2) = (ix3 (bat t) y1 (tok t y2) : S8x8x4096.Idx) := by
    unfold bat tok
    funext a
    fin_cases a <;> apply Fin.ext <;> blk_simp [idx t]
    · rfl
    · rfl
    · show t.val % 4 * 1024 + y2.val = 1024 * (t.val % 4) + y2.val
      omega
  rw [e]
  rfl

end Cert.Inp
-- ==== Proof.InTail.lean ====
/- The host operations after the input projection's launch: its results in the columns' order. -/
module

public import proofs.«01_k».proof.Proof.InFinal
public import Idealize.ShloMosaic.Lib.Pipeline.FrameSuffix

@[expose] public section

set_option maxRecDepth 16384

noncomputable section

namespace Cert.Inp

open Idealize.ShloMosaic Idealize.ShloMosaic.TcCoe Idealize.SL.Sem Cert.Kernel2Ideal Cert.Kernel2Ideal.Gen

theorem catR_0 (A : S8x4096x512.Idx → EReal) (B : S8x4096x512.Idx → EReal) (C : S8x4096x512.Idx → EReal) (D : S8x4096x8.Idx → EReal) (E : S8x4096x1536.Idx → EReal) (hc) (b : Fin 8) (s : Fin 4096) (j : Fin 512) :
    concatenate S8x4096x3080 2 [⟨S8x4096x512, A⟩, ⟨S8x4096x512, B⟩, ⟨S8x4096x512, C⟩, ⟨S8x4096x8, D⟩, ⟨S8x4096x1536, E⟩] hc (ix3 b s (⟨0 + j.val, by omega⟩ : Fin 3080)) = A (ix3 b s j) := by
  refine concatenate_apply_piece (t := S8x4096x3080) (2 : Fin 3) [⟨S8x4096x512, A⟩, ⟨S8x4096x512, B⟩, ⟨S8x4096x512, C⟩, ⟨S8x4096x8, D⟩, ⟨S8x4096x1536, E⟩] hc (ix3 b s (⟨0 + j.val, by omega⟩ : Fin 3080)) 0
    (Nat.lt_of_sub_eq_succ rfl) S8x4096x512 A rfl rfl 0 rfl (ix3 b s j) (fun a ha => ?_) rfl
  fin_cases a
  · rfl
  · rfl
  · exact absurd rfl ha
theorem catR_1 (A : S8x4096x512.Idx → EReal) (B : S8x4096x512.Idx → EReal) (C : S8x4096x512.Idx → EReal) (D : S8x4096x8.Idx → EReal) (E : S8x4096x1536.Idx → EReal) (hc) (b : Fin 8) (s : Fin 4096) (j : Fin 512) :
    concatenate S8x4096x3080 2 [⟨S8x4096x512, A⟩, ⟨S8x4096x512, B⟩, ⟨S8x4096x512, C⟩, ⟨S8x4096x8, D⟩, ⟨S8x4096x1536, E⟩] hc (ix3 b s (⟨512 + j.val, by omega⟩ : Fin 3080)) = B (ix3 b s j) := by
  refine concatenate_apply_piece (t := S8x4096x3080) (2 : Fin 3) [⟨S8x4096x512, A⟩, ⟨S8x4096x512, B⟩, ⟨S8x4096x512, C⟩, ⟨S8x4096x8, D⟩, ⟨S8x4096x1536, E⟩] hc (ix3 b s (⟨512 + j.val, by omega⟩ : Fin 3080)) 1
    (Nat.lt_of_sub_eq_succ rfl) S8x4096x512 B rfl rfl 512 rfl (ix3 b s j) (fun a ha => ?_) rfl
  fin_cases a
  · rfl
  · rfl
  · exact absurd rfl ha
theorem catR_2 (A : S8x4096x512.Idx → EReal) (B : S8x4096x512.Idx → EReal) (C : S8x4096x512.Idx → EReal) (D : S8x4096x8.Idx → EReal) (E : S8x4096x1536.Idx → EReal) (hc) (b : Fin 8) (s : Fin 4096) (j : Fin 512) :
    concatenate S8x4096x3080 2 [⟨S8x4096x512, A⟩, ⟨S8x4096x512, B⟩, ⟨S8x4096x512, C⟩, ⟨S8x4096x8, D⟩, ⟨S8x4096x1536, E⟩] hc (ix3 b s (⟨1024 + j.val, by omega⟩ : Fin 3080)) = C (ix3 b s j) := by
  refine concatenate_apply_piece (t := S8x4096x3080) (2 : Fin 3) [⟨S8x4096x512, A⟩, ⟨S8x4096x512, B⟩, ⟨S8x4096x512, C⟩, ⟨S8x4096x8, D⟩, ⟨S8x4096x1536, E⟩] hc (ix3 b s (⟨1024 + j.val, by omega⟩ : Fin 3080)) 2
    (Nat.lt_of_sub_eq_succ rfl) S8x4096x512 C rfl rfl 1024 rfl (ix3 b s j) (fun a ha => ?_) rfl
  fin_cases a
  · rfl
  · rfl
  · exact absurd rfl ha
theorem catR_3 (A : S8x4096x512.Idx → EReal) (B : S8x4096x512.Idx → EReal) (C : S8x4096x512.Idx → EReal) (D : S8x4096x8.Idx → EReal) (E : S8x4096x1536.Idx → EReal) (hc) (b : Fin 8) (s : Fin 4096) (j : Fin 8) :
    concatenate S8x4096x3080 2 [⟨S8x4096x512, A⟩, ⟨S8x4096x512, B⟩, ⟨S8x4096x512, C⟩, ⟨S8x4096x8, D⟩, ⟨S8x4096x1536, E⟩] hc (ix3 b s (⟨1536 + j.val, by omega⟩ : Fin 3080)) = D (ix3 b s j) := by
  refine concatenate_apply_piece (t := S8x4096x3080) (2 : Fin 3) [⟨S8x4096x512, A⟩, ⟨S8x4096x512, B⟩, ⟨S8x4096x512, C⟩, ⟨S8x4096x8, D⟩, ⟨S8x4096x1536, E⟩] hc (ix3 b s (⟨1536 + j.val, by omega⟩ : Fin 3080)) 3
    (Nat.lt_of_sub_eq_succ rfl) S8x4096x8 D rfl rfl 1536 rfl (ix3 b s j) (fun a ha => ?_) rfl
  fin_cases a
  · rfl
  · rfl
  · exact absurd rfl ha
theorem catR_4 (A : S8x4096x512.Idx → EReal) (B : S8x4096x512.Idx → EReal) (C : S8x4096x512.Idx → EReal) (D : S8x4096x8.Idx → EReal) (E : S8x4096x1536.Idx → EReal) (hc) (b : Fin 8) (s : Fin 4096) (j : Fin 1536) :
    concatenate S8x4096x3080 2 [⟨S8x4096x512, A⟩, ⟨S8x4096x512, B⟩, ⟨S8x4096x512, C⟩, ⟨S8x4096x8, D⟩, ⟨S8x4096x1536, E⟩] hc (ix3 b s (⟨1544 + j.val, by omega⟩ : Fin 3080)) = E (ix3 b s j) := by
  refine concatenate_apply_piece (t := S8x4096x3080) (2 : Fin 3) [⟨S8x4096x512, A⟩, ⟨S8x4096x512, B⟩, ⟨S8x4096x512, C⟩, ⟨S8x4096x8, D⟩, ⟨S8x4096x1536, E⟩] hc (ix3 b s (⟨1544 + j.val, by omega⟩ : Fin 3080)) 4
    (Nat.lt_of_sub_eq_succ rfl) S8x4096x1536 E rfl rfl 1544 rfl (ix3 b s j) (fun a ha => ?_) rfl
  fin_cases a
  · rfl
  · rfl
  · exact absurd rfl ha

section Ops

variable (U : Valuation τ sig (Elt Ideal))

/-- The second result with its tokens first. -/
abbrev qvS : FVec Ideal S8x4096x1024 .f32 :=
  extf .f32 (transpose S8x4096x1024 [0, 2, 1] (U (Proc.devRef .tc main_v13_1) : FVec Ideal S8x1024x4096 .bf16)
    transposes_S8x1024x4096_S8x4096x1024_0_2_1) bitsLt_bf16_f32
/-- The first result. -/
abbrev aS : FVec Ideal S8x4096x2560 .f32 := extf .f32 (U (Proc.devRef .tc main_v13_0) : FVec Ideal S8x4096x2560 .bf16) bitsLt_bf16_f32

theorem after_v18 : StableHlo.after (List.flatten [hostOps1]) U (Proc.devRef .tc main_v18)
    = extractStridedSlice S8x4096x512 ![0, 0, 0] (qvS U) slices_S8x4096x1024_S8x4096x512_0_0_0 := rfl

theorem after_v23 : StableHlo.after (List.flatten [hostOps1]) U (Proc.devRef .tc main_v23)
    = concatenate S8x4096x3080 2 [
      ⟨S8x4096x512, extractStridedSlice S8x4096x512 ![0, 0, 0] (aS U) slices_S8x4096x2560_S8x4096x512_0_0_0⟩,
      ⟨S8x4096x512, extractStridedSlice S8x4096x512 ![0, 0, 512] (qvS U) slices_S8x4096x1024_S8x4096x512_0_0_512⟩,
      ⟨S8x4096x512, extractStridedSlice S8x4096x512 ![0, 0, 512] (aS U) slices_S8x4096x2560_S8x4096x512_0_0_512⟩,
      ⟨S8x4096x8, transpose S8x4096x8 [0, 2, 1] (U (Proc.devRef .tc main_v13_2) : FVec Ideal S8x8x4096 .f32) transposes_S8x8x4096_S8x4096x8_0_2_1⟩,
      ⟨S8x4096x1536, extractStridedSlice S8x4096x1536 ![0, 0, 1024] (aS U) slices_S8x4096x2560_S8x4096x1536_0_0_1024⟩]
      concatenates_S8x4096x512_S8x4096x512_S8x4096x512_S8x4096x8_S8x4096x1536_S8x4096x3080_d2 := rfl

variable (b : Fin 8) (s : Fin 4096)

theorem q_after (j : Fin 512) : StableHlo.after (List.flatten [hostOps1]) U (Proc.devRef .tc main_v18) (ix3 b s j)
    = U (Proc.devRef .tc main_v13_1) (ix3 b (⟨j.val, by omega⟩ : Fin 1024) s) := by
  rw [after_v18]
  pointwise []

theorem rest_0 (j : Fin 512) :
    StableHlo.after (List.flatten [hostOps1]) U (Proc.devRef .tc main_v23) (ix3 b s (⟨0 + j.val, by omega⟩ : Fin 3080))
      = U (Proc.devRef .tc main_v13_0) (ix3 b s (⟨j.val, by omega⟩ : Fin 2560)) := by
  rw [after_v23, catR_0]
  pointwise []

theorem rest_1 (j : Fin 512) :
    StableHlo.after (List.flatten [hostOps1]) U (Proc.devRef .tc main_v23) (ix3 b s (⟨512 + j.val, by omega⟩ : Fin 3080))
      = U (Proc.devRef .tc main_v13_1) (ix3 b (⟨512 + j.val, by omega⟩ : Fin 1024) s) := by
  rw [after_v23, catR_1]
  pointwise []

theorem rest_2 (j : Fin 512) :
    StableHlo.after (List.flatten [hostOps1]) U (Proc.devRef .tc main_v23) (ix3 b s (⟨1024 + j.val, by omega⟩ : Fin 3080))
      = U (Proc.devRef .tc main_v13_0) (ix3 b s (⟨512 + j.val, by omega⟩ : Fin 2560)) := by
  rw [after_v23, catR_2]
  pointwise []

theorem rest_3 (j : Fin 8) :
    StableHlo.after (List.flatten [hostOps1]) U (Proc.devRef .tc main_v23) (ix3 b s (⟨1536 + j.val, by omega⟩ : Fin 3080))
      = U (Proc.devRef .tc main_v13_2) (ix3 b j s) := by
  rw [after_v23, catR_3]
  pointwise []

theorem rest_4 (j : Fin 1536) :
    StableHlo.after (List.flatten [hostOps1]) U (Proc.devRef .tc main_v23) (ix3 b s (⟨1544 + j.val, by omega⟩ : Fin 3080))
      = U (Proc.devRef .tc main_v13_0) (ix3 b s (⟨1024 + j.val, by omega⟩ : Fin 2560)) := by
  rw [after_v23, catR_4]
  pointwise []

end Ops

variable (m : (ℓ : Loc nD τ sig) → Buf (Elt Ideal) ℓ) (c : Dev nD)

/-- The buffers as the launch leaves them. -/
abbrev exitV : Valuation τ sig (Elt Ideal) := Pipeline.withArrays (cfgs 0).spec c (V0 m c) fun w => (dats m 0 c).arrAt w (cfgs 0).N

theorem inj : Function.Injective (Pipeline.arrRef (cfgs 0).spec) := by decide

theorem exit5 : exitV m c (Proc.devRef .tc main_v13_0) = fun i : S8x4096x2560.Idx => P m c (i 0) (i 1) (ac (i 2)) :=
  (Pipeline.withArrays_arr (cfgs 0).spec inj c (V0 m c) _ 5).trans (final5 m c)
theorem exit6 : exitV m c (Proc.devRef .tc main_v13_1) = fun i : S8x1024x4096.Idx => qv m c (i 0) (i 1) (i 2) :=
  (Pipeline.withArrays_arr (cfgs 0).spec inj c (V0 m c) _ 6).trans (final6 m c)
theorem exit7 : exitV m c (Proc.devRef .tc main_v13_2) = fun i : S8x8x4096.Idx => gt m c (i 0) (i 1) (i 2) :=
  (Pipeline.withArrays_arr (cfgs 0).spec inj c (V0 m c) _ 7).trans (final7 m c)

/-- q, scaled. -/
theorem tail_q (b : Fin 8) (s : Fin 4096) (j : Fin 512) :
    Pipeline.afterTail₀ cfgs (dats m) 0 (V0 m) [hostOps1] c main_v18 (ix3 b s j)
      = P m c b s ⟨j.val, by omega⟩ * Ideal.ofBits .f32 0x3DB504F3#32 := by
  refine (q_after (exitV m c) b s j).trans ?_
  rw [exit6]
  exact dif_pos j.isLt

theorem ac_0 (j : Fin 512) : ac ⟨j.val, by omega⟩ = ⟨512 + j.val, by omega⟩ := Fin.ext (if_pos j.isLt)
theorem ac_1 (j : Fin 512) : ac ⟨512 + j.val, by omega⟩ = ⟨1536 + j.val, by omega⟩ := Fin.ext (by simp only [ac]; split_ifs <;> omega)
theorem ac_2 (j : Fin 1536) : ac ⟨1024 + j.val, by omega⟩ = ⟨2056 + j.val, by omega⟩ := Fin.ext (by simp only [ac]; split_ifs <;> omega)

/-- The other columns, in the reference's order. -/
theorem tail_rest (b : Fin 8) (s : Fin 4096) (i : Fin 3080) :
    Pipeline.afterTail₀ cfgs (dats m) 0 (V0 m) [hostOps1] c main_v23 (ix3 b s i) = P m c b s ⟨512 + i.val, by omega⟩ := by
  have key : ∀ (o d : ℕ) (n : ℕ) (hn : o + n = i.val) (hd : d = 512 + o) (h : d + n < 3592) (h' : o + n < 3080),
      Pipeline.afterTail₀ cfgs (dats m) 0 (V0 m) [hostOps1] c main_v23 (ix3 b s (⟨o + n, h'⟩ : Fin 3080)) = P m c b s ⟨d + n, h⟩ →
      Pipeline.afterTail₀ cfgs (dats m) 0 (V0 m) [hostOps1] c main_v23 (ix3 b s i) = P m c b s ⟨512 + i.val, by omega⟩ := by
    intro o d n hn hd h h' e
    obtain rfl : (⟨o + n, h'⟩ : Fin 3080) = i := Fin.ext hn
    exact e.trans (congrArg (P m c b s) (Fin.ext (by show d + n = 512 + (o + n); omega)))
  by_cases h0 : i.val < 512
  · have hj : ∃ j : Fin 512, 0 + j.val = i.val := ⟨⟨i.val - 0, by omega⟩, by show 0 + (i.val - 0) = i.val; omega⟩
    obtain ⟨j, hj⟩ := hj
    refine key 0 512 j.val hj rfl (by omega) (by omega) ((rest_0 (exitV m c) b s j).trans ?_)
    rw [exit5]
    exact congrArg (P m c b s) (ac_0 j)
  by_cases h1 : i.val < 1024
  · have hj : ∃ j : Fin 512, 512 + j.val = i.val := ⟨⟨i.val - 512, by omega⟩, by show 512 + (i.val - 512) = i.val; omega⟩
    obtain ⟨j, hj⟩ := hj
    refine key 512 1024 j.val hj rfl (by omega) (by omega) ((rest_1 (exitV m c) b s j).trans ?_)
    rw [exit6]
    refine (dif_neg (Nat.not_lt.mpr (Nat.le_add_right 512 j.val))).trans ?_
    exact congrArg (P m c b s) (Fin.ext (by show 512 + (512 + j.val) = 1024 + j.val; omega))
  by_cases h2 : i.val < 1536
  · have hj : ∃ j : Fin 512, 1024 + j.val = i.val := ⟨⟨i.val - 1024, by omega⟩, by show 1024 + (i.val - 1024) = i.val; omega⟩
    obtain ⟨j, hj⟩ := hj
    refine key 1024 1536 j.val hj rfl (by omega) (by omega) ((rest_2 (exitV m c) b s j).trans ?_)
    rw [exit5]
    exact congrArg (P m c b s) (ac_1 j)
  by_cases h3 : i.val < 1544
  · have hj : ∃ j : Fin 8, 1536 + j.val = i.val := ⟨⟨i.val - 1536, by omega⟩, by show 1536 + (i.val - 1536) = i.val; omega⟩
    obtain ⟨j, hj⟩ := hj
    refine key 1536 2048 j.val hj rfl (by omega) (by omega) ((rest_3 (exitV m c) b s j).trans ?_)
    rw [exit7]
    rfl
  have hj : ∃ j : Fin 1536, 1544 + j.val = i.val := ⟨⟨i.val - 1544, by omega⟩, by show 1544 + (i.val - 1544) = i.val; omega⟩
  obtain ⟨j, hj⟩ := hj
  refine key 1544 2056 j.val hj rfl (by omega) (by omega) ((rest_4 (exitV m c) b s j).trans ?_)
  rw [exit5]
  exact congrArg (P m c b s) (ac_2 j)

end Cert.Inp
-- ==== Proof.InRef.lean ====
/- The reference's input projection, element by element. -/
module

public import proofs.«01_k».proof.Proof.InPay
public import proofs.«01_k».proof.Proof.Gen.Reference2Ideal.Read
public import Idealize.ShloMosaic.Lib.KernelVsHost

@[expose] public section

set_option maxRecDepth 16384

noncomputable section

namespace Cert.Inp

open Idealize.ShloMosaic Cert.Reference2Ideal Cert.Reference2Ideal.Gen Cert.Reference2Ideal.Read

variable {x0 : (⟨S8x4096x1024, .f32⟩ : BufTy).Contents (Elt Ideal)} {x1 : (⟨S1024, .f32⟩ : BufTy).Contents (Elt Ideal)}
  {x2 : (⟨S1024x3592, .f32⟩ : BufTy).Contents (Elt Ideal)} {x3 : (⟨S3592, .f32⟩ : BufTy).Contents (Elt Ideal)}

theorem ref_hn (b : Fin 8) (s : Fin 4096) (k : Fin 1024) :
    val_main_v12 (F := Ideal) x0 x1 (ix3 b s k) = hnV (fun k => x0 (ix3 b s k)) (fun k => x1 (ix1 k)) k := by
  have i1 : idx_main_v2 (idx_main_v8 (ix3 b s k)) = ix2 b s := by idx_ext
  have i2 : ∀ r : Fin 1024, idx_main_v1 (ix2 b s) r = ix3 b s r := fun r => by idx_ext
  have i3 : idx_main_v10 (idx_main_v11 (ix3 b s k)) = ix1 k := by idx_ext
  rw [val_main_v12_apply, val_main_v9_apply, val_main_v8_apply, val_main_v7_apply, val_main_v6_apply, val_main_v5_apply,
    val_main_cst_1_apply, val_main_v4_apply, val_main_v3_apply, val_main_cst_0_apply, val_main_v2_apply, i1, val_main_v1_apply,
    val_main_cst_apply, val_main_v11_apply, val_main_v10_apply, i3]
  simp only [i2, val_main_v0_apply]
  simp only [Ideal.mulf_def, Ideal.hostDivf_def, Ideal.ofBits_def, Ideal.addf_def, Ideal.hostUnary_rsqrt_def, Ideal.ofBits_zero_f32, zero_add]
  rfl

theorem ref_proj (b : Fin 8) (s : Fin 4096) (j : Fin 3592) :
    val_main_v16 (F := Ideal) x0 x1 x2 x3 (ix3 b s j)
      = projV (fun k => x0 (ix3 b s k)) (fun k => x1 (ix1 k)) (fun k j => x2 (ix2 k j)) (fun j => x3 (ix1 j)) j := by
  have i1 : ∀ k : Fin 1024, lidx_main_v13 (ix3 b s j) k = ix3 b s k := fun k => by idx_ext
  have i2 : ∀ k : Fin 1024, ridx_main_v13 (ix3 b s j) k = ix2 k j := fun k => by idx_ext
  have i3 : idx_main_v14 (idx_main_v15 (ix3 b s j)) = ix1 j := by idx_ext
  rw [val_main_v16_apply, val_main_v15_apply, val_main_v14_apply, i3, val_main_v13_apply]
  simp only [i1, i2, ref_hn, Ideal.addf_def]
  rfl

/-- q, scaled. -/
theorem ref_q (b : Fin 8) (s : Fin 4096) (j : Fin 512) :
    val_main_v20 (F := Ideal) x0 x1 x2 x3 (ix3 b s j)
      = projV (fun k => x0 (ix3 b s k)) (fun k => x1 (ix1 k)) (fun k j => x2 (ix2 k j)) (fun j => x3 (ix1 j)) ⟨j.val, by omega⟩
        * Ideal.ofBits .f32 0x3DB504F3#32 := by
  have i1 : idx_main_v17 (ix3 b s j) = ix3 b s (⟨j.val, by omega⟩ : Fin 3592) := by idx_ext
  rw [val_main_v20_apply, val_main_v19_apply, val_main_cst_2_apply, val_main_v17_apply, i1, ref_proj, Ideal.mulf_def, Ideal.ofBits_def]

/-- The other columns. -/
theorem ref_rest (b : Fin 8) (s : Fin 4096) (j : Fin 3080) :
    val_main_v18 (F := Ideal) x0 x1 x2 x3 (ix3 b s j)
      = projV (fun k => x0 (ix3 b s k)) (fun k => x1 (ix1 k)) (fun k j => x2 (ix2 k j)) (fun j => x3 (ix1 j)) ⟨512 + j.val, by omega⟩ := by
  have i1 : idx_main_v18 (ix3 b s j) = ix3 b s (⟨512 + j.val, by omega⟩ : Fin 3592) := by idx_ext
  rw [val_main_v18_apply, i1, ref_proj]

end Cert.Inp
-- ==== Proof.InJoin.lean ====
/- The input projection: the reference's two results are the call's. -/
module

public import proofs.«01_k».proof.Proof.InTail
public import proofs.«01_k».proof.Proof.InRef

@[expose] public section

set_option maxRecDepth 16384

noncomputable section

namespace Cert.Inp

open Idealize.ShloMosaic Idealize.ShloMosaic.TcCoe Idealize.SL.Sem Cert.Kernel2Ideal Cert.Kernel2Ideal.Gen

variable (m : (ℓ : Loc nD τ sig) → Buf (Elt Ideal) ℓ) (c : Dev nD)

theorem join_q : Cert.Reference2Ideal.Read.val_main_v20 (F := Ideal) (m ((c : Thread nD τ).loc main_arg0)) (m ((c : Thread nD τ).loc main_arg1))
      (m ((c : Thread nD τ).loc main_arg2)) (m ((c : Thread nD τ).loc main_arg3))
    = Pipeline.afterTail₀ cfgs (dats m) 0 (V0 m) [hostOps1] c main_v18 := by
  funext i
  obtain ⟨b, s, j, rfl⟩ : ∃ (b : Fin 8) (s : Fin 4096) (j : Fin 512), i = ix3 b s j :=
    ⟨i 0, i 1, i 2, by funext a; fin_cases a <;> rfl⟩
  exact (ref_q b s j).trans (tail_q m c b s j).symm

theorem join_rest : Cert.Reference2Ideal.Read.val_main_v18 (F := Ideal) (m ((c : Thread nD τ).loc main_arg0)) (m ((c : Thread nD τ).loc main_arg1))
      (m ((c : Thread nD τ).loc main_arg2)) (m ((c : Thread nD τ).loc main_arg3))
    = Pipeline.afterTail₀ cfgs (dats m) 0 (V0 m) [hostOps1] c main_v23 := by
  funext i
  obtain ⟨b, s, j, rfl⟩ : ∃ (b : Fin 8) (s : Fin 4096) (j : Fin 3080), i = ix3 b s j :=
    ⟨i 0, i 1, i 2, by funext a; fin_cases a <;> rfl⟩
  exact (ref_rest b s j).trans (tail_rest m c b s j).symm

end Cert.Inp
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.Gen.Reference2Ideal.Read
public import Idealize.ShloMosaic.Adequacy
public import Idealize.ShloMosaic.Init
public import Idealize.ShloMosaic.Lib.Claim
public import proofs.«01_k».proof.Proof.Final
public import proofs.«01_k».proof.Proof.Join
public import proofs.«01_k».proof.Proof.InJoin

@[expose] public section

noncomputable section

namespace Cert.Proof

open Idealize.ShloMosaic Idealize.SL.Sem

/-- The reference is host operations only: it changes no argument, and has no semaphore to leave at anything. -/
theorem frame_R (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5)
        ∧ r.2.mem ((c.tc : Thread ReferenceIdeal.nD ReferenceIdeal.τ).loc ReferenceIdeal.main_arg6) = m ((c.tc : Thread ReferenceIdeal.nD ReferenceIdeal.τ).loc ReferenceIdeal.main_arg6)
        ∧ r.2.mem ((c.tc : Thread ReferenceIdeal.nD ReferenceIdeal.τ).loc ReferenceIdeal.main_arg7) = m ((c.tc : Thread ReferenceIdeal.nD ReferenceIdeal.τ).loc ReferenceIdeal.main_arg7)
        ∧ r.2.mem ((c.tc : Thread ReferenceIdeal.nD ReferenceIdeal.τ).loc ReferenceIdeal.main_arg8) = m ((c.tc : Thread ReferenceIdeal.nD ReferenceIdeal.τ).loc ReferenceIdeal.main_arg8))
        ∧ r.2.sem = fun _ => 0) :=
  (θ_run _ _ _).mono (fun r h => ⟨fun c => (h c).2.2, sem_eq_zero_of_no_sems (by decide) r.2⟩)
    (Cert.ReferenceIdeal.Value.run m g)

/-- The same of the input projection's reference. -/
theorem frame_R2 (m : (ℓ : Loc Reference2Ideal.nD Reference2Ideal.τ Reference2Ideal.sig) → Buf (Elt Ideal) ℓ)
    (g : Dev Reference2Ideal.nD → PrngReg) :
    θ_run (Reference2Ideal.defs (F := Ideal)) (onTc (τ := Reference2Ideal.τ) (Reference2Ideal.main (F := Ideal)))
      ⟨m, fun _ => 0, g⟩ (fun r => (∀ c : Dev Reference2Ideal.nD,
        r.2.mem ((c.tc : Thread Reference2Ideal.nD Reference2Ideal.τ).loc Reference2Ideal.main_arg0) = m ((c.tc : Thread Reference2Ideal.nD Reference2Ideal.τ).loc Reference2Ideal.main_arg0)
        ∧ r.2.mem ((c.tc : Thread Reference2Ideal.nD Reference2Ideal.τ).loc Reference2Ideal.main_arg1) = m ((c.tc : Thread Reference2Ideal.nD Reference2Ideal.τ).loc Reference2Ideal.main_arg1)
        ∧ r.2.mem ((c.tc : Thread Reference2Ideal.nD Reference2Ideal.τ).loc Reference2Ideal.main_arg2) = m ((c.tc : Thread Reference2Ideal.nD Reference2Ideal.τ).loc Reference2Ideal.main_arg2)
        ∧ r.2.mem ((c.tc : Thread Reference2Ideal.nD Reference2Ideal.τ).loc Reference2Ideal.main_arg3) = m ((c.tc : Thread Reference2Ideal.nD Reference2Ideal.τ).loc Reference2Ideal.main_arg3))
        ∧ r.2.sem = fun _ => 0) :=
  (θ_run _ _ _).mono (fun r h => ⟨fun c => (h c).2.2, sem_eq_zero_of_no_sems (by decide) r.2⟩)
    (Cert.Reference2Ideal.Value.run m g)

set_option maxHeartbeats 1600000 in
theorem algebraic : Cert.algebraic_KernelIdeal_ReferenceIdeal_pre_finite (hKernelIdeal := Cert.KernelIdeal.Gen.facts)
    (hReferenceIdeal := Cert.ReferenceIdeal.Gen.facts) (hPre_finite := Cert.Mix.pre_facts) := by
  pair_intro
  · run_from Cert.KernelIdeal.Gen.run_main m g
  · run_from Cert.ReferenceIdeal.Value.run m' g'
    · have hf := Cert.Mix.finite_of_pre m hpre c
      obtain ⟨a0, a1, a2, a3, -⟩ := hagree c
      refine (Cert.ReferenceIdeal.Read.val_main_v83_eq m' c).trans ?_
      rw [a0, a1, a2, a3]
      exact (Cert.Mix.ref14 m c hf).trans (Cert.Mix.final14 m c hf).symm
    · have hf := Cert.Mix.finite_of_pre m hpre c
      obtain ⟨a0, a1, a2, a3, a4, -⟩ := hagree c
      refine (Cert.ReferenceIdeal.Read.val_main_v97_eq m' c).trans ?_
      rw [a0, a1, a2, a3, a4]
      exact (Cert.Mix.ref15 m c hf).trans (Cert.Mix.final15 m c hf).symm

set_option maxHeartbeats 1600000 in
theorem algebraic2 : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
    · exact Cert.Kernel2Ideal.Gen.W_main_arg1 m _ c
    · exact Cert.Kernel2Ideal.Gen.W_main_arg2 m _ c
    · exact Cert.Kernel2Ideal.Gen.W_main_arg3 m _ c
  · run_from Cert.Reference2Ideal.Value.run m' g'
    · exact (Cert.Reference2Ideal.Read.val_main_v20_eq (F := Ideal) _ _ _ _).trans (Cert.Inp.join_q m c)
    · exact (Cert.Reference2Ideal.Read.val_main_v18_eq (F := Ideal) _ _ _ _).trans (Cert.Inp.join_rest m c)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Mix.pre_facts,
    fun m g _ => Cert.Kernel.Gen.frame m g, fun m g _ => Cert.KernelIdeal.Gen.frame m g,
    fun m g _ => Cert.KernelIdeal.Gen.frame m g, fun m g _ => frame_R m g, fun m g _ => frame_R m g,
    fun m g _ => Cert.Kernel2.Gen.frame m g, fun m g _ => Cert.Kernel2Ideal.Gen.frame m g, fun m g _ => frame_R2 m g,
    trivial, algebraic, trivial, algebraic2⟩

end Cert.Proof

end
